-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Qkv_QkvIdeal : Prop :=
  IdealRules.named_const.Statement Cert.QkvIdeal.κ "scale" .f32 0x3E38AA3B#32 ((8⁻¹ * (Real.log 2)⁻¹ : ℝ) : EReal)

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v71_0)) (v1 : (c : Dev Cert.QkvIdeal.nD) → Buf (Elt Ideal) ((c.tc : Thread Cert.QkvIdeal.nD Cert.QkvIdeal.τ).loc Cert.QkvIdeal.main_v71_1)) (v2 : (c : Dev Cert.QkvIdeal.nD) → Buf (Elt Ideal) ((c.tc : Thread Cert.QkvIdeal.nD Cert.QkvIdeal.τ).loc Cert.QkvIdeal.main_v71_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v71_0) = v0 c
          ∧ r.2.mem ((c.tc : Thread Cert.QkvIdeal.nD Cert.QkvIdeal.τ).loc Cert.QkvIdeal.main_v71_1) = v1 c
          ∧ r.2.mem ((c.tc : Thread Cert.QkvIdeal.nD Cert.QkvIdeal.τ).loc Cert.QkvIdeal.main_v71_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v109) = v0 c
          ∧ r.2.mem ((c.tc : Thread Cert.QkvReferenceIdeal.nD Cert.QkvReferenceIdeal.τ).loc Cert.QkvReferenceIdeal.main_v184) = v1 c
          ∧ r.2.mem ((c.tc : Thread Cert.QkvReferenceIdeal.nD Cert.QkvReferenceIdeal.τ).loc Cert.QkvReferenceIdeal.main_v259) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hQkv : Cert.Qkv.Facts) (hQkvIdeal : Cert.QkvIdeal.Facts) (hQkvReferenceIdeal : Cert.QkvReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Qkv_QkvIdeal
    ∧ algebraic_QkvIdeal_QkvReferenceIdeal (hQkvIdeal := hQkvIdeal) (hQkvReferenceIdeal := hQkvReferenceIdeal)
-- ==== Pre_finite_scores.lean ====
abbrev S16x4096x16x64 : Shape := ⟨4, ![16, 4096, 16, 64]⟩
abbrev S16x4096x16 : Shape := ⟨3, ![16, 4096, 16]⟩
abbrev S_ : Shape := ⟨0, ![]⟩

class Facts : Prop where
  bcast_S_S16x4096x16x64 : S_.BroadcastsInDim S16x4096x16x64 (![] : Fin 0 → Fin S16x4096x16x64.rank)
  reducesTo_S16x4096x16x64_S_d0_1_2_3 : S16x4096x16x64.ReducesTo [0, 1, 2, 3] S_
  h_S_ : 0 < S_.numel
  bcast_S_S16x4096x16 : S_.BroadcastsInDim S16x4096x16 (![] : Fin 0 → Fin S16x4096x16.rank)
  reducesTo_S16x4096x16_S_d0_1_2 : S16x4096x16.ReducesTo [0, 1, 2] S_

variable [Facts]

def fn {F : FTy → Type} [FloatOps F] (main_arg0 : FVec F S16x4096x16x64 .f32) (main_arg1 : FVec F S16x4096x16x64 .f32) (main_arg2 : FVec F S16x4096x16x64 .f32) (main_arg3 : FVec F S16x4096x16 .f32) : IVec S_ 1 :=
  let main_v0 : FVec F S16x4096x16x64 .f32 := Host.absf main_arg0
  let main_cst : FVec F S_ .f32 := constant S_ .f32 0x7F800000#32
  let main_v1 : FVec F S16x4096x16x64 .f32 := broadcastInDim S16x4096x16x64 ![] bcast_S_S16x4096x16x64 main_cst
  let main_v2 : IVec S16x4096x16x64 1 := cmpf .olt main_v0 main_v1
  let main_c : IVec S_ 1 := constantI S_ 1 1#1
  let main_v3 : IVec S_ 1 := (fun x v => Host.reduce IntOp.andi x v reducesTo_S16x4096x16x64_S_d0_1_2_3 h_S_) main_v2 main_c
  let main_v4 : FVec F S16x4096x16x64 .f32 := Host.absf main_arg1
  let main_cst_0 : FVec F S_ .f32 := constant S_ .f32 0x7F800000#32
  let main_v5 : FVec F S16x4096x16x64 .f32 := broadcastInDim S16x4096x16x64 ![] bcast_S_S16x4096x16x64 main_cst_0
  let main_v6 : IVec S16x4096x16x64 1 := cmpf .olt main_v4 main_v5
  let main_c_1 : IVec S_ 1 := constantI S_ 1 1#1
  let main_v7 : IVec S_ 1 := (fun x v => Host.reduce IntOp.andi x v reducesTo_S16x4096x16x64_S_d0_1_2_3 h_S_) main_v6 main_c_1
  let main_v8 : IVec S_ 1 := andi main_v3 main_v7
  let main_v9 : FVec F S16x4096x16 .f32 := Host.absf main_arg3
  let main_cst_2 : FVec F S_ .f32 := constant S_ .f32 0x7F800000#32
  let main_v10 : FVec F S16x4096x16 .f32 := broadcastInDim S16x4096x16 ![] bcast_S_S16x4096x16 main_cst_2
  let main_v11 : IVec S16x4096x16 1 := cmpf .olt main_v9 main_v10
  let main_c_3 : IVec S_ 1 := constantI S_ 1 1#1
  let main_v12 : IVec S_ 1 := (fun x v => Host.reduce IntOp.andi x v reducesTo_S16x4096x16_S_d0_1_2 h_S_) main_v11 main_c_3
  let main_v13 : IVec S_ 1 := andi main_v8 main_v12
  main_v13
-- ==== Kernel.lean ====
abbrev S16x4096x16x64 : Shape := ⟨4, ![16, 4096, 16, 64]⟩
abbrev S16x4096x16 : Shape := ⟨3, ![16, 4096, 16]⟩
abbrev S_ : Shape := ⟨0, ![]⟩
abbrev S16x4096x8x128 : Shape := ⟨4, ![16, 4096, 8, 128]⟩
abbrev S16x8x4096x128 : Shape := ⟨4, ![16, 8, 4096, 128]⟩
abbrev S16x16x4096 : Shape := ⟨3, ![16, 16, 4096]⟩
abbrev S16x16x8x512 : Shape := ⟨4, ![16, 16, 8, 512]⟩
abbrev S1x1x4096x128 : Shape := ⟨4, ![1, 1, 4096, 128]⟩
abbrev S1x2x8x512 : Shape := ⟨4, ![1, 2, 8, 512]⟩
abbrev S2x8x512x512 : Shape := ⟨4, ![2, 8, 512, 512]⟩
abbrev S8x2x80x512 : Shape := ⟨4, ![8, 2, 80, 512]⟩
abbrev S2x4096x128 : Shape := ⟨3, ![2, 4096, 128]⟩
abbrev S512x512 : Shape := ⟨2, ![512, 512]⟩
abbrev S2x8x512 : Shape := ⟨3, ![2, 8, 512]⟩
abbrev S2x80x512 : Shape := ⟨3, ![2, 80, 512]⟩
abbrev S128x512 : Shape := ⟨2, ![128, 512]⟩
abbrev S16x512 : Shape := ⟨2, ![16, 512]⟩
abbrev S1x1x512x128 : Shape := ⟨4, ![1, 1, 512, 128]⟩
abbrev S512x128 : Shape := ⟨2, ![512, 128]⟩
abbrev S64x512 : Shape := ⟨2, ![64, 512]⟩
abbrev S1x1x64x512 : Shape := ⟨4, ![1, 1, 64, 512]⟩
abbrev S1x1x16x512 : Shape := ⟨4, ![1, 1, 16, 512]⟩
abbrev S1x1x1x512 : Shape := ⟨4, ![1, 1, 1, 512]⟩
abbrev S1x512 : Shape := ⟨2, ![1, 512]⟩
abbrev S1x512x128 : Shape := ⟨3, ![1, 512, 128]⟩
abbrev S128x1024 : Shape := ⟨2, ![128, 1024]⟩
abbrev S512x1024 : Shape := ⟨2, ![512, 1024]⟩
abbrev S1x1x512x512 : Shape := ⟨4, ![1, 1, 512, 512]⟩
abbrev S1x8x512 : Shape := ⟨3, ![1, 8, 512]⟩
abbrev S8x512 : Shape := ⟨2, ![8, 512]⟩
abbrev S64x8x512 : Shape := ⟨3, ![64, 8, 512]⟩
abbrev S512 : Shape := ⟨1, ![512]⟩
abbrev S1x80x512 : Shape := ⟨3, ![1, 80, 512]⟩
abbrev S80x512 : Shape := ⟨2, ![80, 512]⟩
abbrev S1x1x80x512 : Shape := ⟨4, ![1, 1, 80, 512]⟩
abbrev S1x64x512 : Shape := ⟨3, ![1, 64, 512]⟩
abbrev S1x1x512 : Shape := ⟨3, ![1, 1, 512]⟩

abbrev nBuf : Space → Nat
  | .hbm => 26
  | .vmem => 17
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x16x64, .f32⟩
  | .hbm, ⟨2, _⟩ => ⟨S16x4096x16x64, .f32⟩
  | .hbm, ⟨3, _⟩ => ⟨S16x4096x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x4096x16x64, .f32⟩
  | .hbm, ⟨11, _⟩ => ⟨S16x4096x16x64, .f32⟩
  | .hbm, ⟨12, _⟩ => ⟨S16x4096x8x128, .f32⟩
  | .hbm, ⟨13, _⟩ => ⟨S16x8x4096x128, .f32⟩
  | .hbm, ⟨14, _⟩ => ⟨S16x8x4096x128, .bf16⟩
  | .hbm, ⟨15, _⟩ => ⟨S16x4096x8x128, .f32⟩
  | .hbm, ⟨16, _⟩ => ⟨S16x8x4096x128, .f32⟩
  | .hbm, ⟨17, _⟩ => ⟨S16x8x4096x128, .bf16⟩
  | .hbm, ⟨18, _⟩ => ⟨S16x4096x8x128, .f32⟩
  | .hbm, ⟨19, _⟩ => ⟨S16x8x4096x128, .f32⟩
  | .hbm, ⟨20, _⟩ => ⟨S16x8x4096x128, .bf16⟩
  | .hbm, ⟨21, _⟩ => ⟨S16x4096x16, .f32⟩
  | .hbm, ⟨22, _⟩ => ⟨S16x4096x16, .f32⟩
  | .hbm, ⟨23, _⟩ => ⟨S16x16x4096, .f32⟩
  | .hbm, ⟨24, _⟩ => ⟨S16x16x8x512, .f32⟩
  | .hbm, ⟨25, _⟩ => ⟨S16x8x4096x128, .bf16⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x2x8x512, .f32⟩
  | .local _ .vmem, ⟨7, _⟩ => ⟨S1x2x8x512, .f32⟩
  | .local _ .vmem, ⟨8, _⟩ => ⟨S1x1x4096x128, .bf16⟩
  | .local _ .vmem, ⟨9, _⟩ => ⟨S1x1x4096x128, .bf16⟩
  | .local _ .vmem, ⟨10, _⟩ => ⟨S2x8x512x512, .f32⟩
  | .local _ .vmem, ⟨11, _⟩ => ⟨S8x2x80x512, .bf16⟩
  | .local _ .vmem, ⟨12, _⟩ => ⟨S2x4096x128, .f32⟩
  | .local _ .vmem, ⟨13, _⟩ => ⟨S512x512, .f32⟩
  | .local _ .vmem, ⟨14, _⟩ => ⟨S2x8x512, .f32⟩
  | .local _ .vmem, ⟨15, _⟩ => ⟨S2x8x512, .f32⟩
  | .local _ .vmem, ⟨16, _⟩ => ⟨S2x80x512, .f32⟩
  | _, _ => ⟨S16x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 : BitVec 32 :=
  let c0_i32_265 : BitVec 32 := 0#32
  c0_i32_265
def k0_mult2 : BitVec 32 :=
  let c0_i32_278 : BitVec 32 := 0#32
  c0_i32_278
@[reducible] def k0_t1_loop : Scf.Loop 32 :=
  let c0_i32_335 : BitVec 32 := 0#32
  let c7_i32 : BitVec 32 := 7#32
  let v385 : BitVec 32 := Scalar.addi c0_i32_335 c7_i32
  let c1_i32 : BitVec 32 := 1#32
  ⟨c0_i32_335, v385, c1_i32⟩
def k0_mult3 (k0_t1 : Fin k0_t1_loop.trips) : BitVec 32 :=
  let c0_i32_335 : BitVec 32 := 0#32
  let c1_i32 : BitVec 32 := 1#32
  let arg14 : BitVec 32 := Scf.iv c0_i32_335 c1_i32 k0_t1
  let c1_i32_357 : BitVec 32 := 1#32
  let v411 : BitVec 32 := Scalar.addi arg14 c1_i32_357
  let c512_i32 : BitVec 32 := 512#32
  let v412 : BitVec 32 := Scalar.muli v411 c512_i32
  v412
def k0_off1 (k0_t1 : Fin k0_t1_loop.trips) : Fin 4 → Nat :=
  let c0_358 : Index := 0#32
  let c0_359 : Index := 0#32
  let c0_i32_335 : BitVec 32 := 0#32
  let c1_i32 : BitVec 32 := 1#32
  let arg14 : BitVec 32 := Scf.iv c0_i32_335 c1_i32 k0_t1
  let c1_i32_357 : BitVec 32 := 1#32
  let v411 : BitVec 32 := Scalar.addi arg14 c1_i32_357
  let c512_i32 : BitVec 32 := 512#32
  let v412 : BitVec 32 := Scalar.muli v411 c512_i32
  let v413 : BitVec 32 := v412
  let v414 : Index := Scalar.indexCast v413
  let c0_360 : Index := 0#32
  ![0, 0, v414.toNat, 0]
def k0_off2 (k0_t1 : Fin k0_t1_loop.trips) : Fin 4 → Nat :=
  let c0_362 : Index := 0#32
  let c0_363 : Index := 0#32
  let c0_i32_335 : BitVec 32 := 0#32
  let c1_i32 : BitVec 32 := 1#32
  let arg14 : BitVec 32 := Scf.iv c0_i32_335 c1_i32 k0_t1
  let c1_i32_357 : BitVec 32 := 1#32
  let v411 : BitVec 32 := Scalar.addi arg14 c1_i32_357
  let v422 : Index := Scalar.indexCast v411
  let c0_364 : Index := 0#32
  ![0, 0, v422.toNat, 0]
def k0_off3 (k0_t1 : Fin k0_t1_loop.trips) : Fin 4 → Nat :=
  let c0_365 : Index := 0#32
  let c1_366 : Index := 1#32
  let c0_i32_335 : BitVec 32 := 0#32
  let c1_i32 : BitVec 32 := 1#32
  let arg14 : BitVec 32 := Scf.iv c0_i32_335 c1_i32 k0_t1
  let c1_i32_357 : BitVec 32 := 1#32
  let v411 : BitVec 32 := Scalar.addi arg14 c1_i32_357
  let v425 : Index := Scalar.indexCast v411
  let c0_367 : Index := 0#32
  ![0, 1, v425.toNat, 0]
@[reducible] def k0_t2_loop (k0_t1 : Fin k0_t1_loop.trips) : Scf.Loop 32 :=
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_372 : BitVec 32 := 1#32
  ⟨c0_i32_370, v434, c1_i32_372⟩
def k0_off4 (k0_t1 : Fin k0_t1_loop.trips) (k0_t2 : Fin (k0_t2_loop k0_t1).trips) (c0_i32_453 : BitVec 32) : Fin 4 → Nat :=
  let c0_454 : Index := 0#32
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let v559 : Index := Scalar.indexCast v558
  let c0_455 : Index := 0#32
  let c0_456 : Index := 0#32
  ![0, v559.toNat, 0, 0]
def k0_off5 (k0_t1 : Fin k0_t1_loop.trips) (k0_t2 : Fin (k0_t2_loop k0_t1).trips) (c0_i32_453 : BitVec 32) : Fin 4 → Nat :=
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let v570 : Index := Scalar.indexCast v558
  let c0_463 : Index := 0#32
  let c0_464 : Index := 0#32
  let c0_465 : Index := 0#32
  ![v570.toNat, 0, 0, 0]
def k0_off6 (k0_t1 : Fin k0_t1_loop.trips) (k0_t2 : Fin (k0_t2_loop k0_t1).trips) (c0_i32_453 : BitVec 32) : Fin 4 → Nat :=
  let c1_470 : Index := 1#32
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let v579 : Index := Scalar.indexCast v558
  let c0_471 : Index := 0#32
  let c0_472 : Index := 0#32
  ![1, v579.toNat, 0, 0]
def k0_off7 (k0_t1 : Fin k0_t1_loop.trips) (k0_t2 : Fin (k0_t2_loop k0_t1).trips) (c0_i32_453 : BitVec 32) : Fin 4 → Nat :=
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let v590 : Index := Scalar.indexCast v558
  let c1_479 : Index := 1#32
  let c0_480 : Index := 0#32
  let c0_481 : Index := 0#32
  ![v590.toNat, 1, 0, 0]
def k0_mult4 (k0_t1 : Fin k0_t1_loop.trips) (k0_t2 : Fin (k0_t2_loop k0_t1).trips) : BitVec 32 :=
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let c0_i32_453 : BitVec 32 := 0#32
  let v558 : BitVec 32 := Scalar.addi v557 c0_i32_453
  let c512_i32_486 : BitVec 32 := 512#32
  let v599 : BitVec 32 := Scalar.muli v558 c512_i32_486
  v599
def k0_off8 (k0_t1 : Fin k0_t1_loop.trips) (k0_t2 : Fin (k0_t2_loop k0_t1).trips) (c0_i32_453 : BitVec 32) : Fin 4 → Nat :=
  let c0_487 : Index := 0#32
  let c0_488 : Index := 0#32
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let c512_i32_486 : BitVec 32 := 512#32
  let v599 : BitVec 32 := Scalar.muli v558 c512_i32_486
  let v600 : BitVec 32 := v599
  let v601 : Index := Scalar.indexCast v600
  let c0_489 : Index := 0#32
  ![0, 0, v601.toNat, 0]
def k0_off9 (k0_t1 : Fin k0_t1_loop.trips) (k0_t2 : Fin (k0_t2_loop k0_t1).trips) (c0_i32_453 : BitVec 32) : Fin 3 → Nat :=
  let c0_491 : Index := 0#32
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let c512_i32_486 : BitVec 32 := 512#32
  let v599 : BitVec 32 := Scalar.muli v558 c512_i32_486
  let v600 : BitVec 32 := v599
  let v605 : Index := Scalar.indexCast v600
  let c0_492 : Index := 0#32
  ![0, v605.toNat, 0]
def k0_off10 (k0_t1 : Fin k0_t1_loop.trips) (k0_t2 : Fin (k0_t2_loop k0_t1).trips) (c0_i32_453 : BitVec 32) : Fin 3 → Nat :=
  let c1_503 : Index := 1#32
  let c4_i32 : BitVec 32 := 4#32
  let c0_i32_370 : BitVec 32 := 0#32
  let c1_i32_372 : BitVec 32 := 1#32
  let arg15 : BitVec 32 := Scf.iv c0_i32_370 c1_i32_372 k0_t2
  let v557 : BitVec 32 := Scalar.muli c4_i32 arg15
  let v558 : BitVec 32 := Scalar.addi v557 c0_i32_453
  let c512_i32_486 : BitVec 32 := 512#32
  let v599 : BitVec 32 := Scalar.muli v558 c512_i32_486
  let v600 : BitVec 32 := v599
  let v629 : Index := Scalar.indexCast v600
  let c0_504 : Index := 0#32
  ![1, v629.toNat, 0]
def k0_mult5 (k0_t1 : Fin k0_t1_loop.trips) (k0_t2 : Fin (k0_t2_loop k0_t1).trips) : BitVec 32 :=
  let c4_i32_515 : BitVec 32 := 4#32
  let c0_i32_370 : BitVec 32 := 0#32
  let c1_i32_372 : BitVec 32 := 1#32
  let arg15 : BitVec 32 := Scf.iv c0_i32_370 c1_i32_372 k0_t2
  let v653 : BitVec 32 := Scalar.muli c4_i32_515 arg15
  let c1_i32_516 : BitVec 32 := 1#32
  let v654 : BitVec 32 := Scalar.addi v653 c1_i32_516
  let c512_i32_549 : BitVec 32 := 512#32
  let v695 : BitVec 32 := Scalar.muli v654 c512_i32_549
  v695
def k0_mult6 (k0_t1 : Fin k0_t1_loop.trips) (k0_t2 : Fin (k0_t2_loop k0_t1).trips) : BitVec 32 :=
  let c4_i32_578 : BitVec 32 := 4#32
  let c0_i32_370 : BitVec 32 := 0#32
  let c1_i32_372 : BitVec 32 := 1#32
  let arg15 : BitVec 32 := Scf.iv c0_i32_370 c1_i32_372 k0_t2
  let v749 : BitVec 32 := Scalar.muli c4_i32_578 arg15
  let c2_i32_579 : BitVec 32 := 2#32
  let v750 : BitVec 32 := Scalar.addi v749 c2_i32_579
  let c512_i32_612 : BitVec 32 := 512#32
  let v791 : BitVec 32 := Scalar.muli v750 c512_i32_612
  v791
def k0_mult7 (k0_t1 : Fin k0_t1_loop.trips) (k0_t2 : Fin (k0_t2_loop k0_t1).trips) : BitVec 32 :=
  let c4_i32_641 : BitVec 32 := 4#32
  let c0_i32_370 : BitVec 32 := 0#32
  let c1_i32_372 : BitVec 32 := 1#32
  let arg15 : BitVec 32 := Scf.iv c0_i32_370 c1_i32_372 k0_t2
  let v845 : BitVec 32 := Scalar.muli c4_i32_641 arg15
  let c3_i32 : BitVec 32 := 3#32
  let v846 : BitVec 32 := Scalar.addi v845 c3_i32
  let c512_i32_674 : BitVec 32 := 512#32
  let v887 : BitVec 32 := Scalar.muli v846 c512_i32_674
  v887
@[reducible] def k0_t3_loop (k0_t1 : Fin k0_t1_loop.trips) : Scf.Loop 32 :=
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let v431 : BitVec 32 := Scalar.addi c0_i32_370 v430
  let c1_i32_373 : BitVec 32 := 1#32
  ⟨v434, v431, c1_i32_373⟩
def k0_off11 (k0_t1 : Fin k0_t1_loop.trips) (k0_t3 : Fin (k0_t3_loop k0_t1).trips) (c0_i32_453 : BitVec 32) : Fin 4 → Nat :=
  let c0_454 : Index := 0#32
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let v559 : Index := Scalar.indexCast v558
  let c0_455 : Index := 0#32
  let c0_456 : Index := 0#32
  ![0, v559.toNat, 0, 0]
def k0_off12 (k0_t1 : Fin k0_t1_loop.trips) (k0_t3 : Fin (k0_t3_loop k0_t1).trips) (c0_i32_453 : BitVec 32) : Fin 4 → Nat :=
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let v570 : Index := Scalar.indexCast v558
  let c0_463 : Index := 0#32
  let c0_464 : Index := 0#32
  let c0_465 : Index := 0#32
  ![v570.toNat, 0, 0, 0]
def k0_off13 (k0_t1 : Fin k0_t1_loop.trips) (k0_t3 : Fin (k0_t3_loop k0_t1).trips) (c0_i32_453 : BitVec 32) : Fin 4 → Nat :=
  let c1_470 : Index := 1#32
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let v579 : Index := Scalar.indexCast v558
  let c0_471 : Index := 0#32
  let c0_472 : Index := 0#32
  ![1, v579.toNat, 0, 0]
def k0_off14 (k0_t1 : Fin k0_t1_loop.trips) (k0_t3 : Fin (k0_t3_loop k0_t1).trips) (c0_i32_453 : BitVec 32) : Fin 4 → Nat :=
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let v590 : Index := Scalar.indexCast v558
  let c1_479 : Index := 1#32
  let c0_480 : Index := 0#32
  let c0_481 : Index := 0#32
  ![v590.toNat, 1, 0, 0]
def k0_mult8 (k0_t1 : Fin k0_t1_loop.trips) (k0_t3 : Fin (k0_t3_loop k0_t1).trips) : BitVec 32 :=
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let c0_i32_453 : BitVec 32 := 0#32
  let v558 : BitVec 32 := Scalar.addi v557 c0_i32_453
  let c512_i32_486 : BitVec 32 := 512#32
  let v599 : BitVec 32 := Scalar.muli v558 c512_i32_486
  v599
def k0_off15 (k0_t1 : Fin k0_t1_loop.trips) (k0_t3 : Fin (k0_t3_loop k0_t1).trips) (c0_i32_453 : BitVec 32) : Fin 4 → Nat :=
  let c0_487 : Index := 0#32
  let c0_488 : Index := 0#32
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let c512_i32_486 : BitVec 32 := 512#32
  let v599 : BitVec 32 := Scalar.muli v558 c512_i32_486
  let v600 : BitVec 32 := v599
  let v601 : Index := Scalar.indexCast v600
  let c0_489 : Index := 0#32
  ![0, 0, v601.toNat, 0]
def k0_off16 (k0_t1 : Fin k0_t1_loop.trips) (k0_t3 : Fin (k0_t3_loop k0_t1).trips) (c0_i32_453 : BitVec 32) : Fin 3 → Nat :=
  let c0_491 : Index := 0#32
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let c512_i32_486 : BitVec 32 := 512#32
  let v599 : BitVec 32 := Scalar.muli v558 c512_i32_486
  let v600 : BitVec 32 := v599
  let v605 : Index := Scalar.indexCast v600
  let c0_492 : Index := 0#32
  ![0, v605.toNat, 0]
def k0_off17 (k0_t1 : Fin k0_t1_loop.trips) (k0_t3 : Fin (k0_t3_loop k0_t1).trips) (c0_i32_453 : BitVec 32) : Fin 3 → Nat :=
  let c1_503 : Index := 1#32
  let c4_i32 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v557 : BitVec 32 := Scalar.muli c4_i32 arg15
  let v558 : BitVec 32 := Scalar.addi v557 c0_i32_453
  let c512_i32_486 : BitVec 32 := 512#32
  let v599 : BitVec 32 := Scalar.muli v558 c512_i32_486
  let v600 : BitVec 32 := v599
  let v629 : Index := Scalar.indexCast v600
  let c0_504 : Index := 0#32
  ![1, v629.toNat, 0]
def k0_mult9 (k0_t1 : Fin k0_t1_loop.trips) (k0_t3 : Fin (k0_t3_loop k0_t1).trips) : BitVec 32 :=
  let c4_i32_515 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v653 : BitVec 32 := Scalar.muli c4_i32_515 arg15
  let c1_i32_516 : BitVec 32 := 1#32
  let v654 : BitVec 32 := Scalar.addi v653 c1_i32_516
  let c512_i32_549 : BitVec 32 := 512#32
  let v695 : BitVec 32 := Scalar.muli v654 c512_i32_549
  v695
def k0_mult10 (k0_t1 : Fin k0_t1_loop.trips) (k0_t3 : Fin (k0_t3_loop k0_t1).trips) : BitVec 32 :=
  let c4_i32_578 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v749 : BitVec 32 := Scalar.muli c4_i32_578 arg15
  let c2_i32_579 : BitVec 32 := 2#32
  let v750 : BitVec 32 := Scalar.addi v749 c2_i32_579
  let c512_i32_612 : BitVec 32 := 512#32
  let v791 : BitVec 32 := Scalar.muli v750 c512_i32_612
  v791
def k0_mult11 (k0_t1 : Fin k0_t1_loop.trips) (k0_t3 : Fin (k0_t3_loop k0_t1).trips) : BitVec 32 :=
  let c4_i32_641 : BitVec 32 := 4#32
  let c0_i32_370 : BitVec 32 := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32 : BitVec 32 := 2#32
  let v429 : BitVec 32 := Scalar.shrui v428 c2_i32
  let v430 : BitVec 32 := Scalar.subi v429 c0_i32_370
  let c1_i32_371 : BitVec 32 := 1#32
  let v432 : BitVec 32 := Scalar.divsi v430 c1_i32_371
  let v433 : BitVec 32 := Scalar.muli v432 c1_i32_371
  let v434 : BitVec 32 := Scalar.addi c0_i32_370 v433
  let c1_i32_373 : BitVec 32 := 1#32
  let arg15 : BitVec 32 := Scf.iv v434 c1_i32_373 k0_t3
  let v845 : BitVec 32 := Scalar.muli c4_i32_641 arg15
  let c3_i32 : BitVec 32 := 3#32
  let v846 : BitVec 32 := Scalar.addi v845 c3_i32
  let c512_i32_674 : BitVec 32 := 512#32
  let v887 : BitVec 32 := Scalar.muli v846 c512_i32_674
  v887
def k0_cond1 (k0_t1 : Fin k0_t1_loop.trips) : BitVec 1 :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c2_i32_374 : BitVec 32 := 2#32
  let v436 : BitVec 32 := Scalar.andi v428 c2_i32_374
  let c0_i32_375 : BitVec 32 := 0#32
  let v437 : BitVec 1 := Scalar.cmpi .ne v436 c0_i32_375
  let v438 : BitVec 32 := Scalar.extui v437
  let c0_i32_376 : BitVec 32 := 0#32
  let v439 : BitVec 1 := Scalar.cmpi .ne v438 c0_i32_376
  v439

def k0_off18 (k0_t1 : Fin k0_t1_loop.trips) : Fin 4 → Nat :=
  let c0_453 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let v557 : Index := Scalar.indexCast v435
  let c0_454 : Index := 0#32
  let c0_455 : Index := 0#32
  ![0, v557.toNat, 0, 0]
def k0_off19 (k0_t1 : Fin k0_t1_loop.trips) : Fin 4 → Nat :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let v568 : Index := Scalar.indexCast v435
  let c0_462 : Index := 0#32
  let c0_463 : Index := 0#32
  let c0_464 : Index := 0#32
  ![v568.toNat, 0, 0, 0]
def k0_off20 (k0_t1 : Fin k0_t1_loop.trips) : Fin 4 → Nat :=
  let c1_469 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let v577 : Index := Scalar.indexCast v435
  let c0_470 : Index := 0#32
  let c0_471 : Index := 0#32
  ![1, v577.toNat, 0, 0]
def k0_off21 (k0_t1 : Fin k0_t1_loop.trips) : Fin 4 → Nat :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let v588 : Index := Scalar.indexCast v435
  let c1_478 : Index := 1#32
  let c0_479 : Index := 0#32
  let c0_480 : Index := 0#32
  ![v588.toNat, 1, 0, 0]
def k0_mult12 (k0_t1 : Fin k0_t1_loop.trips) : BitVec 32 :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c512_i32_485 : BitVec 32 := 512#32
  let v597 : BitVec 32 := Scalar.muli v435 c512_i32_485
  v597
def k0_off22 (k0_t1 : Fin k0_t1_loop.trips) : Fin 4 → Nat :=
  let c0_486 : Index := 0#32
  let c0_487 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c512_i32_485 : BitVec 32 := 512#32
  let v597 : BitVec 32 := Scalar.muli v435 c512_i32_485
  let v598 : BitVec 32 := v597
  let v599 : Index := Scalar.indexCast v598
  let c0_488 : Index := 0#32
  ![0, 0, v599.toNat, 0]
def k0_off23 (k0_t1 : Fin k0_t1_loop.trips) : Fin 3 → Nat :=
  let c0_490 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c512_i32_485 : BitVec 32 := 512#32
  let v597 : BitVec 32 := Scalar.muli v435 c512_i32_485
  let v598 : BitVec 32 := v597
  let v603 : Index := Scalar.indexCast v598
  let c0_491 : Index := 0#32
  ![0, v603.toNat, 0]
def k0_off24 (k0_t1 : Fin k0_t1_loop.trips) : Fin 3 → Nat :=
  let c1_502 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c512_i32_485 : BitVec 32 := 512#32
  let v597 : BitVec 32 := Scalar.muli v435 c512_i32_485
  let v598 : BitVec 32 := v597
  let v627 : Index := Scalar.indexCast v598
  let c0_503 : Index := 0#32
  ![1, v627.toNat, 0]
def k0_off25 (k0_t1 : Fin k0_t1_loop.trips) : Fin 4 → Nat :=
  let c0_515 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let v652 : Index := Scalar.indexCast v651
  let c0_516 : Index := 0#32
  let c0_517 : Index := 0#32
  ![0, v652.toNat, 0, 0]
def k0_off26 (k0_t1 : Fin k0_t1_loop.trips) : Fin 4 → Nat :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let v663 : Index := Scalar.indexCast v651
  let c0_524 : Index := 0#32
  let c0_525 : Index := 0#32
  let c0_526 : Index := 0#32
  ![v663.toNat, 0, 0, 0]
def k0_off27 (k0_t1 : Fin k0_t1_loop.trips) : Fin 4 → Nat :=
  let c1_531 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let v672 : Index := Scalar.indexCast v651
  let c0_532 : Index := 0#32
  let c0_533 : Index := 0#32
  ![1, v672.toNat, 0, 0]
def k0_off28 (k0_t1 : Fin k0_t1_loop.trips) : Fin 4 → Nat :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let v683 : Index := Scalar.indexCast v651
  let c1_540 : Index := 1#32
  let c0_541 : Index := 0#32
  let c0_542 : Index := 0#32
  ![v683.toNat, 1, 0, 0]
def k0_mult13 (k0_t1 : Fin k0_t1_loop.trips) : BitVec 32 :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let c512_i32_547 : BitVec 32 := 512#32
  let v692 : BitVec 32 := Scalar.muli v651 c512_i32_547
  v692
def k0_off29 (k0_t1 : Fin k0_t1_loop.trips) : Fin 4 → Nat :=
  let c0_548 : Index := 0#32
  let c0_549 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let c512_i32_547 : BitVec 32 := 512#32
  let v692 : BitVec 32 := Scalar.muli v651 c512_i32_547
  let v693 : BitVec 32 := v692
  let v694 : Index := Scalar.indexCast v693
  let c0_550 : Index := 0#32
  ![0, 0, v694.toNat, 0]
def k0_off30 (k0_t1 : Fin k0_t1_loop.trips) : Fin 3 → Nat :=
  let c0_552 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let c512_i32_547 : BitVec 32 := 512#32
  let v692 : BitVec 32 := Scalar.muli v651 c512_i32_547
  let v693 : BitVec 32 := v692
  let v698 : Index := Scalar.indexCast v693
  let c0_553 : Index := 0#32
  ![0, v698.toNat, 0]
def k0_off31 (k0_t1 : Fin k0_t1_loop.trips) : Fin 3 → Nat :=
  let c1_564 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c_m4_i32 : BitVec 32 := 4294967292#32
  let v435 : BitVec 32 := Scalar.andi v428 c_m4_i32
  let c1_i32_514 : BitVec 32 := 1#32
  let v651 : BitVec 32 := Scalar.addi v435 c1_i32_514
  let c512_i32_547 : BitVec 32 := 512#32
  let v692 : BitVec 32 := Scalar.muli v651 c512_i32_547
  let v693 : BitVec 32 := v692
  let v722 : Index := Scalar.indexCast v693
  let c0_565 : Index := 0#32
  ![1, v722.toNat, 0]
def k0_cond2 (k0_t1 : Fin k0_t1_loop.trips) : BitVec 1 :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_377 : BitVec 32 := 1#32
  let v440 : BitVec 32 := Scalar.andi v428 c1_i32_377
  let c0_i32_378 : BitVec 32 := 0#32
  let v441 : BitVec 1 := Scalar.cmpi .ne v440 c0_i32_378
  let v442 : BitVec 32 := Scalar.extui v441
  let c0_i32_379 : BitVec 32 := 0#32
  let v443 : BitVec 1 := Scalar.cmpi .ne v442 c0_i32_379
  v443

def k0_off32 (k0_t1 : Fin k0_t1_loop.trips) : Fin 4 → Nat :=
  let c0_454 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let v558 : Index := Scalar.indexCast v557
  let c0_455 : Index := 0#32
  let c0_456 : Index := 0#32
  ![0, v558.toNat, 0, 0]
def k0_off33 (k0_t1 : Fin k0_t1_loop.trips) : Fin 4 → Nat :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let v569 : Index := Scalar.indexCast v557
  let c0_463 : Index := 0#32
  let c0_464 : Index := 0#32
  let c0_465 : Index := 0#32
  ![v569.toNat, 0, 0, 0]
def k0_off34 (k0_t1 : Fin k0_t1_loop.trips) : Fin 4 → Nat :=
  let c1_470 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let v578 : Index := Scalar.indexCast v557
  let c0_471 : Index := 0#32
  let c0_472 : Index := 0#32
  ![1, v578.toNat, 0, 0]
def k0_off35 (k0_t1 : Fin k0_t1_loop.trips) : Fin 4 → Nat :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let v589 : Index := Scalar.indexCast v557
  let c1_479 : Index := 1#32
  let c0_480 : Index := 0#32
  let c0_481 : Index := 0#32
  ![v589.toNat, 1, 0, 0]
def k0_mult14 (k0_t1 : Fin k0_t1_loop.trips) : BitVec 32 :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let c512_i32_486 : BitVec 32 := 512#32
  let v598 : BitVec 32 := Scalar.muli v557 c512_i32_486
  v598
def k0_off36 (k0_t1 : Fin k0_t1_loop.trips) : Fin 4 → Nat :=
  let c0_487 : Index := 0#32
  let c0_488 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let c512_i32_486 : BitVec 32 := 512#32
  let v598 : BitVec 32 := Scalar.muli v557 c512_i32_486
  let v599 : BitVec 32 := v598
  let v600 : Index := Scalar.indexCast v599
  let c0_489 : Index := 0#32
  ![0, 0, v600.toNat, 0]
def k0_off37 (k0_t1 : Fin k0_t1_loop.trips) : Fin 3 → Nat :=
  let c0_491 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let c512_i32_486 : BitVec 32 := 512#32
  let v598 : BitVec 32 := Scalar.muli v557 c512_i32_486
  let v599 : BitVec 32 := v598
  let v604 : Index := Scalar.indexCast v599
  let c0_492 : Index := 0#32
  ![0, v604.toNat, 0]
def k0_off38 (k0_t1 : Fin k0_t1_loop.trips) : Fin 3 → Nat :=
  let c1_503 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c1_i32_453 : BitVec 32 := 1#32
  let v557 : BitVec 32 := Scalar.subi v428 c1_i32_453
  let c512_i32_486 : BitVec 32 := 512#32
  let v598 : BitVec 32 := Scalar.muli v557 c512_i32_486
  let v599 : BitVec 32 := v598
  let v628 : Index := Scalar.indexCast v599
  let c0_504 : Index := 0#32
  ![1, v628.toNat, 0]
def k0_mult15 (k0_t1 : Fin k0_t1_loop.trips) : BitVec 32 :=
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c512_i32_380 : BitVec 32 := 512#32
  let v444 : BitVec 32 := Scalar.muli v428 c512_i32_380
  v444
def k0_off39 (k0_t1 : Fin k0_t1_loop.trips) : Fin 3 → Nat :=
  let c0_385 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c512_i32_380 : BitVec 32 := 512#32
  let v444 : BitVec 32 := Scalar.muli v428 c512_i32_380
  let v445 : BitVec 32 := v444
  let v450 : Index := Scalar.indexCast v445
  let c0_386 : Index := 0#32
  ![0, v450.toNat, 0]
def k0_off40 (k0_t1 : Fin k0_t1_loop.trips) : Fin 4 → Nat :=
  let c0_389 : Index := 0#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let v464 : Index := Scalar.indexCast v428
  let c0_390 : Index := 0#32
  let c0_391 : Index := 0#32
  ![0, v464.toNat, 0, 0]
def k0_off41 (k0_t1 : Fin k0_t1_loop.trips) : Fin 3 → Nat :=
  let c1_399 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let c512_i32_380 : BitVec 32 := 512#32
  let v444 : BitVec 32 := Scalar.muli v428 c512_i32_380
  let v445 : BitVec 32 := v444
  let v476 : Index := Scalar.indexCast v445
  let c0_400 : Index := 0#32
  ![1, v476.toNat, 0]
def k0_off42 (k0_t1 : Fin k0_t1_loop.trips) : Fin 4 → Nat :=
  let c1_403 : Index := 1#32
  let c0_i32_335 : BitVec 32 := 0#32
  let c1_i32 : BitVec 32 := 1#32
  let arg14 : BitVec 32 := Scf.iv c0_i32_335 c1_i32 k0_t1
  let c1_i32_368 : BitVec 32 := 1#32
  let v428 : BitVec 32 := Scalar.addi arg14 c1_i32_368
  let v490 : Index := Scalar.indexCast v428
  let c0_404 : Index := 0#32
  let c0_405 : Index := 0#32
  ![1, v490.toNat, 0, 0]
def k0_mult16 (k0_t1 : Fin k0_t1_loop.trips) : BitVec 32 :=
  let c0_i32_335 : BitVec 32 := 0#32
  let c1_i32 : BitVec 32 := 1#32
  let arg14 : BitVec 32 := Scf.iv c0_i32_335 c1_i32 k0_t1
  let c512_i32_427 : BitVec 32 := 512#32
  let v521 : BitVec 32 := Scalar.muli arg14 c512_i32_427
  v521
def k0_off43 (k0_t1 : Fin k0_t1_loop.trips) : Fin 4 → Nat :=
  let c0_428 : Index := 0#32
  let c0_429 : Index := 0#32
  let c0_i32_335 : BitVec 32 := 0#32
  let c1_i32 : BitVec 32 := 1#32
  let arg14 : BitVec 32 := Scf.iv c0_i32_335 c1_i32 k0_t1
  let c512_i32_427 : BitVec 32 := 512#32
  let v521 : BitVec 32 := Scalar.muli arg14 c512_i32_427
  let v522 : BitVec 32 := v521
  let v523 : Index := Scalar.indexCast v522
  let c0_430 : Index := 0#32
  ![0, 0, v523.toNat, 0]
@[reducible] def k0_t4_loop : Scf.Loop 32 :=
  let c0_i32_337 : BitVec 32 := 0#32
  let c8_i32 : BitVec 32 := 8#32
  let v386 : BitVec 32 := Scalar.addi c0_i32_337 c8_i32
  let c1_i32_338 : BitVec 32 := 1#32
  ⟨c0_i32_337, v386, c1_i32_338⟩
def k0_off44 (k0_t4 : Fin k0_t4_loop.trips) : Fin 4 → Nat :=
  let c0_357 : Index := 0#32
  let c0_i32_337 : BitVec 32 := 0#32
  let c1_i32_338 : BitVec 32 := 1#32
  let arg14 : BitVec 32 := Scf.iv c0_i32_337 c1_i32_338 k0_t4
  let v411 : Index := Scalar.indexCast arg14
  let c0_358 : Index := 0#32
  let c0_359 : Index := 0#32
  ![0, v411.toNat, 0, 0]
def k0_off45 (k0_t4 : Fin k0_t4_loop.trips) : Fin 4 → Nat :=
  let c0_i32_337 : BitVec 32 := 0#32
  let c1_i32_338 : BitVec 32 := 1#32
  let arg14 : BitVec 32 := Scf.iv c0_i32_337 c1_i32_338 k0_t4
  let v422 : Index := Scalar.indexCast arg14
  let c0_366 : Index := 0#32
  let c0_367 : Index := 0#32
  let c0_368 : Index := 0#32
  ![v422.toNat, 0, 0, 0]
def k0_off46 (k0_t4 : Fin k0_t4_loop.trips) : Fin 4 → Nat :=
  let c1_373 : Index := 1#32
  let c0_i32_337 : BitVec 32 := 0#32
  let c1_i32_338 : BitVec 32 := 1#32
  let arg14 : BitVec 32 := Scf.iv c0_i32_337 c1_i32_338 k0_t4
  let v431 : Index := Scalar.indexCast arg14
  let c0_374 : Index := 0#32
  let c0_375 : Index := 0#32
  ![1, v431.toNat, 0, 0]
def k0_off47 (k0_t4 : Fin k0_t4_loop.trips) : Fin 4 → Nat :=
  let c0_i32_337 : BitVec 32 := 0#32
  let c1_i32_338 : BitVec 32 := 1#32
  let arg14 : BitVec 32 := Scf.iv c0_i32_337 c1_i32_338 k0_t4
  let v442 : Index := Scalar.indexCast arg14
  let c1_382 : Index := 1#32
  let c0_383 : Index := 0#32
  let c0_384 : Index := 0#32
  ![v442.toNat, 1, 0, 0]
def k0_mult17 : BitVec 32 :=
  let c3584_i32 : BitVec 32 := 3584#32
  c3584_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x16x64 : Shape := ⟨4, ![16, 4096, 16, 64]⟩
abbrev S16x4096x16 : Shape := ⟨3, ![16, 4096, 16]⟩
abbrev S16x16x4096 : Shape := ⟨3, ![16, 16, 4096]⟩
abbrev S16x16x4096x4096 : Shape := ⟨4, ![16, 16, 4096, 4096]⟩
abbrev S_ : Shape := ⟨0, ![]⟩
abbrev S16x16x4096x1 : Shape := ⟨4, ![16, 16, 4096, 1]⟩
abbrev S16x16x1x4096 : Shape := ⟨4, ![16, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x16x64x4096 : Shape := ⟨4, ![16, 16, 64, 4096]⟩
abbrev S16x4096x8x128 : Shape := ⟨4, ![16, 4096, 8, 128]⟩
abbrev S16x8x4096x128 : Shape := ⟨4, ![16, 8, 4096, 128]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x16x64, .f32⟩
  | .hbm, ⟨2, _⟩ => ⟨S16x4096x16x64, .f32⟩
  | .hbm, ⟨3, _⟩ => ⟨S16x4096x16, .f32⟩
  | .hbm, ⟨4, _⟩ => ⟨S16x16x4096, .f32⟩
  | .hbm, ⟨5, _⟩ => ⟨S16x16x4096x4096, .f32⟩
  | .hbm, ⟨6, _⟩ => ⟨S_, .f32⟩
  | .hbm, ⟨7, _⟩ => ⟨S16x16x4096x4096, .f32⟩
  | .hbm, ⟨8, _⟩ => ⟨S16x16x4096x4096, .f32⟩
  | .hbm, ⟨9, _⟩ => ⟨S16x16x4096x1, .f32⟩
  | .hbm, ⟨10, _⟩ => ⟨S16x16x1x4096, .f32⟩
  | .hbm, ⟨11, _⟩ => ⟨S16x16x4096x4096, .f32⟩
  | .hbm, ⟨12, _⟩ => ⟨S16x16x4096x4096, .f32⟩
  | .hbm, ⟨13, _⟩ => ⟨S16x16x4096x4096, .f32⟩
  | .hbm, ⟨14, _⟩ => ⟨S16x16x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S16x16x4096x4096, .i1⟩
  | .hbm, ⟨24, _⟩ => ⟨S16x16x4096x4096, .f32⟩
  | .hbm, ⟨25, _⟩ => ⟨S16x16x4096x4096, .f32⟩
  | .hbm, ⟨26, _⟩ => ⟨S_, .f32⟩
  | .hbm, ⟨27, _⟩ => ⟨S16x16x4096, .f32⟩
  | .hbm, ⟨28, _⟩ => ⟨S_, .f32⟩
  | .hbm, ⟨29, _⟩ => ⟨S16x16x4096, .f32⟩
  | .hbm, ⟨30, _⟩ => ⟨S16x16x4096, .f32⟩
  | .hbm, ⟨31, _⟩ => ⟨S16x16x4096x1, .f32⟩
  | .hbm, ⟨32, _⟩ => ⟨S16x16x4096x4096, .f32⟩
  | .hbm, ⟨33, _⟩ => ⟨S16x16x4096x4096, .f32⟩
  | .hbm, ⟨34, _⟩ => ⟨S16x16x4096x4096, .f32⟩
  | .hbm, ⟨35, _⟩ => ⟨S_, .f32⟩
  | .hbm, ⟨36, _⟩ => ⟨S16x16x4096, .f32⟩
  | .hbm, ⟨37, _⟩ => ⟨S16x16x4096x1, .f32⟩
  | .hbm, ⟨38, _⟩ => ⟨S16x16x4096x4096, .f32⟩
  | .hbm, ⟨39, _⟩ => ⟨S16x16x4096x4096, .f32⟩
  | .hbm, ⟨40, _⟩ => ⟨S16x16x64x4096, .f32⟩
  | .hbm, ⟨41, _⟩ => ⟨S16x4096x16x64, .f32⟩
  | .hbm, ⟨42, _⟩ => ⟨S16x4096x8x128, .f32⟩
  | .hbm, ⟨43, _⟩ => ⟨S16x8x4096x128, .f32⟩
  | .hbm, ⟨44, _⟩ => ⟨S16x8x4096x128, .bf16⟩
  | _, _ => ⟨S16x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Ffn.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S16x4096x5632, .f32⟩
  | .hbm, ⟨21, _⟩ => ⟨S16x4096x2816, .f32⟩
  | .hbm, ⟨22, _⟩ => ⟨S16x4096x2816, .f32⟩
  | .hbm, ⟨23, _⟩ => ⟨S16x4096x2816, .f32⟩
  | .hbm, ⟨24, _⟩ => ⟨S16x4096x2816, .f32⟩
  | .hbm, ⟨25, _⟩ => ⟨S_, .f32⟩
  | .hbm, ⟨26, _⟩ => ⟨S16x4096x2816, .f32⟩
  | .hbm, ⟨27, _⟩ => ⟨S16x4096x2816, .f32⟩
  | .hbm, ⟨28, _⟩ => ⟨S_, .f32⟩
  | .hbm, ⟨29, _⟩ => ⟨S16x4096x2816, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S16x4096x1024, .f32⟩
  | .hbm, ⟨34, _⟩ => ⟨S_, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Qkv.lean ====
abbrev S16x4096x1024 : Shape := ⟨3, ![16, 4096, 1024]⟩
abbrev S1024 : Shape := ⟨1, ![1024]⟩
abbrev S1024x9216 : Shape := ⟨2, ![1024, 9216]⟩
abbrev S16x4096 : Shape := ⟨2, ![16, 4096]⟩
abbrev S3x64 : Shape := ⟨2, ![3, 64]⟩
abbrev S256x256 : Shape := ⟨2, ![256, 256]⟩
abbrev S8 : Shape := ⟨1, ![8]⟩
abbrev S_ : Shape := ⟨0, ![]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S1x1x1024 : Shape := ⟨3, ![1, 1, 1024]⟩
abbrev S3x1x1024 : Shape := ⟨3, ![3, 1, 1024]⟩
abbrev S16x16x256x1 : Shape := ⟨4, ![16, 16, 256, 1]⟩
abbrev S16x16x1x256 : Shape := ⟨4, ![16, 16, 1, 256]⟩
abbrev S16x4096x1 : Shape := ⟨3, ![16, 4096, 1]⟩
abbrev S16x16x64x4 : Shape := ⟨4, ![16, 16, 64, 4]⟩
abbrev S16x16x4x64 : Shape := ⟨4, ![16, 16, 4, 64]⟩
abbrev S16x16x16x16 : Shape := ⟨4, ![16, 16, 16, 16]⟩
abbrev S16x1x4096x3072 : Shape := ⟨4, ![16, 1, 4096, 3072]⟩
abbrev S16x4x1024x3072 : Shape := ⟨4, ![16, 4, 1024, 3072]⟩
abbrev S16x16x256x3072 : Shape := ⟨4, ![16, 16, 256, 3072]⟩
abbrev S1x512x1024 : Shape := ⟨3, ![1, 512, 1024]⟩
abbrev S1x512x1 : Shape := ⟨3, ![1, 512, 1]⟩
abbrev S1x1x512x3072 : Shape := ⟨4, ![1, 1, 512, 3072]⟩
abbrev S1x4x128x3072 : Shape := ⟨4, ![1, 4, 128, 3072]⟩
abbrev S1x16x32x3072 : Shape := ⟨4, ![1, 16, 32, 3072]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S256x128 : Shape := ⟨2, ![256, 128]⟩
abbrev S1024x1024 : Shape := ⟨2, ![1024, 1024]⟩
abbrev S1x1x256x1024 : Shape := ⟨4, ![1, 1, 256, 1024]⟩
abbrev S4x64x1024 : Shape := ⟨3, ![4, 64, 1024]⟩
abbrev S1x4x64x1024 : Shape := ⟨4, ![1, 4, 64, 1024]⟩
abbrev S16x16x1024 : Shape := ⟨3, ![16, 16, 1024]⟩
abbrev S1x16x16x1024 : Shape := ⟨4, ![1, 16, 16, 1024]⟩

abbrev nBuf : Space → Nat
  | .hbm => 88
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x9216, .f32⟩
  | .hbm, ⟨3, _⟩ => ⟨S16x4096, .i32⟩
  | .hbm, ⟨4, _⟩ => ⟨S3x64, .f32⟩
  | .hbm, ⟨5, _⟩ => ⟨S3x64, .f32⟩
  | .hbm, ⟨6, _⟩ => ⟨S256x256, .bf16⟩
  | .hbm, ⟨7, _⟩ => ⟨S256x256, .bf16⟩
  | .hbm, ⟨8, _⟩ => ⟨S256x256, .bf16⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S48, .f32⟩
  | .hbm, ⟨25, _⟩ => ⟨S64, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S1x128, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S16x64, .f32⟩
  | .hbm, ⟨34, _⟩ => ⟨S1024, .f32⟩
  | .hbm, ⟨35, _⟩ => ⟨S1x1024, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S16x64, .f32⟩
  | .hbm, ⟨40, _⟩ => ⟨S1024, .f32⟩
  | .hbm, ⟨41, _⟩ => ⟨S1x1024, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S16x64, .f32⟩
  | .hbm, ⟨46, _⟩ => ⟨S1024, .f32⟩
  | .hbm, ⟨47, _⟩ => ⟨S1x1024, .f32⟩
  | .hbm, ⟨48, _⟩ => ⟨S1x1x1024, .f32⟩
  | .hbm, ⟨49, _⟩ => ⟨S1x1x1024, .f32⟩
  | .hbm, ⟨50, _⟩ => ⟨S1x1x1024, .f32⟩
  | .hbm, ⟨51, _⟩ => ⟨S3x1x1024, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S16x64, .f32⟩
  | .hbm, ⟨56, _⟩ => ⟨S1024, .f32⟩
  | .hbm, ⟨57, _⟩ => ⟨S1x1024, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S16x64, .f32⟩
  | .hbm, ⟨62, _⟩ => ⟨S1024, .f32⟩
  | .hbm, ⟨63, _⟩ => ⟨S1x1024, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S16x64, .f32⟩
  | .hbm, ⟨68, _⟩ => ⟨S1024, .f32⟩
  | .hbm, ⟨69, _⟩ => ⟨S1x1024, .f32⟩
  | .hbm, ⟨70, _⟩ => ⟨S1x1x1024, .f32⟩
  | .hbm, ⟨71, _⟩ => ⟨S1x1x1024, .f32⟩
  | .hbm, ⟨72, _⟩ => ⟨S1x1x1024, .f32⟩
  | .hbm, ⟨73, _⟩ => ⟨S3x1x1024, .f32⟩
  | .hbm, ⟨74, _⟩ => ⟨S1024x9216, .bf16⟩
  | .hbm, ⟨75, _⟩ => ⟨S16x16x256x1, .i32⟩
  | .hbm, ⟨76, _⟩ => ⟨S16x16x1x256, .i32⟩
  | .hbm, ⟨77, _⟩ => ⟨S16x4096x1, .i32⟩
  | .hbm, ⟨78, _⟩ => ⟨S16x16x64x4, .i32⟩
  | .hbm, ⟨79, _⟩ => ⟨S16x16x4x64, .i32⟩
  | .hbm, ⟨80, _⟩ => ⟨S16x4096x1, .i32⟩
  | .hbm, ⟨81, _⟩ => ⟨S16x16x16x16, .i32⟩
  | .hbm, ⟨82, _⟩ => ⟨S16x16x16x16, .i32⟩
  | .hbm, ⟨83, _⟩ => ⟨S16x4096x1, .i32⟩
  | .hbm, ⟨84, _⟩ => ⟨S1x1024, .f32⟩
  | .hbm, ⟨85, _⟩ => ⟨S16x1x4096x3072, .bf16⟩
  | .hbm, ⟨86, _⟩ => ⟨S16x4x1024x3072, .bf16⟩
  | .hbm, ⟨87, _⟩ => ⟨S16x16x256x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x9216, .bf16⟩
  | .local _ .vmem, ⟨4, _⟩ => ⟨S256x256, .bf16⟩
  | .local _ .vmem, ⟨5, _⟩ => ⟨S256x256, .bf16⟩
  | .local _ .vmem, ⟨6, _⟩ => ⟨S1x512x1, .i32⟩
  | .local _ .vmem, ⟨7, _⟩ => ⟨S1x512x1, .i32⟩
  | .local _ .vmem, ⟨8, _⟩ => ⟨S1x512x1, .i32⟩
  | .local _ .vmem, ⟨9, _⟩ => ⟨S1x512x1, .i32⟩
  | .local _ .vmem, ⟨10, _⟩ => ⟨S1x512x1, .i32⟩
  | .local _ .vmem, ⟨11, _⟩ => ⟨S1x512x1, .i32⟩
  | .local _ .vmem, ⟨12, _⟩ => ⟨S1x128, .f32⟩
  | .local _ .vmem, ⟨13, _⟩ => ⟨S3x1x1024, .f32⟩
  | .local _ .vmem, ⟨14, _⟩ => ⟨S3x1x1024, .f32⟩
  | .local _ .vmem, ⟨15, _⟩ => ⟨S256x256, .bf16⟩
  | .local _ .vmem, ⟨16, _⟩ => ⟨S1x1x512x3072, .bf16⟩
  | .local _ .vmem, ⟨17, _⟩ => ⟨S1x1x512x3072, .bf16⟩
  | .local _ .vmem, ⟨18, _⟩ => ⟨S1x4x128x3072, .bf16⟩
  | .local _ .vmem, ⟨19, _⟩ => ⟨S1x4x128x3072, .bf16⟩
  | .local _ .vmem, ⟨20, _⟩ => ⟨S1x16x32x3072, .bf16⟩
  | .local _ .vmem, ⟨21, _⟩ => ⟨S1x16x32x3072, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_cst_2 : Ref sig .tc := ⟨.hbm, 10, rfl⟩
abbrev main_v1 : Ref sig .tc := ⟨.hbm, 11, rfl⟩
abbrev main_v2 : Ref sig .tc := ⟨.hbm, 12, rfl⟩
abbrev main_cst_3 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_4 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_v9 : Ref sig .tc := ⟨.hbm, 22, rfl⟩
abbrev main_cst_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71_0 : Ref sig .tc := ⟨.hbm, 85, rfl⟩
abbrev main_v71_1 : Ref sig .tc := ⟨.hbm, 86, rfl⟩
abbrev main_v71_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x32x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== QkvIdeal.lean ====
variable {F : FTy → Type} [FloatOps F] [Named F]
def κ : String → Option EReal := fun
  | "scale" => some ((8⁻¹ * (Real.log 2)⁻¹ : ℝ) : EReal)
  | _ => none
-- ==== QkvReferenceIdeal.lean ====
abbrev S16x4096x1024 : Shape := ⟨3, ![16, 4096, 1024]⟩
abbrev S1024 : Shape := ⟨1, ![1024]⟩
abbrev S1024x9216 : Shape := ⟨2, ![1024, 9216]⟩
abbrev S16x4096 : Shape := ⟨2, ![16, 4096]⟩
abbrev S3x64 : Shape := ⟨2, ![3, 64]⟩
abbrev S_ : Shape := ⟨0, ![]⟩
abbrev S16x4096x1 : Shape := ⟨3, ![16, 4096, 1]⟩
abbrev S1x1x1024 : Shape := ⟨3, ![1, 1, 1024]⟩
abbrev S16x4096x9216 : Shape := ⟨3, ![16, 4096, 9216]⟩
abbrev S16x4096x3x3x16x64 : Shape := ⟨6, ![16, 4096, 3, 3, 16, 64]⟩
abbrev S8 : Shape := ⟨1, ![8]⟩
abbrev S1x1x8 : Shape := ⟨3, ![1, 1, 8]⟩
abbrev S16x4096x8 : Shape := ⟨3, ![16, 4096, 8]⟩
abbrev S16x4096x1x8 : Shape := ⟨4, ![16, 4096, 1, 8]⟩
abbrev S16x4096x1x1x16x64 : Shape := ⟨6, ![16, 4096, 1, 1, 16, 64]⟩
abbrev S16x4096x16x64 : Shape := ⟨4, ![16, 4096, 16, 64]⟩
abbrev S1x64 : Shape := ⟨2, ![1, 64]⟩
abbrev S64 : Shape := ⟨1, ![64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S16x4096x16x8 : Shape := ⟨4, ![16, 4096, 16, 8]⟩
abbrev S16x4096x16x48 : Shape := ⟨4, ![16, 4096, 16, 48]⟩
abbrev S16x4096x1x16x64 : Shape := ⟨5, ![16, 4096, 1, 16, 64]⟩
abbrev S16x4096x3x16x64 : Shape := ⟨5, ![16, 4096, 3, 16, 64]⟩
abbrev S16x4096x1x3072 : Shape := ⟨4, ![16, 4096, 1, 3072]⟩
abbrev S16x1x4096x3072 : Shape := ⟨4, ![16, 1, 4096, 3072]⟩
abbrev S16x1024x4x3072 : Shape := ⟨4, ![16, 1024, 4, 3072]⟩
abbrev S16x4x1024x3072 : Shape := ⟨4, ![16, 4, 1024, 3072]⟩
abbrev S16x256x16x3072 : Shape := ⟨4, ![16, 256, 16, 3072]⟩
abbrev S16x16x256x3072 : Shape := ⟨4, ![16, 16, 256, 3072]⟩

abbrev nBuf : Space → Nat
  | .hbm => 297
  | .vmem => 0
  | .smem => 0
  | _ => 0

abbrev hbmTy0_0 (i : Nat) : BufTy := match i % 128 with
  | 0 => ⟨S16x4096x1024, .f32⟩
  | 1 => ⟨S1024, .f32⟩
  | 2 => ⟨S1024x9216, .f32⟩
  | 3 => ⟨S16x4096, .i32⟩
  | 4 => ⟨S3x64, .f32⟩
  | 5 => ⟨S3x64, .f32⟩
  | 6 => ⟨S16x4096x1024, .f32⟩
  | 7 => ⟨S_, .f32⟩
  | 8 => ⟨S16x4096, .f32⟩
  | 9 => ⟨S16x4096x1, .f32⟩
  | 10 => ⟨S_, .f32⟩
  | 11 => ⟨S16x4096x1, .f32⟩
  | 12 => ⟨S16x4096x1, .f32⟩
  | 13 => ⟨S_, .f32⟩
  | 14 => ⟨S16x4096x1, .f32⟩
  | 15 => ⟨S16x4096x1, .f32⟩
  | 16 => ⟨S16x4096x1, .f32⟩
  | 17 => ⟨S16x4096x1024, .f32⟩
  | 18 => ⟨S16x4096x1024, .f32⟩
  | 19 => ⟨S1x1x1024, .f32⟩
  | 20 => ⟨S16x4096x1024, .f32⟩
  | 21 => ⟨S16x4096x1024, .f32⟩
  | 22 => ⟨S16x4096x9216, .f32⟩
  | 23 => ⟨S16x4096x3x3x16x64, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S16x4096, .f32⟩
  | 39 => ⟨S16x4096x1, .f32⟩
  | 40 => ⟨S1x1x8, .f32⟩
  | 41 => ⟨S16x4096x8, .f32⟩
  | 42 => ⟨S16x4096x8, .f32⟩
  | 43 => ⟨S16x4096x8, .f32⟩
  | 44 => ⟨S16x4096x8, .f32⟩
  | 45 => ⟨S16x4096x1x8, .f32⟩
  | 46 => ⟨S16x4096x8, .f32⟩
  | 47 => ⟨S16x4096x1x8, .f32⟩
  | 48 => ⟨S16x4096x1x1x16x64, .f32⟩
  | 49 => ⟨S16x4096x16x64, .f32⟩
  | 50 => ⟨S1x64, .f32⟩
  | 51 => ⟨S64, .f32⟩
  | 52 => ⟨S16x4096x16x64, .f32⟩
  | 53 => ⟨S_, .f32⟩
  | 54 => ⟨S16x4096x16, .f32⟩
  | 55 => ⟨S16x4096x16x1, .f32⟩
  | 56 => ⟨S_, .f32⟩
  | 57 => ⟨S16x4096x16x1, .f32⟩
  | 58 => ⟨S16x4096x16x1, .f32⟩
  | 59 => ⟨S_, .f32⟩
  | 60 => ⟨S16x4096x16x1, .f32⟩
  | 61 => ⟨S16x4096x16x1, .f32⟩
  | 62 => ⟨S16x4096x16x1, .f32⟩
  | 63 => ⟨S16x4096x16x64, .f32⟩
  | 64 => ⟨S16x4096x16x64, .f32⟩
  | 65 => ⟨S1x1x1x64, .f32⟩
  | 66 => ⟨S16x4096x16x64, .f32⟩
  | 67 => ⟨S16x4096x16x64, .f32⟩
  | 68 => ⟨S16x4096x16x8, .f32⟩
  | 69 => ⟨S16x4096x16x8, .f32⟩
  | 70 => ⟨S16x4096x16x8, .f32⟩
  | 71 => ⟨S16x4096x16x8, .f32⟩
  | 72 => ⟨S16x4096x16x8, .f32⟩
  | 73 => ⟨S16x4096x16x8, .f32⟩
  | 74 => ⟨S16x4096x16x8, .f32⟩
  | 75 => ⟨S16x4096x16x8, .f32⟩
  | 76 => ⟨S16x4096x16x8, .f32⟩
  | 77 => ⟨S16x4096x16x8, .f32⟩
  | 78 => ⟨S16x4096x16x8, .f32⟩
  | 79 => ⟨S16x4096x16x8, .f32⟩
  | 80 => ⟨S16x4096x16x48, .f32⟩
  | 81 => ⟨S16x4096x16x64, .f32⟩
  | 82 => ⟨S_, .f32⟩
  | 83 => ⟨S_, .f32⟩
  | 84 => ⟨S_, .f32⟩
  | 85 => ⟨S_, .f32⟩
  | 86 => ⟨S16x4096x16x64, .f32⟩
  | 87 => ⟨S16x4096x16x64, .f32⟩
  | 88 => ⟨S16x4096x1x1x16x64, .f32⟩
  | 89 => ⟨S16x4096x16x64, .f32⟩
  | 90 => ⟨S1x64, .f32⟩
  | 91 => ⟨S64, .f32⟩
  | 92 => ⟨S16x4096x16x64, .f32⟩
  | 93 => ⟨S_, .f32⟩
  | 94 => ⟨S16x4096x16, .f32⟩
  | 95 => ⟨S16x4096x16x1, .f32⟩
  | 96 => ⟨S_, .f32⟩
  | 97 => ⟨S16x4096x16x1, .f32⟩
  | 98 => ⟨S16x4096x16x1, .f32⟩
  | 99 => ⟨S_, .f32⟩
  | 100 => ⟨S16x4096x16x1, .f32⟩
  | 101 => ⟨S16x4096x16x1, .f32⟩
  | 102 => ⟨S16x4096x16x1, .f32⟩
  | 103 => ⟨S16x4096x16x64, .f32⟩
  | 104 => ⟨S16x4096x16x64, .f32⟩
  | 105 => ⟨S1x1x1x64, .f32⟩
  | 106 => ⟨S16x4096x16x64, .f32⟩
  | 107 => ⟨S16x4096x16x64, .f32⟩
  | 108 => ⟨S16x4096x16x8, .f32⟩
  | 109 => ⟨S16x4096x16x8, .f32⟩
  | 110 => ⟨S16x4096x16x8, .f32⟩
  | 111 => ⟨S16x4096x16x8, .f32⟩
  | 112 => ⟨S16x4096x16x8, .f32⟩
  | 113 => ⟨S16x4096x16x8, .f32⟩
  | 114 => ⟨S16x4096x16x8, .f32⟩
  | 115 => ⟨S16x4096x16x8, .f32⟩
  | 116 => ⟨S16x4096x16x8, .f32⟩
  | 117 => ⟨S16x4096x16x8, .f32⟩
  | 118 => ⟨S16x4096x16x8, .f32⟩
  | 119 => ⟨S16x4096x16x8, .f32⟩
  | 120 => ⟨S16x4096x16x48, .f32⟩
  | 121 => ⟨S16x4096x16x64, .f32⟩
  | 122 => ⟨S16x4096x1x1x16x64, .f32⟩
  | 123 => ⟨S16x4096x16x64, .f32⟩
  | 124 => ⟨S16x4096x1x16x64, .f32⟩
  | 125 => ⟨S16x4096x1x16x64, .f32⟩
  | 126 => ⟨S16x4096x1x16x64, .f32⟩
  | 127 => ⟨S16x4096x3x16x64, .f32⟩
  | _ => ⟨S16x4096x1024, .f32⟩

abbrev hbmTy0_1 (i : Nat) : BufTy := match i % 128 with
  | 0 => ⟨S16x4096x1x3072, .f32⟩
  | 1 => ⟨S16x1x4096x3072, .f32⟩
  | 2 => ⟨S16x1x4096x3072, .bf16⟩
  | 3 => ⟨S16x4096x1x1x16x64, .f32⟩
  | 4 => ⟨S16x4096x16x64, .f32⟩
  | 5 => ⟨S1x64, .f32⟩
  | 6 => ⟨S64, .f32⟩
  | 7 => ⟨S16x4096x16x64, .f32⟩
  | 8 => ⟨S_, .f32⟩
  | 9 => ⟨S16x4096x16, .f32⟩
  | 10 => ⟨S16x4096x16x1, .f32⟩
  | 11 => ⟨S_, .f32⟩
  | 12 => ⟨S16x4096x16x1, .f32⟩
  | 13 => ⟨S16x4096x16x1, .f32⟩
  | 14 => ⟨S_, .f32⟩
  | 15 => ⟨S16x4096x16x1, .f32⟩
  | 16 => ⟨S16x4096x16x1, .f32⟩
  | 17 => ⟨S16x4096x16x1, .f32⟩
  | 18 => ⟨S16x4096x16x64, .f32⟩
  | 19 => ⟨S16x4096x16x64, .f32⟩
  | 20 => ⟨S1x1x1x64, .f32⟩
  | 21 => ⟨S16x4096x16x64, .f32⟩
  | 22 => ⟨S16x4096x16x64, .f32⟩
  | 23 => ⟨S16x4096x16x8, .f32⟩
  | 24 => ⟨S16x4096x16x8, .f32⟩
  | 25 => ⟨S16x4096x16x8, .f32⟩
  | 26 => ⟨S16x4096x16x8, .f32⟩
  | 27 => ⟨S16x4096x16x8, .f32⟩
  | 28 => ⟨S16x4096x16x8, .f32⟩
  | 29 => ⟨S16x4096x16x8, .f32⟩
  | 30 => ⟨S16x4096x16x8, .f32⟩
  | 31 => ⟨S16x4096x16x8, .f32⟩
  | 32 => ⟨S16x4096x16x8, .f32⟩
  | 33 => ⟨S16x4096x16x8, .f32⟩
  | 34 => ⟨S16x4096x16x8, .f32⟩
  | 35 => ⟨S16x4096x16x48, .f32⟩
  | 36 => ⟨S16x4096x16x64, .f32⟩
  | 37 => ⟨S_, .f32⟩
  | 38 => ⟨S_, .f32⟩
  | 39 => ⟨S_, .f32⟩
  | 40 => ⟨S_, .f32⟩
  | 41 => ⟨S16x4096x16x64, .f32⟩
  | 42 => ⟨S16x4096x16x64, .f32⟩
  | 43 => ⟨S16x4096x1x1x16x64, .f32⟩
  | 44 => ⟨S16x4096x16x64, .f32⟩
  | 45 => ⟨S1x64, .f32⟩
  | 46 => ⟨S64, .f32⟩
  | 47 => ⟨S16x4096x16x64, .f32⟩
  | 48 => ⟨S_, .f32⟩
  | 49 => ⟨S16x4096x16, .f32⟩
  | 50 => ⟨S16x4096x16x1, .f32⟩
  | 51 => ⟨S_, .f32⟩
  | 52 => ⟨S16x4096x16x1, .f32⟩
  | 53 => ⟨S16x4096x16x1, .f32⟩
  | 54 => ⟨S_, .f32⟩
  | 55 => ⟨S16x4096x16x1, .f32⟩
  | 56 => ⟨S16x4096x16x1, .f32⟩
  | 57 => ⟨S16x4096x16x1, .f32⟩
  | 58 => ⟨S16x4096x16x64, .f32⟩
  | 59 => ⟨S16x4096x16x64, .f32⟩
  | 60 => ⟨S1x1x1x64, .f32⟩
  | 61 => ⟨S16x4096x16x64, .f32⟩
  | 62 => ⟨S16x4096x16x64, .f32⟩
  | 63 => ⟨S16x4096x16x8, .f32⟩
  | 64 => ⟨S16x4096x16x8, .f32⟩
  | 65 => ⟨S16x4096x16x8, .f32⟩
  | 66 => ⟨S16x4096x16x8, .f32⟩
  | 67 => ⟨S16x4096x16x8, .f32⟩
  | 68 => ⟨S16x4096x16x8, .f32⟩
  | 69 => ⟨S16x4096x16x8, .f32⟩
  | 70 => ⟨S16x4096x16x8, .f32⟩
  | 71 => ⟨S16x4096x16x8, .f32⟩
  | 72 => ⟨S16x4096x16x8, .f32⟩
  | 73 => ⟨S16x4096x16x8, .f32⟩
  | 74 => ⟨S16x4096x16x8, .f32⟩
  | 75 => ⟨S16x4096x16x48, .f32⟩
  | 76 => ⟨S16x4096x16x64, .f32⟩
  | 77 => ⟨S16x4096x1x1x16x64, .f32⟩
  | 78 => ⟨S16x4096x16x64, .f32⟩
  | 79 => ⟨S16x4096x1x16x64, .f32⟩
  | 80 => ⟨S16x4096x1x16x64, .f32⟩
  | 81 => ⟨S16x4096x1x16x64, .f32⟩
  | 82 => ⟨S16x4096x3x16x64, .f32⟩
  | 83 => ⟨S16x1024x4x3072, .f32⟩
  | 84 => ⟨S16x4x1024x3072, .f32⟩
  | 85 => ⟨S16x4x1024x3072, .bf16⟩
  | 86 => ⟨S16x4096x1x1x16x64, .f32⟩
  | 87 => ⟨S16x4096x16x64, .f32⟩
  | 88 => ⟨S1x64, .f32⟩
  | 89 => ⟨S64, .f32⟩
  | 90 => ⟨S16x4096x16x64, .f32⟩
  | 91 => ⟨S_, .f32⟩
  | 92 => ⟨S16x4096x16, .f32⟩
  | 93 => ⟨S16x4096x16x1, .f32⟩
  | 94 => ⟨S_, .f32⟩
  | 95 => ⟨S16x4096x16x1, .f32⟩
  | 96 => ⟨S16x4096x16x1, .f32⟩
  | 97 => ⟨S_, .f32⟩
  | 98 => ⟨S16x4096x16x1, .f32⟩
  | 99 => ⟨S16x4096x16x1, .f32⟩
  | 100 => ⟨S16x4096x16x1, .f32⟩
  | 101 => ⟨S16x4096x16x64, .f32⟩
  | 102 => ⟨S16x4096x16x64, .f32⟩
  | 103 => ⟨S1x1x1x64, .f32⟩
  | 104 => ⟨S16x4096x16x64, .f32⟩
  | 105 => ⟨S16x4096x16x64, .f32⟩
  | 106 => ⟨S16x4096x16x8, .f32⟩
  | 107 => ⟨S16x4096x16x8, .f32⟩
  | 108 => ⟨S16x4096x16x8, .f32⟩
  | 109 => ⟨S16x4096x16x8, .f32⟩
  | 110 => ⟨S16x4096x16x8, .f32⟩
  | 111 => ⟨S16x4096x16x8, .f32⟩
  | 112 => ⟨S16x4096x16x8, .f32⟩
  | 113 => ⟨S16x4096x16x8, .f32⟩
  | 114 => ⟨S16x4096x16x8, .f32⟩
  | 115 => ⟨S16x4096x16x8, .f32⟩
  | 116 => ⟨S16x4096x16x8, .f32⟩
  | 117 => ⟨S16x4096x16x8, .f32⟩
  | 118 => ⟨S16x4096x16x48, .f32⟩
  | 119 => ⟨S16x4096x16x64, .f32⟩
  | 120 => ⟨S_, .f32⟩
  | 121 => ⟨S_, .f32⟩
  | 122 => ⟨S_, .f32⟩
  | 123 => ⟨S_, .f32⟩
  | 124 => ⟨S16x4096x16x64, .f32⟩
  | 125 => ⟨S16x4096x16x64, .f32⟩
  | 126 => ⟨S16x4096x1x1x16x64, .f32⟩
  | 127 => ⟨S16x4096x16x64, .f32⟩
  | _ => ⟨S16x4096x1024, .f32⟩

abbrev hbmTy0_2 (i : Nat) : BufTy := match i % 128 with
  | 0 => ⟨S1x64, .f32⟩
  | 1 => ⟨S64, .f32⟩
  | 2 => ⟨S16x4096x16x64, .f32⟩
  | 3 => ⟨S_, .f32⟩
  | 4 => ⟨S16x4096x16, .f32⟩
  | 5 => ⟨S16x4096x16x1, .f32⟩
  | 6 => ⟨S_, .f32⟩
  | 7 => ⟨S16x4096x16x1, .f32⟩
  | 8 => ⟨S16x4096x16x1, .f32⟩
  | 9 => ⟨S_, .f32⟩
  | 10 => ⟨S16x4096x16x1, .f32⟩
  | 11 => ⟨S16x4096x16x1, .f32⟩
  | 12 => ⟨S16x4096x16x1, .f32⟩
  | 13 => ⟨S16x4096x16x64, .f32⟩
  | 14 => ⟨S16x4096x16x64, .f32⟩
  | 15 => ⟨S1x1x1x64, .f32⟩
  | 16 => ⟨S16x4096x16x64, .f32⟩
  | 17 => ⟨S16x4096x16x64, .f32⟩
  | 18 => ⟨S16x4096x16x8, .f32⟩
  | 19 => ⟨S16x4096x16x8, .f32⟩
  | 20 => ⟨S16x4096x16x8, .f32⟩
  | 21 => ⟨S16x4096x16x8, .f32⟩
  | 22 => ⟨S16x4096x16x8, .f32⟩
  | 23 => ⟨S16x4096x16x8, .f32⟩
  | 24 => ⟨S16x4096x16x8, .f32⟩
  | 25 => ⟨S16x4096x16x8, .f32⟩
  | 26 => ⟨S16x4096x16x8, .f32⟩
  | 27 => ⟨S16x4096x16x8, .f32⟩
  | 28 => ⟨S16x4096x16x8, .f32⟩
  | 29 => ⟨S16x4096x16x8, .f32⟩
  | 30 => ⟨S16x4096x16x48, .f32⟩
  | 31 => ⟨S16x4096x16x64, .f32⟩
  | 32 => ⟨S16x4096x1x1x16x64, .f32⟩
  | 33 => ⟨S16x4096x16x64, .f32⟩
  | 34 => ⟨S16x4096x1x16x64, .f32⟩
  | 35 => ⟨S16x4096x1x16x64, .f32⟩
  | 36 => ⟨S16x4096x1x16x64, .f32⟩
  | 37 => ⟨S16x4096x3x16x64, .f32⟩
  | 38 => ⟨S16x256x16x3072, .f32⟩
  | 39 => ⟨S16x16x256x3072, .f32⟩
  | 40 => ⟨S16x16x256x3072, .bf16⟩
  | _ => ⟨S16x4096x1024, .f32⟩

abbrev hbmTy (i : Nat) : BufTy := match i / 128 with
  | 0 => hbmTy0_0 i
  | 1 => hbmTy0_1 i
  | 2 => hbmTy0_2 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_14 : Ref sig .tc := ⟨.hbm, 136, rfl⟩
abbrev main_v115 : Ref sig .tc := ⟨.hbm, 137, rfl⟩
abbrev main_v116 : Ref sig .tc := ⟨.hbm, 138, rfl⟩
abbrev main_cst_15 : Ref sig .tc := ⟨.hbm, 139, rfl⟩
abbrev main_v117 : Ref sig .tc := ⟨.hbm, 140, rfl⟩
abbrev main_v118 : Ref sig .tc := ⟨.hbm, 141, rfl⟩
abbrev main_cst_16 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_cst_17 : Ref sig .tc := ⟨.hbm, 165, rfl⟩
abbrev main_v141 : Ref sig .tc := ⟨.hbm, 166, rfl⟩
abbrev main_cst_18 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_19 : Ref sig .tc := ⟨.hbm, 176, rfl⟩
abbrev main_v150 : Ref sig .tc := ⟨.hbm, 177, rfl⟩
abbrev main_v151 : Ref sig .tc := ⟨.hbm, 178, rfl⟩
abbrev main_cst_20 : Ref sig .tc := ⟨.hbm, 179, rfl⟩
abbrev main_v152 : Ref sig .tc := ⟨.hbm, 180, rfl⟩
abbrev main_v153 : Ref sig .tc := ⟨.hbm, 181, rfl⟩
abbrev main_cst_21 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_cst_22 : Ref sig .tc := ⟨.hbm, 219, rfl⟩
abbrev main_v190 : Ref sig .tc := ⟨.hbm, 220, rfl⟩
abbrev main_v191 : Ref sig .tc := ⟨.hbm, 221, rfl⟩
abbrev main_cst_23 : Ref sig .tc := ⟨.hbm, 222, rfl⟩
abbrev main_v192 : Ref sig .tc := ⟨.hbm, 223, rfl⟩
abbrev main_v193 : Ref sig .tc := ⟨.hbm, 224, rfl⟩
abbrev main_cst_24 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_cst_25 : Ref sig .tc := ⟨.hbm, 248, rfl⟩
abbrev main_v216 : Ref sig .tc := ⟨.hbm, 249, rfl⟩
abbrev main_cst_26 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_cst_27 : Ref sig .tc := ⟨.hbm, 259, rfl⟩
abbrev main_v225 : Ref sig .tc := ⟨.hbm, 260, rfl⟩
abbrev main_v226 : Ref sig .tc := ⟨.hbm, 261, rfl⟩
abbrev main_cst_28 : Ref sig .tc := ⟨.hbm, 262, rfl⟩
abbrev main_v227 : Ref sig .tc := ⟨.hbm, 263, rfl⟩
abbrev main_v228 : Ref sig .tc := ⟨.hbm, 264, rfl⟩
abbrev main_cst_29 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩

abbrev nD : Nat := 1
abbrev τ : Topo := Topo.v7x

variable {F : FTy → Type} [FloatOps F]
-- ==== Proof.Fox.Hoare.lean ====
/-
  A pure program logic for the attention kernel's body: the kernel's twelve buffers held whole as one
  assertion `St` at named contents, and for each operation of the body a rule over those contents. Loads
  read `VecWindow.window`, stores leave `VecWindow.put`, and what remains to prove of the body is a
  statement about plain arrays.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

local notation "𝕄" => MT nD τ sig Unit (Elt F) ℕ (UR sig nD τ) ℕ

/-- The contents of the buffers the body writes: the output block `o`, the scores `s`, the transposed values
    `vt`, the gates along the key rows `cs`, the mask `msk`, the running maxima `mx`, the shifts `mb`, the
    accumulators `ac`. -/
structure State (F : FTy → Type) where
  o : Vec F S1x1x4096x128 .bf16
  s : Vec F S2x8x512x512 .f32
  vt : Vec F S8x2x80x512 .bf16
  cs : Vec F S2x4096x128 .f32
  msk : Vec F S512x512 .f32
  mx : Vec F S2x8x512 .f32
  mb : Vec F S2x8x512 .f32
  ac : Vec F S2x80x512 .f32

/-- A load through a memref owned at contents `x` continues at the window it reads. -/
theorem own_load (c : Dev nD) {sp : CoreSpace} {s : Shape} {e : EltTy} {α : Type} (m : Memref sig .tc sp s e)
    (x : s.Idx → Elt F e) {off size : Fin s.rank → ℕ} {inb : ∀ a, off a + size a ≤ s.size a}
    {hl : m.view.LoadsAt (Rect.unit off size inb).toLoadRect}
    {k : ((Rect.unit off size inb).toLoadRect.shape.Idx → Elt F e) → Prog (TpuEff nD τ sig (Elt F) Λ₀ .tc) α} {Q : α → sProp 𝕄} :
    (owns (c : Thread nD τ) m fullShare x : sProp 𝕄)
      ⊢ iprop((owns (c : Thread nD τ) m fullShare x -∗ wp frame (wpE (defs₀ (F := F)) Variants.none c none) Set.univ (k (window x off size inb)) Q)
        -∗ wp frame (wpE (defs₀ (F := F)) Variants.none c none) Set.univ (.op (.load m (Rect.unit off size inb).toLoadRect hl) k) Q) := by
  unfold owns
  iintro ⟨%f, %hf, H⟩ Hk
  ihave H' := (wp_load (c := (c : Thread nD τ)) (Γ := []) Variants.none none Set.univ (Q := Q) (hl := hl) (k := k) (m.view.setOn_subset_set _)) $$ H
  iapply H'
  iintro H
  subst hf
  iapply Hk
  iexists f
  isplitr
  · ipureintro; rfl
  iexact H

/-- A store through a memref owned at contents `x` leaves the payload put there. -/
theorem own_store (c : Dev nD) {sp : CoreSpace} {s : Shape} {e : EltTy} {α : Type} (m : Memref sig .tc sp s e)
    (x : s.Idx → Elt F e) {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Q : α → sProp 𝕄} :
    (owns (c : Thread nD τ) m fullShare x : sProp 𝕄)
      ⊢ iprop((owns (c : Thread nD τ) m fullShare (put x off size w) -∗ wp frame (wpE (defs₀ (F := F)) Variants.none c none) Set.univ (k ⟨⟩) Q)
        -∗ wp frame (wpE (defs₀ (F := F)) Variants.none c none) Set.univ (.op (.store m (Rect.unit off size inb) w Finset.univ hx hm) k) Q) := by
  unfold owns
  iintro ⟨%f, %hf, H⟩ Hk
  ihave H' := (wp_store (c := (c : Thread nD τ)) (Γ := []) Variants.none none Set.univ (Q := Q) (hx := hx) (hm := hm) (k := k) (f := f) (S := m.view.set)
    (((m.access (Rect.unit off size inb)).setOn_subset_set _).trans (m.view.set_slice_subset _))) $$ H
  iapply H'
  iintro H
  iapply Hk
  iexists _
  isplitr
  swap
  · iexact H
  ipureintro
  subst hf
  exact (View.read_writes_cons_put m.view f inb w [] rfl)

/-- A load at the head of a program, beside the rest `R` of what is held. -/
theorem fr_load (c : Dev nD) {sp : CoreSpace} {s : Shape} {e : EltTy} {α : Type} (m : Memref sig .tc sp s e)
    (x : s.Idx → Elt F e) {off size : Fin s.rank → ℕ} {inb : ∀ a, off a + size a ≤ s.size a}
    {hl : m.view.LoadsAt (Rect.unit off size inb).toLoadRect}
    {k : ((Rect.unit off size inb).toLoadRect.shape.Idx → Elt F e) → Prog (TpuEff nD τ sig (Elt F) Λ₀ .tc) α} {Q : α → sProp 𝕄} {R : sProp 𝕄}
    (h : iprop(owns (c : Thread nD τ) m fullShare x ∗ R) ⊢ wp frame (wpE (defs₀ (F := F)) Variants.none c none) Set.univ (k (window x off size inb)) Q) :
    iprop(owns (c : Thread nD τ) m fullShare x ∗ R)
      ⊢ wp frame (wpE (defs₀ (F := F)) Variants.none c none) Set.univ (Prog.lift (.load m (Rect.unit off size inb).toLoadRect hl) >>= k) Q := by
  have e : (Prog.lift (.load m (Rect.unit off size inb).toLoadRect hl) >>= k : Prog (TpuEff nD τ sig (Elt F) Λ₀ .tc) α)
      = .op (.load m (Rect.unit off size inb).toLoadRect hl) k := rfl
  rw [e]
  iintro ⟨H, HR⟩
  ihave H' := (own_load c m x (hl := hl) (k := k) (Q := Q)) $$ H
  iapply H'
  iintro H
  iapply h
  isplitl [H]
  · iexact H
  iexact HR

/-- A store at the head of a program, beside the rest `R` of what is held. -/
theorem fr_store (c : Dev nD) {sp : CoreSpace} {s : Shape} {e : EltTy} {α : Type} (m : Memref sig .tc sp s e)
    (x : s.Idx → Elt F e) {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Q : α → sProp 𝕄} {R : sProp 𝕄}
    (h : iprop(owns (c : Thread nD τ) m fullShare (put x off size w) ∗ R) ⊢ wp frame (wpE (defs₀ (F := F)) Variants.none c none) Set.univ (k ⟨⟩) Q) :
    iprop(owns (c : Thread nD τ) m fullShare x ∗ R)
      ⊢ wp frame (wpE (defs₀ (F := F)) Variants.none c none) Set.univ (Prog.lift (.store m (Rect.unit off size inb) w Finset.univ hx hm) >>= k) Q := by
  have e : (Prog.lift (.store m (Rect.unit off size inb) w Finset.univ hx hm) >>= k : Prog (TpuEff nD τ sig (Elt F) Λ₀ .tc) α)
      = .op (.store m (Rect.unit off size inb) w Finset.univ hx hm) k := rfl
  rw [e]
  iintro ⟨H, HR⟩
  ihave H' := (own_store c m x (hx := hx) (hm := hm) (k := k) (Q := Q)) $$ H
  iapply H'
  iintro H
  iapply h
  isplitl [H]
  · iexact H
  iexact HR

section Perm

variable {M : Type} [URA M] (P2 P3 P4 P5 P6 P7 P8 P9 P10 P11 P12 P13 : sProp M)

theorem perm3 : iprop(P2 ∗ P3 ∗ P4 ∗ P5 ∗ P6 ∗ P7 ∗ P8 ∗ P9 ∗ P10 ∗ P11 ∗ P12 ∗ P13) ⊣⊢ iprop(P3 ∗ P2 ∗ P4 ∗ P5 ∗ P6 ∗ P7 ∗ P8 ∗ P9 ∗ P10 ∗ P11 ∗ P12 ∗ P13) := by
  constructor
  · iintro ⟨H2, H3, H4, H5, H6, H7, H8, H9, H10, H11, H12, H13⟩
    isplitl [H3]
    · iexact H3
    isplitl [H2]
    · iexact H2
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  · iintro ⟨H3, H2, H4, H5, H6, H7, H8, H9, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm4 : iprop(P2 ∗ P3 ∗ P4 ∗ P5 ∗ P6 ∗ P7 ∗ P8 ∗ P9 ∗ P10 ∗ P11 ∗ P12 ∗ P13) ⊣⊢ iprop(P4 ∗ P2 ∗ P3 ∗ P5 ∗ P6 ∗ P7 ∗ P8 ∗ P9 ∗ P10 ∗ P11 ∗ P12 ∗ P13) := by
  constructor
  · iintro ⟨H2, H3, H4, H5, H6, H7, H8, H9, H10, H11, H12, H13⟩
    isplitl [H4]
    · iexact H4
    isplitl [H2]
    · iexact H2
    isplitl [H3]
    · iexact H3
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  · iintro ⟨H4, H2, H3, H5, H6, H7, H8, H9, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm5 : iprop(P2 ∗ P3 ∗ P4 ∗ P5 ∗ P6 ∗ P7 ∗ P8 ∗ P9 ∗ P10 ∗ P11 ∗ P12 ∗ P13) ⊣⊢ iprop(P5 ∗ P2 ∗ P3 ∗ P4 ∗ P6 ∗ P7 ∗ P8 ∗ P9 ∗ P10 ∗ P11 ∗ P12 ∗ P13) := by
  constructor
  · iintro ⟨H2, H3, H4, H5, H6, H7, H8, H9, H10, H11, H12, H13⟩
    isplitl [H5]
    · iexact H5
    isplitl [H2]
    · iexact H2
    isplitl [H3]
    · iexact H3
    isplitl [H4]
    · iexact H4
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13
  · iintro ⟨H5, H2, H3, H4, H6, H7, H8, H9, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm6 : iprop(P2 ∗ P3 ∗ P4 ∗ P5 ∗ P6 ∗ P7 ∗ P8 ∗ P9 ∗ P10 ∗ P11 ∗ P12 ∗ P13) ⊣⊢ iprop(P6 ∗ P2 ∗ P3 ∗ P4 ∗ P5 ∗ P7 ∗ P8 ∗ P9 ∗ P10 ∗ P11 ∗ P12 ∗ P13) := by
  constructor
  · iintro ⟨H2, H3, H4, H5, H6, H7, H8, H9, H10, H11, H12, H13⟩
    isplitl [H6]
    · iexact H6
    isplitl [H2]
    · iexact H2
    isplitl [H3]
    · iexact H3
    isplitl [H4]
    · iexact H4
    isplitl [H5]
    · iexact H5
    isplitl [H7]
    · iexact H7
    isplitl [H8]
    · iexact H8
    isplitl [H9]
    · iexact H9
    isplitl [H10]
    · iexact H10
    isplitl [H11]
    · iexact H11
    isplitl [H12]
    · iexact H12
    iexact H13
  · iintro ⟨H6, H2, H3, H4, H5, H7, H8, H9, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm7 : iprop(P2 ∗ P3 ∗ P4 ∗ P5 ∗ P6 ∗ P7 ∗ P8 ∗ P9 ∗ P10 ∗ P11 ∗ P12 ∗ P13) ⊣⊢ iprop(P7 ∗ P2 ∗ P3 ∗ P4 ∗ P5 ∗ P6 ∗ P8 ∗ P9 ∗ P10 ∗ P11 ∗ P12 ∗ P13) := by
  constructor
  · iintro ⟨H2, H3, H4, H5, H6, H7, H8, H9, H10, H11, H12, H13⟩
    isplitl [H7]
    · iexact H7
    isplitl [H2]
    · iexact H2
    isplitl [H3]
    · iexact H3
    isplitl [H4]
    · iexact H4
    isplitl [H5]
    · iexact H5
    isplitl [H6]
    · iexact H6
    isplitl [H8]
    · iexact H8
    isplitl [H9]
    · iexact H9
    isplitl [H10]
    · iexact H10
    isplitl [H11]
    · iexact H11
    isplitl [H12]
    · iexact H12
    iexact H13
  · iintro ⟨H7, H2, H3, H4, H5, H6, H8, H9, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm8 : iprop(P2 ∗ P3 ∗ P4 ∗ P5 ∗ P6 ∗ P7 ∗ P8 ∗ P9 ∗ P10 ∗ P11 ∗ P12 ∗ P13) ⊣⊢ iprop(P8 ∗ P2 ∗ P3 ∗ P4 ∗ P5 ∗ P6 ∗ P7 ∗ P9 ∗ P10 ∗ P11 ∗ P12 ∗ P13) := by
  constructor
  · iintro ⟨H2, H3, H4, H5, H6, H7, H8, H9, H10, H11, H12, H13⟩
    isplitl [H8]
    · iexact H8
    isplitl [H2]
    · iexact H2
    isplitl [H3]
    · iexact H3
    isplitl [H4]
    · iexact H4
    isplitl [H5]
    · iexact H5
    isplitl [H6]
    · iexact H6
    isplitl [H7]
    · iexact H7
    isplitl [H9]
    · iexact H9
    isplitl [H10]
    · iexact H10
    isplitl [H11]
    · iexact H11
    isplitl [H12]
    · iexact H12
    iexact H13
  · iintro ⟨H8, H2, H3, H4, H5, H6, H7, H9, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm9 : iprop(P2 ∗ P3 ∗ P4 ∗ P5 ∗ P6 ∗ P7 ∗ P8 ∗ P9 ∗ P10 ∗ P11 ∗ P12 ∗ P13) ⊣⊢ iprop(P9 ∗ P2 ∗ P3 ∗ P4 ∗ P5 ∗ P6 ∗ P7 ∗ P8 ∗ P10 ∗ P11 ∗ P12 ∗ P13) := by
  constructor
  · iintro ⟨H2, H3, H4, H5, H6, H7, H8, H9, H10, H11, H12, H13⟩
    isplitl [H9]
    · iexact H9
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H10]
    · iexact H10
    isplitl [H11]
    · iexact H11
    isplitl [H12]
    · iexact H12
    iexact H13
  · iintro ⟨H9, H2, H3, H4, H5, H6, H7, H8, H10, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm10 : iprop(P2 ∗ P3 ∗ P4 ∗ P5 ∗ P6 ∗ P7 ∗ P8 ∗ P9 ∗ P10 ∗ P11 ∗ P12 ∗ P13) ⊣⊢ iprop(P10 ∗ P2 ∗ P3 ∗ P4 ∗ P5 ∗ P6 ∗ P7 ∗ P8 ∗ P9 ∗ P11 ∗ P12 ∗ P13) := by
  constructor
  · iintro ⟨H2, H3, H4, H5, H6, H7, H8, H9, H10, H11, H12, H13⟩
    isplitl [H10]
    · iexact H10
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H11]
    · iexact H11
    isplitl [H12]
    · iexact H12
    iexact H13
  · iintro ⟨H10, H2, H3, H4, H5, H6, H7, H8, H9, H11, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm11 : iprop(P2 ∗ P3 ∗ P4 ∗ P5 ∗ P6 ∗ P7 ∗ P8 ∗ P9 ∗ P10 ∗ P11 ∗ P12 ∗ P13) ⊣⊢ iprop(P11 ∗ P2 ∗ P3 ∗ P4 ∗ P5 ∗ P6 ∗ P7 ∗ P8 ∗ P9 ∗ P10 ∗ P12 ∗ P13) := by
  constructor
  · iintro ⟨H2, H3, H4, H5, H6, H7, H8, H9, H10, H11, H12, H13⟩
    isplitl [H11]
    · iexact H11
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H12]
    · iexact H12
    iexact H13
  · iintro ⟨H11, H2, H3, H4, H5, H6, H7, H8, H9, H10, H12, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm12 : iprop(P2 ∗ P3 ∗ P4 ∗ P5 ∗ P6 ∗ P7 ∗ P8 ∗ P9 ∗ P10 ∗ P11 ∗ P12 ∗ P13) ⊣⊢ iprop(P12 ∗ P2 ∗ P3 ∗ P4 ∗ P5 ∗ P6 ∗ P7 ∗ P8 ∗ P9 ∗ P10 ∗ P11 ∗ P13) := by
  constructor
  · iintro ⟨H2, H3, H4, H5, H6, H7, H8, H9, H10, H11, H12, H13⟩
    isplitl [H12]
    · iexact H12
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H13
  · iintro ⟨H12, H2, H3, H4, H5, H6, H7, H8, H9, H10, H11, H13⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

theorem perm13 : iprop(P2 ∗ P3 ∗ P4 ∗ P5 ∗ P6 ∗ P7 ∗ P8 ∗ P9 ∗ P10 ∗ P11 ∗ P12 ∗ P13) ⊣⊢ iprop(P13 ∗ P2 ∗ P3 ∗ P4 ∗ P5 ∗ P6 ∗ P7 ∗ P8 ∗ P9 ∗ P10 ∗ P11 ∗ P12) := by
  constructor
  · iintro ⟨H2, H3, H4, H5, H6, H7, H8, H9, H10, H11, H12, H13⟩
    isplitl [H13]
    · iexact H13
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    iexact H12
  · iintro ⟨H13, H2, H3, H4, H5, H6, H7, H8, H9, H10, H11, H12⟩
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    iexact H13

end Perm

section Pre

variable (c : Dev nD) (arg2 : Memref sig .tc .vmem S1x1x4096x128 .bf16) (arg3 : Memref sig .tc .vmem S1x1x4096x128 .bf16) (arg4 : Memref sig .tc .vmem S1x1x4096x128 .bf16) (arg5 : Memref sig .tc .vmem S1x2x8x512 .f32) (arg6 : Memref sig .tc .vmem S1x1x4096x128 .bf16) (arg7 : Memref sig .tc .vmem S2x8x512x512 .f32) (arg8 : Memref sig .tc .vmem S8x2x80x512 .bf16) (arg9 : Memref sig .tc .vmem S2x4096x128 .f32) (arg10 : Memref sig .tc .vmem S512x512 .f32) (arg11 : Memref sig .tc .vmem S2x8x512 .f32) (arg12 : Memref sig .tc .vmem S2x8x512 .f32) (arg13 : Memref sig .tc .vmem S2x80x512 .f32)
variable (q : Vec F S1x1x4096x128 .bf16) (k : Vec F S1x1x4096x128 .bf16) (v : Vec F S1x1x4096x128 .bf16) (g : Vec F S1x2x8x512 .f32)

/-- The twelve buffers held whole: the four inputs at `q`, `k`, `v`, `g`, the others at the state `σ`. -/
def St (σ : State F) : sProp 𝕄 :=
  iprop(owns (c : Thread nD τ) arg2 fullShare q ∗ owns (c : Thread nD τ) arg3 fullShare k ∗ owns (c : Thread nD τ) arg4 fullShare v ∗ owns (c : Thread nD τ) arg5 fullShare g ∗ owns (c : Thread nD τ) arg6 fullShare σ.o ∗ owns (c : Thread nD τ) arg7 fullShare σ.s ∗ owns (c : Thread nD τ) arg8 fullShare σ.vt ∗ owns (c : Thread nD τ) arg9 fullShare σ.cs ∗ owns (c : Thread nD τ) arg10 fullShare σ.msk ∗ owns (c : Thread nD τ) arg11 fullShare σ.mx ∗ owns (c : Thread nD τ) arg12 fullShare σ.mb ∗ owns (c : Thread nD τ) arg13 fullShare σ.ac)

/-- From the buffers at `σ` the program runs to its end, where its value and the buffers' contents meet `Φ`. -/
def T {α : Type} (σ : State F) (p : Prog (TpuEff nD τ sig (Elt F) Λ₀ .tc) α) (Φ : α → State F → Prop) : Prop :=
  St c arg2 arg3 arg4 arg5 arg6 arg7 arg8 arg9 arg10 arg11 arg12 arg13 q k v g σ ⊢ wp frame (wpE (defs₀ (F := F)) Variants.none c none) Set.univ p (fun a => iprop(∃ σ', ⌜Φ a σ'⌝ ∗ St c arg2 arg3 arg4 arg5 arg6 arg7 arg8 arg9 arg10 arg11 arg12 arg13 q k v g σ'))

end Pre

section Rules

variable {c : Dev nD} {arg2 : Memref sig .tc .vmem S1x1x4096x128 .bf16} {arg3 : Memref sig .tc .vmem S1x1x4096x128 .bf16} {arg4 : Memref sig .tc .vmem S1x1x4096x128 .bf16} {arg5 : Memref sig .tc .vmem S1x2x8x512 .f32} {arg6 : Memref sig .tc .vmem S1x1x4096x128 .bf16} {arg7 : Memref sig .tc .vmem S2x8x512x512 .f32} {arg8 : Memref sig .tc .vmem S8x2x80x512 .bf16} {arg9 : Memref sig .tc .vmem S2x4096x128 .f32} {arg10 : Memref sig .tc .vmem S512x512 .f32} {arg11 : Memref sig .tc .vmem S2x8x512 .f32} {arg12 : Memref sig .tc .vmem S2x8x512 .f32} {arg13 : Memref sig .tc .vmem S2x80x512 .f32}
variable {q : Vec F S1x1x4096x128 .bf16} {k : Vec F S1x1x4096x128 .bf16} {v : Vec F S1x1x4096x128 .bf16} {g : Vec F S1x2x8x512 .f32}
variable {α β : Type} {σ : State F} {Φ : α → State F → Prop}

theorem T.pure {a : α} (h : Φ a σ) : T c arg2 arg3 arg4 arg5 arg6 arg7 arg8 arg9 arg10 arg11 arg12 arg13 q k v g σ (Pure.pure a) Φ := by
  unfold T
  refine BIBase.Entails.trans ?_ (le_wp_ret _ _ _ _ _)
  iintro H
  iexists σ
  isplitr
  · ipureintro; exact h
  iexact H

theorem T.mono {p : Prog (TpuEff nD τ sig (Elt F) Λ₀ .tc) α} {Ψ : α → State F → Prop} (h : T c arg2 arg3 arg4 arg5 arg6 arg7 arg8 arg9 arg10 arg11 arg12 arg13 q k v g σ p Ψ)
    (hΨ : ∀ a σ', Ψ a σ' → Φ a σ') : T c arg2 arg3 arg4 arg5 arg6 arg7 arg8 arg9 arg10 arg11 arg12 arg13 q k v g σ p Φ := by
  unfold T at *
  refine h.trans (wp_mono _ _ _ fun a => ?_)
  iintro ⟨%σ', %hσ, H⟩
  iexists σ'
  isplitr
  · ipureintro; exact hΨ _ _ hσ
  iexact H

theorem T.bind {p : Prog (TpuEff nD τ sig (Elt F) Λ₀ .tc) β} {kk : β → Prog (TpuEff nD τ sig (Elt F) Λ₀ .tc) α} {Ψ : β → State F → Prop}
    (h : T c arg2 arg3 arg4 arg5 arg6 arg7 arg8 arg9 arg10 arg11 arg12 arg13 q k v g σ p Ψ) (hk : ∀ a σ', Ψ a σ' → T c arg2 arg3 arg4 arg5 arg6 arg7 arg8 arg9 arg10 arg11 arg12 arg13 q k v g σ' (kk a) Φ) : T c arg2 arg3 arg4 arg5 arg6 arg7 arg8 arg9 arg10 arg11 arg12 arg13 q k v g σ (p >>= kk) Φ := by
  unfold T at *
  rw [wp_bind]
  refine h.trans (wp_mono _ _ _ fun a => ?_)
  iintro ⟨%σ', %hσ, H⟩
  iapply (hk _ _ hσ)
  iexact H

theorem T.assoc {γ : Type} {p : Prog (TpuEff nD τ sig (Elt F) Λ₀ .tc) γ} {r : γ → Prog (TpuEff nD τ sig (Elt F) Λ₀ .tc) β}
    {kk : β → Prog (TpuEff nD τ sig (Elt F) Λ₀ .tc) α} (h : T c arg2 arg3 arg4 arg5 arg6 arg7 arg8 arg9 arg10 arg11 arg12 arg13 q k v g σ (p >>= fun a => r a >>= kk) Φ) :
    T c arg2 arg3 arg4 arg5 arg6 arg7 arg8 arg9 arg10 arg11 arg12 arg13 q k v g σ ((p >>= r) >>= kk) Φ := by
  unfold T at *
  simpa only [wp_bind] using h

theorem T.ret {a : β} {kk : β → Prog (TpuEff nD τ sig (Elt F) Λ₀ .tc) α} (h : T c arg2 arg3 arg4 arg5 arg6 arg7 arg8 arg9 arg10 arg11 arg12 arg13 q k v g σ (kk a) Φ) :
    T c arg2 arg3 arg4 arg5 arg6 arg7 arg8 arg9 arg10 arg11 arg12 arg13 q k v g σ (Pure.pure a >>= kk) Φ := h

theorem T.dite {P : Prop} [Decidable P] {A : P → Prog (TpuEff nD τ sig (Elt F) Λ₀ .tc) β} {B : ¬ P → Prog (TpuEff nD τ sig (Elt F) Λ₀ .tc) β}
    {kk : β → Prog (TpuEff nD τ sig (Elt F) Λ₀ .tc) α}
    (hA : ∀ h : P, T c arg2 arg3 arg4 arg5 arg6 arg7 arg8 arg9 arg10 arg11 arg12 arg13 q k v g σ (A h >>= kk) Φ) (hB : ∀ h : ¬ P, T c arg2 arg3 arg4 arg5 arg6 arg7 arg8 arg9 arg10 arg11 arg12 arg13 q k v g σ (B h >>= kk) Φ) :
    T c arg2 arg3 arg4 arg5 arg6 arg7 arg8 arg9 arg10 arg11 arg12 arg13 q k v g σ ((if h : P then A h else B h) >>= kk) Φ := by
  by_cases h : P
  · rw [dif_pos h]; exact hA h
  · rw [dif_neg h]; exact hB h

theorem T.loop {l : Scf.Loop 32} {hok : l.OK} {body : Fin l.trips → Unit → Prog (TpuEff nD τ sig (Elt F) Λ₀ .tc) Unit}
    {kk : Unit → Prog (TpuEff nD τ sig (Elt F) Λ₀ .tc) α} (I : ℕ → State F → Prop) (h0 : I 0 σ)
    (hb : ∀ (t : Fin l.trips) σ, I t.val σ → T c arg2 arg3 arg4 arg5 arg6 arg7 arg8 arg9 arg10 arg11 arg12 arg13 q k v g σ (body t ()) (fun _ σ' => I (t.val + 1) σ'))
    (hk : ∀ σ', I l.trips σ' → T c arg2 arg3 arg4 arg5 arg6 arg7 arg8 arg9 arg10 arg11 arg12 arg13 q k v g σ' (kk ()) Φ) : T c arg2 arg3 arg4 arg5 arg6 arg7 arg8 arg9 arg10 arg11 arg12 arg13 q k v g σ (Scf.Loop.for l hok () body >>= kk) Φ := by
  refine T.bind (Ψ := fun _ σ' => I l.trips σ') ?_ fun _ σ' h => hk σ' h
  unfold T
  have hl := Scf.wp_for frame (wpE (defs₀ (F := F)) Variants.none c none) Set.univ l.lb l.ub l.st hok () body
    (fun n _ => iprop(∃ σ', ⌜I n σ'⌝ ∗ St c arg2 arg3 arg4 arg5 arg6 arg7 arg8 arg9 arg10 arg11 arg12 arg13 q k v g σ'))
    (fun t a => by
      iintro ⟨%σ', %hσ, H⟩
      iapply (show St c arg2 arg3 arg4 arg5 arg6 arg7 arg8 arg9 arg10 arg11 arg12 arg13 q k v g σ' ⊢ _ from hb t σ' hσ)
      iexact H)
    (Q := fun _ => iprop(∃ σ', ⌜I l.trips σ'⌝ ∗ St c arg2 arg3 arg4 arg5 arg6 arg7 arg8 arg9 arg10 arg11 arg12 arg13 q k v g σ'))
  refine BIBase.Entails.trans ?_ hl
  iintro H
  isplitl [H]
  · iexists σ
    isplitr
    · ipureintro; exact h0
    iexact H
  · iintro %a H
    iexact H

/-- Forget how the contents came about: go on from any contents that meet `J`. -/
theorem T.gen {p : Prog (TpuEff nD τ sig (Elt F) Λ₀ .tc) α} (J : State F → Prop) (h : J σ) (hk : ∀ σ', J σ' → T c arg2 arg3 arg4 arg5 arg6 arg7 arg8 arg9 arg10 arg11 arg12 arg13 q k v g σ' p Φ) : T c arg2 arg3 arg4 arg5 arg6 arg7 arg8 arg9 arg10 arg11 arg12 arg13 q k v g σ p Φ :=
  hk σ h

theorem T.load2 {off size : Fin (S1x1x4096x128 : Shape).rank → ℕ} {inb : ∀ a, off a + size a ≤ (S1x1x4096x128 : Shape).size a}
    {hl : arg2.view.LoadsAt (Rect.unit off size inb).toLoadRect}
    {kk : ((Rect.unit off size inb).toLoadRect.shape.Idx → Elt F .bf16) → Prog (TpuEff nD τ sig (Elt F) Λ₀ .tc) α}
    (h : T c arg2 arg3 arg4 arg5 arg6 arg7 arg8 arg9 arg10 arg11 arg12 arg13 q k v g σ (kk (window q off size inb)) Φ) :
    T c arg2 arg3 arg4 arg5 arg6 arg7 arg8 arg9 arg10 arg11 arg12 arg13 q k v g σ (Prog.lift (.load arg2 (Rect.unit off size inb).toLoadRect hl) >>= kk) Φ := by
  unfold T St at *
  exact fr_load c arg2 q (hl := hl) h

theorem T.load3 {off size : Fin (S1x1x4096x128 : Shape).rank → ℕ} {inb : ∀ a, off a + size a ≤ (S1x1x4096x128 : Shape).size a}
    {hl : arg3.view.LoadsAt (Rect.unit off size inb).toLoadRect}
    {kk : ((Rect.unit off size inb).toLoadRect.shape.Idx → Elt F .bf16) → Prog (TpuEff nD τ sig (Elt F) Λ₀ .tc) α}
    (h : T c arg2 arg3 arg4 arg5 arg6 arg7 arg8 arg9 arg10 arg11 arg12 arg13 q k v g σ (kk (window k off size inb)) Φ) :
    T c arg2 arg3 arg4 arg5 arg6 arg7 arg8 arg9 arg10 arg11 arg12 arg13 q k v g σ (Prog.lift (.load arg3 (Rect.unit off size inb).toLoadRect hl) >>= kk) Φ := by
  unfold T St at *
  exact (perm3 _ _ _ _ _ _ _ _ _ _ _ _).1.trans (fr_load c arg3 k (hl := hl) ((perm3 _ _ _ _ _ _ _ _ _ _ _ _).2.trans h))

theorem T.load4 {off size : Fin (S1x1x4096x128 : Shape).rank → ℕ} {inb : ∀ a, off a + size a ≤ (S1x1x4096x128 : Shape).size a}
    {hl : arg4.view.LoadsAt (Rect.unit off size inb).toLoadRect}
    {kk : ((Rect.unit off size inb).toLoadRect.shape.Idx → Elt F .bf16) → Prog (TpuEff nD τ sig (Elt F) Λ₀ .tc) α}
    (h : T c arg2 arg3 arg4 arg5 arg6 arg7 arg8 arg9 arg10 arg11 arg12 arg13 q k v g σ (kk (window v off size inb)) Φ) :
    T c arg2 arg3 arg4 arg5 arg6 arg7 arg8 arg9 arg10 arg11 arg12 arg13 q k v g σ (Prog.lift (.load arg4 (Rect.unit off size inb).toLoadRect hl) >>= kk) Φ := by
  unfold T St at *
  exact (perm4 _ _ _ _ _ _ _ _ _ _ _ _).1.trans (fr_load c arg4 v (hl := hl) ((perm4 _ _ _ _ _ _ _ _ _ _ _ _).2.trans h))

theorem T.load5 {off size : Fin (S1x2x8x512 : Shape).rank → ℕ} {inb : ∀ a, off a + size a ≤ (S1x2x8x512 : Shape).size a}
    {hl : arg5.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window g off size inb)) Φ) :
    T c arg2 arg3 arg4 arg5 arg6 arg7 arg8 arg9 arg10 arg11 arg12 arg13 q k v g σ (Prog.lift (.load arg5 (Rect.unit off size inb).toLoadRect hl) >>= kk) Φ := by
  unfold T St at *
  exact (perm5 _ _ _ _ _ _ _ _ _ _ _ _).1.trans (fr_load c arg5 g (hl := hl) ((perm5 _ _ _ _ _ _ _ _ _ _ _ _).2.trans h))

theorem T.load6 {off size : Fin (S1x1x4096x128 : Shape).rank → ℕ} {inb : ∀ a, off a + size a ≤ (S1x1x4096x128 : Shape).size a}
    {hl : arg6.view.LoadsAt (Rect.unit off size inb).toLoadRect}
    {kk : ((Rect.unit off size inb).toLoadRect.shape.Idx → Elt F .bf16) → Prog (TpuEff nD τ sig (Elt F) Λ₀ .tc) α}
    (h : T c arg2 arg3 arg4 arg5 arg6 arg7 arg8 arg9 arg10 arg11 arg12 arg13 q k v g σ (kk (window σ.o off size inb)) Φ) :
    T c arg2 arg3 arg4 arg5 arg6 arg7 arg8 arg9 arg10 arg11 arg12 arg13 q k v g σ (Prog.lift (.load arg6 (Rect.unit off size inb).toLoadRect hl) >>= kk) Φ := by
  unfold T St at *
  exact (perm6 _ _ _ _ _ _ _ _ _ _ _ _).1.trans (fr_load c arg6 σ.o (hl := hl) ((perm6 _ _ _ _ _ _ _ _ _ _ _ _).2.trans h))

theorem T.load7 {off size : Fin (S2x8x512x512 : Shape).rank → ℕ} {inb : ∀ a, off a + size a ≤ (S2x8x512x512 : Shape).size a}
    {hl : arg7.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window σ.s off size inb)) Φ) :
    T c arg2 arg3 arg4 arg5 arg6 arg7 arg8 arg9 arg10 arg11 arg12 arg13 q k v g σ (Prog.lift (.load arg7 (Rect.unit off size inb).toLoadRect hl) >>= kk) Φ := by
  unfold T St at *
  exact (perm7 _ _ _ _ _ _ _ _ _ _ _ _).1.trans (fr_load c arg7 σ.s (hl := hl) ((perm7 _ _ _ _ _ _ _ _ _ _ _ _).2.trans h))

theorem T.load8 {off size : Fin (S8x2x80x512 : Shape).rank → ℕ} {inb : ∀ a, off a + size a ≤ (S8x2x80x512 : Shape).size a}
    {hl : arg8.view.LoadsAt (Rect.unit off size inb).toLoadRect}
    {kk : ((Rect.unit off size inb).toLoadRect.shape.Idx → Elt F .bf16) → Prog (TpuEff nD τ sig (Elt F) Λ₀ .tc) α}
    (h : T c arg2 arg3 arg4 arg5 arg6 arg7 arg8 arg9 arg10 arg11 arg12 arg13 q k v g σ (kk (window σ.vt off size inb)) Φ) :
    T c arg2 arg3 arg4 arg5 arg6 arg7 arg8 arg9 arg10 arg11 arg12 arg13 q k v g σ (Prog.lift (.load arg8 (Rect.unit off size inb).toLoadRect hl) >>= kk) Φ := by
  unfold T St at *
  exact (perm8 _ _ _ _ _ _ _ _ _ _ _ _).1.trans (fr_load c arg8 σ.vt (hl := hl) ((perm8 _ _ _ _ _ _ _ _ _ _ _ _).2.trans h))

theorem T.load9 {off size : Fin (S2x4096x128 : Shape).rank → ℕ} {inb : ∀ a, off a + size a ≤ (S2x4096x128 : Shape).size a}
    {hl : arg9.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window σ.cs off size inb)) Φ) :
    T c arg2 arg3 arg4 arg5 arg6 arg7 arg8 arg9 arg10 arg11 arg12 arg13 q k v g σ (Prog.lift (.load arg9 (Rect.unit off size inb).toLoadRect hl) >>= kk) Φ := by
  unfold T St at *
  exact (perm9 _ _ _ _ _ _ _ _ _ _ _ _).1.trans (fr_load c arg9 σ.cs (hl := hl) ((perm9 _ _ _ _ _ _ _ _ _ _ _ _).2.trans h))

theorem T.load10 {off size : Fin (S512x512 : Shape).rank → ℕ} {inb : ∀ a, off a + size a ≤ (S512x512 : Shape).size a}
    {hl : arg10.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window σ.msk off size inb)) Φ) :
    T c arg2 arg3 arg4 arg5 arg6 arg7 arg8 arg9 arg10 arg11 arg12 arg13 q k v g σ (Prog.lift (.load arg10 (Rect.unit off size inb).toLoadRect hl) >>= kk) Φ := by
  unfold T St at *
  exact (perm10 _ _ _ _ _ _ _ _ _ _ _ _).1.trans (fr_load c arg10 σ.msk (hl := hl) ((perm10 _ _ _ _ _ _ _ _ _ _ _ _).2.trans h))

theorem T.load11 {off size : Fin (S2x8x512 : Shape).rank → ℕ} {inb : ∀ a, off a + size a ≤ (S2x8x512 : Shape).size a}
    {hl : arg11.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window σ.mx off size inb)) Φ) :
    T c arg2 arg3 arg4 arg5 arg6 arg7 arg8 arg9 arg10 arg11 arg12 arg13 q k v g σ (Prog.lift (.load arg11 (Rect.unit off size inb).toLoadRect hl) >>= kk) Φ := by
  unfold T St at *
  exact (perm11 _ _ _ _ _ _ _ _ _ _ _ _).1.trans (fr_load c arg11 σ.mx (hl := hl) ((perm11 _ _ _ _ _ _ _ _ _ _ _ _).2.trans h))

theorem T.load12 {off size : Fin (S2x8x512 : Shape).rank → ℕ} {inb : ∀ a, off a + size a ≤ (S2x8x512 : Shape).size a}
    {hl : arg12.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window σ.mb off size inb)) Φ) :
    T c arg2 arg3 arg4 arg5 arg6 arg7 arg8 arg9 arg10 arg11 arg12 arg13 q k v g σ (Prog.lift (.load arg12 (Rect.unit off size inb).toLoadRect hl) >>= kk) Φ := by
  unfold T St at *
  exact (perm12 _ _ _ _ _ _ _ _ _ _ _ _).1.trans (fr_load c arg12 σ.mb (hl := hl) ((perm12 _ _ _ _ _ _ _ _ _ _ _ _).2.trans h))

theorem T.load13 {off size : Fin (S2x80x512 : Shape).rank → ℕ} {inb : ∀ a, off a + size a ≤ (S2x80x512 : Shape).size a}
    {hl : arg13.view.LoadsAt (Rect.unit off size inb).toLoadRect}
    {kk : ((Rect.unit off size inb).toLoadRect.shape.Idx → Elt F .f32) → Prog (TpuEff nD τ sig (Elt F) Λ₀ .tc) α}
    (h : T c arg2 arg3 arg4 arg5 arg6 arg7 arg8 arg9 arg10 arg11 arg12 arg13 q k v g σ (kk (window σ.ac off size inb)) Φ) :
    T c arg2 arg3 arg4 arg5 arg6 arg7 arg8 arg9 arg10 arg11 arg12 arg13 q k v g σ (Prog.lift (.load arg13 (Rect.unit off size inb).toLoadRect hl) >>= kk) Φ := by
  unfold T St at *
  exact (perm13 _ _ _ _ _ _ _ _ _ _ _ _).1.trans (fr_load c arg13 σ.ac (hl := hl) ((perm13 _ _ _ _ _ _ _ _ _ _ _ _).2.trans h))

theorem T.store6 {off size : Fin (S1x1x4096x128 : Shape).rank → ℕ} {inb : ∀ a, off a + size a ≤ (S1x1x4096x128 : Shape).size a}
    {w : (Rect.unit off size inb).shape.Idx → Elt F .bf16} {hx : (arg6.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with o := put σ.o off size w } (kk ⟨⟩) Φ) :
    T c arg2 arg3 arg4 arg5 arg6 arg7 arg8 arg9 arg10 arg11 arg12 arg13 q k v g σ (Prog.lift (.store arg6 (Rect.unit off size inb) w Finset.univ hx hm) >>= kk) Φ := by
  unfold T St at *
  exact (perm6 _ _ _ _ _ _ _ _ _ _ _ _).1.trans (fr_store c arg6 σ.o (hx := hx) (hm := hm) ((perm6 _ _ _ _ _ _ _ _ _ _ _ _).2.trans h))

theorem T.store7 {off size : Fin (S2x8x512x512 : Shape).rank → ℕ} {inb : ∀ a, off a + size a ≤ (S2x8x512x512 : Shape).size a}
    {w : (Rect.unit off size inb).shape.Idx → Elt F .f32} {hx : (arg7.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with s := put σ.s off size w } (kk ⟨⟩) Φ) :
    T c arg2 arg3 arg4 arg5 arg6 arg7 arg8 arg9 arg10 arg11 arg12 arg13 q k v g σ (Prog.lift (.store arg7 (Rect.unit off size inb) w Finset.univ hx hm) >>= kk) Φ := by
  unfold T St at *
  exact (perm7 _ _ _ _ _ _ _ _ _ _ _ _).1.trans (fr_store c arg7 σ.s (hx := hx) (hm := hm) ((perm7 _ _ _ _ _ _ _ _ _ _ _ _).2.trans h))

theorem T.store8 {off size : Fin (S8x2x80x512 : Shape).rank → ℕ} {inb : ∀ a, off a + size a ≤ (S8x2x80x512 : Shape).size a}
    {w : (Rect.unit off size inb).shape.Idx → Elt F .bf16} {hx : (arg8.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with vt := put σ.vt off size w } (kk ⟨⟩) Φ) :
    T c arg2 arg3 arg4 arg5 arg6 arg7 arg8 arg9 arg10 arg11 arg12 arg13 q k v g σ (Prog.lift (.store arg8 (Rect.unit off size inb) w Finset.univ hx hm) >>= kk) Φ := by
  unfold T St at *
  exact (perm8 _ _ _ _ _ _ _ _ _ _ _ _).1.trans (fr_store c arg8 σ.vt (hx := hx) (hm := hm) ((perm8 _ _ _ _ _ _ _ _ _ _ _ _).2.trans h))

theorem T.store9 {off size : Fin (S2x4096x128 : Shape).rank → ℕ} {inb : ∀ a, off a + size a ≤ (S2x4096x128 : Shape).size a}
    {w : (Rect.unit off size inb).shape.Idx → Elt F .f32} {hx : (arg9.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with cs := put σ.cs off size w } (kk ⟨⟩) Φ) :
    T c arg2 arg3 arg4 arg5 arg6 arg7 arg8 arg9 arg10 arg11 arg12 arg13 q k v g σ (Prog.lift (.store arg9 (Rect.unit off size inb) w Finset.univ hx hm) >>= kk) Φ := by
  unfold T St at *
  exact (perm9 _ _ _ _ _ _ _ _ _ _ _ _).1.trans (fr_store c arg9 σ.cs (hx := hx) (hm := hm) ((perm9 _ _ _ _ _ _ _ _ _ _ _ _).2.trans h))

theorem T.store10 {off size : Fin (S512x512 : Shape).rank → ℕ} {inb : ∀ a, off a + size a ≤ (S512x512 : Shape).size a}
    {w : (Rect.unit off size inb).shape.Idx → Elt F .f32} {hx : (arg10.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with msk := put σ.msk off size w } (kk ⟨⟩) Φ) :
    T c arg2 arg3 arg4 arg5 arg6 arg7 arg8 arg9 arg10 arg11 arg12 arg13 q k v g σ (Prog.lift (.store arg10 (Rect.unit off size inb) w Finset.univ hx hm) >>= kk) Φ := by
  unfold T St at *
  exact (perm10 _ _ _ _ _ _ _ _ _ _ _ _).1.trans (fr_store c arg10 σ.msk (hx := hx) (hm := hm) ((perm10 _ _ _ _ _ _ _ _ _ _ _ _).2.trans h))

theorem T.store11 {off size : Fin (S2x8x512 : Shape).rank → ℕ} {inb : ∀ a, off a + size a ≤ (S2x8x512 : Shape).size a}
    {w : (Rect.unit off size inb).shape.Idx → Elt F .f32} {hx : (arg11.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with mx := put σ.mx off size w } (kk ⟨⟩) Φ) :
    T c arg2 arg3 arg4 arg5 arg6 arg7 arg8 arg9 arg10 arg11 arg12 arg13 q k v g σ (Prog.lift (.store arg11 (Rect.unit off size inb) w Finset.univ hx hm) >>= kk) Φ := by
  unfold T St at *
  exact (perm11 _ _ _ _ _ _ _ _ _ _ _ _).1.trans (fr_store c arg11 σ.mx (hx := hx) (hm := hm) ((perm11 _ _ _ _ _ _ _ _ _ _ _ _).2.trans h))

theorem T.store12 {off size : Fin (S2x8x512 : Shape).rank → ℕ} {inb : ∀ a, off a + size a ≤ (S2x8x512 : Shape).size a}
    {w : (Rect.unit off size inb).shape.Idx → Elt F .f32} {hx : (arg12.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with mb := put σ.mb off size w } (kk ⟨⟩) Φ) :
    T c arg2 arg3 arg4 arg5 arg6 arg7 arg8 arg9 arg10 arg11 arg12 arg13 q k v g σ (Prog.lift (.store arg12 (Rect.unit off size inb) w Finset.univ hx hm) >>= kk) Φ := by
  unfold T St at *
  exact (perm12 _ _ _ _ _ _ _ _ _ _ _ _).1.trans (fr_store c arg12 σ.mb (hx := hx) (hm := hm) ((perm12 _ _ _ _ _ _ _ _ _ _ _ _).2.trans h))

theorem T.store13 {off size : Fin (S2x80x512 : Shape).rank → ℕ} {inb : ∀ a, off a + size a ≤ (S2x80x512 : Shape).size a}
    {w : (Rect.unit off size inb).shape.Idx → Elt F .f32} {hx : (arg13.access (Rect.unit off size inb)).Stores Finset.univ}
    {hm : (Finset.univ : Finset (Rect.unit off size inb).shape.Idx) = Finset.univ ∨ ∀ a, (Rect.unit off size inb).stride a = 1}
    {kk : PUnit → Prog (TpuEff nD τ sig (Elt F) Λ₀ .tc) α}
    (h : T c arg2 arg3 arg4 arg5 arg6 arg7 arg8 arg9 arg10 arg11 arg12 arg13 q k v g { σ with ac := put σ.ac off size w } (kk ⟨⟩) Φ) :
    T c arg2 arg3 arg4 arg5 arg6 arg7 arg8 arg9 arg10 arg11 arg12 arg13 q k v g σ (Prog.lift (.store arg13 (Rect.unit off size inb) w Finset.univ hx hm) >>= kk) Φ := by
  unfold T St at *
  exact (perm13 _ _ _ _ _ _ _ _ _ _ _ _).1.trans (fr_store c arg13 σ.ac (hx := hx) (hm := hm) ((perm13 _ _ _ _ _ _ _ _ _ _ _ _).2.trans h))

end Rules

end Cert.Proof.Fox

end
-- ==== Proof.Fox.Model.lean ====
/-
  What the attention kernel keeps in its buffers, block by block: the scores of a tile, their running maxima,
  the shifts, the accumulators and the output blocks, as functions of the blocks of the queries, keys, values
  and gates. `J i n` is the state in which the weights of tile `i` and the scores of tile `i + 1` have been
  taken over the first `n` key blocks.
-/
module

public import proofs.«01_k».proof.Proof.Fox.Hoare

@[expose] public section

set_option maxRecDepth 16384

noncomputable section

namespace Cert.Proof.Fox

open Cert.KernelIdeal Cert.KernelIdeal.Gen
open Idealize.ShloMosaic Idealize.ShloMosaic.TcCoe Idealize.ShloMosaic.Tactic
open VecWindow (window put)

variable {F : FTy → Type} [FloatOps F] [Named F]

section At

variable {α : Type} {s : Shape}

/-- The window of `x` at `off` is `w`. -/
def At (x : s.Idx → α) (off size : Fin s.rank → ℕ) (w : ((a : Fin s.rank) → Fin (size a)) → α) : Prop :=
  ∀ inb, window x off size inb = w

theorem At.same {x : s.Idx → α} {off size : Fin s.rank → ℕ} {w w' : ((a : Fin s.rank) → Fin (size a)) → α} (h : w = w') :
    At (put x off size w) off size w' := fun inb => (VecWindow.window_put_same x off size inb w).trans h

theorem At.ne {x : s.Idx → α} {off size off' size' : Fin s.rank → ℕ} {w : ((a : Fin s.rank) → Fin (size a)) → α}
    {w' : ((a : Fin s.rank) → Fin (size' a)) → α} (h : At x off' size' w') (a : Fin s.rank)
    (ha : off' a + size' a ≤ off a ∨ off a + size a ≤ off' a) : At (put x off size w) off' size' w' := fun inb =>
  (VecWindow.window_put_of_disjoint x off size off' size' inb w a ha).trans (h inb)

theorem At.eq {x : s.Idx → α} {off off' size : Fin s.rank → ℕ} {w : ((a : Fin s.rank) → Fin (size a)) → α} (h : At x off size w)
    (e : off' = off) {inb : ∀ a, off' a + size a ≤ s.size a} : window x off' size inb = w := by subst e; exact h inb

theorem window_off {x : s.Idx → α} {off off' size : Fin s.rank → ℕ} (e : off = off') {inb : ∀ a, off a + size a ≤ s.size a}
    {inb' : ∀ a, off' a + size a ≤ s.size a} : window x off size inb = window x off' size inb' := by subst e; rfl

theorem At.inside {x : s.Idx → α} {off size off' size' : Fin s.rank → ℕ} {w : ((a : Fin s.rank) → Fin (size a)) → α}
    {w' : ((a : Fin s.rank) → Fin (size' a)) → α} (h : ∀ a, off a ≤ off' a ∧ off' a + size' a ≤ off a + size a)
    (hw : ∀ inb, window (s := ⟨s.rank, size⟩) w (fun a => off' a - off a) size' inb = w') :
    At (put x off size w) off' size' w' := fun inb =>
  (VecWindow.window_put_of_inside x off size off' size' inb w h).trans (hw _)

/-- A window within a window that is known. -/
theorem At.sub {x : s.Idx → α} {off size off' size' d : Fin s.rank → ℕ} {w : ((a : Fin s.rank) → Fin (size a)) → α} (h : At x off size w)
    (hin : ∀ a, off a + size a ≤ s.size a) (e : ∀ a, off' a = off a + d a) {inb' : ∀ a, off' a + size' a ≤ s.size a}
    (inb : ∀ a, d a + size' a ≤ size a) :
    window x off' size' inb' = window (s := ⟨s.rank, size⟩) w d size' inb := by
  have hw := h hin
  funext y
  rw [← hw]
  exact congrArg x (funext fun a => Fin.ext (by
    show off' a + 1 * (y a).val = off a + 1 * (d a + 1 * (y a).val)
    rw [e a]; omega))

end At

/-! ## The blocks -/

variable (q k v : Vec F S1x1x4096x128 .bf16) (g : Vec F S1x2x8x512 .f32)

theorem blk_inb (i : ℕ) : ∀ a, (![0, 0, 512 * (i % 8), 0] : Fin 4 → ℕ) a + S1x1x512x128.size a ≤ S1x1x4096x128.size a := by
  have : i % 8 < 8 := Nat.mod_lt _ (by decide)
  intro a; fin_cases a
  · exact show 0 + 1 ≤ 1 by omega
  · exact show 0 + 1 ≤ 1 by omega
  · exact show 512 * (i % 8) + 512 ≤ 4096 by omega
  · exact show 0 + 128 ≤ 128 by omega

theorem gate_inb (h i : ℕ) (hh : h < 2) : ∀ a, (![0, h, i % 8, 0] : Fin 4 → ℕ) a + S1x1x1x512.size a ≤ S1x2x8x512.size a := by
  have : i % 8 < 8 := Nat.mod_lt _ (by decide)
  intro a; fin_cases a
  · exact show 0 + 1 ≤ 1 by omega
  · exact show h + 1 ≤ 2 by omega
  · exact show i % 8 + 1 ≤ 8 by omega
  · exact show 0 + 512 ≤ 512 by omega

/-- Row block `i` of the queries, keys or values. -/
def blk (x : Vec F S1x1x4096x128 .bf16) (i : ℕ) : Vec F S1x1x512x128 .bf16 := window x ![0, 0, 512 * (i % 8), 0] S1x1x512x128.size (blk_inb i)

def gate0 (i : ℕ) : Vec F S1x1x1x512 .f32 := window g ![0, 0, i % 8, 0] S1x1x1x512.size (gate_inb 0 i (by decide))
def gate1 (i : ℕ) : Vec F S1x1x1x512 .f32 := window g ![0, 1, i % 8, 0] S1x1x1x512.size (gate_inb 1 i (by decide))

theorem blk_eq {x : Vec F S1x1x4096x128 .bf16} {off : Fin 4 → ℕ} {i : ℕ} (h : off = ![0, 0, 512 * i, 0]) (hi : i < 8)
    {inb : ∀ a, off a + S1x1x512x128.size a ≤ S1x1x4096x128.size a} : window x off S1x1x512x128.size inb = blk x i := by
  subst h
  have e : i % 8 = i := Nat.mod_eq_of_lt hi
  exact window_off (by rw [e])

theorem gate0_eq {off : Fin 4 → ℕ} {i : ℕ} (h : off = ![0, 0, i, 0]) (hi : i < 8)
    {inb : ∀ a, off a + S1x1x1x512.size a ≤ S1x2x8x512.size a} : window g off S1x1x1x512.size inb = gate0 g i := by
  subst h
  have e : i % 8 = i := Nat.mod_eq_of_lt hi
  exact window_off (by rw [e])

theorem gate1_eq {off : Fin 4 → ℕ} {i : ℕ} (h : off = ![0, 1, i, 0]) (hi : i < 8)
    {inb : ∀ a, off a + S1x1x1x512.size a ≤ S1x2x8x512.size a} : window g off S1x1x1x512.size inb = gate1 g i := by
  subst h
  have e : i % 8 = i := Nat.mod_eq_of_lt hi
  exact window_off (by rw [e])

/-- The queries of tile `i`, transposed, each half of the lanes set against zeros. -/
def Qq (i : ℕ) : FVec F S128x1024 .bf16 := k0_pay120 k0_pay144 (blk q i)

def vt0 (c : ℕ) : Vec F S1x1x80x512 .bf16 :=
  put (s := S1x1x80x512) (put (s := S1x1x80x512) (constant S1x1x80x512 .bf16 0x0000#16) ![0, 0, 0, 0] S1x1x64x512.size (k0_pay148 (blk v c)))
    ![0, 0, 64, 0] S1x1x16x512.size (k0_pay149 (F := F))

def vt1 (c : ℕ) : Vec F S1x1x80x512 .bf16 :=
  put (s := S1x1x80x512) (put (s := S1x1x80x512) (constant S1x1x80x512 .bf16 0x0000#16) ![0, 0, 0, 0] S1x1x64x512.size (k0_pay152 (k0_pay147 (blk v c))))
    ![0, 0, 64, 0] S1x1x16x512.size (k0_pay149 (F := F))

def cs0 (c : ℕ) : Vec F S1x512x128 .f32 := k0_pay151 (k0_pay150 (gate0 g c))
def cs1 (c : ℕ) : Vec F S1x512x128 .f32 := k0_pay154 (gate1 g c)

/-- The scores of tile `i` against key block `c`, keys on the rows, with the mask where `c` is the tile's own block. -/
def Sc0 (i c : ℕ) : Vec F S1x1x512x512 .f32 :=
  if c < i then k0_pay7 (Qq q i) (blk k c) (cs0 g c) else k0_pay131 (Qq q i) (blk k c) (cs0 g c) (k0_pay145 (F := F))
def Sc1 (i c : ℕ) : Vec F S1x1x512x512 .f32 :=
  if c < i then k0_pay12 (k0_pay5 (Qq q i) (blk k c)) (cs1 g c) else k0_pay134 (k0_pay129 (Qq q i) (blk k c)) (cs1 g c) (k0_pay145 (F := F))

/-- The running maxima of tile `i` over the first `n` key blocks. -/
def M0 (i : ℕ) : ℕ → Vec F S1x8x512 .f32
  | 0 => fun _ => Named.named κ "mask" 0xF149F2CA#32
  | n + 1 => if n < i then k0_pay10 (k0_pay8 (M0 i n)) (k0_pay9 (Qq q i) (blk k n) (cs0 g n))
      else k0_pay132 (Qq q i) (blk k n) (cs0 g n) (k0_pay145 (F := F)) (M0 i n)
def M1 (i : ℕ) : ℕ → Vec F S1x8x512 .f32
  | 0 => fun _ => Named.named κ "mask" 0xF149F2CA#32
  | n + 1 => if n < i then k0_pay13 (k0_pay5 (Qq q i) (blk k n)) (cs1 g n) (M1 i n)
      else k0_pay135 (k0_pay129 (Qq q i) (blk k n)) (cs1 g n) (k0_pay145 (F := F)) (M1 i n)

/-- The shift of tile `i`. -/
def B0 (i : ℕ) : Vec F S1x8x512 .f32 := k0_pay139 (k0_pay121 (gate0 g i)) (M0 q k g i (i + 1))
def B1 (i : ℕ) : Vec F S1x8x512 .f32 := k0_pay140 (k0_pay122 (gate1 g i)) (M1 q k g i (i + 1))

/-- The accumulators of tile `i` over the first `n` key blocks. -/
def A0 (i : ℕ) : ℕ → Vec F S1x80x512 .f32
  | 0 => fun _ => Scalar.ofBits .f32 0x00000000#32
  | n + 1 => k0_pay2 (Sc0 q k g i n) (B0 q k g i) (A0 i n) (vt0 v n)
def A1 (i : ℕ) : ℕ → Vec F S1x80x512 .f32
  | 0 => fun _ => Scalar.ofBits .f32 0x00000000#32
  | n + 1 => k0_pay4 (k0_pay3 (Sc1 q k g i n) (B1 q k g i)) (A1 i n) (vt1 v n)

/-- Row block `i` of the output. -/
def Out (i : ℕ) : Vec F S1x1x512x128 .bf16 :=
  k0_pay138
    (k0_pay136 (window (s := S1x80x512) (A0 q k v g i (i + 1)) ![0, 0, 0] S1x64x512.size (by decide))
      (window (s := S1x80x512) (A0 q k v g i (i + 1)) ![0, 64, 0] S1x1x512.size (by decide)))
    (k0_pay137 (window (s := S1x80x512) (A1 q k v g i (i + 1)) ![0, 0, 0] S1x64x512.size (by decide)))
    (window (s := S1x80x512) (A1 q k v g i (i + 1)) ![0, 64, 0] S1x1x512.size (by decide))

/-! ## The states -/

/-- The set-up of the first `n` key blocks. -/
structure Setup (n : ℕ) (σ : State F) : Prop where
  vt0 : ∀ c, c < n → At σ.vt ![c, 0, 0, 0] S1x1x80x512.size (vt0 v c)
  vt1 : ∀ c, c < n → At σ.vt ![c, 1, 0, 0] S1x1x80x512.size (vt1 v c)
  cs0 : ∀ c, c < n → At σ.cs ![0, 512 * c, 0] S1x512x128.size (cs0 g c)
  cs1 : ∀ c, c < n → At σ.cs ![1, 512 * c, 0] S1x512x128.size (cs1 g c)
  msk : At σ.msk ![0, 0] S512x512.size (k0_pay145 (F := F))

structure J (i n : ℕ) (σ : State F) : Prop where
  set : Setup v g 8 σ
  old0 : ∀ c, n ≤ c → c ≤ i → At σ.s ![0, c, 0, 0] S1x1x512x512.size (Sc0 q k g i c)
  old1 : ∀ c, n ≤ c → c ≤ i → At σ.s ![1, c, 0, 0] S1x1x512x512.size (Sc1 q k g i c)
  new0 : ∀ c, c < n → At σ.s ![0, c, 0, 0] S1x1x512x512.size (Sc0 q k g (i + 1) c)
  new1 : ∀ c, c < n → At σ.s ![1, c, 0, 0] S1x1x512x512.size (Sc1 q k g (i + 1) c)
  mx0 : At σ.mx ![0, 0, 0] S1x8x512.size (M0 q k g (i + 1) n)
  mx1 : At σ.mx ![1, 0, 0] S1x8x512.size (M1 q k g (i + 1) n)
  mb0 : At σ.mb ![0, 0, 0] S1x8x512.size (B0 q k g i)
  mb1 : At σ.mb ![1, 0, 0] S1x8x512.size (B1 q k g i)
  ac0 : At σ.ac ![0, 0, 0] S1x80x512.size (A0 q k v g i n)
  ac1 : At σ.ac ![1, 0, 0] S1x80x512.size (A1 q k v g i n)
  out : ∀ c, c < i → At σ.o ![0, 0, 512 * c, 0] S1x1x512x128.size (Out q k v g c)

variable {q k v g}

/-- The weights of tile `i` and the scores of tile `i + 1` at key block `n`. -/
theorem both_step {σ : State F} {i n : ℕ} (hJ : J q k v g i n σ) (hi : i < 7) (hn : n ≤ i)
    {o4 o5 o6 o7 o8 : Fin 4 → ℕ} {o9 o10 : Fin 3 → ℕ} {qq : FVec F S128x1024 .bf16} (hq : qq = Qq q (i + 1))
    (h4 : o4 = ![0, n, 0, 0]) (h5 : o5 = ![n, 0, 0, 0]) (h6 : o6 = ![1, n, 0, 0]) (h7 : o7 = ![n, 1, 0, 0])
    (h8 : o8 = ![0, 0, 512 * n, 0]) (h9 : o9 = ![0, 512 * n, 0]) (h10 : o10 = ![1, 512 * n, 0])
    {i4 i5 i6 i7 i8 i9 i10 j0 j1 j2 j3 j4 j5} :
    J q k v g i (n + 1)
      { σ with
        s := put (put σ.s o4 S1x1x512x512.size (k0_pay7 qq (window k o8 S1x1x512x128.size i8) (window σ.cs o9 S1x512x128.size i9)))
          o6 S1x1x512x512.size (k0_pay12 (k0_pay5 qq (window k o8 S1x1x512x128.size i8)) (window σ.cs o10 S1x512x128.size i10)),
        mx := put (put σ.mx ![0, 0, 0] S1x8x512.size (k0_pay10 (k0_pay8 (window σ.mx ![0, 0, 0] S1x8x512.size j0))
            (k0_pay9 qq (window k o8 S1x1x512x128.size i8) (window σ.cs o9 S1x512x128.size i9))))
          ![1, 0, 0] S1x8x512.size (k0_pay13 (k0_pay5 qq (window k o8 S1x1x512x128.size i8)) (window σ.cs o10 S1x512x128.size i10)
            (window (put σ.mx ![0, 0, 0] S1x8x512.size (k0_pay10 (k0_pay8 (window σ.mx ![0, 0, 0] S1x8x512.size j0))
              (k0_pay9 qq (window k o8 S1x1x512x128.size i8) (window σ.cs o9 S1x512x128.size i9)))) ![1, 0, 0] S1x8x512.size j1)),
        ac := put (put σ.ac ![0, 0, 0] S1x80x512.size (k0_pay2 (window σ.s o4 S1x1x512x512.size i4) (window σ.mb ![0, 0, 0] S1x8x512.size j2)
            (window σ.ac ![0, 0, 0] S1x80x512.size j3) (window σ.vt o5 S1x1x80x512.size i5)))
          ![1, 0, 0] S1x80x512.size (k0_pay4 (k0_pay3 (window σ.s o6 S1x1x512x512.size i6) (window σ.mb ![1, 0, 0] S1x8x512.size j4))
            (window (put σ.ac ![0, 0, 0] S1x80x512.size (k0_pay2 (window σ.s o4 S1x1x512x512.size i4) (window σ.mb ![0, 0, 0] S1x8x512.size j2)
              (window σ.ac ![0, 0, 0] S1x80x512.size j3) (window σ.vt o5 S1x1x80x512.size i5))) ![1, 0, 0] S1x80x512.size j5)
            (window σ.vt o7 S1x1x80x512.size i7)) } := by
  subst h4 h5 h6 h7 h9 h10 hq
  have n8 : n < 8 := by omega
  have ni : n < i + 1 := by omega
  rw [hJ.set.cs0 n n8 i9, hJ.set.cs1 n n8 i10, hJ.set.vt0 n n8 i5, hJ.set.vt1 n n8 i7, blk_eq h8 n8,
    hJ.old0 n le_rfl hn i4, hJ.old1 n le_rfl hn i6, hJ.mb0 j2, hJ.mb1 j4, hJ.ac0 j3, hJ.mx0 j0]
  rw [At.ne hJ.mx1 0 (.inr (show (0 : ℕ) + 1 ≤ 1 by omega)) j1, At.ne hJ.ac1 0 (.inr (show (0 : ℕ) + 1 ≤ 1 by omega)) j5]
  refine ⟨⟨hJ.set.1, hJ.set.2, hJ.set.3, hJ.set.4, hJ.set.5⟩, ?_, ?_, ?_, ?_, ?_, ?_, hJ.mb0, hJ.mb1, ?_, ?_, hJ.out⟩
  · intro c hc hci
    exact At.ne (At.ne (hJ.old0 c (by omega) hci) 1 (show c + 1 ≤ n ∨ n + 1 ≤ c by omega)) 0 (show (0 : ℕ) + 1 ≤ 1 ∨ (1 : ℕ) + 1 ≤ 0 by omega)
  · intro c hc hci
    exact At.ne (At.ne (hJ.old1 c (by omega) hci) 1 (show c + 1 ≤ n ∨ n + 1 ≤ c by omega)) 1 (show c + 1 ≤ n ∨ n + 1 ≤ c by omega)
  · intro c hc
    refine At.ne ?_ 0 (show (0 : ℕ) + 1 ≤ 1 ∨ (1 : ℕ) + 1 ≤ 0 by omega)
    by_cases e : c = n
    · subst e
      exact At.same (by unfold Sc0; rw [if_pos ni])
    · exact At.ne (hJ.new0 c (by omega)) 1 (show c + 1 ≤ n ∨ n + 1 ≤ c by omega)
  · intro c hc
    by_cases e : c = n
    · subst e
      exact At.same (by unfold Sc1; rw [if_pos ni])
    · exact At.ne (At.ne (hJ.new1 c (by omega)) 1 (show c + 1 ≤ n ∨ n + 1 ≤ c by omega)) 1 (show c + 1 ≤ n ∨ n + 1 ≤ c by omega)
  · exact At.ne (At.same (by rw [M0, if_pos ni])) 0 (.inl (show (0 : ℕ) + 1 ≤ 1 by omega))
  · exact At.same (by rw [M1, if_pos ni])
  · exact At.ne (At.same rfl) 0 (.inl (show (0 : ℕ) + 1 ≤ 1 by omega))
  · exact At.same rfl

theorem vt_join {x : Vec F S8x2x80x512 .bf16} {c h : ℕ} {a : S1x1x64x512.Idx → Elt F .bf16} {b : S1x1x16x512.Idx → Elt F .bf16} :
    At (put (put x ![c, h, 0, 0] S1x1x64x512.size a) ![c, h, 64, 0] S1x1x16x512.size b) ![c, h, 0, 0] S1x1x80x512.size
      (put (s := S1x1x80x512) (put (s := S1x1x80x512) (constant S1x1x80x512 .bf16 0x0000#16) ![0, 0, 0, 0] S1x1x64x512.size a)
        ![0, 0, 64, 0] S1x1x16x512.size b) := by
  intro inb
  funext y
  have y0 : (y 0).val < 1 := (y 0).isLt
  have y1 : (y 1).val < 1 := (y 1).isLt
  have y2 : (y 2).val < 80 := (y 2).isLt
  have y3 : (y 3).val < 512 := (y 3).isLt
  unfold window put
  by_cases h64 : (y 2).val < 64
  · rw [dif_neg, dif_pos, dif_neg, dif_pos]
    · congr 1
      funext t
      apply Fin.ext
      fin_cases t
      · exact (show (c + 1 * (y 0).val) - c = (y 0).val - 0 by omega)
      · exact (show (h + 1 * (y 1).val) - h = (y 1).val - 0 by omega)
      · exact (show (0 + 1 * (y 2).val) - 0 = (y 2).val - 0 by omega)
      · exact (show (0 + 1 * (y 3).val) - 0 = (y 3).val - 0 by omega)
    · intro t; fin_cases t
      · exact (show 0 ≤ (y 0).val ∧ (y 0).val < 0 + 1 by omega)
      · exact (show 0 ≤ (y 1).val ∧ (y 1).val < 0 + 1 by omega)
      · exact (show 0 ≤ (y 2).val ∧ (y 2).val < 0 + 64 by omega)
      · exact (show 0 ≤ (y 3).val ∧ (y 3).val < 0 + 512 by omega)
    · intro hh
      have := (hh 2).1
      exact absurd (show 64 ≤ (y 2).val from this) (by omega)
    · intro t; fin_cases t
      · exact (show c ≤ (c + 1 * (y 0).val) ∧ (c + 1 * (y 0).val) < c + 1 by omega)
      · exact (show h ≤ (h + 1 * (y 1).val) ∧ (h + 1 * (y 1).val) < h + 1 by omega)
      · exact (show 0 ≤ (0 + 1 * (y 2).val) ∧ (0 + 1 * (y 2).val) < 0 + 64 by omega)
      · exact (show 0 ≤ (0 + 1 * (y 3).val) ∧ (0 + 1 * (y 3).val) < 0 + 512 by omega)
    · intro hh
      have := (hh 2).1
      exact absurd (show 64 ≤ 0 + 1 * (y 2).val from this) (by omega)
  · rw [dif_pos, dif_pos]
    · congr 1
      funext t
      apply Fin.ext
      fin_cases t
      · exact (show (c + 1 * (y 0).val) - c = (y 0).val - 0 by omega)
      · exact (show (h + 1 * (y 1).val) - h = (y 1).val - 0 by omega)
      · exact (show (0 + 1 * (y 2).val) - 64 = (y 2).val - 64 by omega)
      · exact (show (0 + 1 * (y 3).val) - 0 = (y 3).val - 0 by omega)
    · intro t; fin_cases t
      · exact (show 0 ≤ (y 0).val ∧ (y 0).val < 0 + 1 by omega)
      · exact (show 0 ≤ (y 1).val ∧ (y 1).val < 0 + 1 by omega)
      · exact (show 64 ≤ (y 2).val ∧ (y 2).val < 64 + 16 by omega)
      · exact (show 0 ≤ (y 3).val ∧ (y 3).val < 0 + 512 by omega)
    · intro t; fin_cases t
      · exact (show c ≤ (c + 1 * (y 0).val) ∧ (c + 1 * (y 0).val) < c + 1 by omega)
      · exact (show h ≤ (h + 1 * (y 1).val) ∧ (h + 1 * (y 1).val) < h + 1 by omega)
      · exact (show 64 ≤ (0 + 1 * (y 2).val) ∧ (0 + 1 * (y 2).val) < 64 + 16 by omega)
      · exact (show 0 ≤ (0 + 1 * (y 3).val) ∧ (0 + 1 * (y 3).val) < 0 + 512 by omega)

/-- One key block of the set-up. -/
theorem setup_step {σ : State F} {n : ℕ} (h : Setup v g n σ) (hn : n < 8)
    {a0 a1 : S1x1x64x512.Idx → Elt F .bf16} {b0 b1 : S1x1x16x512.Idx → Elt F .bf16} {c0 c1 : S1x512x128.Idx → Elt F .f32}
    (ha0 : a0 = k0_pay148 (blk v n)) (ha1 : a1 = k0_pay152 (k0_pay147 (blk v n))) (hb0 : b0 = k0_pay149 (F := F)) (hb1 : b1 = k0_pay149 (F := F))
    (hc0 : c0 = cs0 g n) (hc1 : c1 = cs1 g n) {m : ℕ} (hm : m = 512 * n) :
    Setup v g (n + 1) { σ with
      vt := put (put (put (put σ.vt ![n, 0, 0, 0] S1x1x64x512.size a0) ![n, 0, 64, 0] S1x1x16x512.size b0)
        ![n, 1, 0, 0] S1x1x64x512.size a1) ![n, 1, 64, 0] S1x1x16x512.size b1,
      cs := put (put σ.cs ![0, m, 0] S1x512x128.size c0) ![1, m, 0] S1x512x128.size c1 } := by
  subst hm ha0 ha1 hb0 hb1 hc0 hc1
  refine ⟨fun c hc => ?_, fun c hc => ?_, fun c hc => ?_, fun c hc => ?_, h.msk⟩
  · refine At.ne (At.ne ?_ 1 (.inl (show (0 : ℕ) + 1 ≤ 1 by omega))) 1 (.inl (show (0 : ℕ) + 1 ≤ 1 by omega))
    by_cases e : c = n
    · subst e; exact vt_join
    · exact At.ne (At.ne (h.vt0 c (by omega)) 0 (show c + 1 ≤ n ∨ n + 1 ≤ c by omega)) 0 (show c + 1 ≤ n ∨ n + 1 ≤ c by omega)
  · by_cases e : c = n
    · subst e; exact vt_join
    · exact At.ne (At.ne (At.ne (At.ne (h.vt1 c (by omega)) 0 (show c + 1 ≤ n ∨ n + 1 ≤ c by omega)) 0 (show c + 1 ≤ n ∨ n + 1 ≤ c by omega))
        0 (show c + 1 ≤ n ∨ n + 1 ≤ c by omega)) 0 (show c + 1 ≤ n ∨ n + 1 ≤ c by omega)
  · refine At.ne ?_ 0 (.inl (show (0 : ℕ) + 1 ≤ 1 by omega))
    by_cases e : c = n
    · subst e; exact At.same rfl
    · exact At.ne (h.cs0 c (by omega)) 1 (show 512 * c + 512 ≤ 512 * n ∨ 512 * n + 512 ≤ 512 * c by omega)
  · by_cases e : c = n
    · subst e; exact At.same rfl
    · exact At.ne (At.ne (h.cs1 c (by omega)) 0 (.inr (show (0 : ℕ) + 1 ≤ 1 by omega))) 1 (show 512 * c + 512 ≤ 512 * n ∨ 512 * n + 512 ≤ 512 * c by omega)

variable (q k v g)

/-- Before the scores of tile `i` against its own key block. -/
structure Pre (i : ℕ) (σ : State F) : Prop where
  set : Setup v g 8 σ
  s0 : ∀ c, c < i → At σ.s ![0, c, 0, 0] S1x1x512x512.size (Sc0 q k g i c)
  s1 : ∀ c, c < i → At σ.s ![1, c, 0, 0] S1x1x512x512.size (Sc1 q k g i c)
  mx0 : At σ.mx ![0, 0, 0] S1x8x512.size (M0 q k g i i)
  mx1 : At σ.mx ![1, 0, 0] S1x8x512.size (M1 q k g i i)

/-- After them. -/
structure Full (i : ℕ) (σ : State F) : Prop where
  set : Setup v g 8 σ
  s0 : ∀ c, c < i + 1 → At σ.s ![0, c, 0, 0] S1x1x512x512.size (Sc0 q k g i c)
  s1 : ∀ c, c < i + 1 → At σ.s ![1, c, 0, 0] S1x1x512x512.size (Sc1 q k g i c)
  mx0 : At σ.mx ![0, 0, 0] S1x8x512.size (M0 q k g i (i + 1))
  mx1 : At σ.mx ![1, 0, 0] S1x8x512.size (M1 q k g i (i + 1))

variable {q k v g}

theorem J.pre {i : ℕ} {σ : State F} (h : J q k v g i (i + 1) σ) : Pre q k v g (i + 1) σ := ⟨h.set, h.new0, h.new1, h.mx0, h.mx1⟩

theorem diag_step {σ : State F} {i : ℕ} (h : Pre q k v g i σ) (hi : i < 8) {qq : FVec F S128x1024 .bf16} (hq : qq = Qq q i)
    {o4 o6 o8 : Fin 4 → ℕ} {o9 o10 : Fin 3 → ℕ} (h4 : o4 = ![0, i, 0, 0]) (h6 : o6 = ![1, i, 0, 0])
    (h8 : o8 = ![0, 0, 512 * i, 0]) (h9 : o9 = ![0, 512 * i, 0]) (h10 : o10 = ![1, 512 * i, 0]) {i8 i9 i10 j0 j1 jm} :
    Full q k v g i
      { σ with
        s := put (put σ.s o4 S1x1x512x512.size (k0_pay131 qq (window k o8 S1x1x512x128.size i8) (window σ.cs o9 S1x512x128.size i9) (window σ.msk ![0, 0] S512x512.size jm)))
          o6 S1x1x512x512.size (k0_pay134 (k0_pay129 qq (window k o8 S1x1x512x128.size i8)) (window σ.cs o10 S1x512x128.size i10) (window σ.msk ![0, 0] S512x512.size jm)),
        mx := put (put σ.mx ![0, 0, 0] S1x8x512.size (k0_pay132 qq (window k o8 S1x1x512x128.size i8) (window σ.cs o9 S1x512x128.size i9)
            (window σ.msk ![0, 0] S512x512.size jm) (window σ.mx ![0, 0, 0] S1x8x512.size j0)))
          ![1, 0, 0] S1x8x512.size (k0_pay135 (k0_pay129 qq (window k o8 S1x1x512x128.size i8)) (window σ.cs o10 S1x512x128.size i10)
            (window σ.msk ![0, 0] S512x512.size jm)
            (window (put σ.mx ![0, 0, 0] S1x8x512.size (k0_pay132 qq (window k o8 S1x1x512x128.size i8) (window σ.cs o9 S1x512x128.size i9)
              (window σ.msk ![0, 0] S512x512.size jm) (window σ.mx ![0, 0, 0] S1x8x512.size j0))) ![1, 0, 0] S1x8x512.size j1)) } := by
  subst h4 h6 h9 h10 hq
  have nn : ¬ i < i := lt_irrefl i
  rw [h.set.cs0 i hi i9, h.set.cs1 i hi i10, blk_eq h8 hi, h.mx0 j0, h.set.msk jm]
  rw [At.ne h.mx1 0 (.inr (show (0 : ℕ) + 1 ≤ 1 by omega)) j1]
  refine ⟨⟨h.set.1, h.set.2, h.set.3, h.set.4, h.set.5⟩, ?_, ?_, ?_, ?_⟩
  · intro c hc
    refine At.ne ?_ 0 (show (0 : ℕ) + 1 ≤ 1 ∨ (1 : ℕ) + 1 ≤ 0 by omega)
    by_cases e : c = i
    · subst e
      exact At.same (by unfold Sc0; rw [if_neg nn])
    · exact At.ne (h.s0 c (by omega)) 1 (show c + 1 ≤ i ∨ i + 1 ≤ c by omega)
  · intro c hc
    by_cases e : c = i
    · subst e
      exact At.same (by unfold Sc1; rw [if_neg nn])
    · exact At.ne (At.ne (h.s1 c (by omega)) 1 (show c + 1 ≤ i ∨ i + 1 ≤ c by omega)) 1 (show c + 1 ≤ i ∨ i + 1 ≤ c by omega)
  · exact At.ne (At.same (by rw [M0, if_neg nn])) 0 (.inl (show (0 : ℕ) + 1 ≤ 1 by omega))
  · exact At.same (by rw [M1, if_neg nn])

theorem at_const {s : Shape} {α : Type} {x : s.Idx → α} {off size off' size' : Fin s.rank → ℕ} {w : ((a : Fin s.rank) → Fin (size a)) → α} {a : α}
    (hw : w = fun _ => a) (h : ∀ a, off a ≤ off' a ∧ off' a + size' a ≤ off a + size a) :
    At (put x off size w) off' size' (fun _ => a) := At.inside h fun inb => by subst hw; rfl

/-- The shifts are set from the maxima, the maxima and the accumulators anew. -/
theorem finish_step {σ : State F} {i : ℕ} (h : Full q k v g i σ) (hi : i < 8) {x : Vec F S1x1x4096x128 .bf16}
    (ho : ∀ c, c < i → At x ![0, 0, 512 * c, 0] S1x1x512x128.size (Out q k v g c)) {ct0 ct1 : FVec F S1x512 .f32}
    (h0 : ct0 = k0_pay121 (gate0 g i)) (h1 : ct1 = k0_pay122 (gate1 g i)) {wm : S2x8x512.Idx → Elt F .f32} {wa : S2x80x512.Idx → Elt F .f32}
    (hm : wm = fun _ => Named.named κ "mask" 0xF149F2CA#32) (ha : wa = fun _ => Scalar.ofBits .f32 0x00000000#32) {j0 j1} :
    J q k v g i 0
      { σ with
        o := x,
        mx := put σ.mx ![0, 0, 0] S2x8x512.size wm,
        mb := put (put σ.mb ![0, 0, 0] S1x8x512.size (k0_pay139 ct0 (window σ.mx ![0, 0, 0] S1x8x512.size j0)))
          ![1, 0, 0] S1x8x512.size (k0_pay140 ct1 (window σ.mx ![1, 0, 0] S1x8x512.size j1)),
        ac := put σ.ac ![0, 0, 0] S2x80x512.size wa } := by
  subst h0 h1
  rw [h.mx0 j0, h.mx1 j1]
  refine ⟨⟨h.set.1, h.set.2, h.set.3, h.set.4, h.set.5⟩, fun c _ hc => h.s0 c (by omega), fun c _ hc => h.s1 c (by omega),
    fun c hc => absurd hc (by omega), fun c hc => absurd hc (by omega), ?_, ?_, ?_, ?_, ?_, ?_, ho⟩
  · exact at_const hm (by decide)
  · exact at_const hm (by decide)
  · exact At.ne (At.same rfl) 0 (.inl (show (0 : ℕ) + 1 ≤ 1 by omega))
  · exact At.same rfl
  · exact at_const ha (by decide)
  · exact at_const ha (by decide)

/-- The block written out of the accumulators. -/
theorem out_eq {i : ℕ} {ac : Vec F S2x80x512 .f32} (h0 : At ac ![0, 0, 0] S1x80x512.size (A0 q k v g i (i + 1)))
    (h1 : At ac ![1, 0, 0] S1x80x512.size (A1 q k v g i (i + 1))) {j0 j1 j2 j3} :
    k0_pay138 (k0_pay136 (window ac ![0, 0, 0] S1x64x512.size j0) (window ac ![0, 64, 0] S1x1x512.size j1))
      (k0_pay137 (window ac ![1, 0, 0] S1x64x512.size j2)) (window ac ![1, 64, 0] S1x1x512.size j3) = Out q k v g i := by
  unfold Out
  rw [At.sub (d := ![0, 0, 0]) h0 (by decide) (by decide) (by decide), At.sub (d := ![0, 64, 0]) h0 (by decide) (by decide) (by decide),
    At.sub (d := ![0, 0, 0]) h1 (by decide) (by decide) (by decide), At.sub (d := ![0, 64, 0]) h1 (by decide) (by decide) (by decide)]

theorem out_put {n : ℕ} {x : Vec F S1x1x4096x128 .bf16} {off : Fin 4 → ℕ} {w : Vec F S1x1x512x128 .bf16} (hoff : off = ![0, 0, 512 * n, 0])
    (ho : ∀ c, c < n → At x ![0, 0, 512 * c, 0] S1x1x512x128.size (Out q k v g c)) (hw : w = Out q k v g n) :
    ∀ c, c < n + 1 → At (put x off S1x1x512x128.size w) ![0, 0, 512 * c, 0] S1x1x512x128.size (Out q k v g c) := by
  subst hoff
  intro c hc
  by_cases e : c = n
  · subst e; exact At.same hw
  · exact At.ne (ho c (by omega)) 2 (show 512 * c + 512 ≤ 512 * n ∨ 512 * n + 512 ≤ 512 * c by omega)

end Cert.Proof.Fox
-- ==== Proof.Fox.Offsets.lean ====
/-
  The offsets of the attention kernel's loads and stores in closed form, decided over the finitely many trips of its loops.
-/
module

public import proofs.«01_k».proof.Proof.Fox.Model

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open VecWindow (window put)

variable {F : FTy → Type} [FloatOps F] [Named F]

theorem off1_eq : ∀ (t : Fin k0_t1_loop.trips), k0_off1 t = ![0, 0, 512 * (t.val + 1), 0] := by decide +kernel
theorem off2_eq : ∀ (t : Fin k0_t1_loop.trips), k0_off2 t = ![0, 0, t.val + 1, 0] := by decide +kernel
theorem off3_eq : ∀ (t : Fin k0_t1_loop.trips), k0_off3 t = ![0, 1, t.val + 1, 0] := by decide +kernel
theorem off4_0_eq : ∀ (t : Fin k0_t1_loop.trips) (u : Fin (k0_t2_loop t).trips), k0_off4 t u 0#32 = ![0, (4 * u.val + 0), 0, 0] := by decide +kernel
theorem off4_1_eq : ∀ (t : Fin k0_t1_loop.trips) (u : Fin (k0_t2_loop t).trips), k0_off4 t u 1#32 = ![0, (4 * u.val + 1), 0, 0] := by decide +kernel
theorem off4_2_eq : ∀ (t : Fin k0_t1_loop.trips) (u : Fin (k0_t2_loop t).trips), k0_off4 t u 2#32 = ![0, (4 * u.val + 2), 0, 0] := by decide +kernel
theorem off4_3_eq : ∀ (t : Fin k0_t1_loop.trips) (u : Fin (k0_t2_loop t).trips), k0_off4 t u 3#32 = ![0, (4 * u.val + 3), 0, 0] := by decide +kernel
theorem off5_0_eq : ∀ (t : Fin k0_t1_loop.trips) (u : Fin (k0_t2_loop t).trips), k0_off5 t u 0#32 = ![(4 * u.val + 0), 0, 0, 0] := by decide +kernel
theorem off5_1_eq : ∀ (t : Fin k0_t1_loop.trips) (u : Fin (k0_t2_loop t).trips), k0_off5 t u 1#32 = ![(4 * u.val + 1), 0, 0, 0] := by decide +kernel
theorem off5_2_eq : ∀ (t : Fin k0_t1_loop.trips) (u : Fin (k0_t2_loop t).trips), k0_off5 t u 2#32 = ![(4 * u.val + 2), 0, 0, 0] := by decide +kernel
theorem off5_3_eq : ∀ (t : Fin k0_t1_loop.trips) (u : Fin (k0_t2_loop t).trips), k0_off5 t u 3#32 = ![(4 * u.val + 3), 0, 0, 0] := by decide +kernel
theorem off6_0_eq : ∀ (t : Fin k0_t1_loop.trips) (u : Fin (k0_t2_loop t).trips), k0_off6 t u 0#32 = ![1, (4 * u.val + 0), 0, 0] := by decide +kernel
theorem off6_1_eq : ∀ (t : Fin k0_t1_loop.trips) (u : Fin (k0_t2_loop t).trips), k0_off6 t u 1#32 = ![1, (4 * u.val + 1), 0, 0] := by decide +kernel
theorem off6_2_eq : ∀ (t : Fin k0_t1_loop.trips) (u : Fin (k0_t2_loop t).trips), k0_off6 t u 2#32 = ![1, (4 * u.val + 2), 0, 0] := by decide +kernel
theorem off6_3_eq : ∀ (t : Fin k0_t1_loop.trips) (u : Fin (k0_t2_loop t).trips), k0_off6 t u 3#32 = ![1, (4 * u.val + 3), 0, 0] := by decide +kernel
theorem off7_0_eq : ∀ (t : Fin k0_t1_loop.trips) (u : Fin (k0_t2_loop t).trips), k0_off7 t u 0#32 = ![(4 * u.val + 0), 1, 0, 0] := by decide +kernel
theorem off7_1_eq : ∀ (t : Fin k0_t1_loop.trips) (u : Fin (k0_t2_loop t).trips), k0_off7 t u 1#32 = ![(4 * u.val + 1), 1, 0, 0] := by decide +kernel
theorem off7_2_eq : ∀ (t : Fin k0_t1_loop.trips) (u : Fin (k0_t2_loop t).trips), k0_off7 t u 2#32 = ![(4 * u.val + 2), 1, 0, 0] := by decide +kernel
theorem off7_3_eq : ∀ (t : Fin k0_t1_loop.trips) (u : Fin (k0_t2_loop t).trips), k0_off7 t u 3#32 = ![(4 * u.val + 3), 1, 0, 0] := by decide +kernel
theorem off8_0_eq : ∀ (t : Fin k0_t1_loop.trips) (u : Fin (k0_t2_loop t).trips), k0_off8 t u 0#32 = ![0, 0, 512 * (4 * u.val + 0), 0] := by decide +kernel
theorem off8_1_eq : ∀ (t : Fin k0_t1_loop.trips) (u : Fin (k0_t2_loop t).trips), k0_off8 t u 1#32 = ![0, 0, 512 * (4 * u.val + 1), 0] := by decide +kernel
theorem off8_2_eq : ∀ (t : Fin k0_t1_loop.trips) (u : Fin (k0_t2_loop t).trips), k0_off8 t u 2#32 = ![0, 0, 512 * (4 * u.val + 2), 0] := by decide +kernel
theorem off8_3_eq : ∀ (t : Fin k0_t1_loop.trips) (u : Fin (k0_t2_loop t).trips), k0_off8 t u 3#32 = ![0, 0, 512 * (4 * u.val + 3), 0] := by decide +kernel
theorem off9_0_eq : ∀ (t : Fin k0_t1_loop.trips) (u : Fin (k0_t2_loop t).trips), k0_off9 t u 0#32 = ![0, 512 * (4 * u.val + 0), 0] := by decide +kernel
theorem off9_1_eq : ∀ (t : Fin k0_t1_loop.trips) (u : Fin (k0_t2_loop t).trips), k0_off9 t u 1#32 = ![0, 512 * (4 * u.val + 1), 0] := by decide +kernel
theorem off9_2_eq : ∀ (t : Fin k0_t1_loop.trips) (u : Fin (k0_t2_loop t).trips), k0_off9 t u 2#32 = ![0, 512 * (4 * u.val + 2), 0] := by decide +kernel
theorem off9_3_eq : ∀ (t : Fin k0_t1_loop.trips) (u : Fin (k0_t2_loop t).trips), k0_off9 t u 3#32 = ![0, 512 * (4 * u.val + 3), 0] := by decide +kernel
theorem off10_0_eq : ∀ (t : Fin k0_t1_loop.trips) (u : Fin (k0_t2_loop t).trips), k0_off10 t u 0#32 = ![1, 512 * (4 * u.val + 0), 0] := by decide +kernel
theorem off10_1_eq : ∀ (t : Fin k0_t1_loop.trips) (u : Fin (k0_t2_loop t).trips), k0_off10 t u 1#32 = ![1, 512 * (4 * u.val + 1), 0] := by decide +kernel
theorem off10_2_eq : ∀ (t : Fin k0_t1_loop.trips) (u : Fin (k0_t2_loop t).trips), k0_off10 t u 2#32 = ![1, 512 * (4 * u.val + 2), 0] := by decide +kernel
theorem off10_3_eq : ∀ (t : Fin k0_t1_loop.trips) (u : Fin (k0_t2_loop t).trips), k0_off10 t u 3#32 = ![1, 512 * (4 * u.val + 3), 0] := by decide +kernel
theorem off18_eq : ∀ (t : Fin k0_t1_loop.trips), k0_cond1 t = 1#1 → k0_off18 t = ![0, (4 * ((t.val + 1) / 4)), 0, 0] := by decide +kernel
theorem off19_eq : ∀ (t : Fin k0_t1_loop.trips), k0_cond1 t = 1#1 → k0_off19 t = ![(4 * ((t.val + 1) / 4)), 0, 0, 0] := by decide +kernel
theorem off20_eq : ∀ (t : Fin k0_t1_loop.trips), k0_cond1 t = 1#1 → k0_off20 t = ![1, (4 * ((t.val + 1) / 4)), 0, 0] := by decide +kernel
theorem off21_eq : ∀ (t : Fin k0_t1_loop.trips), k0_cond1 t = 1#1 → k0_off21 t = ![(4 * ((t.val + 1) / 4)), 1, 0, 0] := by decide +kernel
theorem off22_eq : ∀ (t : Fin k0_t1_loop.trips), k0_cond1 t = 1#1 → k0_off22 t = ![0, 0, 512 * (4 * ((t.val + 1) / 4)), 0] := by decide +kernel
theorem off23_eq : ∀ (t : Fin k0_t1_loop.trips), k0_cond1 t = 1#1 → k0_off23 t = ![0, 512 * (4 * ((t.val + 1) / 4)), 0] := by decide +kernel
theorem off24_eq : ∀ (t : Fin k0_t1_loop.trips), k0_cond1 t = 1#1 → k0_off24 t = ![1, 512 * (4 * ((t.val + 1) / 4)), 0] := by decide +kernel
theorem off25_eq : ∀ (t : Fin k0_t1_loop.trips), k0_cond1 t = 1#1 → k0_off25 t = ![0, (4 * ((t.val + 1) / 4) + 1), 0, 0] := by decide +kernel
theorem off26_eq : ∀ (t : Fin k0_t1_loop.trips), k0_cond1 t = 1#1 → k0_off26 t = ![(4 * ((t.val + 1) / 4) + 1), 0, 0, 0] := by decide +kernel
theorem off27_eq : ∀ (t : Fin k0_t1_loop.trips), k0_cond1 t = 1#1 → k0_off27 t = ![1, (4 * ((t.val + 1) / 4) + 1), 0, 0] := by decide +kernel
theorem off28_eq : ∀ (t : Fin k0_t1_loop.trips), k0_cond1 t = 1#1 → k0_off28 t = ![(4 * ((t.val + 1) / 4) + 1), 1, 0, 0] := by decide +kernel
theorem off29_eq : ∀ (t : Fin k0_t1_loop.trips), k0_cond1 t = 1#1 → k0_off29 t = ![0, 0, 512 * (4 * ((t.val + 1) / 4) + 1), 0] := by decide +kernel
theorem off30_eq : ∀ (t : Fin k0_t1_loop.trips), k0_cond1 t = 1#1 → k0_off30 t = ![0, 512 * (4 * ((t.val + 1) / 4) + 1), 0] := by decide +kernel
theorem off31_eq : ∀ (t : Fin k0_t1_loop.trips), k0_cond1 t = 1#1 → k0_off31 t = ![1, 512 * (4 * ((t.val + 1) / 4) + 1), 0] := by decide +kernel
theorem off32_eq : ∀ (t : Fin k0_t1_loop.trips), k0_cond2 t = 1#1 → k0_off32 t = ![0, t.val, 0, 0] := by decide +kernel
theorem off33_eq : ∀ (t : Fin k0_t1_loop.trips), k0_cond2 t = 1#1 → k0_off33 t = ![t.val, 0, 0, 0] := by decide +kernel
theorem off34_eq : ∀ (t : Fin k0_t1_loop.trips), k0_cond2 t = 1#1 → k0_off34 t = ![1, t.val, 0, 0] := by decide +kernel
theorem off35_eq : ∀ (t : Fin k0_t1_loop.trips), k0_cond2 t = 1#1 → k0_off35 t = ![t.val, 1, 0, 0] := by decide +kernel
theorem off36_eq : ∀ (t : Fin k0_t1_loop.trips), k0_cond2 t = 1#1 → k0_off36 t = ![0, 0, 512 * t.val, 0] := by decide +kernel
theorem off37_eq : ∀ (t : Fin k0_t1_loop.trips), k0_cond2 t = 1#1 → k0_off37 t = ![0, 512 * t.val, 0] := by decide +kernel
theorem off38_eq : ∀ (t : Fin k0_t1_loop.trips), k0_cond2 t = 1#1 → k0_off38 t = ![1, 512 * t.val, 0] := by decide +kernel
theorem off39_eq : ∀ (t : Fin k0_t1_loop.trips), k0_off39 t = ![0, 512 * (t.val + 1), 0] := by decide +kernel
theorem off40_eq : ∀ (t : Fin k0_t1_loop.trips), k0_off40 t = ![0, (t.val + 1), 0, 0] := by decide +kernel
theorem off41_eq : ∀ (t : Fin k0_t1_loop.trips), k0_off41 t = ![1, 512 * (t.val + 1), 0] := by decide +kernel
theorem off42_eq : ∀ (t : Fin k0_t1_loop.trips), k0_off42 t = ![1, (t.val + 1), 0, 0] := by decide +kernel
theorem off43_eq : ∀ (t : Fin k0_t1_loop.trips), k0_off43 t = ![0, 0, 512 * t.val, 0] := by decide +kernel
theorem off44_eq : ∀ (t : Fin k0_t4_loop.trips), k0_off44 t = ![0, t.val, 0, 0] := by decide +kernel
theorem off45_eq : ∀ (t : Fin k0_t4_loop.trips), k0_off45 t = ![t.val, 0, 0, 0] := by decide +kernel
theorem off46_eq : ∀ (t : Fin k0_t4_loop.trips), k0_off46 t = ![1, t.val, 0, 0] := by decide +kernel
theorem off47_eq : ∀ (t : Fin k0_t4_loop.trips), k0_off47 t = ![t.val, 1, 0, 0] := by decide +kernel

theorem t1_trips : k0_t1_loop.trips = 7 := by decide +kernel
theorem t4_trips : k0_t4_loop.trips = 8 := by decide +kernel
theorem t2_trips : ∀ (t : Fin k0_t1_loop.trips), (k0_t2_loop t).trips = (t.val + 1) / 4 := by decide +kernel
theorem t3_trips : ∀ (t : Fin k0_t1_loop.trips), (k0_t3_loop t).trips = 0 := by decide +kernel
theorem cond1_val : ∀ (t : Fin k0_t1_loop.trips), k0_cond1 t = 1#1 → 4 * ((t.val + 1) / 4) + 2 = 2 * ((t.val + 1) / 2) := by decide +kernel
theorem cond1_not : ∀ (t : Fin k0_t1_loop.trips), ¬ k0_cond1 t = 1#1 → 4 * ((t.val + 1) / 4) = 2 * ((t.val + 1) / 2) := by decide +kernel
theorem cond2_val : ∀ (t : Fin k0_t1_loop.trips), k0_cond2 t = 1#1 → 2 * ((t.val + 1) / 2) = t.val := by decide +kernel
theorem cond2_not : ∀ (t : Fin k0_t1_loop.trips), ¬ k0_cond2 t = 1#1 → 2 * ((t.val + 1) / 2) = t.val + 1 := by decide +kernel

end Cert.Proof.Fox
-- ==== Proof.Fox.RunInner.lean ====
/-
  One trip of the inner loop of the attention kernel: four key blocks, each the weights of one tile and the scores of the next.
-/
module

public import proofs.«01_k».proof.Proof.Fox.Offsets

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open VecWindow (window put)

variable {F : FTy → Type} [FloatOps F] [Named F]

variable {c : Dev nD} {i : grid0.Coords}
  {arg2 : Memref sig .tc .vmem S1x1x4096x128 .bf16} {harg2 : arg2.IsWhole} {arg3 : Memref sig .tc .vmem S1x1x4096x128 .bf16} {harg3 : arg3.IsWhole} {arg4 : Memref sig .tc .vmem S1x1x4096x128 .bf16} {harg4 : arg4.IsWhole} {arg5 : Memref sig .tc .vmem S1x2x8x512 .f32} {harg5 : arg5.IsWhole} {arg6 : Memref sig .tc .vmem S1x1x4096x128 .bf16} {harg6 : arg6.IsWhole} {arg7 : Memref sig .tc .vmem S2x8x512x512 .f32} {harg7 : arg7.IsWhole} {arg8 : Memref sig .tc .vmem S8x2x80x512 .bf16} {harg8 : arg8.IsWhole} {arg9 : Memref sig .tc .vmem S2x4096x128 .f32} {harg9 : arg9.IsWhole} {arg10 : Memref sig .tc .vmem S512x512 .f32} {harg10 : arg10.IsWhole} {arg11 : Memref sig .tc .vmem S2x8x512 .f32} {harg11 : arg11.IsWhole} {arg12 : Memref sig .tc .vmem S2x8x512 .f32} {harg12 : arg12.IsWhole} {arg13 : Memref sig .tc .vmem S2x80x512 .f32} {harg13 : arg13.IsWhole}
  {q k v : Vec F S1x1x4096x128 .bf16} {g : Vec F S1x2x8x512 .f32}

set_option maxHeartbeats 4000000 in
theorem run_t2 (t : Fin k0_t1_loop.trips) (u : Fin (k0_t2_loop t).trips) {v415 : Vec F S1x1x512x128 .bf16}
    (hq : k0_pay120 k0_pay144 v415 = Qq q (t.val + 1)) (σ : State F) (hJ : J q k v g t.val (4 * u.val) σ) :
    T c arg2 arg3 arg4 arg5 arg6 arg7 arg8 arg9 arg10 arg11 arg12 arg13 q k v g σ (k0_t2_body i arg2 harg2 arg3 harg3 arg4 harg4 arg5 harg5 arg6 harg6 arg7 harg7 arg8 harg8 arg9 harg9 arg10 harg10 arg11 harg11 arg12 harg12 arg13 harg13 k0_pay144 0#32 1#32 t v415 u ())
      (fun _ σ' => J q k v g t.val (4 * (u.val + 1)) σ') := by
  have ht : t.val < 7 := lt_of_lt_of_eq t.isLt t1_trips
  have hu : u.val < (t.val + 1) / 4 := lt_of_lt_of_eq u.isLt (t2_trips t)
  unfold k0_t2_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  apply T.assoc
  apply T.load7
  apply T.assoc
  apply T.load12
  apply T.assoc
  apply T.load13
  apply T.assoc
  apply T.load8
  apply T.assoc
  apply T.load13
  apply T.assoc
  apply T.store13
  apply T.assoc
  apply T.load7
  apply T.assoc
  apply T.load12
  apply T.ret
  apply T.assoc
  apply T.load13
  apply T.assoc
  apply T.load8
  apply T.assoc
  apply T.load13
  apply T.assoc
  apply T.store13
  apply T.assoc
  apply T.load3
  apply T.assoc
  apply T.load9
  apply T.assoc
  apply T.load7
  apply T.assoc
  apply T.store7
  apply T.assoc
  apply T.load11
  apply T.ret
  apply T.assoc
  apply T.load11
  apply T.assoc
  apply T.store11
  apply T.assoc
  apply T.load9
  apply T.assoc
  apply T.load7
  apply T.assoc
  apply T.store7
  apply T.assoc
  apply T.load11
  apply T.assoc
  apply T.load11
  apply T.assoc
  apply T.store11
  refine T.gen (J q k v g t.val (4 * u.val + 0 + 1)) (both_step hJ ht (by omega) hq (off4_0_eq t u) (off5_0_eq t u) (off6_0_eq t u) (off7_0_eq t u) (off8_0_eq t u) (off9_0_eq t u) (off10_0_eq t u)) fun σ hJ => ?_
  apply T.assoc
  apply T.load7
  apply T.assoc
  apply T.load12
  apply T.ret
  apply T.assoc
  apply T.load13
  apply T.assoc
  apply T.load8
  apply T.assoc
  apply T.load13
  apply T.assoc
  apply T.store13
  apply T.assoc
  apply T.load7
  apply T.assoc
  apply T.load12
  apply T.assoc
  apply T.load13
  apply T.assoc
  apply T.load8
  apply T.ret
  apply T.assoc
  apply T.load13
  apply T.assoc
  apply T.store13
  apply T.assoc
  apply T.load3
  apply T.assoc
  apply T.load9
  apply T.assoc
  apply T.load7
  apply T.assoc
  apply T.store7
  apply T.assoc
  apply T.load11
  apply T.assoc
  apply T.load11
  apply T.assoc
  apply T.store11
  apply T.assoc
  apply T.load9
  apply T.ret
  apply T.assoc
  apply T.load7
  apply T.assoc
  apply T.store7
  apply T.assoc
  apply T.load11
  apply T.assoc
  apply T.load11
  apply T.assoc
  apply T.store11
  refine T.gen (J q k v g t.val (4 * u.val + 1 + 1)) (both_step hJ ht (by omega) hq (off4_1_eq t u) (off5_1_eq t u) (off6_1_eq t u) (off7_1_eq t u) (off8_1_eq t u) (off9_1_eq t u) (off10_1_eq t u)) fun σ hJ => ?_
  apply T.assoc
  apply T.load7
  apply T.assoc
  apply T.load12
  apply T.assoc
  apply T.load13
  apply T.assoc
  apply T.load8
  apply T.ret
  apply T.assoc
  apply T.load13
  apply T.assoc
  apply T.store13
  apply T.assoc
  apply T.load7
  apply T.assoc
  apply T.load12
  apply T.assoc
  apply T.load13
  apply T.assoc
  apply T.load8
  apply T.assoc
  apply T.load13
  apply T.assoc
  apply T.store13
  apply T.assoc
  apply T.load3
  apply T.ret
  apply T.assoc
  apply T.load9
  apply T.assoc
  apply T.load7
  apply T.assoc
  apply T.store7
  apply T.assoc
  apply T.load11
  apply T.assoc
  apply T.load11
  apply T.assoc
  apply T.store11
  apply T.assoc
  apply T.load9
  apply T.assoc
  apply T.load7
  apply T.assoc
  apply T.store7
  apply T.ret
  apply T.assoc
  apply T.load11
  apply T.assoc
  apply T.load11
  apply T.assoc
  apply T.store11
  refine T.gen (J q k v g t.val (4 * u.val + 2 + 1)) (both_step hJ ht (by omega) hq (off4_2_eq t u) (off5_2_eq t u) (off6_2_eq t u) (off7_2_eq t u) (off8_2_eq t u) (off9_2_eq t u) (off10_2_eq t u)) fun σ hJ => ?_
  apply T.assoc
  apply T.load7
  apply T.assoc
  apply T.load12
  apply T.assoc
  apply T.load13
  apply T.assoc
  apply T.load8
  apply T.assoc
  apply T.load13
  apply T.assoc
  apply T.store13
  apply T.ret
  apply T.assoc
  apply T.load7
  apply T.assoc
  apply T.load12
  apply T.assoc
  apply T.load13
  apply T.assoc
  apply T.load8
  apply T.assoc
  apply T.load13
  apply T.assoc
  apply T.store13
  apply T.assoc
  apply T.load3
  apply T.assoc
  apply T.load9
  apply T.ret
  apply T.assoc
  apply T.load7
  apply T.assoc
  apply T.store7
  apply T.assoc
  apply T.load11
  apply T.assoc
  apply T.load11
  apply T.assoc
  apply T.store11
  apply T.assoc
  apply T.load9
  apply T.assoc
  apply T.load7
  apply T.assoc
  apply T.store7
  apply T.assoc
  apply T.load11
  apply T.assoc
  apply T.load11
  apply T.ret
  apply T.store11
  refine T.gen (J q k v g t.val (4 * u.val + 3 + 1)) (both_step hJ ht (by omega) hq (off4_3_eq t u) (off5_3_eq t u) (off6_3_eq t u) (off7_3_eq t u) (off8_3_eq t u) (off9_3_eq t u) (off10_3_eq t u)) fun σ hJ => ?_
  apply T.pure
  exact hJ

end Cert.Proof.Fox
-- ==== Proof.Fox.RunOuter.lean ====
/-
  One trip of the attention kernel's loop over the query tiles.
-/
module

public import proofs.«01_k».proof.Proof.Fox.RunInner

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open VecWindow (window put)

variable {F : FTy → Type} [FloatOps F] [Named F]

variable {c : Dev nD} {i : grid0.Coords}
  {arg2 : Memref sig .tc .vmem S1x1x4096x128 .bf16} {harg2 : arg2.IsWhole} {arg3 : Memref sig .tc .vmem S1x1x4096x128 .bf16} {harg3 : arg3.IsWhole} {arg4 : Memref sig .tc .vmem S1x1x4096x128 .bf16} {harg4 : arg4.IsWhole} {arg5 : Memref sig .tc .vmem S1x2x8x512 .f32} {harg5 : arg5.IsWhole} {arg6 : Memref sig .tc .vmem S1x1x4096x128 .bf16} {harg6 : arg6.IsWhole} {arg7 : Memref sig .tc .vmem S2x8x512x512 .f32} {harg7 : arg7.IsWhole} {arg8 : Memref sig .tc .vmem S8x2x80x512 .bf16} {harg8 : arg8.IsWhole} {arg9 : Memref sig .tc .vmem S2x4096x128 .f32} {harg9 : arg9.IsWhole} {arg10 : Memref sig .tc .vmem S512x512 .f32} {harg10 : arg10.IsWhole} {arg11 : Memref sig .tc .vmem S2x8x512 .f32} {harg11 : arg11.IsWhole} {arg12 : Memref sig .tc .vmem S2x8x512 .f32} {harg12 : arg12.IsWhole} {arg13 : Memref sig .tc .vmem S2x80x512 .f32} {harg13 : arg13.IsWhole}
  {q k v : Vec F S1x1x4096x128 .bf16} {g : Vec F S1x2x8x512 .f32}

/-- A conditional whose other branch is the rest of the program. -/
theorem T.cond {σ : State F} {α β : Type} {Φ : α → State F → Prop} {P : Prop} [Decidable P] {A : P → Prog (TpuEff nD τ sig (Elt F) Λ₀ .tc) β}
    {B : Prog (TpuEff nD τ sig (Elt F) Λ₀ .tc) β} {kk : β → Prog (TpuEff nD τ sig (Elt F) Λ₀ .tc) α} (Ψ : State F → Prop)
    (hB : ¬ P → Ψ σ) (hA : ∀ h : P, (∀ σ', Ψ σ' → T c arg2 arg3 arg4 arg5 arg6 arg7 arg8 arg9 arg10 arg11 arg12 arg13 q k v g σ' (B >>= kk) Φ) → T c arg2 arg3 arg4 arg5 arg6 arg7 arg8 arg9 arg10 arg11 arg12 arg13 q k v g σ (A h >>= kk) Φ)
    (hk : ∀ σ', Ψ σ' → T c arg2 arg3 arg4 arg5 arg6 arg7 arg8 arg9 arg10 arg11 arg12 arg13 q k v g σ' (B >>= kk) Φ) :
    T c arg2 arg3 arg4 arg5 arg6 arg7 arg8 arg9 arg10 arg11 arg12 arg13 q k v g σ ((if h : P then A h else B) >>= kk) Φ := by
  by_cases h : P
  · rw [dif_pos h]; exact hA h hk
  · rw [dif_neg h]; exact hk σ (hB h)

set_option maxHeartbeats 4000000 in
set_option pp.maxSteps 150 in
theorem run_t1 (t : Fin k0_t1_loop.trips) {v376 : FVec F S1x8x512 .f32} (σ : State F) (hJ : J q k v g t.val 0 σ) :
    T c arg2 arg3 arg4 arg5 arg6 arg7 arg8 arg9 arg10 arg11 arg12 arg13 q k v g σ (k0_t1_body i arg2 harg2 arg3 harg3 arg4 harg4 arg5 harg5 arg6 harg6 arg7 harg7 arg8 harg8 arg9 harg9 arg10 harg10 arg11 harg11 arg12 harg12 arg13 harg13 k0_pay144 v376 t ())
      (fun _ σ' => J q k v g (t.val + 1) 0 σ') := by
  have ht : t.val < 7 := lt_of_lt_of_eq t.isLt t1_trips
  unfold k0_t1_body
  rw [k0_part30_eq_skeleton, k0_part31_eq_skeleton, k0_part32_eq_skeleton, k0_part33_eq_skeleton]
  unfold k0_part30_skel k0_part31_skel k0_part32_skel k0_part33_skel
  rw [k0_part23_eq_skeleton, k0_part24_eq_skeleton, k0_part25_eq_skeleton, k0_part26_eq_skeleton, k0_part27_eq_skeleton, k0_part28_eq_skeleton, k0_part29_eq_skeleton]
  unfold k0_part23_skel k0_part24_skel k0_part25_skel k0_part26_skel k0_part27_skel k0_part28_skel k0_part29_skel
  have hq : k0_pay120 k0_pay144 (window q (k0_off1 t) S1x1x512x128.size (k0_off1_inb t)) = Qq q (t.val + 1) := by
    rw [blk_eq (off1_eq t) (by omega)]; rfl
  apply T.assoc
  apply T.load2
  apply T.assoc
  apply T.load5
  apply T.assoc
  apply T.load5
  apply T.assoc
  refine T.loop (fun n σ => J q k v g t.val (4 * n) σ) hJ (fun u σ h => run_t2 t u hq σ h) fun σ hJ => ?_
  rw [t2_trips t] at hJ
  apply T.assoc
  refine T.loop (fun _ σ => J q k v g t.val (4 * ((t.val + 1) / 4)) σ) hJ (fun u => absurd (lt_of_lt_of_eq u.isLt (t3_trips t)) (Nat.not_lt_zero _)) fun σ hJ => ?_
  refine T.cond (fun σ => J q k v g t.val (2 * ((t.val + 1) / 2)) σ) (fun h => cond1_not t h ▸ hJ) (fun h hk => ?_) fun σ hJ => ?_
  · skip
    have e := cond1_val t h
    apply T.assoc
    apply T.assoc
    apply T.load7
    apply T.assoc
    apply T.load12
    apply T.assoc
    apply T.load13
    apply T.assoc
    apply T.load8
    apply T.assoc
    apply T.load13
    apply T.assoc
    apply T.store13
    apply T.assoc
    apply T.load7
    apply T.assoc
    apply T.load12
    apply T.assoc
    apply T.load13
    apply T.ret
    apply T.assoc
    apply T.assoc
    apply T.load8
    apply T.assoc
    apply T.load13
    apply T.assoc
    apply T.store13
    apply T.assoc
    apply T.load3
    apply T.assoc
    apply T.load9
    apply T.assoc
    apply T.load7
    apply T.assoc
    apply T.store7
    apply T.assoc
    apply T.load11
    apply T.assoc
    apply T.load11
    apply T.ret
    apply T.assoc
    apply T.assoc
    apply T.store11
    apply T.assoc
    apply T.load9
    apply T.assoc
    apply T.load7
    apply T.assoc
    apply T.store7
    apply T.assoc
    apply T.load11
    apply T.assoc
    apply T.load11
    apply T.assoc
    apply T.store11
    refine T.gen (J q k v g t.val (4 * ((t.val + 1) / 4) + 1)) (both_step hJ ht (by omega) hq (off18_eq t h) (off19_eq t h) (off20_eq t h) (off21_eq t h) (off22_eq t h) (off23_eq t h) (off24_eq t h)) fun σ hJ => ?_
    apply T.assoc
    apply T.load7
    apply T.assoc
    apply T.load12
    apply T.ret
    apply T.assoc
    apply T.assoc
    apply T.load13
    apply T.assoc
    apply T.load8
    apply T.assoc
    apply T.load13
    apply T.assoc
    apply T.store13
    apply T.assoc
    apply T.load7
    apply T.assoc
    apply T.load12
    apply T.assoc
    apply T.load13
    apply T.assoc
    apply T.load8
    apply T.assoc
    apply T.load13
    apply T.assoc
    apply T.store13
    apply T.ret
    apply T.assoc
    apply T.assoc
    apply T.load3
    apply T.assoc
    apply T.load9
    apply T.assoc
    apply T.load7
    apply T.assoc
    apply T.store7
    apply T.assoc
    apply T.load11
    apply T.assoc
    apply T.load11
    apply T.assoc
    apply T.store11
    apply T.assoc
    apply T.load9
    apply T.ret
    apply T.assoc
    apply T.load7
    apply T.assoc
    apply T.store7
    apply T.assoc
    apply T.load11
    apply T.assoc
    apply T.load11
    apply T.assoc
    apply T.store11
    refine T.gen (J q k v g t.val (4 * ((t.val + 1) / 4) + 1 + 1)) (both_step hJ ht (by omega) hq (off25_eq t h) (off26_eq t h) (off27_eq t h) (off28_eq t h) (off29_eq t h) (off30_eq t h) (off31_eq t h)) fun σ hJ => ?_
    exact hk _ (e ▸ hJ)
  apply T.ret
  refine T.cond (fun σ => J q k v g t.val (t.val + 1) σ) (fun h => cond2_not t h ▸ hJ) (fun h hk => ?_) fun σ hJ => ?_
  · skip
    rw [cond2_val t h] at hJ
    apply T.assoc
    apply T.assoc
    apply T.load7
    apply T.assoc
    apply T.load12
    apply T.assoc
    apply T.load13
    apply T.assoc
    apply T.load8
    apply T.assoc
    apply T.load13
    apply T.assoc
    apply T.store13
    apply T.assoc
    apply T.load7
    apply T.assoc
    apply T.load12
    apply T.assoc
    apply T.load13
    apply T.ret
    apply T.assoc
    apply T.assoc
    apply T.load8
    apply T.assoc
    apply T.load13
    apply T.assoc
    apply T.store13
    apply T.assoc
    apply T.load3
    apply T.assoc
    apply T.load9
    apply T.assoc
    apply T.load7
    apply T.assoc
    apply T.store7
    apply T.assoc
    apply T.load11
    apply T.ret
    apply T.assoc
    apply T.load11
    apply T.assoc
    apply T.store11
    apply T.assoc
    apply T.load9
    apply T.assoc
    apply T.load7
    apply T.assoc
    apply T.store7
    apply T.assoc
    apply T.load11
    apply T.assoc
    apply T.load11
    apply T.assoc
    apply T.store11
    refine T.gen (J q k v g t.val (t.val + 1)) (both_step hJ ht le_rfl hq (off32_eq t h) (off33_eq t h) (off34_eq t h) (off35_eq t h) (off36_eq t h) (off37_eq t h) (off38_eq t h)) fun σ hJ => ?_
    exact hk _ hJ
  apply T.assoc
  apply T.load3
  apply T.assoc
  apply T.load9
  apply T.assoc
  apply T.load10
  apply T.assoc
  apply T.load7
  apply T.assoc
  apply T.store7
  apply T.assoc
  apply T.load11
  apply T.assoc
  apply T.load11
  apply T.assoc
  apply T.store11
  apply T.ret
  apply T.assoc
  apply T.load9
  apply T.assoc
  apply T.load10
  apply T.assoc
  apply T.load7
  apply T.assoc
  apply T.store7
  apply T.assoc
  apply T.load11
  apply T.assoc
  apply T.load11
  apply T.assoc
  apply T.store11
  refine T.gen (fun σ => Full q k v g (t.val + 1) σ ∧ At σ.ac ![0, 0, 0] S1x80x512.size (A0 q k v g t.val (t.val + 1)) ∧
      At σ.ac ![1, 0, 0] S1x80x512.size (A1 q k v g t.val (t.val + 1)) ∧
      ∀ c, c < t.val → At σ.o ![0, 0, 512 * c, 0] S1x1x512x128.size (Out q k v g c))
    ⟨diag_step hJ.pre (by omega) hq (off40_eq t) (off42_eq t) (off1_eq t) (off39_eq t) (off41_eq t), hJ.ac0, hJ.ac1, hJ.out⟩ fun σ hJ => ?_
  apply T.assoc
  apply T.load13
  apply T.assoc
  apply T.load13
  apply T.assoc
  apply T.load13
  apply T.ret
  apply T.assoc
  apply T.load13
  apply T.assoc
  apply T.load6
  apply T.assoc
  apply T.store6
  apply T.assoc
  apply T.load11
  apply T.assoc
  apply T.load12
  apply T.assoc
  apply T.store12
  apply T.assoc
  apply T.load11
  apply T.assoc
  apply T.load12
  apply T.ret
  apply T.store12
  apply T.load11
  apply T.store11
  apply T.load13
  apply T.store13
  have ho := out_put (off43_eq t) hJ.2.2.2 (out_eq (j0 := inb_S2x80x512_S1x64x512_0_0_0) (j1 := inb_S2x80x512_S1x1x512_0_64_0) (j2 := inb_S2x80x512_S1x64x512_1_0_0) (j3 := inb_S2x80x512_S1x1x512_1_64_0) hJ.2.1 hJ.2.2.1)
  refine T.pure ?_
  exact (finish_step (i := t.val + 1) hJ.1 (by omega) ho
    (by rw [gate0_eq g (off2_eq t) (by omega)]) (by rw [gate1_eq g (off3_eq t) (by omega)]) rfl rfl)

end Cert.Proof.Fox
-- ==== Proof.Fox.RunBody.lean ====
/-
  The attention kernel's whole body: the set-up of the eight key blocks, the first query tile, the loop over the tiles and the last tile's weights, with its eight output blocks named.
-/
module

public import proofs.«01_k».proof.Proof.Fox.RunOuter

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open VecWindow (window put)

variable {F : FTy → Type} [FloatOps F] [Named F]

section
variable (q k v : Vec F S1x1x4096x128 .bf16) (g : Vec F S1x2x8x512 .f32)

/-- The last tile's weights taken over the first `n` key blocks. -/
structure Last (n : ℕ) (σ : State F) : Prop where
  set : Setup v g 8 σ
  s0 : ∀ c, c < 8 → At σ.s ![0, c, 0, 0] S1x1x512x512.size (Sc0 q k g 7 c)
  s1 : ∀ c, c < 8 → At σ.s ![1, c, 0, 0] S1x1x512x512.size (Sc1 q k g 7 c)
  mb0 : At σ.mb ![0, 0, 0] S1x8x512.size (B0 q k g 7)
  mb1 : At σ.mb ![1, 0, 0] S1x8x512.size (B1 q k g 7)
  ac0 : At σ.ac ![0, 0, 0] S1x80x512.size (A0 q k v g 7 n)
  ac1 : At σ.ac ![1, 0, 0] S1x80x512.size (A1 q k v g 7 n)
  out : ∀ c, c < 7 → At σ.o ![0, 0, 512 * c, 0] S1x1x512x128.size (Out q k v g c)

end

variable {c : Dev nD} {i : grid0.Coords}
  {arg2 : Memref sig .tc .vmem S1x1x4096x128 .bf16} {harg2 : arg2.IsWhole} {arg3 : Memref sig .tc .vmem S1x1x4096x128 .bf16} {harg3 : arg3.IsWhole} {arg4 : Memref sig .tc .vmem S1x1x4096x128 .bf16} {harg4 : arg4.IsWhole} {arg5 : Memref sig .tc .vmem S1x2x8x512 .f32} {harg5 : arg5.IsWhole} {arg6 : Memref sig .tc .vmem S1x1x4096x128 .bf16} {harg6 : arg6.IsWhole} {arg7 : Memref sig .tc .vmem S2x8x512x512 .f32} {harg7 : arg7.IsWhole} {arg8 : Memref sig .tc .vmem S8x2x80x512 .bf16} {harg8 : arg8.IsWhole} {arg9 : Memref sig .tc .vmem S2x4096x128 .f32} {harg9 : arg9.IsWhole} {arg10 : Memref sig .tc .vmem S512x512 .f32} {harg10 : arg10.IsWhole} {arg11 : Memref sig .tc .vmem S2x8x512 .f32} {harg11 : arg11.IsWhole} {arg12 : Memref sig .tc .vmem S2x8x512 .f32} {harg12 : arg12.IsWhole} {arg13 : Memref sig .tc .vmem S2x80x512 .f32} {harg13 : arg13.IsWhole}
  {q k v : Vec F S1x1x4096x128 .bf16} {g : Vec F S1x2x8x512 .f32}

theorem last_step {σ : State F} {n : ℕ} (h : Last q k v g n σ) (hn : n < 8) {o4 o5 o6 o7 : Fin 4 → ℕ}
    (h4 : o4 = ![0, n, 0, 0]) (h5 : o5 = ![n, 0, 0, 0]) (h6 : o6 = ![1, n, 0, 0]) (h7 : o7 = ![n, 1, 0, 0]) {i4 i5 i6 i7 j2 j3 j4 j5} :
    Last q k v g (n + 1)
      { σ with
        ac := put (put σ.ac ![0, 0, 0] S1x80x512.size (k0_pay2 (window σ.s o4 S1x1x512x512.size i4) (window σ.mb ![0, 0, 0] S1x8x512.size j2)
            (window σ.ac ![0, 0, 0] S1x80x512.size j3) (window σ.vt o5 S1x1x80x512.size i5)))
          ![1, 0, 0] S1x80x512.size (k0_pay4 (k0_pay3 (window σ.s o6 S1x1x512x512.size i6) (window σ.mb ![1, 0, 0] S1x8x512.size j4))
            (window (put σ.ac ![0, 0, 0] S1x80x512.size (k0_pay2 (window σ.s o4 S1x1x512x512.size i4) (window σ.mb ![0, 0, 0] S1x8x512.size j2)
              (window σ.ac ![0, 0, 0] S1x80x512.size j3) (window σ.vt o5 S1x1x80x512.size i5))) ![1, 0, 0] S1x80x512.size j5)
            (window σ.vt o7 S1x1x80x512.size i7)) } := by
  subst h4 h5 h6 h7
  rw [h.set.vt0 n hn i5, h.set.vt1 n hn i7, h.s0 n hn i4, h.s1 n hn i6, h.mb0 j2, h.mb1 j4, h.ac0 j3]
  rw [At.ne h.ac1 0 (.inr (show (0 : ℕ) + 1 ≤ 1 by omega)) j5]
  refine ⟨⟨h.set.1, h.set.2, h.set.3, h.set.4, h.set.5⟩, h.s0, h.s1, h.mb0, h.mb1, ?_, ?_, h.out⟩
  · exact At.ne (At.same rfl) 0 (.inl (show (0 : ℕ) + 1 ≤ 1 by omega))
  · exact At.same rfl

theorem run_t4 (t : Fin k0_t4_loop.trips) {v2 : IVec S128x512 1} {v376 : FVec F S1x8x512 .f32} (σ : State F) (h : Last q k v g t.val σ) :
    T c arg2 arg3 arg4 arg5 arg6 arg7 arg8 arg9 arg10 arg11 arg12 arg13 q k v g σ (k0_t4_body i arg2 harg2 arg3 harg3 arg4 harg4 arg5 harg5 arg6 harg6 arg7 harg7 arg8 harg8 arg9 harg9 arg10 harg10 arg11 harg11 arg12 harg12 arg13 harg13 v2 v376 t ())
      (fun _ σ' => Last q k v g (t.val + 1) σ') := by
  unfold k0_t4_body
  rw [k0_part34_eq_skeleton]
  unfold k0_part34_skel
  apply T.assoc
  apply T.load7
  apply T.assoc
  apply T.load12
  apply T.assoc
  apply T.load13
  apply T.assoc
  apply T.load8
  apply T.assoc
  apply T.load13
  apply T.assoc
  apply T.store13
  apply T.assoc
  apply T.load7
  apply T.assoc
  apply T.load12
  apply T.assoc
  apply T.load13
  apply T.ret
  apply T.load8
  apply T.load13
  apply T.store13
  exact T.pure (last_step h (lt_of_lt_of_eq t.isLt t4_trips) (off44_eq t) (off45_eq t) (off46_eq t) (off47_eq t))

set_option maxHeartbeats 4000000 in
set_option pp.maxSteps 150 in
/-- The body leaves the eight output blocks at their closed forms. -/
theorem run_body (σ : State F) :
    T c arg2 arg3 arg4 arg5 arg6 arg7 arg8 arg9 arg10 arg11 arg12 arg13 q k v g σ (cc0_fox i arg2 harg2 arg3 harg3 arg4 harg4 arg5 harg5 arg6 harg6 arg7 harg7 arg8 harg8 arg9 harg9 arg10 harg10 arg11 harg11 arg12 harg12 arg13 harg13)
      (fun _ σ' => ∀ n, n < 8 → At σ'.o ![0, 0, 512 * n, 0] S1x1x512x128.size (Out q k v g n)) := by
  rw [cc0_fox_eq_skeleton]
  unfold cc0_fox_skel
  rw [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold k0_part35_skel k0_part36_skel k0_part37_skel k0_part38_skel k0_part39_skel k0_part40_skel k0_part41_skel k0_part42_skel k0_part43_skel k0_part44_skel k0_part45_skel k0_part46_skel k0_part47_skel k0_part48_skel
  apply T.assoc
  apply T.load10
  apply T.assoc
  apply T.store10
  refine T.gen (Setup v g 0) ⟨fun c h => absurd h (Nat.not_lt_zero _), fun c h => absurd h (Nat.not_lt_zero _), fun c h => absurd h (Nat.not_lt_zero _), fun c h => absurd h (Nat.not_lt_zero _), At.same rfl⟩ fun σ h => ?_
  apply T.assoc
  apply T.load4
  apply T.assoc
  apply T.load8
  apply T.assoc
  apply T.store8
  apply T.assoc
  apply T.load8
  apply T.assoc
  apply T.store8
  apply T.assoc
  apply T.load5
  apply T.ret
  apply T.assoc
  apply T.load9
  apply T.assoc
  apply T.store9
  apply T.assoc
  apply T.load8
  apply T.assoc
  apply T.store8
  apply T.assoc
  apply T.load8
  apply T.assoc
  apply T.store8
  apply T.assoc
  apply T.load5
  apply T.assoc
  apply T.load9
  apply T.assoc
  apply T.store9
  refine T.gen (Setup v g 1) (setup_step (n := 0) h (by decide) (congrArg k0_pay148 (blk_eq (i := 0) rfl (by decide)))
    (congrArg (fun x => k0_pay152 (k0_pay147 x)) (blk_eq (i := 0) rfl (by decide))) rfl rfl (congrArg (fun x => k0_pay151 (k0_pay150 x)) (gate0_eq g (i := 0) rfl (by decide)))
    (congrArg k0_pay154 (gate1_eq g (i := 0) rfl (by decide))) (m := 0) rfl) fun σ h => ?_
  apply T.assoc
  apply T.load4
  apply T.assoc
  apply T.load8
  apply T.assoc
  apply T.store8
  apply T.ret
  apply T.assoc
  apply T.load8
  apply T.assoc
  apply T.store8
  apply T.assoc
  apply T.load5
  apply T.assoc
  apply T.load9
  apply T.assoc
  apply T.store9
  apply T.assoc
  apply T.load8
  apply T.assoc
  apply T.store8
  apply T.assoc
  apply T.load8
  apply T.assoc
  apply T.store8
  apply T.assoc
  apply T.load5
  apply T.assoc
  apply T.load9
  apply T.assoc
  apply T.store9
  refine T.gen (Setup v g 2) (setup_step (n := 1) h (by decide) (congrArg k0_pay148 (blk_eq (i := 1) rfl (by decide)))
    (congrArg (fun x => k0_pay152 (k0_pay147 x)) (blk_eq (i := 1) rfl (by decide))) rfl rfl (congrArg (fun x => k0_pay151 (k0_pay150 x)) (gate0_eq g (i := 1) rfl (by decide)))
    (congrArg k0_pay154 (gate1_eq g (i := 1) rfl (by decide))) (m := 512) rfl) fun σ h => ?_
  apply T.ret
  apply T.assoc
  apply T.load4
  apply T.assoc
  apply T.load8
  apply T.assoc
  apply T.store8
  apply T.assoc
  apply T.load8
  apply T.assoc
  apply T.store8
  apply T.assoc
  apply T.load5
  apply T.assoc
  apply T.load9
  apply T.assoc
  apply T.store9
  apply T.assoc
  apply T.load8
  apply T.assoc
  apply T.store8
  apply T.assoc
  apply T.load8
  apply T.assoc
  apply T.store8
  apply T.assoc
  apply T.load5
  apply T.ret
  apply T.assoc
  apply T.load9
  apply T.assoc
  apply T.store9
  refine T.gen (Setup v g 3) (setup_step (n := 2) h (by decide) (congrArg k0_pay148 (blk_eq (i := 2) rfl (by decide)))
    (congrArg (fun x => k0_pay152 (k0_pay147 x)) (blk_eq (i := 2) rfl (by decide))) rfl rfl (congrArg (fun x => k0_pay151 (k0_pay150 x)) (gate0_eq g (i := 2) rfl (by decide)))
    (congrArg k0_pay154 (gate1_eq g (i := 2) rfl (by decide))) (m := 1024) rfl) fun σ h => ?_
  apply T.assoc
  apply T.load4
  apply T.assoc
  apply T.load8
  apply T.assoc
  apply T.store8
  apply T.assoc
  apply T.load8
  apply T.assoc
  apply T.store8
  apply T.assoc
  apply T.load5
  apply T.assoc
  apply T.load9
  apply T.assoc
  apply T.store9
  apply T.assoc
  apply T.load8
  apply T.assoc
  apply T.store8
  apply T.ret
  apply T.assoc
  apply T.load8
  apply T.assoc
  apply T.store8
  apply T.assoc
  apply T.load5
  apply T.assoc
  apply T.load9
  apply T.assoc
  apply T.store9
  refine T.gen (Setup v g 4) (setup_step (n := 3) h (by decide) (congrArg k0_pay148 (blk_eq (i := 3) rfl (by decide)))
    (congrArg (fun x => k0_pay152 (k0_pay147 x)) (blk_eq (i := 3) rfl (by decide))) rfl rfl (congrArg (fun x => k0_pay151 (k0_pay150 x)) (gate0_eq g (i := 3) rfl (by decide)))
    (congrArg k0_pay154 (gate1_eq g (i := 3) rfl (by decide))) (m := 1536) rfl) fun σ h => ?_
  apply T.assoc
  apply T.load4
  apply T.assoc
  apply T.load8
  apply T.assoc
  apply T.store8
  apply T.assoc
  apply T.load8
  apply T.assoc
  apply T.store8
  apply T.assoc
  apply T.load5
  apply T.assoc
  apply T.load9
  apply T.ret
  apply T.assoc
  apply T.store9
  apply T.assoc
  apply T.load8
  apply T.assoc
  apply T.store8
  apply T.assoc
  apply T.load8
  apply T.assoc
  apply T.store8
  apply T.assoc
  apply T.load5
  apply T.assoc
  apply T.load9
  apply T.assoc
  apply T.store9
  refine T.gen (Setup v g 5) (setup_step (n := 4) h (by decide) (congrArg k0_pay148 (blk_eq (i := 4) rfl (by decide)))
    (congrArg (fun x => k0_pay152 (k0_pay147 x)) (blk_eq (i := 4) rfl (by decide))) rfl rfl (congrArg (fun x => k0_pay151 (k0_pay150 x)) (gate0_eq g (i := 4) rfl (by decide)))
    (congrArg k0_pay154 (gate1_eq g (i := 4) rfl (by decide))) (m := 2048) rfl) fun σ h => ?_
  apply T.assoc
  apply T.load4
  apply T.assoc
  apply T.load8
  apply T.assoc
  apply T.store8
  apply T.assoc
  apply T.load8
  apply T.assoc
  apply T.store8
  apply T.ret
  apply T.assoc
  apply T.load5
  apply T.assoc
  apply T.load9
  apply T.assoc
  apply T.store9
  apply T.assoc
  apply T.load8
  apply T.assoc
  apply T.store8
  apply T.assoc
  apply T.load8
  apply T.assoc
  apply T.store8
  apply T.assoc
  apply T.load5
  apply T.assoc
  apply T.load9
  apply T.assoc
  apply T.store9
  refine T.gen (Setup v g 6) (setup_step (n := 5) h (by decide) (congrArg k0_pay148 (blk_eq (i := 5) rfl (by decide)))
    (congrArg (fun x => k0_pay152 (k0_pay147 x)) (blk_eq (i := 5) rfl (by decide))) rfl rfl (congrArg (fun x => k0_pay151 (k0_pay150 x)) (gate0_eq g (i := 5) rfl (by decide)))
    (congrArg k0_pay154 (gate1_eq g (i := 5) rfl (by decide))) (m := 2560) rfl) fun σ h => ?_
  apply T.assoc
  apply T.load4
  apply T.ret
  apply T.assoc
  apply T.load8
  apply T.assoc
  apply T.store8
  apply T.assoc
  apply T.load8
  apply T.assoc
  apply T.store8
  apply T.assoc
  apply T.load5
  apply T.assoc
  apply T.load9
  apply T.assoc
  apply T.store9
  apply T.assoc
  apply T.load8
  apply T.assoc
  apply T.store8
  apply T.assoc
  apply T.load8
  apply T.assoc
  apply T.store8
  apply T.assoc
  apply T.load5
  apply T.assoc
  apply T.load9
  apply T.ret
  apply T.assoc
  apply T.store9
  refine T.gen (Setup v g 7) (setup_step (n := 6) h (by decide) (congrArg k0_pay148 (blk_eq (i := 6) rfl (by decide)))
    (congrArg (fun x => k0_pay152 (k0_pay147 x)) (blk_eq (i := 6) rfl (by decide))) rfl rfl (congrArg (fun x => k0_pay151 (k0_pay150 x)) (gate0_eq g (i := 6) rfl (by decide)))
    (congrArg k0_pay154 (gate1_eq g (i := 6) rfl (by decide))) (m := 3072) rfl) fun σ h => ?_
  apply T.assoc
  apply T.load4
  apply T.assoc
  apply T.load8
  apply T.assoc
  apply T.store8
  apply T.assoc
  apply T.load8
  apply T.assoc
  apply T.store8
  apply T.assoc
  apply T.load5
  apply T.assoc
  apply T.load9
  apply T.assoc
  apply T.store9
  apply T.assoc
  apply T.load8
  apply T.assoc
  apply T.store8
  apply T.assoc
  apply T.load8
  apply T.assoc
  apply T.store8
  apply T.ret
  apply T.assoc
  apply T.load5
  apply T.assoc
  apply T.load9
  apply T.assoc
  apply T.store9
  refine T.gen (Setup v g 8) (setup_step (n := 7) h (by decide) (congrArg k0_pay148 (blk_eq (i := 7) rfl (by decide)))
    (congrArg (fun x => k0_pay152 (k0_pay147 x)) (blk_eq (i := 7) rfl (by decide))) rfl rfl (congrArg (fun x => k0_pay151 (k0_pay150 x)) (gate0_eq g (i := 7) rfl (by decide)))
    (congrArg k0_pay154 (gate1_eq g (i := 7) rfl (by decide))) (m := 3584) rfl) fun σ h => ?_
  apply T.assoc
  apply T.load11
  apply T.assoc
  apply T.store11
  refine T.gen (Pre q k v g 0) ⟨⟨h.1, h.2, h.3, h.4, h.5⟩, fun c h => absurd h (Nat.not_lt_zero _), fun c h => absurd h (Nat.not_lt_zero _),
    at_const rfl (by decide), at_const rfl (by decide)⟩ fun σ h => ?_
  apply T.assoc
  apply T.load2
  apply T.assoc
  apply T.load5
  apply T.assoc
  apply T.load5
  apply T.assoc
  apply T.load3
  apply T.ret
  apply T.assoc
  apply T.load9
  apply T.assoc
  apply T.load10
  apply T.assoc
  apply T.load7
  apply T.assoc
  apply T.store7
  apply T.assoc
  apply T.load11
  apply T.assoc
  apply T.load11
  apply T.assoc
  apply T.store11
  apply T.assoc
  apply T.load9
  apply T.assoc
  apply T.load10
  apply T.ret
  apply T.assoc
  apply T.load7
  apply T.assoc
  apply T.store7
  apply T.assoc
  apply T.load11
  apply T.assoc
  apply T.load11
  apply T.assoc
  apply T.store11
  have hq : k0_pay120 k0_pay144 (window q ![0, 0, 0, 0] S1x1x512x128.size inb_S1x1x4096x128_S1x1x512x128_0_0_0_0) = Qq q 0 := by
    rw [blk_eq (i := 0) rfl (by decide)]; rfl
  refine T.gen (Full q k v g 0) (diag_step h (by decide) hq rfl rfl (o8 := ![0, 0, 0, 0]) (i8 := inb_S1x1x4096x128_S1x1x512x128_0_0_0_0) rfl
    (o9 := ![0, 0, 0]) rfl (o10 := ![1, 0, 0]) rfl) fun σ hF => ?_
  apply T.assoc
  apply T.load11
  apply T.assoc
  apply T.load12
  apply T.assoc
  apply T.store12
  apply T.assoc
  apply T.load11
  apply T.assoc
  apply T.load12
  apply T.ret
  apply T.assoc
  apply T.store12
  apply T.assoc
  apply T.load11
  apply T.assoc
  apply T.store11
  apply T.assoc
  apply T.load13
  apply T.assoc
  apply T.store13
  apply T.assoc
  refine T.loop (fun n σ => J q k v g n 0 σ)
    (finish_step (i := 0) hF (by decide) (fun c hc => absurd hc (Nat.not_lt_zero _)) (congrArg k0_pay121 (gate0_eq g (i := 0) rfl (by decide)))
      (congrArg k0_pay122 (gate1_eq g (i := 0) rfl (by decide))) rfl rfl)
    (fun t σ h => run_t1 t σ h) fun σ hJ => ?_
  rw [t1_trips] at hJ
  apply T.assoc
  refine T.loop (fun n σ => Last q k v g n σ)
    ⟨hJ.set, fun c hc => hJ.old0 c (Nat.zero_le _) (by omega), fun c hc => hJ.old1 c (Nat.zero_le _) (by omega), hJ.mb0, hJ.mb1, hJ.ac0, hJ.ac1, hJ.out⟩
    (fun t σ h => run_t4 t σ h) fun σ hL => ?_
  rw [t4_trips] at hL
  apply T.assoc
  apply T.load13
  apply T.assoc
  apply T.load13
  apply T.assoc
  apply T.load13
  apply T.assoc
  apply T.load13
  apply T.ret
  apply T.load6
  apply T.store6
  exact T.pure (out_put (n := 7) rfl hL.out (out_eq (j0 := inb_S2x80x512_S1x64x512_0_0_0) (j1 := inb_S2x80x512_S1x1x512_0_64_0) (j2 := inb_S2x80x512_S1x64x512_1_0_0) (j3 := inb_S2x80x512_S1x1x512_1_64_0) hL.ac0 hL.ac1))

end Cert.Proof.Fox
-- ==== Proof.Fox.Frame.lean ====
/-
  The attention kernel's frame: what its body leaves in the output's buffer, the proof data of its pipeline, the body's triple at a grid point and the run.
-/
module

public import proofs.«01_k».proof.Proof.Fox.RunBody
public import Idealize.ShloMosaic.Lib.Claim

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-- A row and lane within its block of 512 rows. -/
def rowIn (y : S1x1x4096x128.Idx) : S1x1x512x128.Idx :=
  fun a => ⟨(y a).val % S1x1x512x128.size a, Nat.mod_lt _ (by fin_cases a <;> decide)⟩

/-- The output block: row `r` is row `r % 512` of the output of query tile `r / 512`. -/
def outFn (q k v : Vec F S1x1x4096x128 .bf16) (g : Vec F S1x2x8x512 .f32) : Vec F S1x1x4096x128 .bf16 :=
  fun y => Out q k v g ((y 2).val / 512) (rowIn y)

theorem eq_outFn {q k v : Vec F S1x1x4096x128 .bf16} {g : Vec F S1x2x8x512 .f32} {x : Vec F S1x1x4096x128 .bf16}
    (h : ∀ n, n < 8 → At x ![0, 0, 512 * n, 0] S1x1x512x128.size (Out q k v g n)) : x = outFn q k v g := by
  funext y
  have h0 : (y 0).val < 1 := (y 0).isLt
  have h1 : (y 1).val < 1 := (y 1).isLt
  have h2 : (y 2).val < 4096 := (y 2).isLt
  have h3 : (y 3).val < 128 := (y 3).isLt
  have hn : (y 2).val / 512 < 8 := by omega
  have inb : ∀ a, (![0, 0, 512 * ((y 2).val / 512), 0] : Fin 4 → ℕ) a + S1x1x512x128.size a ≤ S1x1x4096x128.size a := by
    intro a; fin_cases a
    · exact show 0 + 1 ≤ 1 by omega
    · exact show 0 + 1 ≤ 1 by omega
    · exact show 512 * ((y 2).val / 512) + 512 ≤ 4096 by omega
    · exact show 0 + 128 ≤ 128 by omega
  refine Eq.trans ?_ (congrFun (h _ hn inb) (rowIn y))
  refine congrArg x (funext fun a => Fin.ext ?_)
  fin_cases a
  · exact show (y 0).val = 0 + 1 * ((y 0).val % 1) by omega
  · exact show (y 1).val = 0 + 1 * ((y 1).val % 1) by omega
  · exact show (y 2).val = 512 * ((y 2).val / 512) + 1 * ((y 2).val % 512) by omega
  · exact show (y 3).val = 0 + 1 * ((y 3).val % 128) by omega

variable (m : (ℓ : Loc nD τ sig) → Buf (Elt F) ℓ) (ρ : Dev nD → PrngReg)

/-! ## The pipeline's proof data -/

/-- The arrays as the region finds them; after the body at point `t` each input's buffer at its block and the
    output's at `outFn` of the blocks; the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outFn (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outFn (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The scratch buffers and the generator register, as the body uses them and returns them. -/
theorem scratch_eq (c : Dev nD) : (Pipeline.ΦA spec0 c : sProp 𝕄)
    = iprop(((∃ f : Vec F S2x8x512x512 .f32, owns (c : Thread nD τ) (Memref.whole cc0_scratch0) fullShare f) ∗ (∃ f : Vec F S8x2x80x512 .bf16, owns (c : Thread nD τ) (Memref.whole cc0_scratch1) fullShare f) ∗ (∃ f : Vec F S2x4096x128 .f32, owns (c : Thread nD τ) (Memref.whole cc0_scratch2) fullShare f) ∗ (∃ f : Vec F S512x512 .f32, owns (c : Thread nD τ) (Memref.whole cc0_scratch3) fullShare f) ∗ (∃ f : Vec F S2x8x512 .f32, owns (c : Thread nD τ) (Memref.whole cc0_scratch4) fullShare f) ∗ (∃ f : Vec F S2x8x512 .f32, owns (c : Thread nD τ) (Memref.whole cc0_scratch5) fullShare f) ∗ (∃ f : Vec F S2x80x512 .f32, owns (c : Thread nD τ) (Memref.whole cc0_scratch6) fullShare f)) ∗ ∃ r, prngReg c r) := by
  unfold Pipeline.ΦA
  rw [scopedRest0_eq]
  have e0 : ∀ f : Vec F S2x8x512x512 .f32, (owns (c : Thread nD τ) (Memref.whole cc0_scratch0) fullShare f : sProp 𝕄) = (((c : Thread nD τ).loc cc0_scratch0) ↦{fullShare} f) := fun f => owns_whole (c : Thread nD τ) cc0_scratch0 fullShare f
  have e1 : ∀ f : Vec F S8x2x80x512 .bf16, (owns (c : Thread nD τ) (Memref.whole cc0_scratch1) fullShare f : sProp 𝕄) = (((c : Thread nD τ).loc cc0_scratch1) ↦{fullShare} f) := fun f => owns_whole (c : Thread nD τ) cc0_scratch1 fullShare f
  have e2 : ∀ f : Vec F S2x4096x128 .f32, (owns (c : Thread nD τ) (Memref.whole cc0_scratch2) fullShare f : sProp 𝕄) = (((c : Thread nD τ).loc cc0_scratch2) ↦{fullShare} f) := fun f => owns_whole (c : Thread nD τ) cc0_scratch2 fullShare f
  have e3 : ∀ f : Vec F S512x512 .f32, (owns (c : Thread nD τ) (Memref.whole cc0_scratch3) fullShare f : sProp 𝕄) = (((c : Thread nD τ).loc cc0_scratch3) ↦{fullShare} f) := fun f => owns_whole (c : Thread nD τ) cc0_scratch3 fullShare f
  have e4 : ∀ f : Vec F S2x8x512 .f32, (owns (c : Thread nD τ) (Memref.whole cc0_scratch4) fullShare f : sProp 𝕄) = (((c : Thread nD τ).loc cc0_scratch4) ↦{fullShare} f) := fun f => owns_whole (c : Thread nD τ) cc0_scratch4 fullShare f
  have e5 : ∀ f : Vec F S2x8x512 .f32, (owns (c : Thread nD τ) (Memref.whole cc0_scratch5) fullShare f : sProp 𝕄) = (((c : Thread nD τ).loc cc0_scratch5) ↦{fullShare} f) := fun f => owns_whole (c : Thread nD τ) cc0_scratch5 fullShare f
  have e6 : ∀ f : Vec F S2x80x512 .f32, (owns (c : Thread nD τ) (Memref.whole cc0_scratch6) fullShare f : sProp 𝕄) = (((c : Thread nD τ).loc cc0_scratch6) ↦{fullShare} f) := fun f => owns_whole (c : Thread nD τ) cc0_scratch6 fullShare f
  simp only [e0, e1, e2, e3, e4, e5, e6]
  rfl

set_option maxHeartbeats 1000000 in
/-- The body, called on whole memrefs beside `R`, leaves the output's buffer at `outFn` of the inputs'. -/
theorem sound_kernel {c : Dev nD} {i : grid0.Coords}
  {arg2 : Memref sig .tc .vmem S1x1x4096x128 .bf16} {harg2 : arg2.IsWhole} {arg3 : Memref sig .tc .vmem S1x1x4096x128 .bf16} {harg3 : arg3.IsWhole} {arg4 : Memref sig .tc .vmem S1x1x4096x128 .bf16} {harg4 : arg4.IsWhole} {arg5 : Memref sig .tc .vmem S1x2x8x512 .f32} {harg5 : arg5.IsWhole} {arg6 : Memref sig .tc .vmem S1x1x4096x128 .bf16} {harg6 : arg6.IsWhole} {arg7 : Memref sig .tc .vmem S2x8x512x512 .f32} {harg7 : arg7.IsWhole} {arg8 : Memref sig .tc .vmem S8x2x80x512 .bf16} {harg8 : arg8.IsWhole} {arg9 : Memref sig .tc .vmem S2x4096x128 .f32} {harg9 : arg9.IsWhole} {arg10 : Memref sig .tc .vmem S512x512 .f32} {harg10 : arg10.IsWhole} {arg11 : Memref sig .tc .vmem S2x8x512 .f32} {harg11 : arg11.IsWhole} {arg12 : Memref sig .tc .vmem S2x8x512 .f32} {harg12 : arg12.IsWhole} {arg13 : Memref sig .tc .vmem S2x80x512 .f32} {harg13 : arg13.IsWhole}
  {q k v : Vec F S1x1x4096x128 .bf16} {g : Vec F S1x2x8x512 .f32} (σ : State F) {R : sProp 𝕄} {K : PUnit → sProp 𝕄}
  (hK : ∀ σ' : State F, σ'.o = outFn q k v g → iprop(St c arg2 arg3 arg4 arg5 arg6 arg7 arg8 arg9 arg10 arg11 arg12 arg13 q k v g σ' ∗ R) ⊢ K ⟨⟩) :
    iprop(St c arg2 arg3 arg4 arg5 arg6 arg7 arg8 arg9 arg10 arg11 arg12 arg13 q k v g σ ∗ R)
      ⊢ wp frame (wpE (defs₀ (F := F)) Variants.none c none) Set.univ (cc0_fox i arg2 harg2 arg3 harg3 arg4 harg4 arg5 harg5 arg6 harg6 arg7 harg7 arg8 harg8 arg9 harg9 arg10 harg10 arg11 harg11 arg12 harg12 arg13 harg13) K := by
  have h := run_body (c := c) (i := i) (harg2 := harg2) (harg3 := harg3) (harg4 := harg4) (harg5 := harg5) (harg6 := harg6) (harg7 := harg7)
    (harg8 := harg8) (harg9 := harg9) (harg10 := harg10) (harg11 := harg11) (harg12 := harg12) (harg13 := harg13) (q := q) (k := k) (v := v) (g := g) σ
  unfold T at h
  refine BIBase.Entails.trans ?_ ((wp_frame_r _ _ _ (R := R) (Q := fun _ => iprop(∃ σ' : State F, ⌜∀ n, n < 8 → At σ'.o ![0, 0, 512 * n, 0] S1x1x512x128.size (Out q k v g n)⌝ ∗ St c arg2 arg3 arg4 arg5 arg6 arg7 arg8 arg9 arg10 arg11 arg12 arg13 q k v g σ'))).trans (wp_mono _ _ _ fun a => ?_))
  · iintro ⟨H, HR⟩
    isplitl [H]
    · iapply h
      iexact H
    iexact HR
  iintro ⟨⟨%σ', %hσ, H⟩, HR⟩
  iapply (hK σ' (eq_outFn hσ))
  isplitl [H]
  · iexact H
  iexact HR

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, show (dats m 0 c).Φ t.castSucc = Pipeline.ΦA spec0 c from rfl, scratch_eq]
  iintro ⟨⟨⟨⟨%s0, S0⟩, ⟨%s1, S1⟩, ⟨%s2, S2⟩, ⟨%s3, S3⟩, ⟨%s4, S4⟩, ⟨%s5, S5⟩, ⟨%s6, S6⟩⟩, HP⟩, Ho, ⟨%d0, H0⟩, ⟨%d1, H1⟩, ⟨%d2, H2⟩, ⟨%d3, H3⟩, ⟨%d4, H4⟩⟩
  iapply (sound_kernel (c := c) (i := grid0.coords t) (q := iblk m c 0 t) (k := iblk m c 1 t) (v := iblk m c 2 t) (g := iblk m c 3 t)
    ⟨(dats m 0 c).before 4 t d4, s0, s1, s2, s3, s4, s5, s6⟩ (R := iprop((∃ r, prngReg c r) ∗ (dats m 0 c).owesAt () t.castSucc)) ?_)
  · intro σ' hσ
    unfold St
    rw [hσ]
    iintro ⟨⟨H0, H1, H2, H3, H4, S0, S1, S2, S3, S4, S5, S6⟩, HP, Ho⟩
    isplitl [S0 S1 S2 S3 S4 S5 S6 HP]
    · isplitr [HP]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      iexact HP
    isplitl [Ho]; · iexact Ho
    isplitl [H0]; · iexact H0
    isplitl [H1]; · iexact H1
    isplitl [H2]; · iexact H2
    isplitl [H3]; · iexact H3
    iexact H4
  unfold St
  isplitr [HP Ho]
  · isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    iexact S6
  isplitl [HP]; · iexact HP
  iexact Ho

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every array of the pipeline at what its proof data say, and every semaphore counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counters m ρ)

/-- The frame: the arguments end unchanged and every counter at zero. -/
theorem fox_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_counters m ρ))

end Cert.Proof.Fox
-- ==== Proof.Fox.FrameKernel.lean ====
/-
  The frame of the kernel over machine words, from the run of its idealization: with the named constant read as
  the literal it names, the two programs are the same program.
-/
module

public import proofs.«01_k».proof.Proof.Fox.Frame
public import proofs.«01_k».proof.Proof.Gen.Kernel
public import proofs.«01_k».proof.Defs

@[expose] public section

set_option maxRecDepth 65536

noncomputable section

namespace Cert.Proof.Fox

open Idealize.ShloMosaic Idealize.SL Idealize.SL.Sem

/-- Named constants read as the literals they name. -/
@[instance_reducible] def literals : Named Bits where
  named _ _ {φ} b := Scalar.ofBits φ b
attribute [local instance] literals

/-- The two programs' bodies, body tables, pipelines and mains agree. -/
theorem cc0_same : @Cert.Kernel.cc0_fox Bits _ Cert.Kernel.Gen.facts = @Cert.KernelIdeal.cc0_fox Bits _ _ Cert.KernelIdeal.Gen.facts := rfl
theorem defs₀_same : @Cert.Kernel.defs₀ Bits _ Cert.Kernel.Gen.facts = @Cert.KernelIdeal.defs₀ Bits _ _ Cert.KernelIdeal.Gen.facts := by
  refine congrArg (Defs.onTc (nD := Cert.Kernel.nD) (τ := Cert.Kernel.τ) (sig := Cert.Kernel.sig) (Val := Elt Bits)) ?_
  funext l x
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_same _) _) _) _) _) _) _) _) _) _) _) _) _) _) _) _) _) _) _) _) _) _) _) _) _
  | ⟨_ + 1, h⟩, _ => exact absurd h (Nat.not_lt.2 (Nat.le_add_left _ _))
theorem defs_same : @Cert.Kernel.defs Bits _ Cert.Kernel.Gen.facts = @Cert.KernelIdeal.defs Bits _ _ Cert.KernelIdeal.Gen.facts :=
  congrArg (Pipeline.defs (Cert.Kernel.pcfgs (F := Bits))) defs₀_same
theorem main_same : @Cert.Kernel.main Bits _ Cert.Kernel.Gen.facts = Cert.KernelIdeal.main (F := Bits) := rfl

theorem frame_kernel : Cert.quiescent_Kernel (hKernel := Cert.Kernel.Gen.facts) := fun m ρ _ => by
  have h := fox_frame (F := Bits) m ρ
  rw [defs_same, main_same]
  exact h

end Cert.Proof.Fox
-- ==== Proof.Fox.Scores.lean ====
/-
  The attention kernel's blocks read at an index, over the extended reals: the scores of a query against a key,
  the accumulators as sums over the keys, the output as a quotient.
-/
module

public import proofs.«01_k».proof.Proof.Fox.Model
public import Idealize.ShloMosaic.Lib.Pointwise
public import Idealize.ShloMosaic.Lib.Affine

@[expose] public section

set_option maxRecDepth 16384

noncomputable section

namespace Cert.Proof.Fox

open Cert.KernelIdeal Cert.KernelIdeal.Gen
open Idealize.ShloMosaic Idealize.ShloMosaic.TcCoe
open VecWindow (window put)

theorem select_eq {α : Type} (w : BitVec 1) (a b : α) : Scalar.select w a b = if w = 1#1 then a else b := by
  unfold Scalar.select
  split <;> simp_all

theorem sle_iff {a b : ℕ} (ha : a < 2 ^ 31) (hb : b < 2 ^ 31) : IntOp.cmpi .sle (BitVec.ofNat 32 a) (BitVec.ofNat 32 b) = 1#1 ↔ a ≤ b := by
  rw [IntOp.cmpi_sle, BitVec.toInt_eq_toNat_of_lt (by simp; omega), BitVec.toInt_eq_toNat_of_lt (by simp; omega)]
  simp; omega

theorem slt_iff {a b : ℕ} (ha : a < 2 ^ 31) (hb : b < 2 ^ 31) : IntOp.cmpi .slt (BitVec.ofNat 32 a) (BitVec.ofNat 32 b) = 1#1 ↔ a < b := by
  rw [IntOp.cmpi_slt, BitVec.toInt_eq_toNat_of_lt (by simp; omega), BitVec.toInt_eq_toNat_of_lt (by simp; omega)]
  simp; omega

theorem mask_eq : (Named.named κ "mask" 4048155338#32 : Ideal .f32) = (⊥ : EReal) := rfl

/-- Lane `l` of head `h` of a pair. -/
def lane (h : Fin 2) (l : Fin 64) : Fin 128 := ⟨64 * h.val + l.val, by omega⟩

section

variable (q k v : Vec Ideal S1x1x4096x128 .bf16) (g : Vec Ideal S1x2x8x512 .f32)

/-- The product of key `r` and query `j` of two blocks, over the lanes of head `h`. -/
def dotp (h : Fin 2) (a b : Vec Ideal S1x1x512x128 .bf16) (r j : Fin 512) : EReal :=
  ∑ l : Fin 64, (a (ix4 0 0 r (lane h l)) : EReal) * b (ix4 0 0 j (lane h l))

theorem qq_lo (i : ℕ) (x : Fin 128) (j : Fin 512) :
    Qq q i (ix2 x ⟨j.val, by omega⟩) = (if x.val < 64 then (blk q i (ix4 0 0 j x) : EReal) else 0) := by
  pointwise [Qq, k0_pay120, k0_pay144]
  rw [select_eq]
  exact if_congr (slt_iff (show x.val < 2 ^ 31 by omega) (show 64 < 2 ^ 31 by omega)) rfl rfl

theorem qq_hi (i : ℕ) (x : Fin 128) (j : Fin 512) :
    Qq q i (ix2 x ⟨j.val + 512, by omega⟩) = (if x.val < 64 then (0 : EReal) else blk q i (ix4 0 0 j x)) := by
  pointwise [Qq, k0_pay120, k0_pay144]
  rw [dif_neg (by omega), select_eq]
  simp only [Nat.add_sub_cancel]
  exact if_congr (slt_iff (show x.val < 2 ^ 31 by omega) (show 64 < 2 ^ 31 by omega)) rfl rfl

theorem pay5_at (Q : FVec Ideal S128x1024 .bf16) (a : Vec Ideal S1x1x512x128 .bf16) (r : Fin 512) (j : Fin 1024) :
    k0_pay5 Q a (ix2 r j) = ∑ x : Fin 128, (a (ix4 0 0 r x) : EReal) * Q (ix2 x j) := by
  pointwise [k0_pay5]

theorem pay129_eq : @k0_pay129 Ideal _ = @k0_pay5 Ideal _ := rfl

theorem sum128 (f : Fin 128 → EReal) : ∑ x, f x = ∑ l : Fin 64, f ⟨l.val, by omega⟩ + ∑ l : Fin 64, f ⟨64 + l.val, by omega⟩ :=
  Fin.sum_univ_add (a := 64) (b := 64) f

theorem dot_lo (i : ℕ) (a : Vec Ideal S1x1x512x128 .bf16) (r j : Fin 512) :
    k0_pay5 (Qq q i) a (ix2 r ⟨j.val, by omega⟩) = dotp 0 a (blk q i) r j := by
  rw [pay5_at, sum128]
  simp only [qq_lo]
  unfold dotp lane
  rw [Finset.sum_congr rfl (g := fun l : Fin 64 => (a (ix4 0 0 r ⟨64 * (0 : Fin 2).val + l.val, by simp; omega⟩) : EReal) * blk q i (ix4 0 0 j ⟨64 * (0 : Fin 2).val + l.val, by simp; omega⟩)),
    Finset.sum_eq_zero (f := fun l : Fin 64 => (a (ix4 0 0 r ⟨64 + l.val, by omega⟩) : EReal) * _), add_zero]
  · intro l _; simp
  · intro l _; simp

theorem dot_hi (i : ℕ) (a : Vec Ideal S1x1x512x128 .bf16) (r j : Fin 512) :
    k0_pay5 (Qq q i) a (ix2 r ⟨j.val + 512, by omega⟩) = dotp 1 a (blk q i) r j := by
  rw [pay5_at, sum128]
  simp only [qq_hi]
  unfold dotp lane
  rw [Finset.sum_eq_zero (f := fun l : Fin 64 => (a (ix4 0 0 r ⟨l.val, by omega⟩) : EReal) * _), zero_add]
  · refine Finset.sum_congr rfl fun l _ => ?_
    simp
  · intro l _; simp

theorem pay6_at (Q : FVec Ideal S128x1024 .bf16) (a : Vec Ideal S1x1x512x128 .bf16) (s : Vec Ideal S1x512x128 .f32) (r j : Fin 512) :
    k0_pay6 Q a s (ix2 r j) = (k0_pay5 Q a (ix2 r ⟨j.val, by omega⟩) - s (ix3 0 r ⟨j.val % 128, by omega⟩) : EReal) := by
  have hj := j.isLt
  pointwise [k0_pay6]
  split_ifs <;> congr 3 <;> first | (apply Fin.ext; show _ = _; dsimp only; omega) | skip

theorem pay11_at (D : FVec Ideal S512x1024 .f32) (s : Vec Ideal S1x512x128 .f32) (r j : Fin 512) :
    k0_pay11 D s (ix2 r j) = (D (ix2 r ⟨j.val + 512, by omega⟩) - s (ix3 0 r ⟨j.val % 128, by omega⟩) : EReal) := by
  have hj := j.isLt
  pointwise [k0_pay11]
  split_ifs <;> congr 3 <;> first | (apply Fin.ext; show _ = _; dsimp only; omega) | skip

theorem pay130_at (Q : FVec Ideal S128x1024 .bf16) (a : Vec Ideal S1x1x512x128 .bf16) (s : Vec Ideal S1x512x128 .f32) (m : Vec Ideal S512x512 .f32) (r j : Fin 512) :
    k0_pay130 Q a s m (ix2 r j) = (k0_pay6 Q a s (ix2 r j) + m (ix2 r j) : EReal) := rfl

theorem pay133_at (D : FVec Ideal S512x1024 .f32) (s : Vec Ideal S1x512x128 .f32) (m : Vec Ideal S512x512 .f32) (r j : Fin 512) :
    k0_pay133 D s m (ix2 r j) = (k0_pay11 D s (ix2 r j) + m (ix2 r j) : EReal) := rfl

theorem mask_at (r j : Fin 512) : k0_pay145 (F := Ideal) (ix2 r j) = (if r.val ≤ j.val then (0 : EReal) else ⊥) := by
  pointwise [k0_pay145]
  rw [select_eq, mask_eq]
  simp only [sle_iff (show r.val < 2 ^ 31 by omega) (show j.val < 2 ^ 31 by omega)]

theorem cs0_at (c : ℕ) (r : Fin 512) (x : Fin 128) : cs0 g c (ix3 0 r x) = gate0 g c (ix4 0 0 0 r) := by
  pointwise [cs0, k0_pay151, k0_pay150]

theorem cs1_at (c : ℕ) (r : Fin 512) (x : Fin 128) : cs1 g c (ix3 0 r x) = gate1 g c (ix4 0 0 0 r) := by
  pointwise [cs1, k0_pay154]

/-- The gates of head `h`, key block `c`. -/
def gate (h : Fin 2) (c : ℕ) (r : Fin 512) : EReal := g (ix4 0 h ⟨c % 8, Nat.mod_lt _ (by decide)⟩ r)

theorem gate0_at (c : ℕ) (r : Fin 512) : gate0 g c (ix4 0 0 0 r) = gate g 0 c r := by
  unfold gate0 gate window
  congr 1
  funext a
  apply Fin.ext
  fin_cases a <;> simp [ix4]

theorem gate1_at (c : ℕ) (r : Fin 512) : gate1 g c (ix4 0 0 0 r) = gate g 1 c r := by
  unfold gate1 gate window
  congr 1
  funext a
  apply Fin.ext
  fin_cases a <;> simp [ix4]

/-- The score of key `r` of block `c` for query `j` of tile `i`. -/
def sc (h : Fin 2) (i c : ℕ) (r j : Fin 512) : EReal :=
  if c < i then dotp h (blk k c) (blk q i) r j - gate g h c r
  else (dotp h (blk k c) (blk q i) r j - gate g h c r) + (if r.val ≤ j.val then 0 else ⊥)

theorem Sc0_at (i c : ℕ) (r j : Fin 512) : Sc0 q k g i c (ix4 0 0 r j) = sc q k g 0 i c r j := by
  unfold Sc0 sc
  split
  · pointwise [k0_pay7]
    rw [pay6_at, dot_lo, cs0_at, gate0_at]
  · pointwise [k0_pay131]
    rw [pay130_at, pay6_at, dot_lo, cs0_at, gate0_at, mask_at]

theorem Sc1_at (i c : ℕ) (r j : Fin 512) : Sc1 q k g i c (ix4 0 0 r j) = sc q k g 1 i c r j := by
  unfold Sc1 sc
  rw [pay129_eq]
  split
  · pointwise [k0_pay12]
    rw [pay11_at, dot_hi, cs1_at, gate1_at]
  · pointwise [k0_pay134]
    rw [pay133_at, pay11_at, dot_hi, cs1_at, gate1_at, mask_at]

end

end Cert.Proof.Fox
-- ==== Proof.Fox.Rows.lean ====
/-
  The accumulators as sums over the keys of the blocks taken, and an entry of the output as a quotient of two
  such sums.
-/
module

public import proofs.«01_k».proof.Proof.Fox.Scores

@[expose] public section

set_option maxRecDepth 16384

noncomputable section

namespace Cert.Proof.Fox

open Cert.KernelIdeal Cert.KernelIdeal.Gen
open Idealize.ShloMosaic Idealize.ShloMosaic.TcCoe
open VecWindow (window put)

section

variable (q k v : Vec Ideal S1x1x4096x128 .bf16) (g : Vec Ideal S1x2x8x512 .f32)

/-- The running maximum on sublane `s`, column `j`. -/
def mx (h : Fin 2) (i : ℕ) : ℕ → Fin 8 → Fin 512 → EReal
  | 0, _, _ => ⊥
  | n + 1, s, j => max (mx h i n s j) (Finset.univ.fold max ⊥ fun t : Fin 64 => sc q k g h i n ⟨t.val * 8 + s.val, by omega⟩ j)

theorem neg_inf : (Ideal.ofBits .f32 4286578688#32 : EReal) = ⊥ := by
  simp [Ideal.ofBits, Ideal.ieee]

theorem pay9_at (Q : FVec Ideal S128x1024 .bf16) (a : Vec Ideal S1x1x512x128 .bf16) (c : Vec Ideal S1x512x128 .f32) (s : Fin 8) (j : Fin 512) :
    k0_pay9 Q a c (ix2 s j) = (Finset.univ.fold max ⊥ fun t : Fin 64 => (k0_pay6 Q a c (ix2 ⟨t.val * 8 + s.val, by omega⟩ j) : EReal)) := by
  pointwise [k0_pay9]
  rw [neg_inf]

theorem M0_at (i n : ℕ) (s : Fin 8) (j : Fin 512) : M0 q k g i n (ix3 0 s j) = mx q k g 0 i n s j := by
  induction n with
  | zero => rfl
  | succ n ih =>
    rw [M0, mx]
    split
    · pointwise [k0_pay10, k0_pay8]
      rw [ih, pay9_at]
      simp only [pay6_at, dot_lo, cs0_at, gate0_at, sc, if_pos ‹n < i›]
    · pointwise [k0_pay132]
      rw [ih, neg_inf]
      simp only [pay130_at, pay6_at, dot_lo, cs0_at, gate0_at, mask_at, sc, if_neg ‹¬ n < i›]

theorem M1_at (i n : ℕ) (s : Fin 8) (j : Fin 512) : M1 q k g i n (ix3 0 s j) = mx q k g 1 i n s j := by
  induction n with
  | zero => rfl
  | succ n ih =>
    rw [M1, mx]
    split
    · pointwise [k0_pay13]
      rw [ih, neg_inf]
      simp only [pay11_at, dot_hi, cs1_at, gate1_at, sc, if_pos ‹n < i›]
    · pointwise [k0_pay135]
      rw [ih, neg_inf, pay129_eq]
      simp only [pay133_at, pay11_at, dot_hi, cs1_at, gate1_at, mask_at, sc, if_neg ‹¬ n < i›]

/-- The shift of column `j` of tile `i`. -/
def shift (h : Fin 2) (i : ℕ) (j : Fin 512) : EReal :=
  (Finset.univ.fold max ⊥ fun s : Fin 8 => mx q k g h i (i + 1) s j) + gate g h i j - gate g h i j

theorem B0_at (i : ℕ) (s : Fin 8) (j : Fin 512) : B0 q k g i (ix3 0 s j) = shift q k g 0 i j := by
  unfold shift
  pointwise [B0, k0_pay139, k0_pay121]
  simp only [M0_at, gate0_at, neg_inf]

theorem B1_at (i : ℕ) (s : Fin 8) (j : Fin 512) : B1 q k g i (ix3 0 s j) = shift q k g 1 i j := by
  unfold shift
  pointwise [B1, k0_pay140, k0_pay122]
  simp only [M1_at, gate1_at, neg_inf]

theorem put_ge (x : S1x1x80x512.Idx → EReal) (w : S1x1x16x512.Idx → EReal) {d : ℕ} (hd : d < 64) {r : Fin 512} {inb : d < 80} :
    put (s := S1x1x80x512) x ![0, 0, 64, 0] S1x1x16x512.size w (ix4 0 0 ⟨d, inb⟩ r) = x (ix4 0 0 ⟨d, inb⟩ r) := by
  unfold put
  rw [dif_neg]
  intro hh
  have := (hh 2).1
  exact absurd (show 64 ≤ d from this) (by omega)

theorem put_lt (x : S1x1x80x512.Idx → EReal) (w : S1x1x64x512.Idx → EReal) {d : ℕ} (hd : d < 64) {r : Fin 512} {inb : d < 80} :
    put (s := S1x1x80x512) x ![0, 0, 0, 0] S1x1x64x512.size w (ix4 0 0 ⟨d, inb⟩ r) = w (ix4 0 0 ⟨d, hd⟩ r) := by
  unfold put
  rw [dif_pos]
  · congr 1
    funext t
    apply Fin.ext
    fin_cases t <;> rfl
  · have := r.isLt
    intro t; fin_cases t
    · exact (show 0 ≤ 0 ∧ 0 < 0 + 1 by omega)
    · exact (show 0 ≤ 0 ∧ 0 < 0 + 1 by omega)
    · exact (show 0 ≤ d ∧ d < 0 + 64 by omega)
    · exact (show 0 ≤ r.val ∧ r.val < 0 + 512 by omega)

theorem put_one (x : S1x1x80x512.Idx → EReal) (w : S1x1x16x512.Idx → EReal) {r : Fin 512} :
    put (s := S1x1x80x512) x ![0, 0, 64, 0] S1x1x16x512.size w (ix4 0 0 64 r) = w (ix4 0 0 0 r) := by
  unfold put
  rw [dif_pos]
  · congr 1
    funext t
    apply Fin.ext
    fin_cases t <;> rfl
  · have := r.isLt
    intro t; fin_cases t
    · exact (show 0 ≤ 0 ∧ 0 < 0 + 1 by omega)
    · exact (show 0 ≤ 0 ∧ 0 < 0 + 1 by omega)
    · exact (show 64 ≤ 64 ∧ 64 < 64 + 16 by omega)
    · exact (show 0 ≤ r.val ∧ r.val < 0 + 512 by omega)

theorem ones_at (r : Fin 512) : k0_pay149 (F := Ideal) (ix4 0 0 0 r) = (1 : EReal) := by
  pointwise [k0_pay149, k0_pay146]

theorem win_row (x : Vec Ideal S1x80x512 .f32) (d : Fin 64) (j : Fin 512) {inb} :
    window (s := S1x80x512) x ![0, 0, 0] S1x64x512.size inb (ix3 0 d j) = x (ix3 0 ⟨d.val, by omega⟩ j) := by
  unfold window
  congr 1
  funext a
  apply Fin.ext
  fin_cases a <;> simp [ix3]

theorem win_one (x : Vec Ideal S1x80x512 .f32) (j : Fin 512) {inb} :
    window (s := S1x80x512) x ![0, 64, 0] S1x1x512.size inb (ix3 0 0 j) = x (ix3 0 64 j) := by
  unfold window
  congr 1
  funext a
  apply Fin.ext
  fin_cases a <;> simp [ix3]

theorem vt0_val (c : ℕ) (d : Fin 64) (r : Fin 512) : vt0 v c (ix4 0 0 ⟨d.val, by omega⟩ r) = blk v c (ix4 0 0 r (lane 0 d)) := by
  unfold vt0
  rw [put_ge _ _ (show d.val < 64 from d.isLt), put_lt _ _ d.isLt]
  pointwise [k0_pay148, k0_pay147]
  simp [lane]

theorem vt1_val (c : ℕ) (d : Fin 64) (r : Fin 512) : vt1 v c (ix4 0 0 ⟨d.val, by omega⟩ r) = blk v c (ix4 0 0 r (lane 1 d)) := by
  unfold vt1
  rw [put_ge _ _ (show d.val < 64 from d.isLt), put_lt _ _ d.isLt]
  pointwise [k0_pay152, k0_pay147]
  simp [lane]

theorem vt0_one (c : ℕ) (r : Fin 512) : vt0 v c (ix4 0 0 64 r) = (1 : EReal) := by
  unfold vt0
  rw [put_one]
  exact ones_at r

theorem vt1_one (c : ℕ) (r : Fin 512) : vt1 v c (ix4 0 0 64 r) = (1 : EReal) := by
  unfold vt1
  rw [put_one]
  exact ones_at r

/-- The weight of key `r` of block `c` for query `j` of tile `i`. -/
def wt (h : Fin 2) (i c : ℕ) (r j : Fin 512) : EReal := Ideal.exp2 (sc q k g h i c r j - shift q k g h i j)

theorem A0_at (i n : ℕ) (d : Fin 80) (j : Fin 512) :
    A0 q k v g i n (ix3 0 d j) = ∑ c ∈ Finset.range n, ∑ r : Fin 512, (vt0 v c (ix4 0 0 d r) : EReal) * wt q k g 0 i c r j := by
  induction n with
  | zero =>
    show (Ideal.ofBits .f32 0#32 : EReal) = _
    simp
  | succ n ih =>
    rw [A0, Finset.sum_range_succ, ← ih]
    pointwise [k0_pay2]
    simp only [Sc0_at, B0_at]
    rfl

theorem A1_at (i n : ℕ) (d : Fin 80) (j : Fin 512) :
    A1 q k v g i n (ix3 0 d j) = ∑ c ∈ Finset.range n, ∑ r : Fin 512, (vt1 v c (ix4 0 0 d r) : EReal) * wt q k g 1 i c r j := by
  induction n with
  | zero =>
    show (Ideal.ofBits .f32 0#32 : EReal) = _
    simp
  | succ n ih =>
    rw [A1, Finset.sum_range_succ, ← ih]
    pointwise [k0_pay4, k0_pay3]
    simp only [Sc1_at, B1_at]
    rfl

theorem Out_at (i : ℕ) (h : Fin 2) (d : Fin 64) (j : Fin 512) :
    Out q k v g i (ix4 0 0 j (lane h d))
      = (∑ c ∈ Finset.range (i + 1), ∑ r : Fin 512, (blk v c (ix4 0 0 r (lane h d)) : EReal) * wt q k g h i c r j)
        * Ideal.div 1 (∑ c ∈ Finset.range (i + 1), ∑ r : Fin 512, wt q k g h i c r j) := by
  fin_cases h
  · pointwise [Out, k0_pay138]
    have e : (lane 0 d).val = d.val := by simp [lane]
    rw [dif_pos (show (lane 0 d).val < 64 by rw [e]; exact d.isLt)]
    pointwise [k0_pay136]
    have e0 := win_row (A0 q k v g i (i + 1)) d j (inb := by decide)
    have e1 := win_one (A0 q k v g i (i + 1)) j (inb := by decide)
    rw [A0_at] at e0 e1
    simp only [vt0_val, vt0_one, one_mul] at e0 e1
    simp only [e]
    exact congrArg₂ (fun x y => x * Ideal.div 1 y) e0 e1
  · pointwise [Out, k0_pay138]
    have e : (lane 1 d).val = 64 + d.val := by simp [lane]
    rw [dif_neg (show ¬ (lane 1 d).val < 64 by rw [e]; omega)]
    pointwise [k0_pay137]
    have e0 := win_row (A1 q k v g i (i + 1)) d j (inb := by decide)
    have e1 := win_one (A1 q k v g i (i + 1)) j (inb := by decide)
    rw [A1_at] at e0 e1
    simp only [vt1_val, vt1_one, one_mul] at e0 e1
    simp only [e, Nat.add_sub_cancel_left]
    exact congrArg₂ (fun x y => x * Ideal.div 1 y) e0 e1

end

end Cert.Proof.Fox
-- ==== Proof.Fox.Row.lean ====
/-
  An entry of the output as a quotient of sums over all the keys: the keys after the query weigh nothing, and the
  shift is a real.
-/
module

public import proofs.«01_k».proof.Proof.Fox.Rows
public import proofs.«01_k».proof.Proof.Fox.Frame

@[expose] public section

set_option maxRecDepth 16384

noncomputable section

namespace Cert.Proof.Fox

open Cert.KernelIdeal Cert.KernelIdeal.Gen
open Idealize.ShloMosaic Idealize.ShloMosaic.TcCoe
open VecWindow (window put)

/-- Key `r` of block `c`. -/
def at8 (c : Fin 8) (r : Fin 512) : Fin 4096 := ⟨r.val + 512 * c.val, by omega⟩

theorem sum_blocks {i : ℕ} (hi : i < 8) (f : Fin 4096 → EReal) (F : ℕ → Fin 512 → EReal)
    (h : ∀ (c : Fin 8) (r : Fin 512), c.val ≤ i → F c.val r = f (at8 c r)) (h0 : ∀ (c : Fin 8) (r : Fin 512), i < c.val → f (at8 c r) = 0) :
    ∑ c ∈ Finset.range (i + 1), ∑ r : Fin 512, F c r = ∑ x, f x := by
  have e : ∑ x, f x = ∑ c : Fin 8, ∑ r : Fin 512, f (at8 c r) := by
    rw [← (finProdFinEquiv (m := 8) (n := 512)).sum_comp (g := f), Fintype.sum_prod_type]
    rfl
  rw [e, ← Fin.sum_univ_eq_sum_range (fun c => ∑ r : Fin 512, F c r) (i + 1)]
  have e2 : ∑ c : Fin 8, ∑ r : Fin 512, f (at8 c r) = ∑ c : Fin 8, (if c.val < i + 1 then ∑ r : Fin 512, F c.val r else 0) := by
    refine Finset.sum_congr rfl fun c _ => ?_
    split
    · exact Finset.sum_congr rfl fun r _ => (h c r (by omega)).symm
    · exact Finset.sum_eq_zero fun r _ => h0 c r (by omega)
  rw [e2, Fin.sum_univ_eq_sum_range (fun c => if c < i + 1 then ∑ r : Fin 512, F c r else 0) 8,
    Fin.sum_univ_eq_sum_range (fun c => ∑ r : Fin 512, F c r) (i + 1), ← Finset.sum_filter]
  refine Finset.sum_congr ?_ fun _ _ => rfl
  ext c
  simp only [Finset.mem_range, Finset.mem_filter]
  omega

theorem fold_max_ne_top {ι : Type*} (s : Finset ι) (f : ι → EReal) (h : ∀ i, f i ≠ ⊤) : s.fold max ⊥ f ≠ ⊤ :=
  ((Finset.fold_max_lt (c := (⊤ : EReal))).mpr ⟨bot_lt_top, fun i _ => lt_top_iff_ne_top.mpr (h i)⟩).ne

theorem le_fold_max' {ι : Type*} (s : Finset ι) (f : ι → EReal) {i : ι} (h : i ∈ s) : f i ≤ s.fold max ⊥ f :=
  (Finset.le_fold_max _).mpr (.inr ⟨i, h, le_rfl⟩)

section

variable (q k v : Vec Ideal S1x1x4096x128 .bf16) (g : Vec Ideal S1x2x8x512 .f32)

theorem blk_at (x : Vec Ideal S1x1x4096x128 .bf16) (c : Fin 8) (r : Fin 512) (l : Fin 128) :
    blk x c.val (ix4 0 0 r l) = x (ix4 0 0 (at8 c r) l) := by
  have e : c.val % 8 = c.val := Nat.mod_eq_of_lt c.isLt
  unfold blk window
  congr 1
  funext a
  apply Fin.ext
  fin_cases a
  · rfl
  · rfl
  · exact show 512 * (c.val % 8) + 1 * r.val = r.val + 512 * c.val by omega
  · exact show 0 + 1 * l.val = l.val by omega

theorem gate_at (h : Fin 2) (c : Fin 8) (r : Fin 512) : gate g h c.val r = g (ix4 0 h c r) := by
  unfold gate
  congr 1
  exact congrArg (fun x => ix4 0 h x r) (Fin.ext (Nat.mod_eq_of_lt c.isLt))

/-- The score of key `x` for query `y`. -/
def score (h : Fin 2) (y x : Fin 4096) : EReal :=
  (∑ l : Fin 64, (k (ix4 0 0 x (lane h l)) : EReal) * q (ix4 0 0 y (lane h l))) - g (ix4 0 h ⟨x.val / 512, by omega⟩ ⟨x.val % 512, by omega⟩)

theorem dotp_gate (h : Fin 2) (i c : Fin 8) (r j : Fin 512) :
    dotp h (blk k c.val) (blk q i.val) r j - gate g h c.val r = score q k g h (at8 i j) (at8 c r) := by
  unfold dotp score
  simp only [blk_at, gate_at]
  congr 2
  have e1 : (⟨(at8 c r).val / 512, by omega⟩ : Fin 8) = c := Fin.ext (show (r.val + 512 * c.val) / 512 = c.val by omega)
  have e2 : (⟨(at8 c r).val % 512, by omega⟩ : Fin 512) = r := Fin.ext (show (r.val + 512 * c.val) % 512 = r.val by omega)
  rw [e1, e2]

variable {q k v g}

theorem sc_ne_top {h : Fin 2} {i c : Fin 8} {j : Fin 512} {t : Fin 4096 → ℝ} (ht : ∀ x, score q k g h (at8 i j) x = t x) (r : Fin 512) :
    sc q k g h i.val c.val r j ≠ ⊤ := by
  unfold sc
  rw [dotp_gate, ht]
  split
  · exact EReal.coe_ne_top _
  · split
    · rw [add_zero]; exact EReal.coe_ne_top _
    · rw [EReal.add_bot]; exact bot_ne_top

theorem mx_ne_top {h : Fin 2} {i : Fin 8} {j : Fin 512} {t : Fin 4096 → ℝ} (ht : ∀ x, score q k g h (at8 i j) x = t x) (n : ℕ) (hn : n ≤ 8) (s : Fin 8) :
    mx q k g h i.val n s j ≠ ⊤ := by
  induction n with
  | zero => exact bot_ne_top
  | succ n ih =>
    rw [mx]
    exact (max_lt (lt_top_iff_ne_top.mpr (ih (by omega))) (lt_top_iff_ne_top.mpr
      (fold_max_ne_top _ _ fun u => sc_ne_top (c := ⟨n, by omega⟩) ht _))).ne

theorem shift_real {h : Fin 2} {i : Fin 8} {j : Fin 512} {t : Fin 4096 → ℝ} (ht : ∀ x, score q k g h (at8 i j) x = t x)
    (hg : ∃ r : ℝ, g (ix4 0 h i j) = (r : EReal)) : ∃ β : ℝ, shift q k g h i.val j = (β : EReal) := by
  obtain ⟨r, hr⟩ := hg
  unfold shift
  rw [gate_at, hr]
  have h1 : (Finset.univ.fold max ⊥ fun s : Fin 8 => mx q k g h i.val (i.val + 1) s j) ≠ ⊤ :=
    fold_max_ne_top _ _ fun s => mx_ne_top ht _ (by omega) s
  have h2 : (Finset.univ.fold max ⊥ fun s : Fin 8 => mx q k g h i.val (i.val + 1) s j) ≠ ⊥ := by
    have a1 := le_fold_max' Finset.univ (fun s : Fin 8 => mx q k g h i.val (i.val + 1) s j) (Finset.mem_univ ⟨j.val % 8, by omega⟩)
    have a2 := le_fold_max' Finset.univ (fun u : Fin 64 => sc q k g h i.val i.val ⟨u.val * 8 + j.val % 8, by omega⟩ j) (Finset.mem_univ ⟨j.val / 8, by omega⟩)
    have a3 : sc q k g h i.val i.val ⟨(j.val / 8) * 8 + j.val % 8, by omega⟩ j = t (at8 i j) := by
      have e : (⟨(j.val / 8) * 8 + j.val % 8, by omega⟩ : Fin 512) = j := Fin.ext (by show (j.val / 8) * 8 + j.val % 8 = j.val; omega)
      rw [e]
      unfold sc
      rw [if_neg (lt_irrefl _), if_pos le_rfl, dotp_gate, ht, add_zero]
    have a4 : (t (at8 i j) : EReal) ≤ mx q k g h i.val (i.val + 1) ⟨j.val % 8, by omega⟩ j := by
      rw [← a3, mx]
      exact a2.trans (le_max_right _ _)
    exact ((EReal.bot_lt_coe _).trans_le (a4.trans a1)).ne'
  lift (Finset.univ.fold max ⊥ fun s : Fin 8 => mx q k g h i.val (i.val + 1) s j) to ℝ using ⟨h1, h2⟩ with X
  exact ⟨X + r - r, by rw [EReal.coe_sub, EReal.coe_add]⟩

/-- The weight of a key is its exponential up to the query, and nothing after it. -/
theorem wt_at {h : Fin 2} {i c : Fin 8} {r j : Fin 512} {t : Fin 4096 → ℝ} (ht : ∀ x, score q k g h (at8 i j) x = t x)
    {β : ℝ} (hβ : shift q k g h i.val j = (β : EReal)) (hc : c.val ≤ i.val) :
    wt q k g h i.val c.val r j = if at8 c r ≤ at8 i j then Ideal.exp2 ((t (at8 c r) : EReal) - (β : EReal)) else 0 := by
  unfold wt sc
  rw [hβ, dotp_gate, ht]
  have hle : at8 c r ≤ at8 i j ↔ r.val + 512 * c.val ≤ j.val + 512 * i.val := Iff.rfl
  by_cases hci : c.val < i.val
  · rw [if_pos hci, if_pos (hle.mpr (by omega))]
  · rw [if_neg hci]
    by_cases hr : r.val ≤ j.val
    · rw [if_pos hr, if_pos (hle.mpr (by omega)), add_zero]
    · rw [if_neg hr, if_neg (fun e => by have := hle.mp e; omega), EReal.add_bot, EReal.bot_sub, Ideal.exp2_bot]

theorem out_row (h : Fin 2) (d : Fin 64) (y : Fin 4096) {t : Fin 4096 → ℝ} (ht : ∀ x, score q k g h y x = t x)
    (hg : ∀ i j, ∃ r : ℝ, g (ix4 0 h i j) = (r : EReal)) :
    ∃ β : ℝ, outFn q k v g (ix4 0 0 y (lane h d))
      = (∑ x : Fin 4096, (v (ix4 0 0 x (lane h d)) : EReal) * (if x ≤ y then Ideal.exp2 ((t x : EReal) - (β : EReal)) else 0))
        * Ideal.div 1 (∑ x : Fin 4096, if x ≤ y then Ideal.exp2 ((t x : EReal) - (β : EReal)) else 0) := by
  obtain ⟨i, j, rfl⟩ : ∃ (i : Fin 8) (j : Fin 512), y = at8 i j :=
    ⟨⟨y.val / 512, by omega⟩, ⟨y.val % 512, by omega⟩, Fin.ext (show y.val = y.val % 512 + 512 * (y.val / 512) by omega)⟩
  obtain ⟨β, hβ⟩ := shift_real ht (hg i j)
  refine ⟨β, ?_⟩
  have e : outFn q k v g (ix4 0 0 (at8 i j) (lane h d)) = Out q k v g i.val (ix4 0 0 j (lane h d)) := by
    have e1 : (at8 i j).val / 512 = i.val := show (j.val + 512 * i.val) / 512 = i.val by omega
    have e2 : rowIn (ix4 0 0 (at8 i j) (lane h d)) = ix4 0 0 j (lane h d) := by
      funext a
      apply Fin.ext
      fin_cases a
      · rfl
      · rfl
      · exact show (j.val + 512 * i.val) % 512 = j.val by omega
      · exact show (lane h d).val % 128 = (lane h d).val from Nat.mod_eq_of_lt (lane h d).isLt
    show Out q k v g ((at8 i j).val / 512) _ = _
    rw [e1, e2]
  rw [e, Out_at]
  have hz : ∀ (c : Fin 8) (r : Fin 512), i.val < c.val → ¬ at8 c r ≤ at8 i j := fun c r hc hh => by
    have : r.val + 512 * c.val ≤ j.val + 512 * i.val := hh
    omega
  refine congrArg₂ (fun a b => a * Ideal.div 1 b) (sum_blocks i.isLt _ _ (fun c r hc => ?_) fun c r hc => ?_)
    (sum_blocks i.isLt _ _ (fun c r hc => ?_) fun c r hc => ?_)
  · rw [blk_at, wt_at ht hβ hc]
  · rw [if_neg (hz c r hc), mul_zero]
  · rw [wt_at ht hβ hc]
  · rw [if_neg (hz c r hc)]

end

end Cert.Proof.Fox
-- ==== Proof.Fox.Host.lean ====
/-
  The arrays the attention kernel's pipeline reads, as the host's operations leave them: the queries scaled, the
  keys, the values, the gates scaled, each laid out by pairs of heads.
-/
module

public import proofs.«01_k».proof.Proof.Gen.KernelIdeal.Frame
public import Idealize.ShloMosaic.Lib.Pointwise
public import Idealize.ShloMosaic.Lib.IdealHost
public import Idealize.ShloMosaic.Lib.StableHlo.Run

@[expose] public section

set_option maxRecDepth 16384

noncomputable section

namespace Cert.Proof.Fox

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- Heads in pairs. -/
def pair (x : FVec Ideal S16x4096x16x64 .f32) : FVec Ideal S16x8x4096x128 .bf16 :=
  truncf (F := Ideal) (φ := .f32) .bf16 (transpose S16x8x4096x128 [0, 2, 1, 3] (shapeCast S16x4096x8x128 x shapeCasts_S16x4096x16x64_S16x4096x8x128) transposes_S16x4096x8x128_S16x8x4096x128_0_2_1_3) bitsLt_bf16_f32

/-- One over the logarithm of two. -/
def rl : FVec Ideal S_ .f32 := Host.divf (constant (F := Ideal) S_ .f32 0x3F800000#32) (Host.log (constant (F := Ideal) S_ .f32 0x40000000#32))

def scaled (x : FVec Ideal S16x4096x16x64 .f32) : FVec Ideal S16x4096x16x64 .f32 :=
  mulf x (broadcastInDim S16x4096x16x64 ![] bcast_S_S16x4096x16x64 (mulf (constant (F := Ideal) S_ .f32 0x3E000000#32) rl))

def gates (x : FVec Ideal S16x4096x16 .f32) : FVec Ideal S16x16x8x512 .f32 :=
  shapeCast S16x16x8x512 (transpose S16x16x4096 [0, 2, 1] (mulf x (broadcastInDim S16x4096x16 ![] bcast_S_S16x4096x16 rl)) transposes_S16x4096x16_S16x16x4096_0_2_1) shapeCasts_S16x16x4096_S16x16x8x512

theorem V7 : V m c main_v7 = pair (scaled (m ((c : Thread nD τ).loc main_arg0))) := by
  show StableHlo.after hostOps0 _ _ = _
  after_results_simp <;> rfl

theorem V10 : V m c main_v10 = pair (m ((c : Thread nD τ).loc main_arg1)) := by
  show StableHlo.after hostOps0 _ _ = _
  after_results_simp <;> rfl

theorem V13 : V m c main_v13 = pair (m ((c : Thread nD τ).loc main_arg2)) := by
  show StableHlo.after hostOps0 _ _ = _
  after_results_simp <;> rfl

theorem V17 : V m c main_v17 = gates (m ((c : Thread nD τ).loc main_arg3)) := by
  show StableHlo.after hostOps0 _ _ = _
  after_results_simp <;> rfl

theorem pair_at (x : FVec Ideal S16x4096x16x64 .f32) (b : Fin 16) (p : Fin 8) (s : Fin 4096) (l : Fin 128) :
    (pair x (ix4 b p s l) : EReal) = x (ix4 b s ⟨p.val * 2 + l.val / 64, by omega⟩ ⟨l.val % 64, by omega⟩) := by
  pointwise [pair]

/-- One over the logarithm of two, a real. -/
def rlog : ℝ := 1 / Real.log 2

theorem two_f32 : (Ideal.ofBits .f32 0x40000000#32 : EReal) = ((2 : ℝ) : EReal) := by
  simp [Ideal.ofBits, Ideal.ieee, -EReal.coe_mul]; norm_num

theorem eighth_f32 : (Ideal.ofBits .f32 0x3E000000#32 : EReal) = ((1 / 8 : ℝ) : EReal) := by
  simp [Ideal.ofBits, Ideal.ieee, -EReal.coe_mul]; norm_num

theorem log2_pos : 0 < Real.log 2 := Real.log_pos (by norm_num)

theorem rl_at : (rl ix0 : EReal) = (rlog : EReal) := by
  have e : (rl ix0 : EReal) = Ideal.div (Ideal.ofBits .f32 0x3F800000#32) (Ideal.log (Ideal.ofBits .f32 0x40000000#32)) := rfl
  rw [e, two_f32, Ideal.ofBits_one_f32, Ideal.log_coe, if_neg (by norm_num), Ideal.div_coe log2_pos.ne', one_mul, rlog]

theorem scaled_at (x : FVec Ideal S16x4096x16x64 .f32) (i) : (scaled x i : EReal) = x i * ((1 / 8 * rlog : ℝ) : EReal) := by
  have e : (scaled x i : EReal) = x i * (Ideal.ofBits .f32 0x3E000000#32 * rl ix0) := rfl
  rw [e, eighth_f32, rl_at, ← EReal.coe_mul]

theorem gates_at (x : FVec Ideal S16x4096x16 .f32) (b h : Fin 16) (k : Fin 8) (r : Fin 512) :
    (gates x (ix4 b h k r) : EReal) = x (ix3 b ⟨k.val * 512 + r.val, by omega⟩ h) * (rlog : EReal) := by
  pointwise [gates]
  rw [rl_at]

end Cert.Proof.Fox
-- ==== Proof.Fox.Ref.lean ====
/-
  The reference attention read at an index: the scores with the gates' decay, masked; their maximum; the weights;
  the weighted sum of the values.
-/
module

public import proofs.«01_k».proof.Proof.Gen.ReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Cert.Proof.Fox

open Cert.ReferenceIdeal Cert.ReferenceIdeal.Gen
open Idealize.ShloMosaic Idealize.ShloMosaic.TcCoe

def rS (q k : FVec Ideal S16x4096x16x64 .f32) (ck : FVec Ideal S16x4096x16 .f32) : FVec Ideal S16x16x4096x4096 .f32 :=
  select (broadcastInDim S16x16x4096x4096 ![2, 3] bcast_S4096x4096_S16x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S16x4096x16x64_S16x4096x16x64_S16x16x4096x4096_3_3_1_1_02_02 none q k) (broadcastInDim S16x16x4096x4096 ![] bcast_S_S16x16x4096x4096 (constant S_ .f32 0x3E000000#32))) (subf (broadcastInDim S16x16x4096x4096 ![0, 1, 2, 3] bcast_S16x16x4096x1_S16x16x4096x4096_0_1_2_3 (broadcastInDim S16x16x4096x1 ![0, 1, 2] bcast_S16x16x4096_S16x16x4096x1_0_1_2 (transpose S16x16x4096 [0, 2, 1] ck transposes_S16x4096x16_S16x16x4096_0_2_1))) (broadcastInDim S16x16x4096x4096 ![0, 1, 2, 3] bcast_S16x16x1x4096_S16x16x4096x4096_0_1_2_3 (broadcastInDim S16x16x1x4096 ![0, 1, 3] bcast_S16x16x4096_S16x16x1x4096_0_1_3 (transpose S16x16x4096 [0, 2, 1] ck transposes_S16x4096x16_S16x16x4096_0_2_1))))) (broadcastInDim S16x16x4096x4096 ![] bcast_S_S16x16x4096x4096 (id (constant (F := Ideal) S_ .f32 0xFF800000#32) : FVec Ideal S_ .f32))

def rM (s : FVec Ideal S16x16x4096x4096 .f32) : FVec Ideal S16x16x4096 .f32 :=
  maximumf (broadcastInDim S16x16x4096 ![] bcast_S_S16x16x4096 (constant S_ .f32 0xFF800000#32)) (Host.reduce FloatOps.maximumf s (constant S_ .f32 0xFF800000#32) reducesTo_S16x16x4096x4096_S16x16x4096_d3 h_S_)

def rE (s : FVec Ideal S16x16x4096x4096 .f32) (m : FVec Ideal S16x16x4096 .f32) : FVec Ideal S16x16x4096x4096 .f32 :=
  Host.exp (subf s (broadcastInDim S16x16x4096x4096 ![0, 1, 2, 3] bcast_S16x16x4096x1_S16x16x4096x4096_0_1_2_3 (broadcastInDim S16x16x4096x1 ![0, 1, 2] bcast_S16x16x4096_S16x16x4096x1_0_1_2 m)))

def rP (e : FVec Ideal S16x16x4096x4096 .f32) : FVec Ideal S16x16x4096x4096 .f32 :=
  Host.divf e (broadcastInDim S16x16x4096x4096 ![0, 1, 2, 3] bcast_S16x16x4096x1_S16x16x4096x4096_0_1_2_3 (broadcastInDim S16x16x4096x1 ![0, 1, 2] bcast_S16x16x4096_S16x16x4096x1_0_1_2 (Host.reduceAdd e (constant S_ .f32 0x00000000#32) reducesTo_S16x16x4096x4096_S16x16x4096_d3 h_S_)))

def rO (v : FVec Ideal S16x4096x16x64 .f32) (p : FVec Ideal S16x16x4096x4096 .f32) : FVec Ideal S16x8x4096x128 .bf16 :=
  truncf (F := Ideal) (φ := .f32) .bf16 (transpose S16x8x4096x128 [0, 2, 1, 3] (shapeCast S16x4096x8x128 (transpose S16x4096x16x64 [0, 3, 1, 2] (Host.dotGeneral dot_S16x4096x16x64_S16x16x4096x4096_S16x16x64x4096_1_3_3_2_02_01 none v p) transposes_S16x16x64x4096_S16x4096x16x64_0_3_1_2) shapeCasts_S16x4096x16x64_S16x4096x8x128) transposes_S16x4096x8x128_S16x8x4096x128_0_2_1_3) bitsLt_bf16_f32

theorem res_eq (m : (ℓ : Loc nD τ sig) → Buf (Elt Ideal) ℓ) (c : Dev nD) :
    Value.res_main_v32 m c = rO (m ((c.tc : Thread nD τ).loc main_arg2)) (rP (rE
      (rS (m ((c.tc : Thread nD τ).loc main_arg0)) (m ((c.tc : Thread nD τ).loc main_arg1)) (m ((c.tc : Thread nD τ).loc main_arg3)))
      (rM (rS (m ((c.tc : Thread nD τ).loc main_arg0)) (m ((c.tc : Thread nD τ).loc main_arg1)) (m ((c.tc : Thread nD τ).loc main_arg3)))))) := rfl

/-- The head of lane `l` of pair `p`, and the lane within it. -/
def hd (p : Fin 8) (l : Fin 128) : Fin 16 := ⟨p.val * 2 + l.val / 64, by omega⟩
def ln (l : Fin 128) : Fin 64 := ⟨l.val % 64, by omega⟩

theorem rO_at (v : FVec Ideal S16x4096x16x64 .f32) (p : FVec Ideal S16x16x4096x4096 .f32) (b : Fin 16) (h : Fin 8) (s : Fin 4096) (l : Fin 128) :
    rO v p (ix4 b h s l) = ∑ x : Fin 4096, (v (ix4 b x (hd h l) (ln l)) : EReal) * p (ix4 b (hd h l) s x) := by
  pointwise [rO]
  rfl

theorem rP_at (e : FVec Ideal S16x16x4096x4096 .f32) (b h : Fin 16) (s x : Fin 4096) :
    rP e (ix4 b h s x) = Ideal.div (e (ix4 b h s x)) (∑ t : Fin 4096, (e (ix4 b h s t) : EReal)) := by
  pointwise [rP]

theorem rE_at (s : FVec Ideal S16x16x4096x4096 .f32) (m : FVec Ideal S16x16x4096 .f32) (b h : Fin 16) (y x : Fin 4096) :
    rE s m (ix4 b h y x) = Ideal.exp ((s (ix4 b h y x) : EReal) - m (ix3 b h y)) := by
  pointwise [rE]

theorem fold_spec {ι : Type*} [DecidableEq ι] (s : Finset ι) (f : ι → EReal) {b : EReal} (hb : b ≠ ⊤) (hf : ∀ i, f i ≠ ⊤) :
    (s.fold (FloatOps.maximumf (F := Ideal) (φ := .f32)) b f : EReal) ≠ ⊤ ∧ ∀ i ∈ s, f i ≤ (s.fold (FloatOps.maximumf (F := Ideal) (φ := .f32)) b f : EReal) := by
  induction s using Finset.induction_on with
  | empty => exact ⟨by rw [Finset.fold_empty]; exact hb, fun i hi => absurd hi (Finset.notMem_empty i)⟩
  | insert a s ha ih =>
    have e : ((insert a s).fold (FloatOps.maximumf (F := Ideal) (φ := .f32)) b f : EReal) = max (f a) (s.fold (FloatOps.maximumf (F := Ideal) (φ := .f32)) b f : EReal) :=
      Finset.fold_insert ha
    rw [e]
    refine ⟨(max_lt (lt_top_iff_ne_top.mpr (hf a)) (lt_top_iff_ne_top.mpr ih.1)).ne, fun i hi => ?_⟩
    rcases Finset.mem_insert.mp hi with rfl | hi
    · exact le_max_left _ _
    · exact (ih.2 i hi).trans (le_max_right _ _)

theorem maximumf_at {s : Shape} (x y : FVec Ideal s .f32) (i : s.Idx) : (maximumf x y i : EReal) = max (x i : EReal) (y i) := rfl

theorem splat_at {s t : Shape} {d : Fin t.rank → Fin s.rank} (h : Shape.BroadcastsInDim t s d) (w : BitVec 32) (i : s.Idx) :
    (broadcastInDim s d h (constant (F := Ideal) t .f32 w) i : EReal) = Ideal.ofBits .f32 w := rfl

theorem rM_spec (s : FVec Ideal S16x16x4096x4096 .f32) (hs : ∀ i, (s i : EReal) ≠ ⊤) (b h : Fin 16) (y x : Fin 4096) :
    (rM s (ix3 b h y) : EReal) ≠ ⊤ ∧ (s (ix4 b h y x) : EReal) ≤ rM s (ix3 b h y) := by
  have hb : (Ideal.ofBits .f32 0xFF800000#32 : EReal) = ⊥ := by simp [Ideal.ofBits, Ideal.ieee]
  unfold rM
  rw [maximumf_at, Host.reduce_eq_fold, splat_at, hb, max_eq_right bot_le]
  have k := fold_spec (Finset.univ.filter fun i => reducesTo_S16x16x4096x4096_S16x16x4096_d3.drop i = ix3 b h y) s
    (b := (constant (F := Ideal) S_ .f32 0xFF800000#32 (Shape.Idx.first h_S_) : EReal)) (by
      show (Ideal.ofBits .f32 0xFF800000#32 : EReal) ≠ ⊤
      rw [hb]; exact bot_ne_top) hs
  refine ⟨k.1, k.2 _ (Finset.mem_filter.mpr ⟨Finset.mem_univ _, ?_⟩)⟩
  funext a
  apply Fin.ext
  fin_cases a <;> rfl

theorem rS_at (q k : FVec Ideal S16x4096x16x64 .f32) (ck : FVec Ideal S16x4096x16 .f32) (b h : Fin 16) (y x : Fin 4096) :
    rS q k ck (ix4 b h y x) = Scalar.select (IntOp.cmpi CmpIPredicate.sle (BitVec.ofNat 32 ↑x) (BitVec.ofNat 32 ↑y))
      ((∑ l : Fin 64, (q (ix4 b y h l) : EReal) * k (ix4 b x h l)) * Ideal.ofBits FTy.f32 1040187392#32 + (ck (ix3 b y h) - ck (ix3 b x h)))
      (Ideal.ofBits .f32 4286578688#32) := by
  pointwise [rS]
  rfl

end Cert.Proof.Fox
-- ==== Proof.Fox.Softmax.lean ====
/-
  Two forms of a masked softmax over the extended reals: weights taken to base 2 and shifted by one real, against
  weights taken to base e and shifted by another.
-/
module

public import Idealize.ShloMosaic.Lib.Pointwise

@[expose] public section

noncomputable section

namespace Cert.Proof.Fox

open Idealize.ShloMosaic

theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- Multiplication by a nonnegative real distributes over a sum. -/
theorem sum_mul_coe {ι : Type*} (s : Finset ι) (f : ι → EReal) {r : ℝ} (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- The quotient does not depend on the base or the shift. -/
theorem softmax_eq {n : ℕ} (P : Fin n → Prop) [DecidablePred P] (t l : Fin n → ℝ) (a β μ : ℝ) (h : ∀ x, t x * Real.log 2 = l x - a)
    (v : Fin n → EReal) (y : Fin n) (hy : P y) :
    (∑ x, v x * (if P x then Ideal.exp2 ((t x : EReal) - (β : EReal)) else 0))
        * Ideal.div 1 (∑ x, (if P x then Ideal.exp2 ((t x : EReal) - (β : EReal)) else 0))
      = ∑ x, v x * Ideal.div (Ideal.exp ((if P x then (l x : EReal) else ⊥) - (μ : EReal)))
          (∑ x, Ideal.exp ((if P x then (l x : EReal) else ⊥) - (μ : EReal))) := by
  set c : ℝ := Real.exp (μ - a - Real.log 2 * β) with hc
  have hc0 : 0 < c := Real.exp_pos _
  set e : Fin n → ℝ := fun x => if P x then Real.exp (l x - μ) else 0 with he
  have he0 : ∀ x, 0 ≤ e x := fun x => by simp only [he]; split <;> positivity
  have e1 : ∀ x, Ideal.exp ((if P x then (l x : EReal) else ⊥) - (μ : EReal)) = (e x : EReal) := fun x => by
    simp only [he]
    split
    · rw [← EReal.coe_sub, Ideal.exp_coe]
    · rw [EReal.bot_sub, Ideal.exp_bot, EReal.coe_zero]
  have w1 : ∀ x, (if P x then Ideal.exp2 ((t x : EReal) - (β : EReal)) else 0) = ((c * e x : ℝ) : EReal) := fun x => by
    simp only [he]
    split
    · rw [← EReal.coe_sub, Ideal.exp2_coe]
      congr 1
      show (2 : ℝ) ^ (t x - β) = _
      rw [Real.rpow_def_of_pos (by norm_num), hc, ← Real.exp_add]
      congr 1
      linear_combination h x
    · simp
  simp only [e1, w1, ← coe_sum]
  have hE : 0 < ∑ x, e x := Finset.sum_pos' (fun x _ => he0 x) ⟨y, Finset.mem_univ _, by simp only [he, if_pos hy]; exact Real.exp_pos _⟩
  have hW : ∑ x, c * e x = c * ∑ x, e x := by rw [Finset.mul_sum]
  have hW0 : 0 < c * ∑ x, e x := mul_pos hc0 hE
  rw [hW, Ideal.div_coe hW0.ne', one_mul, sum_mul_coe _ _ (by positivity)]
  refine Finset.sum_congr rfl fun x _ => ?_
  rw [Ideal.div_coe hE.ne', mul_assoc, ← EReal.coe_mul, ← EReal.coe_mul]
  congr 2
  field_simp

end Cert.Proof.Fox
-- ==== Proof.Fox.Entry.lean ====
/-
  An entry of the kernel's output block is the reference's entry, where the queries, keys and gates are finite.
-/
module

public import proofs.«01_k».proof.Proof.Fox.Row
public import proofs.«01_k».proof.Proof.Fox.Host
public import proofs.«01_k».proof.Proof.Fox.Ref
public import proofs.«01_k».proof.Proof.Fox.Softmax

@[expose] public section

set_option maxRecDepth 16384

noncomputable section

namespace Cert.Proof.Fox

open Idealize.ShloMosaic Idealize.ShloMosaic.TcCoe

/-- The reference's result of its four arguments. -/
def refOut (q k v : FVec Ideal Cert.ReferenceIdeal.S16x4096x16x64 .f32) (g : FVec Ideal Cert.ReferenceIdeal.S16x4096x16 .f32) :
    FVec Ideal Cert.ReferenceIdeal.S16x8x4096x128 .bf16 := rO v (rP (rE (rS q k g) (rM (rS q k g))))

theorem rS_real (q k : FVec Ideal Cert.ReferenceIdeal.S16x4096x16x64 .f32) (g : FVec Ideal Cert.ReferenceIdeal.S16x4096x16 .f32)
    {qr kr : Cert.ReferenceIdeal.S16x4096x16x64.Idx → ℝ} {gr : Cert.ReferenceIdeal.S16x4096x16.Idx → ℝ}
    (hq : ∀ i, (q i : EReal) = qr i) (hk : ∀ i, (k i : EReal) = kr i) (hg : ∀ i, (g i : EReal) = gr i) (b h : Fin 16) (y x : Fin 4096) :
    (rS q k g (ix4 b h y x) : EReal) = if x ≤ y then
      (((∑ l : Fin 64, qr (ix4 b y h l) * kr (ix4 b x h l)) * (1 / 8) + (gr (ix3 b y h) - gr (ix3 b x h)) : ℝ) : EReal) else ⊥ := by
  rw [rS_at, select_eq, neg_inf]
  refine if_congr (sle_iff (by omega) (by omega)) ?_ rfl
  simp only [hq, hk, hg]
  rw [EReal.coe_add, EReal.coe_mul, EReal.coe_sub, coe_sum, eighth_f32]
  simp only [EReal.coe_mul]

theorem entry (q k v : FVec Ideal Cert.ReferenceIdeal.S16x4096x16x64 .f32) (g : FVec Ideal Cert.ReferenceIdeal.S16x4096x16 .f32)
    (hq : ∀ i, ∃ r : ℝ, (q i : EReal) = r) (hk : ∀ i, ∃ r : ℝ, (k i : EReal) = r) (hg : ∀ i, ∃ r : ℝ, (g i : EReal) = r)
    (Q K W : Vec Ideal Cert.KernelIdeal.S1x1x4096x128 .bf16) (G : Vec Ideal Cert.KernelIdeal.S1x2x8x512 .f32) (b : Fin 16) (p : Fin 8)
    (hQ : ∀ s l, (Q (ix4 0 0 s l) : EReal) = pair (scaled q) (ix4 b p s l)) (hK : ∀ s l, (K (ix4 0 0 s l) : EReal) = pair k (ix4 b p s l))
    (hW : ∀ s l, (W (ix4 0 0 s l) : EReal) = pair v (ix4 b p s l))
    (hG : ∀ (h : Fin 2) c r, (G (ix4 0 h c r) : EReal) = gates g (ix4 b ⟨p.val * 2 + h.val, by omega⟩ c r)) (y : Fin 4096) (l : Fin 128) :
    (outFn Q K W G (ix4 0 0 y l) : EReal) = refOut q k v g (ix4 b p y l) := by
  choose qr hq using hq
  choose kr hk using hk
  choose gr hg using hg
  obtain ⟨h, d, rfl⟩ : ∃ (h : Fin 2) (d : Fin 64), l = lane h d :=
    ⟨⟨l.val / 64, by omega⟩, ⟨l.val % 64, by omega⟩, Fin.ext (show l.val = 64 * (l.val / 64) + l.val % 64 by omega)⟩
  set H : Fin 16 := ⟨p.val * 2 + h.val, by omega⟩ with hH
  have lane_hd : ∀ d : Fin 64, (⟨p.val * 2 + (lane h d).val / 64, by omega⟩ : Fin 16) = H := fun d => Fin.ext (by
    show p.val * 2 + (64 * h.val + d.val) / 64 = p.val * 2 + h.val; omega)
  have lane_ln : ∀ d : Fin 64, (⟨(lane h d).val % 64, by omega⟩ : Fin 64) = d := fun d => Fin.ext (by
    show (64 * h.val + d.val) % 64 = d.val; omega)
  set t : Fin 4096 → ℝ := fun x => (∑ l : Fin 64, kr (ix4 b x H l) * (qr (ix4 b y H l) * (1 / 8 * rlog))) - gr (ix3 b x H) * rlog with ht
  have ht' : ∀ x, score Q K G h y x = t x := fun x => by
    unfold score
    rw [hG, gates_at, hg]
    have e : (⟨(x.val / 512) * 512 + x.val % 512, by omega⟩ : Fin 4096) = x := Fin.ext (by show (x.val / 512) * 512 + x.val % 512 = x.val; omega)
    simp only [hQ, hK, pair_at, lane_hd, lane_ln, scaled_at, hq, hk, e, ht]
    rw [EReal.coe_sub, EReal.coe_mul, coe_sum]
    simp only [EReal.coe_mul]
    rfl
  have hG' : ∀ i j, ∃ r : ℝ, (G (ix4 0 h i j) : EReal) = (r : EReal) := fun i j => ⟨_, by rw [hG, gates_at, hg, ← EReal.coe_mul]⟩
  obtain ⟨β, hβ⟩ := out_row (q := Q) (k := K) (v := W) (g := G) h d y ht' hG'
  rw [hβ]
  set L : Fin 4096 → ℝ := fun x => (∑ l : Fin 64, qr (ix4 b y H l) * kr (ix4 b x H l)) * (1 / 8) + (gr (ix3 b y H) - gr (ix3 b x H)) with hL
  have hS : ∀ x, (rS q k g (ix4 b H y x) : EReal) = if x ≤ y then ((L x : ℝ) : EReal) else ⊥ := fun x => rS_real q k g hq hk hg b H y x
  have hT : ∀ i, (rS q k g i : EReal) ≠ ⊤ := fun i => by
    idx_vars i
    rw [rS_real q k g hq hk hg]
    split
    · exact EReal.coe_ne_top _
    · exact bot_ne_top
  obtain ⟨m1, m2⟩ := rM_spec (rS q k g) hT b H y y
  rw [hS, if_pos le_rfl] at m2
  have m3 : (rM (rS q k g) (ix3 b H y) : EReal) ≠ ⊥ := ((EReal.bot_lt_coe _).trans_le m2).ne'
  obtain ⟨μ, hμ⟩ : ∃ μ : ℝ, (rM (rS q k g) (ix3 b H y) : EReal) = (μ : EReal) := ⟨_, (EReal.coe_toReal m1 m3).symm⟩
  have hhd : hd p (lane h d) = H := lane_hd d
  have hln : ln (lane h d) = d := lane_ln d
  unfold refOut
  rw [rO_at]
  simp only [rP_at, rE_at, hhd, hln, hS, hμ, hW, pair_at, lane_hd, lane_ln]
  refine softmax_eq (fun x => x ≤ y) t L (gr (ix3 b y H)) β μ (fun x => ?_) _ y le_rfl
  have hr : rlog * Real.log 2 = 1 := by rw [rlog, one_div, inv_mul_cancel₀ log2_pos.ne']
  simp only [ht, hL]
  have e : (∑ l : Fin 64, kr (ix4 b x H l) * (qr (ix4 b y H l) * (1 / 8 * rlog))) = (∑ l : Fin 64, qr (ix4 b y H l) * kr (ix4 b x H l)) * (1 / 8) * rlog := by
    rw [Finset.sum_mul, Finset.sum_mul]
    exact Finset.sum_congr rfl fun l _ => by ring
  rw [e]
  linear_combination ((∑ l : Fin 64, qr (ix4 b y H l) * kr (ix4 b x H l)) * (1 / 8) - gr (ix3 b x H)) * hr

end Cert.Proof.Fox
-- ==== Proof.Fox.Value.lean ====
/-
  The kernel's result array is the reference's, where the queries, keys and gates are finite.
-/
module

public import proofs.«01_k».proof.Proof.Fox.Entry
public import Idealize.ShloMosaic.Lib.Pipeline.ValueKit

@[expose] public section

set_option maxRecDepth 16384

noncomputable section

namespace Cert.Proof.Fox

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem idx : ∀ t : Fin cfg0.N, win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0] :=
  (by decide +kernel : ∀ t : Fin grid0.N, _)

/-- The batch and the pair of heads of a grid point. -/
def pb (t : Fin cfg0.N) : Fin 16 := ⟨(grid0.coords t 0).val, (grid0.coords t 0).isLt⟩
def pp (t : Fin cfg0.N) : Fin 8 := ⟨(grid0.coords t 1).val, (grid0.coords t 1).isLt⟩

theorem blk0 (c : Dev nD) (t : Fin cfg0.N) (s : Fin 4096) (l : Fin 128) :
    (iblk m c 0 t : Vec Ideal S1x1x4096x128 .bf16) (ix4 0 0 s l) = V m c main_v7 (ix4 (pb t) (pp t) s l) := by
  unfold pb pp
  blk_ext [iblk, idx t]
theorem blk1 (c : Dev nD) (t : Fin cfg0.N) (s : Fin 4096) (l : Fin 128) :
    (iblk m c 1 t : Vec Ideal S1x1x4096x128 .bf16) (ix4 0 0 s l) = V m c main_v10 (ix4 (pb t) (pp t) s l) := by
  unfold pb pp
  blk_ext [iblk, idx t]
theorem blk2 (c : Dev nD) (t : Fin cfg0.N) (s : Fin 4096) (l : Fin 128) :
    (iblk m c 2 t : Vec Ideal S1x1x4096x128 .bf16) (ix4 0 0 s l) = V m c main_v13 (ix4 (pb t) (pp t) s l) := by
  unfold pb pp
  blk_ext [iblk, idx t]
theorem blk3 (c : Dev nD) (t : Fin cfg0.N) (h : Fin 2) (k : Fin 8) (r : Fin 512) :
    (iblk m c 3 t : Vec Ideal S1x2x8x512 .f32) (ix4 0 h k r) = V m c main_v17 (ix4 (pb t) ⟨(pp t).val * 2 + h.val, by omega⟩ k r) := by
  unfold pb pp
  blk_ext [iblk, idx t]

/-- Every entry is a real number. -/
def IsReal {s : Shape} (x : FVec Ideal s .f32) : Prop := ∀ i, ∃ r : ℝ, (x i : EReal) = r

theorem final (c : Dev nD)
    (hq : IsReal (m ((c : Thread nD τ).loc main_arg0) : FVec Ideal S16x4096x16x64 .f32))
    (hk : IsReal (m ((c : Thread nD τ).loc main_arg1) : FVec Ideal S16x4096x16x64 .f32))
    (hg : IsReal (m ((c : Thread nD τ).loc main_arg3) : FVec Ideal S16x4096x16 .f32)) :
    (dats m 0 c).arrAt 4 cfg0.N = refOut (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  have e : ((win0_4.blk t).view.emb y : S16x8x4096x128.Idx) = ix4 (pb t) (pp t) (y 2) (y 3) := by
    idx_bounds y
    unfold pb pp
    blk_ext [idx t]
  have ey : (y : S1x1x4096x128.Idx) = ix4 0 0 (y 2) (y 3) := by
    idx_bounds y
    blk_ext [idx t]
  refine Eq.trans (congrArg _ ey) (Eq.trans ?_ (congrArg _ e.symm))
  refine entry _ _ _ _ hq hk hg _ _ _ _ (pb t) (pp t) (fun s l => ?_) (fun s l => ?_) (fun s l => ?_) (fun h k r => ?_) (y 2) (y 3)
  · rw [blk0, V7]
  · rw [blk1, V10]
  · rw [blk2, V13]
  · rw [blk3, V17]

end Cert.Proof.Fox
-- ==== Proof.Fox.Alg.lean ====
/-
  The attention's algebraic claim: under the precondition the kernel's result array is the reference's.
-/
module

public import proofs.«01_k».proof.Defs
public import proofs.«01_k».proof.Proof.Fox.Value
public import proofs.«01_k».proof.Proof.Gen.Pre_finite_scores
public import Idealize.ShloMosaic.Lib.ReduceAll

@[expose] public section

set_option maxRecDepth 16384

noncomputable section

namespace Cert.Proof.Fox

open Idealize.ShloMosaic Idealize.ShloMosaic.TcCoe Idealize.SL.Sem

theorem inf_f32 : (Ideal.ofBits .f32 0x7F800000#32 : EReal) = ⊤ := by simp [Ideal.ofBits, Ideal.ieee]

/-- An extended real whose absolute value is below infinity is real. -/
theorem real_of_lt {x : EReal} (h : (FloatOps.cmpf (F := Ideal) (φ := .f32) .olt (max x (-x)) (Ideal.ofBits .f32 0x7F800000#32)) = 1#1) :
    ∃ r : ℝ, x = r := by
  rw [inf_f32] at h
  have h' : max x (-x) < ⊤ := by
    by_contra hn
    simp [FloatOps.cmpf, Ideal.cmp, hn] at h
  refine ⟨x.toReal, (EReal.coe_toReal ?_ ?_).symm⟩
  · exact ((le_max_left _ _).trans_lt h').ne
  · rintro rfl
    simp at h'

theorem finite_of_pre (q k v : FVec Ideal Cert.Pre_finite_scores.S16x4096x16x64 .f32) (g : FVec Ideal Cert.Pre_finite_scores.S16x4096x16 .f32)
    (h : Cert.Pre_finite_scores.fn (F := Ideal) q k v g = fun _ => 1#1) : IsReal q ∧ IsReal k ∧ IsReal g := by
  have h0 := congrFun h ix0
  dsimp only [Cert.Pre_finite_scores.fn, andi] at h0
  obtain ⟨h1, h2⟩ := IntOp.andi_eq_one.1 h0
  obtain ⟨h3, h4⟩ := IntOp.andi_eq_one.1 h1
  haveI : Subsingleton Cert.Pre_finite_scores.S_.Idx := ⟨fun a b => funext fun i => i.elim0⟩
  exact ⟨fun i => real_of_lt (Host.reduce_andi_all _ _ _ _ _ h3 i), fun i => real_of_lt (Host.reduce_andi_all _ _ _ _ _ h4 i),
    fun i => real_of_lt (Host.reduce_andi_all _ _ _ _ _ h2 i)⟩

theorem alg : Cert.algebraic_KernelIdeal_ReferenceIdeal_pre_finite_scores := by
  intro m g m' g' hpre hm
  refine ⟨fun c => refOut (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run (Cert.KernelIdeal.defs (F := Ideal)) _ _).mono (fun r h c => ⟨?_, h.2.1 c⟩) (θ_run_and (run_main m g) (fox_frame m g))
    obtain ⟨hq, hk, hg⟩ := finite_of_pre _ _ _ _ (hpre c)
    exact ((h.1 c).1 4).trans (final m c hq hk hg)
  · refine (θ_run (Cert.ReferenceIdeal.defs (F := Ideal)) _ _).mono (fun r h c => ⟨(h c).1.trans ?_, (h c).2⟩) (Cert.ReferenceIdeal.Value.run (F := Ideal) m' g')
    obtain ⟨e0, e1, e2, e3⟩ := hm c
    rw [res_eq, e0, e1, e2, e3]
    rfl

end Cert.Proof.Fox
-- ==== Proof.FfnValue.Row.lean ====
/-
  The feed-forward layer of one row, and the kernel's output block read at an index as it.
-/
module

public import proofs.«01_k».proof.Proof.Gen.FfnIdeal.Value
public import Idealize.ShloMosaic.Lib.Pointwise
public import Idealize.ShloMosaic.Lib.Pipeline.ValueKit

@[expose] public section

set_option maxRecDepth 16384

noncomputable section

namespace Cert.Proof.FfnValue

open Idealize.ShloMosaic Idealize.ShloMosaic.TcCoe Idealize.SL.Sem
open Cert.FfnIdeal Cert.FfnIdeal.Gen

/-- The normalized row. -/
def nrm (x g : Fin 1024 → EReal) (k : Fin 1024) : EReal :=
  x k * Ideal.rsqrt (Ideal.div (∑ j, x j * x j) (Ideal.ofBits .f32 1149239296#32) + Ideal.ofBits .f32 897988541#32) * g k

/-- One hidden unit, of its two columns. -/
def hid (z w u : Fin 1024 → EReal) : EReal := (∑ k, z k * w k) * Ideal.logistic (∑ k, z k * w k) * ∑ k, z k * u k

/-- The layer's row. -/
def row (x g : Fin 1024 → EReal) (w : Fin 1024 → Fin 5632 → EReal) (o : Fin 2816 → Fin 1024 → EReal) (d : Fin 1024) : EReal :=
  x d + Ideal.ofBits .f32 1056964608#32 * ∑ n : Fin 2816, hid (nrm x g) (fun k => w k ⟨n.val, by omega⟩) (fun k => w k ⟨2816 + n.val, by omega⟩) * o n d

theorem pay3_at (v0 : Vec Ideal S512x1024 .f32) (v2 : Vec Ideal S1x1024 .f32) (r : Fin 512) (k : Fin 1024) :
    (k0_pay3 v0 v2 (ix2 r k) : EReal) = nrm (fun k => v0 (ix2 r k)) (fun k => v2 (ix2 0 k)) k := by
  pointwise [k0_pay3, k0_pay2]
  rfl

theorem pay9_at (v0 : Vec Ideal S512x1024 .f32) (v2 : Vec Ideal S1x1024 .f32) (r : Fin 512) (k : Fin 1024) :
    (k0_pay9 v0 v2 (ix2 r k) : EReal) = nrm (fun k => v0 (ix2 r k)) (fun k => v2 (ix2 0 k)) k := pay3_at v0 v2 r k

/-- The first store's rows. -/
theorem first_at (v0 : Vec Ideal S512x1024 .f32) (v2 : Vec Ideal S1x1024 .f32) (a b : Vec Ideal S1024x1536 .bf16) (w : Vec Ideal S1536x1024 .bf16)
    (a' b' : Vec Ideal S1024x1280 .bf16) (w' : Vec Ideal S1280x1024 .bf16) (r : Fin 512) (d : Fin 1024) :
    (k0_pay7 (k0_pay2 v0) (k0_pay3 v0 v2) (k0_pay4 v0 v2 a b w) (k0_pay5 v0 v2 a') (k0_pay6 b') w' (ix2 r d) : EReal)
      = v0 (ix2 r d) + Ideal.ofBits .f32 1056964608#32 * ((∑ n : Fin 1536, hid (nrm (fun k => v0 (ix2 r k)) (fun k => v2 (ix2 0 k))) (fun k => a (ix2 k n)) (fun k => b (ix2 k n)) * w (ix2 n d))
        + ∑ n : Fin 1280, hid (nrm (fun k => v0 (ix2 r k)) (fun k => v2 (ix2 0 k))) (fun k => a' (ix2 k n)) (fun k => b' (ix2 k n)) * w' (ix2 n d)) := by
  pointwise [k0_pay7, k0_pay4, k0_pay5, k0_pay6, k0_pay2]
  simp only [pay3_at]
  rfl

/-- The second store's rows. -/
theorem second_at (v0 : Vec Ideal S512x1024 .f32) (v2 : Vec Ideal S1x1024 .f32) (a b : Vec Ideal S1024x1536 .bf16) (w : Vec Ideal S1536x1024 .bf16)
    (a' b' : Vec Ideal S1024x1280 .bf16) (w' : Vec Ideal S1280x1024 .bf16) (r : Fin 512) (d : Fin 1024) :
    (k0_pay1 (k0_pay8 v0) (k0_pay9 v0 v2) (k0_pay10 (F := Ideal)) (k0_pay11 v0 v2 a) (k0_pay12 v0 v2 b) (k0_pay13 v0 v2 a) w a' b' w' (ix2 r d) : EReal)
      = v0 (ix2 r d) + Ideal.ofBits .f32 1056964608#32 * ((∑ n : Fin 1536, hid (nrm (fun k => v0 (ix2 r k)) (fun k => v2 (ix2 0 k))) (fun k => a (ix2 k n)) (fun k => b (ix2 k n)) * w (ix2 n d))
        + ∑ n : Fin 1280, hid (nrm (fun k => v0 (ix2 r k)) (fun k => v2 (ix2 0 k))) (fun k => a' (ix2 k n)) (fun k => b' (ix2 k n)) * w' (ix2 n d)) := by
  pointwise [k0_pay1, k0_pay8, k0_pay10, k0_pay11, k0_pay12, k0_pay13]
  simp only [pay9_at]
  rfl

/-- A sum over the hidden units in the kernel's two blocks. -/
theorem split_sum (f : Fin 2816 → EReal) : ∑ n, f n = (∑ n : Fin 1536, f ⟨n.val, by omega⟩) + ∑ n : Fin 1280, f ⟨1536 + n.val, by omega⟩ :=
  Fin.sum_univ_add (a := 1536) (b := 1280) f

/-- A row in the kernel's two blocks of hidden units, over any reads of its operands. -/
theorem row_eq (x g x' g' : Fin 1024 → EReal) (w : Fin 1024 → Fin 5632 → EReal) (o : Fin 2816 → Fin 1024 → EReal) (d : Fin 1024)
    (a b : Fin 1024 → Fin 1536 → EReal) (c : Fin 1536 → EReal) (a' b' : Fin 1024 → Fin 1280 → EReal) (c' : Fin 1280 → EReal)
    (hx : ∀ k, x' k = x k) (hg : ∀ k, g' k = g k)
    (ha : ∀ k n, a k n = w k ⟨n.val, by omega⟩) (hb : ∀ k n, b k n = w k ⟨2816 + n.val, by omega⟩) (hc : ∀ n, c n = o ⟨n.val, by omega⟩ d)
    (ha' : ∀ k n, a' k n = w k ⟨1536 + n.val, by omega⟩) (hb' : ∀ k n, b' k n = w k ⟨4352 + n.val, by omega⟩) (hc' : ∀ n, c' n = o ⟨1536 + n.val, by omega⟩ d) :
    x' d + Ideal.ofBits .f32 1056964608#32 * ((∑ n : Fin 1536, hid (nrm x' g') (fun k => a k n) (fun k => b k n) * c n)
        + ∑ n : Fin 1280, hid (nrm x' g') (fun k => a' k n) (fun k => b' k n) * c' n) = row x g w o d := by
  obtain rfl : x' = x := funext hx
  obtain rfl : g' = g := funext hg
  unfold row
  rw [split_sum]
  simp only [ha, hb, hc, ha', hb', hc', ← Nat.add_assoc]

/-- A load through a rectangle of a matrix, at an index. -/
theorem ld_at {α : EltTy} {n m n' m' : ℕ} (X : (⟨2, ![n, m]⟩ : Shape).Idx → Elt Ideal α) (o₀ o₁ : ℕ) (inb) (i : Fin n') (j : Fin m') (i' : Fin n) (j' : Fin m)
    (h₀ : i'.val = o₀ + i.val) (h₁ : j'.val = o₁ + j.val) :
    View.ld X (Rect.unit ![o₀, o₁] (⟨2, ![n', m']⟩ : Shape).size inb) (ix2 i j) = X (ix2 i' j') :=
  View.ld_unit_apply_of X _ _ _ _ _ (Fin.forall_fin_two.2 ⟨h₀, h₁⟩)

theorem block_at (x0 : Vec Ideal S1024x1024 .f32) (x1 : Vec Ideal S1x1024 .f32) (x2 : Vec Ideal S1024x5632 .bf16) (x3 : Vec Ideal S2816x1024 .bf16) (y : S1024x1024.Idx) :
    (out0_4 x0 x1 x2 x3 y : EReal) = row (fun k => x0 (ix2 (y 0) k)) (fun k => x1 (ix2 0 k)) (fun k n => x2 (ix2 k n)) (fun n d => x3 (ix2 n d)) (y 1) := by
  canon_tiles x h
  · have e1 : y 1 = x 1 := Fin.ext h1
    have ex : x = ix2 (x 0) (x 1) := by blk_ext
    refine (congrArg _ ex).trans ((second_at (View.ld x0 r0_8) (View.ld x1 r0_1) (View.ld x2 r0_2) (View.ld x2 r0_3) (View.ld x3 r0_4) (View.ld x2 r0_5)
      (View.ld x2 r0_6) (View.ld x3 r0_7) (x 0) (x 1)).trans ?_)
    rw [e1]
    refine row_eq (fun k => x0 (ix2 (y 0) k)) (fun k => x1 (ix2 0 k)) (fun k => View.ld x0 r0_8 (ix2 (x 0) k)) (fun k => View.ld x1 r0_1 (ix2 0 k))
      (fun k n => x2 (ix2 k n)) (fun n d => x3 (ix2 n d)) (x 1) (fun k n => View.ld x2 r0_2 (ix2 k n)) (fun k n => View.ld x2 r0_3 (ix2 k n))
      (fun n => View.ld x3 r0_4 (ix2 n (x 1))) (fun k n => View.ld x2 r0_5 (ix2 k n)) (fun k n => View.ld x2 r0_6 (ix2 k n))
      (fun n => View.ld x3 r0_7 (ix2 n (x 1))) (fun k => ?_) (fun k => ?_) (fun k n => ?_) (fun k n => ?_) (fun n => ?_) (fun k n => ?_) (fun k n => ?_) (fun n => ?_)
    all_goals
      refine ld_at _ _ _ _ _ _ _ _ ?_ ?_
      all_goals first | rfl | exact (Nat.zero_add _).symm | omega
  · have e1 : y 1 = x 1 := Fin.ext h1
    have ex : x = ix2 (x 0) (x 1) := by blk_ext
    refine (congrArg _ ex).trans ((first_at (View.ld x0 r0_0) (View.ld x1 r0_1) (View.ld x2 r0_2) (View.ld x2 r0_3) (View.ld x3 r0_4) (View.ld x2 r0_5)
      (View.ld x2 r0_6) (View.ld x3 r0_7) (x 0) (x 1)).trans ?_)
    rw [e1]
    refine row_eq (fun k => x0 (ix2 (y 0) k)) (fun k => x1 (ix2 0 k)) (fun k => View.ld x0 r0_0 (ix2 (x 0) k)) (fun k => View.ld x1 r0_1 (ix2 0 k))
      (fun k n => x2 (ix2 k n)) (fun n d => x3 (ix2 n d)) (x 1) (fun k n => View.ld x2 r0_2 (ix2 k n)) (fun k n => View.ld x2 r0_3 (ix2 k n))
      (fun n => View.ld x3 r0_4 (ix2 n (x 1))) (fun k n => View.ld x2 r0_5 (ix2 k n)) (fun k n => View.ld x2 r0_6 (ix2 k n))
      (fun n => View.ld x3 r0_7 (ix2 n (x 1))) (fun k => ?_) (fun k => ?_) (fun k n => ?_) (fun k n => ?_) (fun n => ?_) (fun k n => ?_) (fun k n => ?_) (fun n => ?_)
    all_goals
      refine ld_at _ _ _ _ _ _ _ _ ?_ ?_
      all_goals first | rfl | exact (Nat.zero_add _).symm | omega

end Cert.Proof.FfnValue
-- ==== Proof.FfnValue.Ref.lean ====
/-
  The reference feed-forward layer read at an index: its row.
-/
module

public import proofs.«01_k».proof.Proof.FfnValue.Row
public import proofs.«01_k».proof.Proof.Gen.FfnReferenceIdeal.Run
public import Idealize.ShloMosaic.Lib.Pointwise
public import Idealize.ShloMosaic.Lib.IdealHost

@[expose] public section

set_option maxRecDepth 16384

noncomputable section

namespace Cert.Proof.FfnValue

open Cert.FfnReferenceIdeal Cert.FfnReferenceIdeal.Gen
open Idealize.ShloMosaic Idealize.ShloMosaic.TcCoe

def rN (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

def rH (z : FVec Ideal S16x4096x1024 .f32) (w : FVec Ideal S1024x5632 .f32) : FVec Ideal S16x4096x5632 .f32 :=
  Host.dotGeneral dot_S16x4096x1024_S1024x5632_S16x4096x5632_2_0_01_1_n_n none z w

def rG (h : FVec Ideal S16x4096x5632 .f32) : FVec Ideal S16x4096x2816 .f32 :=
  mulf (mulf (extractStridedSlice S16x4096x2816 ![0, 0, 0] h slices_S16x4096x5632_S16x4096x2816_0_0_0) (Host.divf (broadcastInDim S16x4096x2816 ![] bcast_S_S16x4096x2816 (constant S_ .f32 0x3F800000#32)) (addf (broadcastInDim S16x4096x2816 ![] bcast_S_S16x4096x2816 (constant S_ .f32 0x3F800000#32)) (Host.exp (Host.negf (extractStridedSlice S16x4096x2816 ![0, 0, 0] h slices_S16x4096x5632_S16x4096x2816_0_0_0)))))) (extractStridedSlice S16x4096x2816 ![0, 0, 2816] h slices_S16x4096x5632_S16x4096x2816_0_0_2816)

def rR (x : FVec Ideal S16x4096x1024 .f32) (a : FVec Ideal S16x4096x2816 .f32) (o : FVec Ideal S2816x1024 .f32) : FVec Ideal S65536x1024 .f32 :=
  shapeCast S65536x1024 (addf x (mulf (broadcastInDim S16x4096x1024 ![] bcast_S_S16x4096x1024 (constant S_ .f32 0x3F000000#32)) (Host.dotGeneral dot_S16x4096x2816_S2816x1024_S16x4096x1024_2_0_01_1_n_n none a o))) shapeCasts_S16x4096x1024_S65536x1024

def refOut (x : FVec Ideal S16x4096x1024 .f32) (g : FVec Ideal S1024 .f32) (w : FVec Ideal S1024x5632 .f32) (o : FVec Ideal S2816x1024 .f32) : FVec Ideal S65536x1024 .f32 :=
  rR x (rG (rH (rN x g) w)) o

theorem rN_at (x : FVec Ideal S16x4096x1024 .f32) (g : FVec Ideal S1024 .f32) (b : Fin 16) (s : Fin 4096) (k : Fin 1024) :
    (rN x g (ix3 b s k) : EReal) = nrm (fun k => x (ix3 b s k)) (fun k => g (ix1 k)) k := by
  pointwise [rN]
  rfl

theorem rH_at (z : FVec Ideal S16x4096x1024 .f32) (w : FVec Ideal S1024x5632 .f32) (b : Fin 16) (s : Fin 4096) (n : Fin 5632) :
    (rH z w (ix3 b s n) : EReal) = ∑ k : Fin 1024, (z (ix3 b s k) : EReal) * w (ix2 k n) := by
  pointwise [rH]

theorem rG_at (h : FVec Ideal S16x4096x5632 .f32) (b : Fin 16) (s : Fin 4096) (n : Fin 2816) :
    (rG h (ix3 b s n) : EReal) = h (ix3 b s ⟨n.val, by omega⟩) * Ideal.logistic (h (ix3 b s ⟨n.val, by omega⟩)) * h (ix3 b s ⟨2816 + n.val, by omega⟩) := by
  pointwise [rG]
  rfl

theorem rR_at (x : FVec Ideal S16x4096x1024 .f32) (a : FVec Ideal S16x4096x2816 .f32) (o : FVec Ideal S2816x1024 .f32) (r : Fin 65536) (d : Fin 1024) :
    (rR x a o (ix2 r d) : EReal) = x (ix3 ⟨r.val / 4096, by omega⟩ ⟨r.val % 4096, by omega⟩ d)
      + Ideal.ofBits .f32 1056964608#32 * ∑ n : Fin 2816, (a (ix3 ⟨r.val / 4096, by omega⟩ ⟨r.val % 4096, by omega⟩ n) : EReal) * o (ix2 n d) := by
  pointwise [rR]

theorem refOut_at (x : FVec Ideal S16x4096x1024 .f32) (g : FVec Ideal S1024 .f32) (w : FVec Ideal S1024x5632 .f32) (o : FVec Ideal S2816x1024 .f32) (r : Fin 65536) (d : Fin 1024) :
    (refOut x g w o (ix2 r d) : EReal) = row (fun k => x (ix3 ⟨r.val / 4096, by omega⟩ ⟨r.val % 4096, by omega⟩ k)) (fun k => g (ix1 k))
      (fun k n => w (ix2 k n)) (fun n d => o (ix2 n d)) d := by
  unfold refOut
  rw [rR_at]
  simp only [rG_at, rH_at, rN_at]
  rfl

end Cert.Proof.FfnValue
-- ==== Proof.FfnValue.Alg.lean ====
/-
  The feed-forward layer's algebraic claim: the kernel's result array is the reference's.
-/
module

public import proofs.«01_k».proof.Defs
public import proofs.«01_k».proof.Proof.FfnValue.Ref

@[expose] public section

set_option maxRecDepth 16384

noncomputable section

namespace Cert.Proof.FfnValue

open Idealize.ShloMosaic Idealize.ShloMosaic.TcCoe Idealize.SL.Sem
open Cert.FfnIdeal Cert.FfnIdeal.Gen
open Idealize.ShloMosaic.Pipeline (Dat)

variable (m : (ℓ : Loc nD τ sig) → Buf (Elt Ideal) ℓ)

def rowsOf (x : FVec Ideal S16x4096x1024 .f32) : FVec Ideal S65536x1024 .f32 := shapeCast S65536x1024 x shapeCasts_S16x4096x1024_S65536x1024
def gainOf (g : FVec Ideal S1024 .f32) : FVec Ideal S1x1024 .f32 := shapeCast S1x1024 g shapeCasts_S1024_S1x1024

theorem rowsOf_at (x : FVec Ideal S16x4096x1024 .f32) (r : Fin 65536) (k : Fin 1024) :
    rowsOf x (ix2 r k) = x (ix3 ⟨r.val / 4096, by omega⟩ ⟨r.val % 4096, by omega⟩ k) := by
  pointwise [rowsOf]
theorem gainOf_at (g : FVec Ideal S1024 .f32) (k : Fin 1024) : gainOf g (ix2 0 k) = g (ix1 k) := by
  pointwise [gainOf]

theorem V0 (c : Dev nD) : V m c main_v0 = rowsOf (m ((c : Thread nD τ).loc main_arg0)) := by
  unfold V; simp only [hostOps0]; after_results_simp <;> rfl
theorem V1 (c : Dev nD) : V m c main_v1 = (m ((c : Thread nD τ).loc main_arg2) : Vec Ideal S1024x5632 .bf16) := by
  unfold V; simp only [hostOps0]; after_results_simp <;> rfl
theorem V2 (c : Dev nD) : V m c main_v2 = (m ((c : Thread nD τ).loc main_arg3) : Vec Ideal S2816x1024 .bf16) := by
  unfold V; simp only [hostOps0]; after_results_simp <;> rfl
theorem V3 (c : Dev nD) : V m c main_v3 = gainOf (m ((c : Thread nD τ).loc main_arg1)) := by
  unfold V; simp only [hostOps0]; after_results_simp <;> rfl

theorem idx : ∀ t : Fin cfg0.N, win0_0.index t = ![(grid0.coords t 0).val, 0] ∧ win0_1.index t = ![0, 0] ∧ win0_2.index t = ![0, 0]
    ∧ win0_3.index t = ![0, 0] ∧ win0_4.index t = ![(grid0.coords t 0).val, 0] :=
  (by decide +kernel : ∀ t : Fin grid0.N, _)

/-- The array's row of row `r` of point `t`'s block. -/
def rowAt (t : Fin cfg0.N) (r : Fin 1024) : Fin 65536 := ⟨(grid0.coords t 0).val * 1024 + r.val, by
  have h : (grid0.coords t 0).val < 64 := (grid0.coords t 0).isLt
  omega⟩

theorem blk0 (c : Dev nD) (t : Fin cfg0.N) (r k : Fin 1024) :
    (iblk m c 0 t : Vec Ideal S1024x1024 .f32) (ix2 r k) = V m c main_v0 (ix2 (rowAt t r) k) := by
  unfold rowAt
  blk_ext [iblk, idx t]
theorem blk1 (c : Dev nD) (t : Fin cfg0.N) (k : Fin 1024) :
    (iblk m c 1 t : Vec Ideal S1x1024 .f32) (ix2 0 k) = V m c main_v3 (ix2 0 k) := by
  blk_ext [iblk, idx t]
theorem blk2 (c : Dev nD) (t : Fin cfg0.N) (k : Fin 1024) (n : Fin 5632) :
    (iblk m c 2 t : Vec Ideal S1024x5632 .bf16) (ix2 k n) = V m c main_v1 (ix2 k n) := by
  blk_ext [iblk, idx t]
theorem blk3 (c : Dev nD) (t : Fin cfg0.N) (n : Fin 2816) (k : Fin 1024) :
    (iblk m c 3 t : Vec Ideal S2816x1024 .bf16) (ix2 n k) = V m c main_v2 (ix2 n k) := by
  blk_ext [iblk, idx t]

theorem row_congr {x g x' g' : Fin 1024 → EReal} {w w' : Fin 1024 → Fin 5632 → EReal} {o o' : Fin 2816 → Fin 1024 → EReal}
    (hx : ∀ k, x k = x' k) (hg : ∀ k, g k = g' k) (hw : ∀ k n, w k n = w' k n) (ho : ∀ n d, o n d = o' n d) (d : Fin 1024) :
    row x g w o d = row x' g' w' o' d := by
  obtain rfl : x = x' := funext hx
  obtain rfl : g = g' := funext hg
  obtain rfl : w = w' := funext fun k => funext (hw k)
  obtain rfl : o = o' := funext fun n => funext (ho n)
  rfl

theorem final (c : Dev nD) :
    (dats m 0 c).arrAt 4 cfg0.N = refOut (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  have e : ((win0_4.blk t).view.emb y : S65536x1024.Idx) = ix2 (rowAt t (y 0)) (y 1) := by
    idx_bounds y
    unfold rowAt
    blk_ext [idx t]
  refine (block_at _ _ _ _ y).trans (Eq.trans ?_ (congrArg _ e.symm))
  refine Eq.trans ?_ (refOut_at _ _ _ _ (rowAt t (y 0)) (y 1)).symm
  refine row_congr (fun k => ?_) (fun k => ?_) (fun k n => ?_) (fun n d => ?_) _
  · exact (blk0 m c t (y 0) k).trans ((congrFun (V0 m c) _).trans (rowsOf_at _ (rowAt t (y 0)) k))
  · exact (blk1 m c t k).trans ((congrFun (V3 m c) _).trans (gainOf_at _ k))
  · exact (blk2 m c t k n).trans (congrFun (V1 m c) _)
  · exact (blk3 m c t n d).trans (congrFun (V2 m c) _)

theorem alg : Cert.algebraic_FfnIdeal_FfnReferenceIdeal := by
  intro m g m' g' _ hm
  refine ⟨fun c => refOut (m ((c.tc : Thread _ _).loc Cert.FfnIdeal.main_arg0)) (m ((c.tc : Thread _ _).loc Cert.FfnIdeal.main_arg1))
    (m ((c.tc : Thread _ _).loc Cert.FfnIdeal.main_arg2)) (m ((c.tc : Thread _ _).loc Cert.FfnIdeal.main_arg3)), ?_, ?_⟩
  · exact (θ_run (Cert.FfnIdeal.defs (F := Ideal)) _ _).mono (fun r h c => ⟨(h c).1.trans (final m c), (h c).2⟩) (Cert.FfnIdeal.Value.run_blocks m g)
  · refine (θ_run (Cert.FfnReferenceIdeal.defs (F := Ideal)) _ _).mono (fun r h c => ⟨(h c).1.trans ?_, (h c).2⟩) (Cert.FfnReferenceIdeal.Value.run (F := Ideal) m' g')
    obtain ⟨e0, e1, e2, e3⟩ := hm c
    rw [e0, e1, e2, e3]
    rfl

end Cert.Proof.FfnValue
-- ==== Proof.QkvValue.Spec.lean ====
/-
  One row of the projections: normalized, projected, its heads normalized and rotated.
-/
module

public import Idealize.ShloMosaic.Lib.Pointwise
public import Idealize.ShloMosaic.Lib.IdealHost

@[expose] public section

noncomputable section

namespace Cert.Proof.QkvValue

open Idealize.ShloMosaic Idealize.ShloMosaic.TcCoe

/-- The normalized row. -/
def nrm (x g : Fin 1024 → EReal) (k : Fin 1024) : EReal :=
  x k * Ideal.rsqrt (Ideal.div (∑ j, x j * x j) (Ideal.ofBits .f32 1149239296#32) + Ideal.ofBits .f32 897988541#32) * g k

/-- A head over its root mean square. -/
def headN (y g : Fin 64 → EReal) (d : Fin 64) : EReal :=
  y d * Ideal.rsqrt (Ideal.div (∑ j, y j * y j) (Ideal.ofBits .f32 1115684864#32) + Ideal.ofBits .f32 897988541#32) * g d

/-- A head rotated by its angles. -/
def rot (z : Fin 64 → EReal) (a : Fin 8 → EReal) (d : Fin 64) : EReal :=
  if h : d.val < 8 then z d * Ideal.cos (a ⟨d.val, h⟩) - z ⟨d.val + 8, by omega⟩ * Ideal.sin (a ⟨d.val, h⟩)
  else if h' : d.val < 16 then z d * Ideal.cos (a ⟨d.val - 8, by omega⟩) + z ⟨d.val - 8, by omega⟩ * Ideal.sin (a ⟨d.val - 8, by omega⟩)
  else z d

/-- The queries' scale. -/
def scl : EReal := Ideal.div (Ideal.ofBits .f32 1040187392#32) (Ideal.log (Ideal.ofBits .f32 1073741824#32))

/-- The rotation frequencies. -/
def fr (i : Fin 8) : EReal :=
  Ideal.pow (Ideal.ofBits .f32 0x48F42400#32) (Ideal.div (-(Ideal.ofBits .f32 0x40000000#32 * (FloatOps.sitofp (F := Ideal) .f32 (BitVec.ofNat 32 i.val) : EReal))) (Ideal.ofBits .f32 0x41800000#32))

/-- A position's angles. -/
def ang (p : BitVec 32) (i : Fin 8) : EReal := (FloatOps.sitofp (F := Ideal) .f32 p : EReal) * fr i

/-- A row's queries, keys and values of one group. -/
def rowOut (y : Fin 3072 → EReal) (gq gk : Fin 64 → EReal) (a : Fin 8 → EReal) (c : Fin 3072) : EReal :=
  if c.val < 1024 then rot (headN (fun d => y ⟨c.val / 64 * 64 + d.val, by omega⟩) gq) a ⟨c.val % 64, by omega⟩ * scl
  else if c.val < 2048 then rot (headN (fun d => y ⟨c.val / 64 * 64 + d.val, by omega⟩) gk) a ⟨c.val % 64, by omega⟩
  else y c

end Cert.Proof.QkvValue
-- ==== Proof.QkvValue.Ref.lean ====
/-
  The reference projections read at an index.
-/
module

public import proofs.«01_k».proof.Proof.QkvValue.Spec
public import proofs.«01_k».proof.Proof.Gen.QkvReferenceIdeal.Run

@[expose] public section

set_option maxRecDepth 16384

noncomputable section

namespace Cert.Proof.QkvValue

open Cert.QkvReferenceIdeal Cert.QkvReferenceIdeal.Gen
open Idealize.ShloMosaic Idealize.ShloMosaic.TcCoe

def rN (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

def rM (z : FVec Ideal S16x4096x1024 .f32) (w : FVec Ideal S1024x9216 .f32) : FVec Ideal S16x4096x9216 .f32 :=
  Host.dotGeneral dot_S16x4096x1024_S1024x9216_S16x4096x9216_2_0_01_1_n_n none z w

def rY (y : FVec Ideal S16x4096x9216 .f32) : FVec Ideal S16x4096x3x3x16x64 .f32 := shapeCast _ y shapeCasts_S16x4096x9216_S16x4096x3x3x16x64

def rFr : FVec Ideal S8 .f32 := Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

def rA (p : IVec S16x4096 32) : FVec Ideal S16x4096x8 .f32 :=
  mulf (broadcastInDim S16x4096x8 ![0, 1, 2] bcast_S16x4096x1_S16x4096x8_0_1_2 (broadcastInDim S16x4096x1 ![0, 1] bcast_S16x4096_S16x4096x1_0_1 (sitofp .f32 p))) (broadcastInDim S16x4096x8 ![0, 1, 2] bcast_S1x1x8_S16x4096x8_0_1_2 (broadcastInDim S1x1x8 ![2] bcast_S8_S1x1x8_2 rFr))

def rT (a : FVec Ideal S16x4096x8 .f32) : FVec Ideal S16x4096x1x8 .f32 := broadcastInDim S16x4096x1x8 ![0, 1, 3] bcast_S16x4096x8_S16x4096x1x8_0_1_3 a

def rHN (y : FVec Ideal S16x4096x16x64 .f32) (g : FVec Ideal S64 .f32) : FVec Ideal S16x4096x16x64 .f32 :=
  mulf (mulf y (broadcastInDim S16x4096x16x64 ![0, 1, 2, 3] bcast_S16x4096x16x1_S16x4096x16x64_0_1_2_3 (Host.rsqrt (addf (Host.divf (broadcastInDim S16x4096x16x1 ![0, 1, 2] bcast_S16x4096x16_S16x4096x16x1_0_1_2 (Host.reduceAdd (mulf y y) (constant S_ .f32 0x00000000#32) reducesTo_S16x4096x16x64_S16x4096x16_d3 h_S_)) (broadcastInDim S16x4096x16x1 ![] bcast_S_S16x4096x16x1 (constant S_ .f32 0x42800000#32))) (broadcastInDim S16x4096x16x1 ![] bcast_S_S16x4096x16x1 (constant S_ .f32 0x358637BD#32)))))) (broadcastInDim S16x4096x16x64 ![0, 1, 2, 3] bcast_S1x1x1x64_S16x4096x16x64_0_1_2_3 (broadcastInDim S1x1x1x64 ![3] bcast_S64_S1x1x1x64_3 g))

def rRot (z : FVec Ideal S16x4096x16x64 .f32) (a : FVec Ideal S16x4096x8 .f32) : FVec Ideal S16x4096x16x64 .f32 :=
  concatenate S16x4096x16x64 3 [⟨S16x4096x16x8, (subf (mulf (extractStridedSlice S16x4096x16x8 ![0, 0, 0, 0] z slices_S16x4096x16x64_S16x4096x16x8_0_0_0_0) (broadcastInDim S16x4096x16x8 ![0, 1, 2, 3] bcast_S16x4096x1x8_S16x4096x16x8_0_1_2_3 (rT (Host.cos a)))) (mulf (extractStridedSlice S16x4096x16x8 ![0, 0, 0, 8] z slices_S16x4096x16x64_S16x4096x16x8_0_0_0_8) (broadcastInDim S16x4096x16x8 ![0, 1, 2, 3] bcast_S16x4096x1x8_S16x4096x16x8_0_1_2_3 (rT (Host.sin a)))))⟩,
    ⟨S16x4096x16x8, (addf (mulf (extractStridedSlice S16x4096x16x8 ![0, 0, 0, 8] z slices_S16x4096x16x64_S16x4096x16x8_0_0_0_8) (broadcastInDim S16x4096x16x8 ![0, 1, 2, 3] bcast_S16x4096x1x8_S16x4096x16x8_0_1_2_3 (rT (Host.cos a)))) (mulf (extractStridedSlice S16x4096x16x8 ![0, 0, 0, 0] z slices_S16x4096x16x64_S16x4096x16x8_0_0_0_0) (broadcastInDim S16x4096x16x8 ![0, 1, 2, 3] bcast_S16x4096x1x8_S16x4096x16x8_0_1_2_3 (rT (Host.sin a)))))⟩,
    ⟨S16x4096x16x48, (extractStridedSlice S16x4096x16x48 ![0, 0, 0, 16] z slices_S16x4096x16x64_S16x4096x16x48_0_0_0_16)⟩] concatenates_S16x4096x16x8_S16x4096x16x8_S16x4096x16x48_S16x4096x16x64_d3

def rSc (z : FVec Ideal S16x4096x16x64 .f32) : FVec Ideal S16x4096x16x64 .f32 :=
  mulf z (broadcastInDim S16x4096x16x64 ![] bcast_S_S16x4096x16x64 (Host.divf (constant S_ .f32 0x3E000000#32) (Host.log (constant S_ .f32 0x40000000#32))))

def rSt (q k v : FVec Ideal S16x4096x16x64 .f32) : FVec Ideal S16x4096x3x16x64 .f32 :=
  concatenate S16x4096x3x16x64 2 [⟨S16x4096x1x16x64, broadcastInDim S16x4096x1x16x64 ![0, 1, 3, 4] bcast_S16x4096x16x64_S16x4096x1x16x64_0_1_3_4 q⟩,
    ⟨S16x4096x1x16x64, broadcastInDim S16x4096x1x16x64 ![0, 1, 3, 4] bcast_S16x4096x16x64_S16x4096x1x16x64_0_1_3_4 k⟩,
    ⟨S16x4096x1x16x64, broadcastInDim S16x4096x1x16x64 ![0, 1, 3, 4] bcast_S16x4096x16x64_S16x4096x1x16x64_0_1_3_4 v⟩] concatenates_S16x4096x1x16x64_S16x4096x1x16x64_S16x4096x1x16x64_S16x4096x3x16x64_d2

theorem rN_at (x : FVec Ideal S16x4096x1024 .f32) (g : FVec Ideal S1024 .f32) (b : Fin 16) (s : Fin 4096) (k : Fin 1024) :
    (rN x g (ix3 b s k) : EReal) = nrm (fun k => x (ix3 b s k)) (fun k => g (ix1 k)) k := by
  pointwise [rN]
  rfl

theorem rM_at (z : FVec Ideal S16x4096x1024 .f32) (w : FVec Ideal S1024x9216 .f32) (b : Fin 16) (s : Fin 4096) (n : Fin 9216) :
    (rM z w (ix3 b s n) : EReal) = ∑ k : Fin 1024, (z (ix3 b s k) : EReal) * w (ix2 k n) := by
  pointwise [rM]

theorem rA_at (p : IVec S16x4096 32) (b : Fin 16) (s : Fin 4096) (i : Fin 8) :
    (rA p (ix3 b s i) : EReal) = ang (p (ix2 b s)) i := by
  pointwise [rA, rFr]
  rfl

theorem rHN_at (y : FVec Ideal S16x4096x16x64 .f32) (g : FVec Ideal S64 .f32) (b : Fin 16) (s : Fin 4096) (h : Fin 16) (d : Fin 64) :
    (rHN y g (ix4 b s h d) : EReal) = headN (fun d => y (ix4 b s h d)) (fun d => g (ix1 d)) d := by
  pointwise [rHN]
  rfl

theorem rRot_at (z : FVec Ideal S16x4096x16x64 .f32) (a : FVec Ideal S16x4096x8 .f32) (b : Fin 16) (s : Fin 4096) (h : Fin 16) (d : Fin 64) :
    (rRot z a (ix4 b s h d) : EReal) = rot (fun d => z (ix4 b s h d)) (fun i => a (ix3 b s i)) d := by
  pointwise [rRot, rT]
  unfold rot
  by_cases h1 : d.val < 8
  · simp only [h1, dif_pos, Nat.add_comm 8]
  · by_cases h2 : d.val < 16
    · have h3 : d.val - 8 < 8 := by omega
      have e : (⟨8 + (d.val - 8), by omega⟩ : Fin 64) = d := Fin.ext (by simp only; omega)
      simp only [h1, h2, h3, dif_pos, dif_neg, not_false_eq_true, e]
    · have h3 : ¬ d.val - 8 < 8 := by omega
      have e : (⟨16 + (d.val - 8 - 8), by omega⟩ : Fin 64) = d := Fin.ext (by simp only; omega)
      simp only [h1, h2, h3, dif_neg, not_false_eq_true, e]

theorem rSc_at (z : FVec Ideal S16x4096x16x64 .f32) (b : Fin 16) (s : Fin 4096) (h : Fin 16) (d : Fin 64) :
    (rSc z (ix4 b s h d) : EReal) = z (ix4 b s h d) * scl := by
  pointwise [rSc]
  rfl

theorem rSt_at (q k v : FVec Ideal S16x4096x16x64 .f32) (b : Fin 16) (s : Fin 4096) (j : Fin 3) (h : Fin 16) (d : Fin 64) :
    (rSt q k v (ix5 b s j h d) : EReal) = if j.val < 1 then q (ix4 b s h d) else if j.val - 1 < 1 then k (ix4 b s h d) else v (ix4 b s h d) := by
  pointwise [rSt]
  rfl

/-- The stacked row, of its three thirds. -/
theorem stack_at (q k v : FVec Ideal S16x4096x16x64 .f32) (gq gk : FVec Ideal S64 .f32) (p : IVec S16x4096 32) (b : Fin 16) (s : Fin 4096)
    (y : Fin 3072 → EReal) (hq : ∀ (h : Fin 16) (d : Fin 64), (q (ix4 b s h d) : EReal) = y ⟨h.val * 64 + d.val, by omega⟩)
    (hk : ∀ (h : Fin 16) (d : Fin 64), (k (ix4 b s h d) : EReal) = y ⟨1024 + (h.val * 64 + d.val), by omega⟩)
    (hv : ∀ (h : Fin 16) (d : Fin 64), (v (ix4 b s h d) : EReal) = y ⟨2048 + (h.val * 64 + d.val), by omega⟩) (c : Fin 3072) :
    (rSt (rSc (rRot (rHN q gq) (rA p))) (rRot (rHN k gk) (rA p)) v (ix5 b s ⟨c.val / 1024, by omega⟩ ⟨c.val / 64 % 16, by omega⟩ ⟨c.val % 64, by omega⟩) : EReal)
      = rowOut y (fun d => gq (ix1 d)) (fun d => gk (ix1 d)) (ang (p (ix2 b s))) c := by
  rw [rSt_at, rSc_at, rRot_at, rRot_at]
  simp only [rHN_at, rA_at, hq, hk, hv]
  unfold rowOut
  by_cases h1 : c.val < 1024
  · have e1 : c.val / 1024 < 1 := by omega
    have e : c.val / 64 % 16 = c.val / 64 := by omega
    simp only [h1, e1, if_true, e]
  · have e1 : ¬ c.val / 1024 < 1 := by omega
    by_cases h2 : c.val < 2048
    · have e2 : c.val / 1024 - 1 < 1 := by omega
      have e : ∀ d, 1024 + (c.val / 64 % 16 * 64 + d) = c.val / 64 * 64 + d := fun d => by omega
      simp only [h1, h2, e1, e2, if_true, if_false, e]
    · have e2 : ¬ c.val / 1024 - 1 < 1 := by omega
      have e : 2048 + (c.val / 64 % 16 * 64 + c.val % 64) = c.val := by omega
      simp only [h1, h2, e1, e2, if_false, e]

def y00 (y : FVec Ideal S16x4096x3x3x16x64 .f32) : FVec Ideal S16x4096x16x64 .f32 :=
  shapeCast _ (extractStridedSlice S16x4096x1x1x16x64 ![0, 0, 0, 0, 0, 0] y slices_S16x4096x3x3x16x64_S16x4096x1x1x16x64_0_0_0_0_0_0) shapeCasts_S16x4096x1x1x16x64_S16x4096x16x64
theorem y00_at (y : FVec Ideal S16x4096x9216 .f32) (b : Fin 16) (s : Fin 4096) (h : Fin 16) (d : Fin 64) :
    (y00 (rY y) (ix4 b s h d) : EReal) = y (ix3 b s ⟨0 + (0 + (h.val * 64 + d.val)), by omega⟩) := by
  pointwise [y00, rY]

def y01 (y : FVec Ideal S16x4096x3x3x16x64 .f32) : FVec Ideal S16x4096x16x64 .f32 :=
  shapeCast _ (extractStridedSlice S16x4096x1x1x16x64 ![0, 0, 0, 1, 0, 0] y slices_S16x4096x3x3x16x64_S16x4096x1x1x16x64_0_0_0_1_0_0) shapeCasts_S16x4096x1x1x16x64_S16x4096x16x64
theorem y01_at (y : FVec Ideal S16x4096x9216 .f32) (b : Fin 16) (s : Fin 4096) (h : Fin 16) (d : Fin 64) :
    (y01 (rY y) (ix4 b s h d) : EReal) = y (ix3 b s ⟨0 + (1024 + (h.val * 64 + d.val)), by omega⟩) := by
  pointwise [y01, rY]
  refine congrArg y (congrArg (ix3 b s) (Fin.ext ?_))
  simp only
  omega

def y02 (y : FVec Ideal S16x4096x3x3x16x64 .f32) : FVec Ideal S16x4096x16x64 .f32 :=
  shapeCast _ (extractStridedSlice S16x4096x1x1x16x64 ![0, 0, 0, 2, 0, 0] y slices_S16x4096x3x3x16x64_S16x4096x1x1x16x64_0_0_0_2_0_0) shapeCasts_S16x4096x1x1x16x64_S16x4096x16x64
theorem y02_at (y : FVec Ideal S16x4096x9216 .f32) (b : Fin 16) (s : Fin 4096) (h : Fin 16) (d : Fin 64) :
    (y02 (rY y) (ix4 b s h d) : EReal) = y (ix3 b s ⟨0 + (2048 + (h.val * 64 + d.val)), by omega⟩) := by
  pointwise [y02, rY]
  refine congrArg y (congrArg (ix3 b s) (Fin.ext ?_))
  simp only
  omega

def gn0 (g : FVec Ideal S3x64 .f32) : FVec Ideal S64 .f32 := shapeCast _ (extractStridedSlice S1x64 ![0, 0] g slices_S3x64_S1x64_0_0) shapeCasts_S1x64_S64
theorem gn0_at (g : FVec Ideal S3x64 .f32) (d : Fin 64) : (gn0 g (ix1 d) : EReal) = g (ix2 0 d) := by
  pointwise [gn0]

def rO0 (z : FVec Ideal S16x4096x3x16x64 .f32) : FVec Ideal S16x1x4096x3072 .bf16 :=
  truncf .bf16 (transpose S16x1x4096x3072 [0, 2, 1, 3] (shapeCast _ z shapeCasts_S16x4096x3x16x64_S16x4096x1x3072) transposes_S16x4096x1x3072_S16x1x4096x3072_0_2_1_3) bitsLt_bf16_f32
theorem rO0_at (z : FVec Ideal S16x4096x3x16x64 .f32) (b : Fin 16) (r : Fin 1) (m : Fin 4096) (c : Fin 3072) :
    (rO0 z (ix4 b r m c) : EReal) = z (ix5 b ⟨m.val * 1 + r.val, by omega⟩ ⟨c.val / 1024, by omega⟩ ⟨c.val / 64 % 16, by omega⟩ ⟨c.val % 64, by omega⟩) := by
  pointwise [rO0]

def ref0 (x : FVec Ideal S16x4096x1024 .f32) (g : FVec Ideal S1024 .f32) (w : FVec Ideal S1024x9216 .f32) (p : IVec S16x4096 32) (gq gk : FVec Ideal S3x64 .f32) : FVec Ideal S16x1x4096x3072 .bf16 :=
  rO0 (rSt (rSc (rRot (rHN (y00 (rY (rM (rN x g) w))) (gn0 gq)) (rA p))) (rRot (rHN (y01 (rY (rM (rN x g) w))) (gn0 gk)) (rA p)) (y02 (rY (rM (rN x g) w))))
theorem ref0_at (x : FVec Ideal S16x4096x1024 .f32) (g : FVec Ideal S1024 .f32) (w : FVec Ideal S1024x9216 .f32) (p : IVec S16x4096 32) (gq gk : FVec Ideal S3x64 .f32)
    (b : Fin 16) (r : Fin 1) (m : Fin 4096) (c : Fin 3072) :
    (ref0 x g w p gq gk (ix4 b r m c) : EReal) = rowOut (fun n => ∑ k : Fin 1024, nrm (fun k => x (ix3 b ⟨m.val * 1 + r.val, by omega⟩ k)) (fun k => g (ix1 k)) k * w (ix2 k ⟨0 + n.val, by omega⟩))
      (fun d => gq (ix2 0 d)) (fun d => gk (ix2 0 d)) (ang (p (ix2 b ⟨m.val * 1 + r.val, by omega⟩))) c := by
  have e : ∀ n : Fin 9216, (rM (rN x g) w (ix3 b ⟨m.val * 1 + r.val, by omega⟩ n) : EReal)
      = ∑ k : Fin 1024, nrm (fun k => x (ix3 b ⟨m.val * 1 + r.val, by omega⟩ k)) (fun k => g (ix1 k)) k * w (ix2 k n) := fun n => by
    rw [rM_at]; simp only [rN_at]
  unfold ref0
  rw [rO0_at]
  refine (stack_at _ _ _ _ _ _ _ _ (fun n => ∑ k : Fin 1024, nrm (fun k => x (ix3 b ⟨m.val * 1 + r.val, by omega⟩ k)) (fun k => g (ix1 k)) k * w (ix2 k ⟨0 + n.val, by omega⟩))
    (fun h d => ?_) (fun h d => ?_) (fun h d => ?_) c).trans ?_
  · rw [y00_at, e]; simp only [Nat.zero_add]
  · rw [y01_at, e]
  · rw [y02_at, e]
  · simp only [gn0_at]

def y10 (y : FVec Ideal S16x4096x3x3x16x64 .f32) : FVec Ideal S16x4096x16x64 .f32 :=
  shapeCast _ (extractStridedSlice S16x4096x1x1x16x64 ![0, 0, 1, 0, 0, 0] y slices_S16x4096x3x3x16x64_S16x4096x1x1x16x64_0_0_1_0_0_0) shapeCasts_S16x4096x1x1x16x64_S16x4096x16x64
theorem y10_at (y : FVec Ideal S16x4096x9216 .f32) (b : Fin 16) (s : Fin 4096) (h : Fin 16) (d : Fin 64) :
    (y10 (rY y) (ix4 b s h d) : EReal) = y (ix3 b s ⟨3072 + (0 + (h.val * 64 + d.val)), by omega⟩) := by
  pointwise [y10, rY]
  refine congrArg y (congrArg (ix3 b s) (Fin.ext ?_))
  simp only
  omega

def y11 (y : FVec Ideal S16x4096x3x3x16x64 .f32) : FVec Ideal S16x4096x16x64 .f32 :=
  shapeCast _ (extractStridedSlice S16x4096x1x1x16x64 ![0, 0, 1, 1, 0, 0] y slices_S16x4096x3x3x16x64_S16x4096x1x1x16x64_0_0_1_1_0_0) shapeCasts_S16x4096x1x1x16x64_S16x4096x16x64
theorem y11_at (y : FVec Ideal S16x4096x9216 .f32) (b : Fin 16) (s : Fin 4096) (h : Fin 16) (d : Fin 64) :
    (y11 (rY y) (ix4 b s h d) : EReal) = y (ix3 b s ⟨3072 + (1024 + (h.val * 64 + d.val)), by omega⟩) := by
  pointwise [y11, rY]
  refine congrArg y (congrArg (ix3 b s) (Fin.ext ?_))
  simp only
  omega

def y12 (y : FVec Ideal S16x4096x3x3x16x64 .f32) : FVec Ideal S16x4096x16x64 .f32 :=
  shapeCast _ (extractStridedSlice S16x4096x1x1x16x64 ![0, 0, 1, 2, 0, 0] y slices_S16x4096x3x3x16x64_S16x4096x1x1x16x64_0_0_1_2_0_0) shapeCasts_S16x4096x1x1x16x64_S16x4096x16x64
theorem y12_at (y : FVec Ideal S16x4096x9216 .f32) (b : Fin 16) (s : Fin 4096) (h : Fin 16) (d : Fin 64) :
    (y12 (rY y) (ix4 b s h d) : EReal) = y (ix3 b s ⟨3072 + (2048 + (h.val * 64 + d.val)), by omega⟩) := by
  pointwise [y12, rY]
  refine congrArg y (congrArg (ix3 b s) (Fin.ext ?_))
  simp only
  omega

def gn1 (g : FVec Ideal S3x64 .f32) : FVec Ideal S64 .f32 := shapeCast _ (extractStridedSlice S1x64 ![1, 0] g slices_S3x64_S1x64_1_0) shapeCasts_S1x64_S64
theorem gn1_at (g : FVec Ideal S3x64 .f32) (d : Fin 64) : (gn1 g (ix1 d) : EReal) = g (ix2 1 d) := by
  pointwise [gn1]

def rO1 (z : FVec Ideal S16x4096x3x16x64 .f32) : FVec Ideal S16x4x1024x3072 .bf16 :=
  truncf .bf16 (transpose S16x4x1024x3072 [0, 2, 1, 3] (shapeCast _ z shapeCasts_S16x4096x3x16x64_S16x1024x4x3072) transposes_S16x1024x4x3072_S16x4x1024x3072_0_2_1_3) bitsLt_bf16_f32
theorem rO1_at (z : FVec Ideal S16x4096x3x16x64 .f32) (b : Fin 16) (r : Fin 4) (m : Fin 1024) (c : Fin 3072) :
    (rO1 z (ix4 b r m c) : EReal) = z (ix5 b ⟨m.val * 4 + r.val, by omega⟩ ⟨c.val / 1024, by omega⟩ ⟨c.val / 64 % 16, by omega⟩ ⟨c.val % 64, by omega⟩) := by
  pointwise [rO1]

def ref1 (x : FVec Ideal S16x4096x1024 .f32) (g : FVec Ideal S1024 .f32) (w : FVec Ideal S1024x9216 .f32) (p : IVec S16x4096 32) (gq gk : FVec Ideal S3x64 .f32) : FVec Ideal S16x4x1024x3072 .bf16 :=
  rO1 (rSt (rSc (rRot (rHN (y10 (rY (rM (rN x g) w))) (gn1 gq)) (rA p))) (rRot (rHN (y11 (rY (rM (rN x g) w))) (gn1 gk)) (rA p)) (y12 (rY (rM (rN x g) w))))
theorem ref1_at (x : FVec Ideal S16x4096x1024 .f32) (g : FVec Ideal S1024 .f32) (w : FVec Ideal S1024x9216 .f32) (p : IVec S16x4096 32) (gq gk : FVec Ideal S3x64 .f32)
    (b : Fin 16) (r : Fin 4) (m : Fin 1024) (c : Fin 3072) :
    (ref1 x g w p gq gk (ix4 b r m c) : EReal) = rowOut (fun n => ∑ k : Fin 1024, nrm (fun k => x (ix3 b ⟨m.val * 4 + r.val, by omega⟩ k)) (fun k => g (ix1 k)) k * w (ix2 k ⟨3072 + n.val, by omega⟩))
      (fun d => gq (ix2 1 d)) (fun d => gk (ix2 1 d)) (ang (p (ix2 b ⟨m.val * 4 + r.val, by omega⟩))) c := by
  have e : ∀ n : Fin 9216, (rM (rN x g) w (ix3 b ⟨m.val * 4 + r.val, by omega⟩ n) : EReal)
      = ∑ k : Fin 1024, nrm (fun k => x (ix3 b ⟨m.val * 4 + r.val, by omega⟩ k)) (fun k => g (ix1 k)) k * w (ix2 k n) := fun n => by
    rw [rM_at]; simp only [rN_at]
  unfold ref1
  rw [rO1_at]
  refine (stack_at _ _ _ _ _ _ _ _ (fun n => ∑ k : Fin 1024, nrm (fun k => x (ix3 b ⟨m.val * 4 + r.val, by omega⟩ k)) (fun k => g (ix1 k)) k * w (ix2 k ⟨3072 + n.val, by omega⟩))
    (fun h d => ?_) (fun h d => ?_) (fun h d => ?_) c).trans ?_
  · rw [y10_at, e]; simp only [Nat.zero_add]
  · rw [y11_at, e]
  · rw [y12_at, e]
  · simp only [gn1_at]

def y20 (y : FVec Ideal S16x4096x3x3x16x64 .f32) : FVec Ideal S16x4096x16x64 .f32 :=
  shapeCast _ (extractStridedSlice S16x4096x1x1x16x64 ![0, 0, 2, 0, 0, 0] y slices_S16x4096x3x3x16x64_S16x4096x1x1x16x64_0_0_2_0_0_0) shapeCasts_S16x4096x1x1x16x64_S16x4096x16x64
theorem y20_at (y : FVec Ideal S16x4096x9216 .f32) (b : Fin 16) (s : Fin 4096) (h : Fin 16) (d : Fin 64) :
    (y20 (rY y) (ix4 b s h d) : EReal) = y (ix3 b s ⟨6144 + (0 + (h.val * 64 + d.val)), by omega⟩) := by
  pointwise [y20, rY]
  refine congrArg y (congrArg (ix3 b s) (Fin.ext ?_))
  simp only
  omega

def y21 (y : FVec Ideal S16x4096x3x3x16x64 .f32) : FVec Ideal S16x4096x16x64 .f32 :=
  shapeCast _ (extractStridedSlice S16x4096x1x1x16x64 ![0, 0, 2, 1, 0, 0] y slices_S16x4096x3x3x16x64_S16x4096x1x1x16x64_0_0_2_1_0_0) shapeCasts_S16x4096x1x1x16x64_S16x4096x16x64
theorem y21_at (y : FVec Ideal S16x4096x9216 .f32) (b : Fin 16) (s : Fin 4096) (h : Fin 16) (d : Fin 64) :
    (y21 (rY y) (ix4 b s h d) : EReal) = y (ix3 b s ⟨6144 + (1024 + (h.val * 64 + d.val)), by omega⟩) := by
  pointwise [y21, rY]
  refine congrArg y (congrArg (ix3 b s) (Fin.ext ?_))
  simp only
  omega

def y22 (y : FVec Ideal S16x4096x3x3x16x64 .f32) : FVec Ideal S16x4096x16x64 .f32 :=
  shapeCast _ (extractStridedSlice S16x4096x1x1x16x64 ![0, 0, 2, 2, 0, 0] y slices_S16x4096x3x3x16x64_S16x4096x1x1x16x64_0_0_2_2_0_0) shapeCasts_S16x4096x1x1x16x64_S16x4096x16x64
theorem y22_at (y : FVec Ideal S16x4096x9216 .f32) (b : Fin 16) (s : Fin 4096) (h : Fin 16) (d : Fin 64) :
    (y22 (rY y) (ix4 b s h d) : EReal) = y (ix3 b s ⟨6144 + (2048 + (h.val * 64 + d.val)), by omega⟩) := by
  pointwise [y22, rY]
  refine congrArg y (congrArg (ix3 b s) (Fin.ext ?_))
  simp only
  omega

def gn2 (g : FVec Ideal S3x64 .f32) : FVec Ideal S64 .f32 := shapeCast _ (extractStridedSlice S1x64 ![2, 0] g slices_S3x64_S1x64_2_0) shapeCasts_S1x64_S64
theorem gn2_at (g : FVec Ideal S3x64 .f32) (d : Fin 64) : (gn2 g (ix1 d) : EReal) = g (ix2 2 d) := by
  pointwise [gn2]

def rO2 (z : FVec Ideal S16x4096x3x16x64 .f32) : FVec Ideal S16x16x256x3072 .bf16 :=
  truncf .bf16 (transpose S16x16x256x3072 [0, 2, 1, 3] (shapeCast _ z shapeCasts_S16x4096x3x16x64_S16x256x16x3072) transposes_S16x256x16x3072_S16x16x256x3072_0_2_1_3) bitsLt_bf16_f32
theorem rO2_at (z : FVec Ideal S16x4096x3x16x64 .f32) (b : Fin 16) (r : Fin 16) (m : Fin 256) (c : Fin 3072) :
    (rO2 z (ix4 b r m c) : EReal) = z (ix5 b ⟨m.val * 16 + r.val, by omega⟩ ⟨c.val / 1024, by omega⟩ ⟨c.val / 64 % 16, by omega⟩ ⟨c.val % 64, by omega⟩) := by
  pointwise [rO2]

def ref2 (x : FVec Ideal S16x4096x1024 .f32) (g : FVec Ideal S1024 .f32) (w : FVec Ideal S1024x9216 .f32) (p : IVec S16x4096 32) (gq gk : FVec Ideal S3x64 .f32) : FVec Ideal S16x16x256x3072 .bf16 :=
  rO2 (rSt (rSc (rRot (rHN (y20 (rY (rM (rN x g) w))) (gn2 gq)) (rA p))) (rRot (rHN (y21 (rY (rM (rN x g) w))) (gn2 gk)) (rA p)) (y22 (rY (rM (rN x g) w))))
theorem ref2_at (x : FVec Ideal S16x4096x1024 .f32) (g : FVec Ideal S1024 .f32) (w : FVec Ideal S1024x9216 .f32) (p : IVec S16x4096 32) (gq gk : FVec Ideal S3x64 .f32)
    (b : Fin 16) (r : Fin 16) (m : Fin 256) (c : Fin 3072) :
    (ref2 x g w p gq gk (ix4 b r m c) : EReal) = rowOut (fun n => ∑ k : Fin 1024, nrm (fun k => x (ix3 b ⟨m.val * 16 + r.val, by omega⟩ k)) (fun k => g (ix1 k)) k * w (ix2 k ⟨6144 + n.val, by omega⟩))
      (fun d => gq (ix2 2 d)) (fun d => gk (ix2 2 d)) (ang (p (ix2 b ⟨m.val * 16 + r.val, by omega⟩))) c := by
  have e : ∀ n : Fin 9216, (rM (rN x g) w (ix3 b ⟨m.val * 16 + r.val, by omega⟩ n) : EReal)
      = ∑ k : Fin 1024, nrm (fun k => x (ix3 b ⟨m.val * 16 + r.val, by omega⟩ k)) (fun k => g (ix1 k)) k * w (ix2 k n) := fun n => by
    rw [rM_at]; simp only [rN_at]
  unfold ref2
  rw [rO2_at]
  refine (stack_at _ _ _ _ _ _ _ _ (fun n => ∑ k : Fin 1024, nrm (fun k => x (ix3 b ⟨m.val * 16 + r.val, by omega⟩ k)) (fun k => g (ix1 k)) k * w (ix2 k ⟨6144 + n.val, by omega⟩))
    (fun h d => ?_) (fun h d => ?_) (fun h d => ?_) c).trans ?_
  · rw [y20_at, e]; simp only [Nat.zero_add]
  · rw [y21_at, e]
  · rw [y22_at, e]
  · simp only [gn2_at]

end Cert.Proof.QkvValue
-- ==== Proof.QkvValue.Vec.lean ====
/-
  The projections' call as vector expressions: normalized rows, head norms, rotations.
-/
module

public import proofs.«01_k».proof.Proof.QkvValue.Spec
public import proofs.«01_k».proof.Proof.Gen.QkvIdeal.Skeleton
public import Idealize.ShloMosaic.Lib.Pipeline.ValueKit

@[expose] public section

set_option maxRecDepth 16384

noncomputable section

namespace Cert.Proof.QkvValue

open Idealize.ShloMosaic Idealize.ShloMosaic.TcCoe Idealize.SL.Sem
open Cert.QkvIdeal Cert.QkvIdeal.Gen

/-- The lane's place in its head. -/
def vLane : IVec S1x128 32 :=
  k0_pay7 (Scalar.select (Scalar.cmpi .eq 64#32 0#32) 1#32 64#32) k0_pay5 k0_pay6

def vAng (p : Vec Ideal S1x256x1 .i32) (f : Vec Ideal S1x128 .f32) : FVec Ideal S256x128 .f32 :=
  mulf (broadcastTo S256x128 (sitofp .f32 (shapeCast S256x1 p shapeCasts_S1x256x1_S256x1 : IVec S256x1 32)) broadcasts_S256x1_S256x128)
    (broadcastTo S256x128 (shapeCast S1x128 f shapeCasts_S1x128_S1x128) broadcasts_S1x128_S256x128)

def vUp (a : FVec Ideal S256x128 .f32) : FVec Ideal S256x128 .f32 :=
  select (broadcastTo S256x128 (shapeCast S1x128 (cmpi .slt vLane (broadcast S1x128 8#32)) shapeCasts_S1x128_S1x128) broadcasts_S1x128_S256x128)
    (subf (broadcast S256x128 (Scalar.ofBits .f32 0x00000000#32)) (sin a)) (broadcast S256x128 (Scalar.ofBits .f32 0x00000000#32))

def vDn (a : FVec Ideal S256x128 .f32) : FVec Ideal S256x128 .f32 :=
  select (broadcastTo S256x128 (shapeCast S1x128 (andi (cmpi .sge vLane (broadcast S1x128 8#32)) (cmpi .slt vLane (broadcast S1x128 16#32))) shapeCasts_S1x128_S1x128) broadcasts_S1x128_S256x128)
    (sin a) (broadcast S256x128 (Scalar.ofBits .f32 0x00000000#32))

/-- A chunk of four heads over its heads' root mean squares. -/
def vHeadC (s : FVec Ideal S256x256 .f32) (bd : Vec Ideal S256x256 .bf16) : FVec Ideal S256x256 .f32 :=
  mulf s (rsqrt (addf (matmul (φ₁ := .bf16) (φ₂ := .bf16) dot_S256x256_S256x256_S256x256_1_0_0_1_n_n none (truncf .bf16 (mulf s s) bitsLt_bf16_f32) (bd : FVec Ideal S256x256 .bf16) (constant S256x256 .f32 0x00000000#32))
    (broadcast S256x256 (Scalar.ofBits .f32 0x358637BD#32))))

def vHead (y : FVec Ideal S256x1024 .f32) (g : Vec Ideal S1x1x1024 .f32) (bd : Vec Ideal S256x256 .bf16) : FVec Ideal S256x1024 .f32 :=
  mulf (concatenate S256x1024 1 [⟨S256x256, vHeadC (extractStridedSlice S256x256 ![0, 0] y slices_S256x1024_o0_0_S256x256) bd⟩,
      ⟨S256x256, vHeadC (extractStridedSlice S256x256 ![0, 256] y slices_S256x1024_o0_256_S256x256) bd⟩,
      ⟨S256x256, vHeadC (extractStridedSlice S256x256 ![0, 512] y slices_S256x1024_o0_512_S256x256) bd⟩,
      ⟨S256x256, vHeadC (extractStridedSlice S256x256 ![0, 768] y slices_S256x1024_o0_768_S256x256) bd⟩] concatenates_S256x256_S256x256_S256x256_S256x256_S256x1024_d1)
    (broadcastTo S256x1024 (shapeCast S1x1024 g shapeCasts_S1x1x1024_S1x1024) broadcasts_S1x1024_S256x1024)

/-- A chunk of two heads, rotated. -/
def vRopeC (s a : FVec Ideal S256x128 .f32) : FVec Ideal S256x128 .f32 :=
  addf (addf (mulf s (cos a)) (mulf (dynamicRotate 1 120#32 none s rotates_S256x128_d1) (vUp a))) (mulf (dynamicRotate 1 8#32 none s rotates_S256x128_d1) (vDn a))

def vRope (z : FVec Ideal S256x1024 .f32) (a : FVec Ideal S256x128 .f32) : FVec Ideal S256x1024 .f32 :=
  concatenate S256x1024 1 [⟨S256x128, vRopeC (extractStridedSlice S256x128 ![0, 0] z slices_S256x1024_o0_0_S256x128) a⟩,
    ⟨S256x128, vRopeC (extractStridedSlice S256x128 ![0, 128] z slices_S256x1024_o0_128_S256x128) a⟩,
    ⟨S256x128, vRopeC (extractStridedSlice S256x128 ![0, 256] z slices_S256x1024_o0_256_S256x128) a⟩,
    ⟨S256x128, vRopeC (extractStridedSlice S256x128 ![0, 384] z slices_S256x1024_o0_384_S256x128) a⟩,
    ⟨S256x128, vRopeC (extractStridedSlice S256x128 ![0, 512] z slices_S256x1024_o0_512_S256x128) a⟩,
    ⟨S256x128, vRopeC (extractStridedSlice S256x128 ![0, 640] z slices_S256x1024_o0_640_S256x128) a⟩,
    ⟨S256x128, vRopeC (extractStridedSlice S256x128 ![0, 768] z slices_S256x1024_o0_768_S256x128) a⟩,
    ⟨S256x128, vRopeC (extractStridedSlice S256x128 ![0, 896] z slices_S256x1024_o0_896_S256x128) a⟩] concatenates_S256x128_S256x128_S256x128_S256x128_S256x128_S256x128_S256x128_S256x128_S256x1024_d1

def vMul (x : FVec Ideal S256x1024 .bf16) (w : Vec Ideal S1024x1024 .bf16) : FVec Ideal S256x1024 .f32 :=
  matmul (φ₁ := .bf16) (φ₂ := .bf16) dot_S256x1024_S1024x1024_S256x1024_1_0_0_1_n_n none x (shapeCast S1024x1024 w shapeCasts_S1024x1024_S1024x1024 : FVec Ideal S1024x1024 .bf16) (constant S256x1024 .f32 0x00000000#32)

def vPerm (p : Vec Ideal S256x256 .bf16) (x : FVec Ideal S256x1024 .bf16) : FVec Ideal S256x1024 .bf16 :=
  truncf .bf16 (matmul (φ₁ := .bf16) (φ₂ := .bf16) dot_S256x256_S256x1024_S256x1024_1_0_0_1_n_n none (p : FVec Ideal S256x256 .bf16) x (constant S256x1024 .f32 0x00000000#32)) bitsLt_bf16_f32

def vK (x : FVec Ideal S256x1024 .bf16) (w : Vec Ideal S1024x1024 .bf16) (g : Vec Ideal S1x1x1024 .f32) (bd : Vec Ideal S256x256 .bf16) (a : FVec Ideal S256x128 .f32) : FVec Ideal S256x1024 .bf16 :=
  truncf .bf16 (vRope (vHead (vMul x w) g bd) a) bitsLt_bf16_f32

def vQ (x : FVec Ideal S256x1024 .bf16) (w : Vec Ideal S1024x1024 .bf16) (g : Vec Ideal S1x1x1024 .f32) (bd : Vec Ideal S256x256 .bf16) (a : FVec Ideal S256x128 .f32) : FVec Ideal S256x1024 .bf16 :=
  truncf .bf16 (mulf (vRope (vHead (vMul x w) g bd) a) (broadcast S256x1024 (Named.named κ "scale" 0x3E38AA3B#32))) bitsLt_bf16_f32

def vV (x : FVec Ideal S256x1024 .bf16) (w : Vec Ideal S1024x1024 .bf16) : FVec Ideal S256x1024 .bf16 := truncf .bf16 (vMul x w) bitsLt_bf16_f32

def o1 (y : FVec Ideal S256x1024 .bf16) : FVec Ideal S1x1x256x1024 .bf16 :=
  shapeCast S1x1x256x1024 (shapeCast S1x256x1024 y shapeCasts_S256x1024_S1x256x1024) shapeCasts_S1x256x1024_S1x1x256x1024
def o4 (y : FVec Ideal S256x1024 .bf16) : FVec Ideal S1x4x64x1024 .bf16 :=
  shapeCast S1x4x64x1024 (shapeCast S4x64x1024 y shapeCasts_S256x1024_S4x64x1024) shapeCasts_S4x64x1024_S1x4x64x1024
def o16 (y : FVec Ideal S256x1024 .bf16) : FVec Ideal S1x16x16x1024 .bf16 :=
  shapeCast S1x16x16x1024 (shapeCast S16x16x1024 y shapeCasts_S256x1024_S16x16x1024) shapeCasts_S16x16x1024_S1x16x16x1024

theorem lane_at (l : Fin 128) : vLane (ix2 0 l) = BitVec.ofNat 32 (l.val % 64) := by
  pointwise [vLane, k0_pay7, k0_pay6, k0_pay5]
  revert l
  decide +kernel

theorem ang_at (p : Vec Ideal S1x256x1 .i32) (f : Vec Ideal S1x128 .f32) (r : Fin 256) (l : Fin 128) :
    (vAng p f (ix2 r l) : EReal) = (FloatOps.sitofp (F := Ideal) .f32 (p (ix3 0 r 0)) : EReal) * f (ix2 0 l) := by
  pointwise [vAng]

theorem lt8 : ∀ l : Fin 128, IntOp.cmpi .slt (BitVec.ofNat 32 (l.val % 64)) 8#32 = if l.val % 64 < 8 then 1#1 else 0#1 := by decide +kernel
theorem ge8 : ∀ l : Fin 128, IntOp.andi (IntOp.cmpi .sge (BitVec.ofNat 32 (l.val % 64)) 8#32) (IntOp.cmpi .slt (BitVec.ofNat 32 (l.val % 64)) 16#32)
    = if 8 ≤ l.val % 64 ∧ l.val % 64 < 16 then 1#1 else 0#1 := by decide +kernel

theorem up_at (a : FVec Ideal S256x128 .f32) (r : Fin 256) (l : Fin 128) :
    (vUp a (ix2 r l) : EReal) = if l.val % 64 < 8 then 0 - Ideal.sin (a (ix2 r l)) else 0 := by
  pointwise [vUp]
  rw [lane_at, lt8]
  split <;> rfl

theorem dn_at (a : FVec Ideal S256x128 .f32) (r : Fin 256) (l : Fin 128) :
    (vDn a (ix2 r l) : EReal) = if 8 ≤ l.val % 64 ∧ l.val % 64 < 16 then Ideal.sin (a (ix2 r l)) else 0 := by
  pointwise [vDn]
  rw [lane_at, ge8]
  split <;> rfl

theorem headC_at (s : FVec Ideal S256x256 .f32) (bd : Vec Ideal S256x256 .bf16) (r j : Fin 256) :
    (vHeadC s bd (ix2 r j) : EReal) = s (ix2 r j) * Ideal.rsqrt ((∑ i : Fin 256, s (ix2 r i) * s (ix2 r i) * bd (ix2 i j)) + Ideal.ofBits .f32 897988541#32) := by
  pointwise [vHeadC]

theorem ropeC_at (s a : FVec Ideal S256x128 .f32) (r : Fin 256) (l : Fin 128) :
    (vRopeC s a (ix2 r l) : EReal) = s (ix2 r l) * Ideal.cos (a (ix2 r l)) + s (ix2 r ⟨(l.val + 8) % 128, by omega⟩) * vUp a (ix2 r l) + s (ix2 r ⟨(l.val + 120) % 128, by omega⟩) * vDn a (ix2 r l) := by
  pointwise [vRopeC]
  have e1 : l.val + 128 - 120 = l.val + 8 := by omega
  have e2 : l.val + 128 - 8 = l.val + 120 := by omega
  simp only [e1, e2]

theorem mul_at (x : FVec Ideal S256x1024 .bf16) (w : Vec Ideal S1024x1024 .bf16) (r : Fin 256) (c : Fin 1024) :
    (vMul x w (ix2 r c) : EReal) = ∑ k : Fin 1024, (x (ix2 r k) : EReal) * w (ix2 k c) := by
  pointwise [vMul]

theorem perm_at (p : Vec Ideal S256x256 .bf16) (x : FVec Ideal S256x1024 .bf16) (r : Fin 256) (c : Fin 1024) :
    (vPerm p x (ix2 r c) : EReal) = ∑ t : Fin 256, (p (ix2 r t) : EReal) * x (ix2 t c) := by
  pointwise [vPerm]

theorem norm_at (x : Vec Ideal S1x256x1024 .f32) (g : Vec Ideal S1x1024 .f32) (r : Fin 256) (k : Fin 1024) :
    (k0_pay3 x g (ix2 r k) : EReal) = nrm (fun k => x (ix3 0 r k)) (fun k => g (ix2 0 k)) k := by
  pointwise [k0_pay3]
  rfl

/-! ## The heads' root mean squares -/

theorem f32_64 : (Ideal.ofBits .f32 1115684864#32 : EReal) = ((64 : ℝ) : EReal) := by
  simp [Ideal.ofBits, Ideal.ieee, -EReal.coe_mul]; norm_num

theorem square_nonneg (x : EReal) : 0 ≤ x * x := by
  rcases le_total 0 x with h | h
  · exact mul_nonneg h h
  · have h' : 0 ≤ -x := EReal.neg_nonneg.2 h
    have := mul_nonneg h' h'
    rwa [neg_mul_neg] at this

theorem sum_nonneg_mul {n : ℕ} (t : Fin n → EReal) (c : EReal) (h : ∀ i, 0 ≤ t i) : (∑ i, t i) * c = ∑ i, t i * c := by
  induction n with
  | zero => simp
  | succ n ih =>
    rw [Fin.sum_univ_succ, Fin.sum_univ_succ, EReal.right_distrib_of_nonneg (h 0) (Finset.sum_nonneg fun i _ => h i.succ), ih _ fun i => h i.succ]

/-- The averaging matrix's entry. -/
def avg (i j : Fin 256) : EReal := if i.val / 64 = j.val / 64 then ((1 / 64 : ℝ) : EReal) else 0

theorem sum_avg (t : Fin 256 → EReal) (h0 : ∀ i, 0 ≤ t i) (j : Fin 256) :
    ∑ i, t i * avg i j = Ideal.div (∑ d : Fin 64, t ⟨j.val / 64 * 64 + d.val, by omega⟩) (Ideal.ofBits .f32 1115684864#32) := by
  have e : ∑ i, t i * avg i j = ∑ a : Fin 4, ∑ d : Fin 64, t ⟨a.val * 64 + d.val, by omega⟩ * avg ⟨a.val * 64 + d.val, by omega⟩ j :=
    (Fin.sum_mul_add_fin 4 64 (fun i => t i * avg i j)).symm
  rw [e, Finset.sum_eq_single (⟨j.val / 64, by omega⟩ : Fin 4)]
  · have ea : ∀ d : Fin 64, avg ⟨j.val / 64 * 64 + d.val, by omega⟩ j = ((1 / 64 : ℝ) : EReal) := fun d => by
      unfold avg; rw [if_pos]; simp only; omega
    simp only [ea]
    rw [f32_64, Ideal.div, if_neg (by norm_num)]
    have e2 : ((64 : ℝ) : EReal)⁻¹ = ((1 / 64 : ℝ) : EReal) := by rw [← EReal.coe_inv, one_div]
    rw [e2]
    exact (sum_nonneg_mul _ _ (fun d => h0 _)).symm
  · intro a _ ha
    refine Finset.sum_eq_zero fun d _ => ?_
    have : avg ⟨a.val * 64 + d.val, by omega⟩ j = 0 := by
      unfold avg; rw [if_neg]; simp only; intro h; apply ha; apply Fin.ext; simp only; omega
    rw [this, mul_zero]
  · intro h; exact absurd (Finset.mem_univ _) h

/-- A chunk's normalized heads. -/
theorem headC_eq (s : FVec Ideal S256x256 .f32) (bd : Vec Ideal S256x256 .bf16) (hbd : ∀ i j, (bd (ix2 i j) : EReal) = avg i j) (r j : Fin 256) :
    (vHeadC s bd (ix2 r j) : EReal) = s (ix2 r j) * Ideal.rsqrt (Ideal.div (∑ d : Fin 64, s (ix2 r ⟨j.val / 64 * 64 + d.val, by omega⟩) * s (ix2 r ⟨j.val / 64 * 64 + d.val, by omega⟩)) (Ideal.ofBits .f32 1115684864#32) + Ideal.ofBits .f32 897988541#32) := by
  rw [headC_at]
  simp only [hbd]
  rw [sum_avg (fun i => s (ix2 r i) * s (ix2 r i)) (fun i => square_nonneg _)]

theorem slice4 (y : FVec Ideal S256x1024 .f32) (o : ℕ) (h : S256x1024.Slices ![0, o] S256x256) (r j : Fin 256) (c : Fin 1024) (e : c.val = o + j.val) :
    extractStridedSlice S256x256 ![0, o] y h (ix2 r j) = y (ix2 r c) := by
  pointwise
  exact congrArg y (congrArg (ix2 r) (Fin.ext e.symm))

/-- The heads of one chunk, in the row. -/
theorem headC_row (y : FVec Ideal S256x1024 .f32) (bd : Vec Ideal S256x256 .bf16) (hbd : ∀ i j, (bd (ix2 i j) : EReal) = avg i j) (n : ℕ) (o : ℕ) (ho : o = n * 256) (h : S256x1024.Slices ![0, o] S256x256)
    (r j : Fin 256) (c : Fin 1024) (e : c.val = o + j.val) :
    (vHeadC (extractStridedSlice S256x256 ![0, o] y h) bd (ix2 r j) : EReal) = y (ix2 r c) * Ideal.rsqrt (Ideal.div (∑ d : Fin 64, y (ix2 r ⟨c.val / 64 * 64 + d.val, by omega⟩) * y (ix2 r ⟨c.val / 64 * 64 + d.val, by omega⟩)) (Ideal.ofBits .f32 1115684864#32) + Ideal.ofBits .f32 897988541#32) := by
  rw [headC_eq _ _ hbd, slice4 y o h r j c e]
  have ed : ∀ d : Fin 64, extractStridedSlice S256x256 ![0, o] y h (ix2 r ⟨j.val / 64 * 64 + d.val, by omega⟩) = y (ix2 r ⟨c.val / 64 * 64 + d.val, by omega⟩) := fun d =>
    slice4 y o h r _ _ (by simp only; omega)
  simp only [ed]

theorem head_at (y : FVec Ideal S256x1024 .f32) (g : Vec Ideal S1x1x1024 .f32) (bd : Vec Ideal S256x256 .bf16) (hbd : ∀ i j, (bd (ix2 i j) : EReal) = avg i j) (r : Fin 256) (c : Fin 1024) :
    (vHead y g bd (ix2 r c) : EReal) = headN (fun d => y (ix2 r ⟨c.val / 64 * 64 + d.val, by omega⟩)) (fun d => g (ix3 0 0 ⟨c.val / 64 * 64 + d.val, by omega⟩)) ⟨c.val % 64, by omega⟩ := by
  have ec : (⟨c.val / 64 * 64 + c.val % 64, by omega⟩ : Fin 1024) = c := Fin.ext (by simp only; omega)
  unfold headN
  simp only [ec]
  pointwise [vHead]
  refine congrArg (· * (g (ix3 0 0 c) : EReal)) ?_
  split
  · exact headC_row y bd hbd 0 0 rfl _ r _ c (Nat.zero_add _).symm
  split
  · exact headC_row y bd hbd 1 256 rfl _ r _ c (by simp only; omega)
  split
  · exact headC_row y bd hbd 2 512 rfl _ r _ c (by simp only; omega)
  · exact headC_row y bd hbd 3 768 rfl _ r _ c (by simp only; omega)

/-! ## The rotation -/

theorem slice8 (z : FVec Ideal S256x1024 .f32) (o : ℕ) (h : S256x1024.Slices ![0, o] S256x128) (r : Fin 256) (l : Fin 128) (c : Fin 1024) (e : c.val = o + l.val) :
    extractStridedSlice S256x128 ![0, o] z h (ix2 r l) = z (ix2 r c) := by
  pointwise
  exact congrArg z (congrArg (ix2 r) (Fin.ext e.symm))

/-- A position's angles along the lanes: the frequencies twice at each head's front, zero after. -/
def Lanes (a : FVec Ideal S256x128 .f32) (A : Fin 256 → Fin 8 → EReal) : Prop :=
  ∀ (r : Fin 256) (l : Fin 128), (a (ix2 r l) : EReal) = if h : l.val % 64 < 8 then A r ⟨l.val % 64, h⟩ else if h' : l.val % 64 < 16 then A r ⟨l.val % 64 - 8, by omega⟩ else 0

theorem cos_zero : Ideal.cos 0 = 1 := by
  show ((Real.cos 0 : ℝ) : EReal) = 1
  rw [Real.cos_zero]; rfl

theorem ropeC_row (z : FVec Ideal S256x1024 .f32) (a : FVec Ideal S256x128 .f32) (A : Fin 256 → Fin 8 → EReal) (ha : Lanes a A) (n o : ℕ) (ho : o = n * 128)
    (h : S256x1024.Slices ![0, o] S256x128) (r : Fin 256) (l : Fin 128) (c : Fin 1024) (e : c.val = o + l.val) :
    (vRopeC (extractStridedSlice S256x128 ![0, o] z h) a (ix2 r l) : EReal) = rot (fun d => z (ix2 r ⟨c.val / 64 * 64 + d.val, by omega⟩)) (A r) ⟨c.val % 64, by omega⟩ := by
  have em : l.val % 64 = c.val % 64 := by omega
  have ec : (⟨c.val / 64 * 64 + c.val % 64, by omega⟩ : Fin 1024) = c := Fin.ext (by simp only; omega)
  rw [ropeC_at, up_at, dn_at, slice8 z o h r l c e, ha]
  unfold rot
  by_cases h1 : c.val % 64 < 8
  · have s1 := slice8 z o h r ⟨(l.val + 8) % 128, by omega⟩ ⟨c.val / 64 * 64 + (c.val % 64 + 8), by omega⟩ (by simp only; omega)
    have h3 : ¬ (8 ≤ c.val % 64 ∧ c.val % 64 < 16) := by omega
    rw [s1]
    simp only [em, h1, h3, dif_pos, if_true, if_false, mul_zero, add_zero, ec, zero_add, mul_neg, sub_eq_add_neg]
  · by_cases h2 : c.val % 64 < 16
    · have s1 := slice8 z o h r ⟨(l.val + 120) % 128, by omega⟩ ⟨c.val / 64 * 64 + (c.val % 64 - 8), by omega⟩ (by simp only; omega)
      have h3 : (8 ≤ c.val % 64 ∧ c.val % 64 < 16) := by omega
      rw [s1]
      simp only [em, h1, h2, h3, dif_pos, dif_neg, not_false_eq_true, if_true, if_false, mul_zero, add_zero, ec, and_self]
    · have h3 : ¬ (8 ≤ c.val % 64 ∧ c.val % 64 < 16) := by omega
      have h1' : ¬ l.val % 64 < 8 := by omega
      have h2' : ¬ l.val % 64 < 16 := by omega
      have h3' : ¬ (8 ≤ l.val % 64 ∧ l.val % 64 < 16) := by omega
      rw [if_neg h1', if_neg h3', dif_neg h1', dif_neg h2', dif_neg h1, dif_neg h2, cos_zero]
      simp only [mul_zero, add_zero, mul_one, ec]

theorem rope_at (z : FVec Ideal S256x1024 .f32) (a : FVec Ideal S256x128 .f32) (A : Fin 256 → Fin 8 → EReal) (ha : Lanes a A) (r : Fin 256) (c : Fin 1024) :
    (vRope z a (ix2 r c) : EReal) = rot (fun d => z (ix2 r ⟨c.val / 64 * 64 + d.val, by omega⟩)) (A r) ⟨c.val % 64, by omega⟩ := by
  pointwise [vRope]
  split
  · exact ropeC_row z a A ha 0 0 rfl _ r _ c (Nat.zero_add _).symm
  split
  · exact ropeC_row z a A ha 1 128 rfl _ r _ c (by simp only; omega)
  split
  · exact ropeC_row z a A ha 2 256 rfl _ r _ c (by simp only; omega)
  split
  · exact ropeC_row z a A ha 3 384 rfl _ r _ c (by simp only; omega)
  split
  · exact ropeC_row z a A ha 4 512 rfl _ r _ c (by simp only; omega)
  split
  · exact ropeC_row z a A ha 5 640 rfl _ r _ c (by simp only; omega)
  split
  · exact ropeC_row z a A ha 6 768 rfl _ r _ c (by simp only; omega)
  · exact ropeC_row z a A ha 7 896 rfl _ r _ c (by simp only; omega)

end Cert.Proof.QkvValue
-- ==== Proof.QkvValue.Canon.lean ====
/-
  The kernel's three output blocks, as the pieces it stores.
-/
module

public import proofs.«01_k».proof.Proof.Gen.QkvIdeal.Value
public import proofs.«01_k».proof.Proof.QkvValue.Vec

@[expose] public section

set_option maxRecDepth 16384

noncomputable section

namespace Cert.Proof.QkvValue

open Idealize.ShloMosaic Idealize.ShloMosaic.TcCoe Idealize.SL.Sem
open Cert.QkvIdeal Cert.QkvIdeal.Gen

section
variable (x0 : Vec Ideal S1x512x1024 .f32) (x1 : Vec Ideal S1x1024 .f32) (x2 : Vec Ideal S1024x9216 .bf16) (x3 x4 : Vec Ideal S256x256 .bf16)
  (x5 x6 x7 : Vec Ideal S1x512x1 .i32) (x8 : Vec Ideal S1x128 .f32) (x9 x10 : Vec Ideal S3x1x1024 .f32) (x11 : Vec Ideal S256x256 .bf16)

theorem canon12 : out0_12 x0 x1 x2 x3 x4 x5 x6 x7 x8 x9 x10 x11 = View.canon
    [⟨r0_30, o1 (vV (k0_pay3 (View.ld x0 r0_26) (View.ld x1 r0_1)) (View.ld x2 r0_10))⟩,
     ⟨r0_29, o1 (vK (k0_pay3 (View.ld x0 r0_26) (View.ld x1 r0_1)) (View.ld x2 r0_8) (View.ld x10 r0_5) (View.ld x11 r0_6) (vAng (View.ld x5 r0_27) (View.ld x8 r0_3)))⟩,
     ⟨r0_28, o1 (vQ (k0_pay3 (View.ld x0 r0_26) (View.ld x1 r0_1)) (View.ld x2 r0_4) (View.ld x9 r0_5) (View.ld x11 r0_6) (vAng (View.ld x5 r0_27) (View.ld x8 r0_3)))⟩,
     ⟨r0_11, o1 (vV (k0_pay3 (View.ld x0 r0_0) (View.ld x1 r0_1)) (View.ld x2 r0_10))⟩,
     ⟨r0_9, o1 (vK (k0_pay3 (View.ld x0 r0_0) (View.ld x1 r0_1)) (View.ld x2 r0_8) (View.ld x10 r0_5) (View.ld x11 r0_6) (vAng (View.ld x5 r0_2) (View.ld x8 r0_3)))⟩,
     ⟨r0_7, o1 (vQ (k0_pay3 (View.ld x0 r0_0) (View.ld x1 r0_1)) (View.ld x2 r0_4) (View.ld x9 r0_5) (View.ld x11 r0_6) (vAng (View.ld x5 r0_2) (View.ld x8 r0_3)))⟩] := by
  rfl

theorem canon13 : out0_13 x0 x1 x2 x3 x4 x5 x6 x7 x8 x9 x10 x11 = View.canon
    [⟨r0_33, o4 (vV (vPerm (View.ld x3 r0_6) (k0_pay3 (View.ld x0 r0_26) (View.ld x1 r0_1))) (View.ld x2 r0_17))⟩,
     ⟨r0_32, o4 (vK (vPerm (View.ld x3 r0_6) (k0_pay3 (View.ld x0 r0_26) (View.ld x1 r0_1))) (View.ld x2 r0_15) (View.ld x10 r0_13) (View.ld x11 r0_6) (vAng (View.ld x6 r0_27) (View.ld x8 r0_3)))⟩,
     ⟨r0_31, o4 (vQ (vPerm (View.ld x3 r0_6) (k0_pay3 (View.ld x0 r0_26) (View.ld x1 r0_1))) (View.ld x2 r0_12) (View.ld x9 r0_13) (View.ld x11 r0_6) (vAng (View.ld x6 r0_27) (View.ld x8 r0_3)))⟩,
     ⟨r0_18, o4 (vV (vPerm (View.ld x3 r0_6) (k0_pay3 (View.ld x0 r0_0) (View.ld x1 r0_1))) (View.ld x2 r0_17))⟩,
     ⟨r0_16, o4 (vK (vPerm (View.ld x3 r0_6) (k0_pay3 (View.ld x0 r0_0) (View.ld x1 r0_1))) (View.ld x2 r0_15) (View.ld x10 r0_13) (View.ld x11 r0_6) (vAng (View.ld x6 r0_2) (View.ld x8 r0_3)))⟩,
     ⟨r0_14, o4 (vQ (vPerm (View.ld x3 r0_6) (k0_pay3 (View.ld x0 r0_0) (View.ld x1 r0_1))) (View.ld x2 r0_12) (View.ld x9 r0_13) (View.ld x11 r0_6) (vAng (View.ld x6 r0_2) (View.ld x8 r0_3)))⟩] := by
  rfl

theorem canon14 : out0_14 x0 x1 x2 x3 x4 x5 x6 x7 x8 x9 x10 x11 = View.canon
    [⟨r0_36, o16 (vV (vPerm (View.ld x4 r0_6) (k0_pay3 (View.ld x0 r0_26) (View.ld x1 r0_1))) (View.ld x2 r0_24))⟩,
     ⟨r0_35, o16 (vK (vPerm (View.ld x4 r0_6) (k0_pay3 (View.ld x0 r0_26) (View.ld x1 r0_1))) (View.ld x2 r0_22) (View.ld x10 r0_20) (View.ld x11 r0_6) (vAng (View.ld x7 r0_27) (View.ld x8 r0_3)))⟩,
     ⟨r0_34, o16 (vQ (vPerm (View.ld x4 r0_6) (k0_pay3 (View.ld x0 r0_26) (View.ld x1 r0_1))) (View.ld x2 r0_19) (View.ld x9 r0_20) (View.ld x11 r0_6) (vAng (View.ld x7 r0_27) (View.ld x8 r0_3)))⟩,
     ⟨r0_25, o16 (vV (vPerm (View.ld x4 r0_6) (k0_pay3 (View.ld x0 r0_0) (View.ld x1 r0_1))) (View.ld x2 r0_24))⟩,
     ⟨r0_23, o16 (vK (vPerm (View.ld x4 r0_6) (k0_pay3 (View.ld x0 r0_0) (View.ld x1 r0_1))) (View.ld x2 r0_22) (View.ld x10 r0_20) (View.ld x11 r0_6) (vAng (View.ld x7 r0_2) (View.ld x8 r0_3)))⟩,
     ⟨r0_21, o16 (vQ (vPerm (View.ld x4 r0_6) (k0_pay3 (View.ld x0 r0_0) (View.ld x1 r0_1))) (View.ld x2 r0_19) (View.ld x9 r0_20) (View.ld x11 r0_6) (vAng (View.ld x7 r0_2) (View.ld x8 r0_3)))⟩] := by
  rfl

end

end Cert.Proof.QkvValue
-- ==== Proof.QkvValue.Block.lean ====
/-
  The kernel's output blocks read at an index: each row's queries, keys and values.
-/
module

public import proofs.«01_k».proof.Proof.QkvValue.Canon

@[expose] public section

set_option maxRecDepth 16384

noncomputable section

namespace Cert.Proof.QkvValue

open Idealize.ShloMosaic Idealize.ShloMosaic.TcCoe Idealize.SL.Sem
open Cert.QkvIdeal Cert.QkvIdeal.Gen

theorem o1_at (y : FVec Ideal S256x1024 .bf16) (a : Fin 1) (r : Fin 1) (m : Fin 256) (c : Fin 1024) : (o1 y (ix4 a r m c) : EReal) = y (ix2 m c) := by
  pointwise [o1]
theorem o4_at (y : FVec Ideal S256x1024 .bf16) (a : Fin 1) (r : Fin 4) (m : Fin 64) (c : Fin 1024) : (o4 y (ix4 a r m c) : EReal) = y (ix2 ⟨r.val * 64 + m.val, by omega⟩ c) := by
  pointwise [o4]
theorem o16_at (y : FVec Ideal S256x1024 .bf16) (a : Fin 1) (r : Fin 16) (m : Fin 16) (c : Fin 1024) : (o16 y (ix4 a r m c) : EReal) = y (ix2 ⟨r.val * 16 + m.val, by omega⟩ c) := by
  pointwise [o16]
theorem o1_idx (y : FVec Ideal S256x1024 .bf16) (x : S1x1x256x1024.Idx) : (o1 y x : EReal) = y (ix2 (x 2 : Fin 256) (x 3 : Fin 1024)) := by
  have ex : x = ix4 (x 0 : Fin 1) (x 1 : Fin 1) (x 2 : Fin 256) (x 3 : Fin 1024) := by blk_ext
  exact (congrArg (o1 y) ex).trans (o1_at y (x 0) (x 1) (x 2) (x 3))
theorem o4_idx (y : FVec Ideal S256x1024 .bf16) (x : S1x4x64x1024.Idx) : (o4 y x : EReal) = y (ix2 ⟨(x 1).val * 64 + (x 2).val, by have h1 : (x 1).val < 4 := (x 1).isLt; have h2 : (x 2).val < 64 := (x 2).isLt; omega⟩ (x 3 : Fin 1024)) := by
  have ex : x = ix4 (x 0 : Fin 1) (x 1 : Fin 4) (x 2 : Fin 64) (x 3 : Fin 1024) := by blk_ext
  exact (congrArg (o4 y) ex).trans (o4_at y (x 0) (x 1) (x 2) (x 3))
theorem o16_idx (y : FVec Ideal S256x1024 .bf16) (x : S1x16x16x1024.Idx) : (o16 y x : EReal) = y (ix2 ⟨(x 1).val * 16 + (x 2).val, by have h1 : (x 1).val < 16 := (x 1).isLt; have h2 : (x 2).val < 16 := (x 2).isLt; omega⟩ (x 3 : Fin 1024)) := by
  have ex : x = ix4 (x 0 : Fin 1) (x 1 : Fin 16) (x 2 : Fin 16) (x 3 : Fin 1024) := by blk_ext
  exact (congrArg (o16 y) ex).trans (o16_at y (x 0) (x 1) (x 2) (x 3))

theorem log2_pos : 0 < Real.log 2 := Real.log_pos (by norm_num)
theorem scl_eq : scl = ((8⁻¹ * (Real.log 2)⁻¹ : ℝ) : EReal) := by
  have e2 : (Ideal.ofBits .f32 1073741824#32 : EReal) = ((2 : ℝ) : EReal) := by
    simp [Ideal.ofBits, Ideal.ieee, -EReal.coe_mul]; norm_num
  have e8 : (Ideal.ofBits .f32 1040187392#32 : EReal) = ((1 / 8 : ℝ) : EReal) := by
    simp [Ideal.ofBits, Ideal.ieee, -EReal.coe_mul]; norm_num
  rw [scl, e2, e8, Ideal.log_coe, if_neg (by norm_num), Ideal.div_coe log2_pos.ne', ← EReal.coe_mul]
  norm_num

theorem named_eq : (Named.named (F := Ideal) κ "scale" (φ := .f32) 0x3E38AA3B#32 : EReal) = scl := by
  rw [scl_eq]; rfl

section
variable (x : FVec Ideal S256x1024 .bf16) (w : Vec Ideal S1024x1024 .bf16) (g : Vec Ideal S1x1x1024 .f32) (bd : Vec Ideal S256x256 .bf16) (a : FVec Ideal S256x128 .f32)
  (R : Fin 256) (c : Fin 1024) (y : Fin 3072 → EReal) (gq gk : Fin 64 → EReal) (A : Fin 256 → Fin 8 → EReal) (c' : Fin 3072)

theorem vK_at (hbd : ∀ i j, (bd (ix2 i j) : EReal) = avg i j) (ha : Lanes a A) (hg : ∀ n : Fin 1024, (g (ix3 0 0 n) : EReal) = gk ⟨n.val % 64, by omega⟩) :
    (vRope (vHead (vMul x w) g bd) a (ix2 R c) : EReal) = rot (headN (fun d => vMul x w (ix2 R ⟨c.val / 64 * 64 + d.val, by omega⟩)) gk) (A R) ⟨c.val % 64, by omega⟩ := by
  rw [rope_at _ _ A ha]
  refine congrArg (fun f => rot f (A R) _) (funext fun d => ?_)
  have e1 : (c.val / 64 * 64 + d.val) / 64 = c.val / 64 := by omega
  have e2 : ∀ d : Fin 64, (c.val / 64 * 64 + d.val) % 64 = d.val := fun d => by omega
  rw [head_at _ _ _ hbd]
  simp only [hg, e1, e2]

theorem q_row (hbd : ∀ i j, (bd (ix2 i j) : EReal) = avg i j) (ha : Lanes a A) (hg : ∀ n : Fin 1024, (g (ix3 0 0 n) : EReal) = gq ⟨n.val % 64, by omega⟩)
    (hy : ∀ n : Fin 1024, (vMul x w (ix2 R n) : EReal) = y ⟨n.val, by omega⟩) (e : c'.val = 0 + c.val) :
    (vQ x w g bd a (ix2 R c) : EReal) = rowOut y gq gk (A R) c' := by
  have h1 : (vQ x w g bd a (ix2 R c) : EReal) = vRope (vHead (vMul x w) g bd) a (ix2 R c) * scl := by
    rw [← named_eq]; rfl
  rw [h1, vK_at x w g bd a R c gq A hbd ha hg]
  simp only [hy]
  unfold rowOut
  have e' : c.val = c'.val := by omega
  simp only [e', show c'.val < 1024 by omega, if_true]

theorem k_row (hbd : ∀ i j, (bd (ix2 i j) : EReal) = avg i j) (ha : Lanes a A) (hg : ∀ n : Fin 1024, (g (ix3 0 0 n) : EReal) = gk ⟨n.val % 64, by omega⟩)
    (hy : ∀ n : Fin 1024, (vMul x w (ix2 R n) : EReal) = y ⟨1024 + n.val, by omega⟩) (e : c'.val = 1024 + c.val) :
    (vK x w g bd a (ix2 R c) : EReal) = rowOut y gq gk (A R) c' := by
  have h1 : (vK x w g bd a (ix2 R c) : EReal) = vRope (vHead (vMul x w) g bd) a (ix2 R c) := rfl
  rw [h1, vK_at x w g bd a R c gk A hbd ha hg]
  simp only [hy]
  unfold rowOut
  have e1 : c.val % 64 = c'.val % 64 := by omega
  have e2 : ∀ d, 1024 + (c.val / 64 * 64 + d) = c'.val / 64 * 64 + d := fun d => by omega
  simp only [e1, e2, show ¬ c'.val < 1024 by omega, show c'.val < 2048 by omega, if_true, if_false]

theorem v_row (hy : ∀ n : Fin 1024, (vMul x w (ix2 R n) : EReal) = y ⟨2048 + n.val, by omega⟩) (e : c'.val = 2048 + c.val) :
    (vV x w (ix2 R c) : EReal) = rowOut y gq gk (A R) c' := by
  have h1 : (vV x w (ix2 R c) : EReal) = vMul x w (ix2 R c) := rfl
  rw [h1, hy]
  unfold rowOut
  simp only [← e, show ¬ c'.val < 1024 by omega, show ¬ c'.val < 2048 by omega, if_false]

end

/-- The frequencies along the lanes. -/
def frL (l : Fin 128) : EReal := if h : l.val % 64 < 8 then fr ⟨l.val % 64, h⟩ else if h' : l.val % 64 < 16 then fr ⟨l.val % 64 - 8, by omega⟩ else 0

theorem lanes (p : Vec Ideal S1x256x1 .i32) (f : Vec Ideal S1x128 .f32) (hf : ∀ l, (f (ix2 0 l) : EReal) = frL l) (P : Fin 256 → BitVec 32) (hp : ∀ r, p (ix3 0 r 0) = P r) :
    Lanes (vAng p f) (fun r => ang (P r)) := by
  intro r l
  rw [ang_at, hf, hp]
  unfold frL
  by_cases h1 : l.val % 64 < 8
  · simp only [h1, dif_pos]; rfl
  · by_cases h2 : l.val % 64 < 16
    · simp only [h1, h2, dif_pos, dif_neg, not_false_eq_true]; rfl
    · simp only [h1, h2, dif_neg, not_false_eq_true, mul_zero]

/-- A selection of rows, as a product. -/
theorem perm_row (p : Vec Ideal S256x256 .bf16) (x : FVec Ideal S256x1024 .bf16) (σ : Fin 256 → Fin 256) (hp : ∀ r t, (p (ix2 r t) : EReal) = if t = σ r then 1 else 0)
    (r : Fin 256) (k : Fin 1024) : (vPerm p x (ix2 r k) : EReal) = x (ix2 (σ r) k) := by
  rw [perm_at, Finset.sum_eq_single (σ r)]
  · rw [hp, if_pos rfl, one_mul]
  · intro t _ ht; rw [hp, if_neg ht, zero_mul]
  · intro h; exact absurd (Finset.mem_univ _) h

/-- A normalized row through a weight column. -/
theorem mul_row (X : Vec Ideal S1x256x1024 .f32) (G : Vec Ideal S1x1024 .f32) (W : Vec Ideal S1024x1024 .bf16) (R : Fin 256) (n : Fin 1024) (x' g' w' : Fin 1024 → EReal)
    (hx : ∀ k, (X (ix3 0 R k) : EReal) = x' k) (hg : ∀ k, (G (ix2 0 k) : EReal) = g' k) (hw : ∀ k, (W (ix2 k n) : EReal) = w' k) :
    (vMul (k0_pay3 X G) W (ix2 R n) : EReal) = ∑ k, nrm x' g' k * w' k := by
  rw [mul_at]
  simp only [norm_at, hx, hg, hw]

theorem mul_row_p (p : Vec Ideal S256x256 .bf16) (σ : Fin 256 → Fin 256) (hp : ∀ r t, (p (ix2 r t) : EReal) = if t = σ r then 1 else 0)
    (X : Vec Ideal S1x256x1024 .f32) (G : Vec Ideal S1x1024 .f32) (W : Vec Ideal S1024x1024 .bf16) (R : Fin 256) (n : Fin 1024) (x' g' w' : Fin 1024 → EReal)
    (hx : ∀ k, (X (ix3 0 (σ R) k) : EReal) = x' k) (hg : ∀ k, (G (ix2 0 k) : EReal) = g' k) (hw : ∀ k, (W (ix2 k n) : EReal) = w' k) :
    (vMul (vPerm p (k0_pay3 X G)) W (ix2 R n) : EReal) = ∑ k, nrm x' g' k * w' k := by
  rw [mul_at]
  simp only [perm_row p _ σ hp, norm_at, hx, hg, hw]

/-- A load through a rectangle of a matrix, at an index. -/
theorem ld2 {α : EltTy} {n m n' m' : ℕ} (X : (⟨2, ![n, m]⟩ : Shape).Idx → Elt Ideal α) (o₀ o₁ : ℕ) (inb) (i : Fin n') (j : Fin m') (i' : Fin n) (j' : Fin m)
    (h₀ : i'.val = o₀ + i.val) (h₁ : j'.val = o₁ + j.val) :
    View.ld X (Rect.unit ![o₀, o₁] (⟨2, ![n', m']⟩ : Shape).size inb) (ix2 i j) = X (ix2 i' j') :=
  View.ld_unit_apply_of X _ _ _ _ _ (Fin.forall_fin_two.2 ⟨h₀, h₁⟩)

theorem ld3 {α : EltTy} {n m l n' m' l' : ℕ} (X : (⟨3, ![n, m, l]⟩ : Shape).Idx → Elt Ideal α) (o₀ o₁ o₂ : ℕ) (inb) (i : Fin n') (j : Fin m') (k : Fin l') (i' : Fin n) (j' : Fin m) (k' : Fin l)
    (h₀ : i'.val = o₀ + i.val) (h₁ : j'.val = o₁ + j.val) (h₂ : k'.val = o₂ + k.val) :
    View.ld X (Rect.unit ![o₀, o₁, o₂] (⟨3, ![n', m', l']⟩ : Shape).size inb) (ix3 i j k) = X (ix3 i' j' k') :=
  View.ld_unit_apply_of X _ _ _ _ _ (Fin.forall_fin_succ.2 ⟨h₀, Fin.forall_fin_two.2 ⟨h₁, h₂⟩⟩)

/-- A dilation's row order in a tile: of `rows` rows to a residue. -/
def σ4 (r : Fin 256) : Fin 256 := ⟨r.val % 64 * 4 + r.val / 64, by omega⟩
def σ16 (r : Fin 256) : Fin 256 := ⟨r.val % 16 * 16 + r.val / 16, by omega⟩

section
variable (x0 : Vec Ideal S1x512x1024 .f32) (x1 : Vec Ideal S1x1024 .f32) (x2 : Vec Ideal S1024x9216 .bf16) (x3 x4 : Vec Ideal S256x256 .bf16)
  (x5 x6 x7 : Vec Ideal S1x512x1 .i32) (x8 : Vec Ideal S1x128 .f32) (x9 x10 : Vec Ideal S3x1x1024 .f32) (x11 : Vec Ideal S256x256 .bf16)

theorem block0 (gq gk : Fin 64 → EReal) (hf : ∀ l, (x8 (ix2 0 l) : EReal) = frL l) (hbd : ∀ i j, (x11 (ix2 i j) : EReal) = avg i j)
    (hgq : ∀ n : Fin 1024, (x9 (ix3 0 0 n) : EReal) = gq ⟨n.val % 64, by omega⟩) (hgk : ∀ n : Fin 1024, (x10 (ix3 0 0 n) : EReal) = gk ⟨n.val % 64, by omega⟩)
    (P : Fin 512 → BitVec 32) (hP0 : ∀ r : Fin 256, x5 (ix3 0 ⟨r.val, by omega⟩ 0) = P ⟨(r).val, by omega⟩)
    (hP1 : ∀ r : Fin 256, x5 (ix3 0 ⟨256 + r.val, by omega⟩ 0) = P ⟨256 + (r).val, by omega⟩)
    (y : S1x1x512x3072.Idx) (T : Fin 512) (hT : T.val = (y 2).val * 1 + (y 1).val) :
    (out0_12 x0 x1 x2 x3 x4 x5 x6 x7 x8 x9 x10 x11 y : EReal) = rowOut (fun n => ∑ k, nrm (fun k => x0 (ix3 0 T k)) (fun k => x1 (ix2 0 k)) k * x2 (ix2 k ⟨0 + n.val, by omega⟩))
      gq gk (ang (P T)) (y 3) := by
  rw [canon12]
  canon_tiles x h
  · have eT : T = ⟨256 + ((x 2 : Fin 256)).val, by omega⟩ := Fin.ext (by simp only []; omega)
    refine (o1_idx _ x).trans ?_
    rw [eT]
    refine v_row _ _ (x 2) (x 3) _ gq gk (fun r => ang (P ⟨256 + (r).val, by omega⟩)) (y 3) (fun n => ?_) (by omega)
    · refine mul_row _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨256 + ((x 2 : Fin 256)).val, by omega⟩ := Fin.ext (by simp only []; omega)
    refine (o1_idx _ x).trans ?_
    rw [eT]
    refine k_row _ _ _ _ _ (x 2) (x 3) _ gq gk (fun r => ang (P ⟨256 + (r).val, by omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨256 + r.val, by omega⟩ 0 ?_ ?_ ?_).trans (hP1 r) <;> first | rfl | exact (Nat.zero_add _).symm
    · intro n
      refine (ld3 _ _ _ _ _ _ _ _ 0 0 n ?_ ?_ ?_).trans (hgk n) <;> first | rfl | exact (Nat.zero_add _).symm
    intro n
    · refine mul_row _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨256 + ((x 2 : Fin 256)).val, by omega⟩ := Fin.ext (by simp only []; omega)
    refine (o1_idx _ x).trans ?_
    rw [eT]
    refine q_row _ _ _ _ _ (x 2) (x 3) _ gq gk (fun r => ang (P ⟨256 + (r).val, by omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨256 + r.val, by omega⟩ 0 ?_ ?_ ?_).trans (hP1 r) <;> first | rfl | exact (Nat.zero_add _).symm
    · intro n
      refine (ld3 _ _ _ _ _ _ _ _ 0 0 n ?_ ?_ ?_).trans (hgq n) <;> first | rfl | exact (Nat.zero_add _).symm
    intro n
    · refine mul_row _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨((x 2 : Fin 256)).val, by omega⟩ := Fin.ext (by simp only []; omega)
    refine (o1_idx _ x).trans ?_
    rw [eT]
    refine v_row _ _ (x 2) (x 3) _ gq gk (fun r => ang (P ⟨(r).val, by omega⟩)) (y 3) (fun n => ?_) (by omega)
    · refine mul_row _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨((x 2 : Fin 256)).val, by omega⟩ := Fin.ext (by simp only []; omega)
    refine (o1_idx _ x).trans ?_
    rw [eT]
    refine k_row _ _ _ _ _ (x 2) (x 3) _ gq gk (fun r => ang (P ⟨(r).val, by omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨r.val, by omega⟩ 0 ?_ ?_ ?_).trans (hP0 r) <;> first | rfl | exact (Nat.zero_add _).symm
    · intro n
      refine (ld3 _ _ _ _ _ _ _ _ 0 0 n ?_ ?_ ?_).trans (hgk n) <;> first | rfl | exact (Nat.zero_add _).symm
    intro n
    · refine mul_row _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨((x 2 : Fin 256)).val, by omega⟩ := Fin.ext (by simp only []; omega)
    refine (o1_idx _ x).trans ?_
    rw [eT]
    refine q_row _ _ _ _ _ (x 2) (x 3) _ gq gk (fun r => ang (P ⟨(r).val, by omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨r.val, by omega⟩ 0 ?_ ?_ ?_).trans (hP0 r) <;> first | rfl | exact (Nat.zero_add _).symm
    · intro n
      refine (ld3 _ _ _ _ _ _ _ _ 0 0 n ?_ ?_ ?_).trans (hgq n) <;> first | rfl | exact (Nat.zero_add _).symm
    intro n
    · refine mul_row _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)

theorem block1 (gq gk : Fin 64 → EReal) (hf : ∀ l, (x8 (ix2 0 l) : EReal) = frL l) (hbd : ∀ i j, (x11 (ix2 i j) : EReal) = avg i j)
    (hgq : ∀ n : Fin 1024, (x9 (ix3 1 0 n) : EReal) = gq ⟨n.val % 64, by omega⟩) (hgk : ∀ n : Fin 1024, (x10 (ix3 1 0 n) : EReal) = gk ⟨n.val % 64, by omega⟩)
    (hp : ∀ r t, (x3 (ix2 r t) : EReal) = if t = σ4 r then 1 else 0)
    (P : Fin 512 → BitVec 32) (hP0 : ∀ r : Fin 256, x6 (ix3 0 ⟨r.val, by omega⟩ 0) = P ⟨(σ4 r).val, by have := (σ4 r).isLt; omega⟩)
    (hP1 : ∀ r : Fin 256, x6 (ix3 0 ⟨256 + r.val, by omega⟩ 0) = P ⟨256 + (σ4 r).val, by have := (σ4 r).isLt; omega⟩)
    (y : S1x4x128x3072.Idx) (T : Fin 512) (hT : T.val = (y 2).val * 4 + (y 1).val) :
    (out0_13 x0 x1 x2 x3 x4 x5 x6 x7 x8 x9 x10 x11 y : EReal) = rowOut (fun n => ∑ k, nrm (fun k => x0 (ix3 0 T k)) (fun k => x1 (ix2 0 k)) k * x2 (ix2 k ⟨3072 + n.val, by omega⟩))
      gq gk (ang (P T)) (y 3) := by
  rw [canon13]
  canon_tiles x h
  · have eT : T = ⟨256 + (σ4 (⟨(x 1).val * 64 + (x 2).val, by omega⟩ : Fin 256)).val, by have := (σ4 ⟨(x 1).val * 64 + (x 2).val, by omega⟩).isLt; omega⟩ := Fin.ext (by simp only [σ4]; omega)
    refine (o4_idx _ x).trans ?_
    rw [eT]
    refine v_row _ _ (⟨(x 1).val * 64 + (x 2).val, by omega⟩) (x 3) _ gq gk (fun r => ang (P ⟨256 + (σ4 r).val, by have := (σ4 r).isLt; omega⟩)) (y 3) (fun n => ?_) (by omega)
    · refine mul_row_p _ σ4 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨256 + (σ4 (⟨(x 1).val * 64 + (x 2).val, by omega⟩ : Fin 256)).val, by have := (σ4 ⟨(x 1).val * 64 + (x 2).val, by omega⟩).isLt; omega⟩ := Fin.ext (by simp only [σ4]; omega)
    refine (o4_idx _ x).trans ?_
    rw [eT]
    refine k_row _ _ _ _ _ (⟨(x 1).val * 64 + (x 2).val, by omega⟩) (x 3) _ gq gk (fun r => ang (P ⟨256 + (σ4 r).val, by have := (σ4 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨256 + r.val, by omega⟩ 0 ?_ ?_ ?_).trans (hP1 r) <;> first | rfl | exact (Nat.zero_add _).symm
    · intro n
      refine (ld3 _ _ _ _ _ _ _ _ 1 0 n ?_ ?_ ?_).trans (hgk n) <;> first | rfl | exact (Nat.zero_add _).symm
    intro n
    · refine mul_row_p _ σ4 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨256 + (σ4 (⟨(x 1).val * 64 + (x 2).val, by omega⟩ : Fin 256)).val, by have := (σ4 ⟨(x 1).val * 64 + (x 2).val, by omega⟩).isLt; omega⟩ := Fin.ext (by simp only [σ4]; omega)
    refine (o4_idx _ x).trans ?_
    rw [eT]
    refine q_row _ _ _ _ _ (⟨(x 1).val * 64 + (x 2).val, by omega⟩) (x 3) _ gq gk (fun r => ang (P ⟨256 + (σ4 r).val, by have := (σ4 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨256 + r.val, by omega⟩ 0 ?_ ?_ ?_).trans (hP1 r) <;> first | rfl | exact (Nat.zero_add _).symm
    · intro n
      refine (ld3 _ _ _ _ _ _ _ _ 1 0 n ?_ ?_ ?_).trans (hgq n) <;> first | rfl | exact (Nat.zero_add _).symm
    intro n
    · refine mul_row_p _ σ4 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨(σ4 (⟨(x 1).val * 64 + (x 2).val, by omega⟩ : Fin 256)).val, by have := (σ4 ⟨(x 1).val * 64 + (x 2).val, by omega⟩).isLt; omega⟩ := Fin.ext (by simp only [σ4]; omega)
    refine (o4_idx _ x).trans ?_
    rw [eT]
    refine v_row _ _ (⟨(x 1).val * 64 + (x 2).val, by omega⟩) (x 3) _ gq gk (fun r => ang (P ⟨(σ4 r).val, by have := (σ4 r).isLt; omega⟩)) (y 3) (fun n => ?_) (by omega)
    · refine mul_row_p _ σ4 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨(σ4 (⟨(x 1).val * 64 + (x 2).val, by omega⟩ : Fin 256)).val, by have := (σ4 ⟨(x 1).val * 64 + (x 2).val, by omega⟩).isLt; omega⟩ := Fin.ext (by simp only [σ4]; omega)
    refine (o4_idx _ x).trans ?_
    rw [eT]
    refine k_row _ _ _ _ _ (⟨(x 1).val * 64 + (x 2).val, by omega⟩) (x 3) _ gq gk (fun r => ang (P ⟨(σ4 r).val, by have := (σ4 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨r.val, by omega⟩ 0 ?_ ?_ ?_).trans (hP0 r) <;> first | rfl | exact (Nat.zero_add _).symm
    · intro n
      refine (ld3 _ _ _ _ _ _ _ _ 1 0 n ?_ ?_ ?_).trans (hgk n) <;> first | rfl | exact (Nat.zero_add _).symm
    intro n
    · refine mul_row_p _ σ4 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨(σ4 (⟨(x 1).val * 64 + (x 2).val, by omega⟩ : Fin 256)).val, by have := (σ4 ⟨(x 1).val * 64 + (x 2).val, by omega⟩).isLt; omega⟩ := Fin.ext (by simp only [σ4]; omega)
    refine (o4_idx _ x).trans ?_
    rw [eT]
    refine q_row _ _ _ _ _ (⟨(x 1).val * 64 + (x 2).val, by omega⟩) (x 3) _ gq gk (fun r => ang (P ⟨(σ4 r).val, by have := (σ4 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨r.val, by omega⟩ 0 ?_ ?_ ?_).trans (hP0 r) <;> first | rfl | exact (Nat.zero_add _).symm
    · intro n
      refine (ld3 _ _ _ _ _ _ _ _ 1 0 n ?_ ?_ ?_).trans (hgq n) <;> first | rfl | exact (Nat.zero_add _).symm
    intro n
    · refine mul_row_p _ σ4 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)

theorem block2 (gq gk : Fin 64 → EReal) (hf : ∀ l, (x8 (ix2 0 l) : EReal) = frL l) (hbd : ∀ i j, (x11 (ix2 i j) : EReal) = avg i j)
    (hgq : ∀ n : Fin 1024, (x9 (ix3 2 0 n) : EReal) = gq ⟨n.val % 64, by omega⟩) (hgk : ∀ n : Fin 1024, (x10 (ix3 2 0 n) : EReal) = gk ⟨n.val % 64, by omega⟩)
    (hp : ∀ r t, (x4 (ix2 r t) : EReal) = if t = σ16 r then 1 else 0)
    (P : Fin 512 → BitVec 32) (hP0 : ∀ r : Fin 256, x7 (ix3 0 ⟨r.val, by omega⟩ 0) = P ⟨(σ16 r).val, by have := (σ16 r).isLt; omega⟩)
    (hP1 : ∀ r : Fin 256, x7 (ix3 0 ⟨256 + r.val, by omega⟩ 0) = P ⟨256 + (σ16 r).val, by have := (σ16 r).isLt; omega⟩)
    (y : S1x16x32x3072.Idx) (T : Fin 512) (hT : T.val = (y 2).val * 16 + (y 1).val) :
    (out0_14 x0 x1 x2 x3 x4 x5 x6 x7 x8 x9 x10 x11 y : EReal) = rowOut (fun n => ∑ k, nrm (fun k => x0 (ix3 0 T k)) (fun k => x1 (ix2 0 k)) k * x2 (ix2 k ⟨6144 + n.val, by omega⟩))
      gq gk (ang (P T)) (y 3) := by
  rw [canon14]
  canon_tiles x h
  · have eT : T = ⟨256 + (σ16 (⟨(x 1).val * 16 + (x 2).val, by omega⟩ : Fin 256)).val, by have := (σ16 ⟨(x 1).val * 16 + (x 2).val, by omega⟩).isLt; omega⟩ := Fin.ext (by simp only [σ16]; omega)
    refine (o16_idx _ x).trans ?_
    rw [eT]
    refine v_row _ _ (⟨(x 1).val * 16 + (x 2).val, by omega⟩) (x 3) _ gq gk (fun r => ang (P ⟨256 + (σ16 r).val, by have := (σ16 r).isLt; omega⟩)) (y 3) (fun n => ?_) (by omega)
    · refine mul_row_p _ σ16 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨256 + (σ16 (⟨(x 1).val * 16 + (x 2).val, by omega⟩ : Fin 256)).val, by have := (σ16 ⟨(x 1).val * 16 + (x 2).val, by omega⟩).isLt; omega⟩ := Fin.ext (by simp only [σ16]; omega)
    refine (o16_idx _ x).trans ?_
    rw [eT]
    refine k_row _ _ _ _ _ (⟨(x 1).val * 16 + (x 2).val, by omega⟩) (x 3) _ gq gk (fun r => ang (P ⟨256 + (σ16 r).val, by have := (σ16 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨256 + r.val, by omega⟩ 0 ?_ ?_ ?_).trans (hP1 r) <;> first | rfl | exact (Nat.zero_add _).symm
    · intro n
      refine (ld3 _ _ _ _ _ _ _ _ 2 0 n ?_ ?_ ?_).trans (hgk n) <;> first | rfl | exact (Nat.zero_add _).symm
    intro n
    · refine mul_row_p _ σ16 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨256 + (σ16 (⟨(x 1).val * 16 + (x 2).val, by omega⟩ : Fin 256)).val, by have := (σ16 ⟨(x 1).val * 16 + (x 2).val, by omega⟩).isLt; omega⟩ := Fin.ext (by simp only [σ16]; omega)
    refine (o16_idx _ x).trans ?_
    rw [eT]
    refine q_row _ _ _ _ _ (⟨(x 1).val * 16 + (x 2).val, by omega⟩) (x 3) _ gq gk (fun r => ang (P ⟨256 + (σ16 r).val, by have := (σ16 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨256 + r.val, by omega⟩ 0 ?_ ?_ ?_).trans (hP1 r) <;> first | rfl | exact (Nat.zero_add _).symm
    · intro n
      refine (ld3 _ _ _ _ _ _ _ _ 2 0 n ?_ ?_ ?_).trans (hgq n) <;> first | rfl | exact (Nat.zero_add _).symm
    intro n
    · refine mul_row_p _ σ16 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨(σ16 (⟨(x 1).val * 16 + (x 2).val, by omega⟩ : Fin 256)).val, by have := (σ16 ⟨(x 1).val * 16 + (x 2).val, by omega⟩).isLt; omega⟩ := Fin.ext (by simp only [σ16]; omega)
    refine (o16_idx _ x).trans ?_
    rw [eT]
    refine v_row _ _ (⟨(x 1).val * 16 + (x 2).val, by omega⟩) (x 3) _ gq gk (fun r => ang (P ⟨(σ16 r).val, by have := (σ16 r).isLt; omega⟩)) (y 3) (fun n => ?_) (by omega)
    · refine mul_row_p _ σ16 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨(σ16 (⟨(x 1).val * 16 + (x 2).val, by omega⟩ : Fin 256)).val, by have := (σ16 ⟨(x 1).val * 16 + (x 2).val, by omega⟩).isLt; omega⟩ := Fin.ext (by simp only [σ16]; omega)
    refine (o16_idx _ x).trans ?_
    rw [eT]
    refine k_row _ _ _ _ _ (⟨(x 1).val * 16 + (x 2).val, by omega⟩) (x 3) _ gq gk (fun r => ang (P ⟨(σ16 r).val, by have := (σ16 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨r.val, by omega⟩ 0 ?_ ?_ ?_).trans (hP0 r) <;> first | rfl | exact (Nat.zero_add _).symm
    · intro n
      refine (ld3 _ _ _ _ _ _ _ _ 2 0 n ?_ ?_ ?_).trans (hgk n) <;> first | rfl | exact (Nat.zero_add _).symm
    intro n
    · refine mul_row_p _ σ16 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
  · have eT : T = ⟨(σ16 (⟨(x 1).val * 16 + (x 2).val, by omega⟩ : Fin 256)).val, by have := (σ16 ⟨(x 1).val * 16 + (x 2).val, by omega⟩).isLt; omega⟩ := Fin.ext (by simp only [σ16]; omega)
    refine (o16_idx _ x).trans ?_
    rw [eT]
    refine q_row _ _ _ _ _ (⟨(x 1).val * 16 + (x 2).val, by omega⟩) (x 3) _ gq gk (fun r => ang (P ⟨(σ16 r).val, by have := (σ16 r).isLt; omega⟩)) (y 3) ?_ ?_ ?_ ?_ (by omega)
    · intro i j
      refine (ld2 _ _ _ _ _ _ i j ?_ ?_).trans (hbd i j) <;> exact (Nat.zero_add _).symm
    · refine lanes _ _ (fun l => ?_) _ (fun r => ?_)
      · refine (ld2 _ _ _ _ _ _ 0 l ?_ ?_).trans (hf l) <;> first | rfl | exact (Nat.zero_add _).symm
      · refine (ld3 _ _ _ _ _ _ _ _ 0 ⟨r.val, by omega⟩ 0 ?_ ?_ ?_).trans (hP0 r) <;> first | rfl | exact (Nat.zero_add _).symm
    · intro n
      refine (ld3 _ _ _ _ _ _ _ _ 2 0 n ?_ ?_ ?_).trans (hgq n) <;> first | rfl | exact (Nat.zero_add _).symm
    intro n
    · refine mul_row_p _ σ16 (fun r t => (ld2 _ _ _ _ _ _ r t (Nat.zero_add _).symm (Nat.zero_add _).symm).trans (hp r t)) _ _ _ _ _ _ _ _ (fun k => ?_) (fun k => ?_) (fun k => ?_)
      · refine ld3 _ _ _ _ _ _ _ _ _ _ _ ?_ ?_ ?_ <;> first | rfl | exact (Nat.zero_add _).symm | omega
      · refine ld2 _ _ _ _ _ _ _ _ ?_ ?_ <;> first | rfl | exact (Nat.zero_add _).symm | omega
      · refine ld2 _ _ _ _ _ _ _ _ ?_ ?_ <;> first | rfl | exact (Nat.zero_add _).symm | (simp only; omega)
end

end Cert.Proof.QkvValue
-- ==== Proof.QkvValue.Pick.lean ====
/-
  A choice among 128 values, by its index.
-/
module

public import proofs.«01_k».proof.Proof.QkvValue.Block

@[expose] public section

set_option maxRecDepth 16384

noncomputable section

namespace Cert.Proof.QkvValue

open Cert.QkvIdeal

theorem pick (f : ℕ → BitVec 16) (x : ℕ) (h : x < 128) : (match (generalizing := false) x with | 0 => f 0 | 1 => f 1 | 2 => f 2 | 3 => f 3 | 4 => f 4 | 5 => f 5 | 6 => f 6 | 7 => f 7 | 8 => f 8 | 9 => f 9 | 10 => f 10 | 11 => f 11 | 12 => f 12 | 13 => f 13 | 14 => f 14 | 15 => f 15 | 16 => f 16 | 17 => f 17 | 18 => f 18 | 19 => f 19 | 20 => f 20 | 21 => f 21 | 22 => f 22 | 23 => f 23 | 24 => f 24 | 25 => f 25 | 26 => f 26 | 27 => f 27 | 28 => f 28 | 29 => f 29 | 30 => f 30 | 31 => f 31 | 32 => f 32 | 33 => f 33 | 34 => f 34 | 35 => f 35 | 36 => f 36 | 37 => f 37 | 38 => f 38 | 39 => f 39 | 40 => f 40 | 41 => f 41 | 42 => f 42 | 43 => f 43 | 44 => f 44 | 45 => f 45 | 46 => f 46 | 47 => f 47 | 48 => f 48 | 49 => f 49 | 50 => f 50 | 51 => f 51 | 52 => f 52 | 53 => f 53 | 54 => f 54 | 55 => f 55 | 56 => f 56 | 57 => f 57 | 58 => f 58 | 59 => f 59 | 60 => f 60 | 61 => f 61 | 62 => f 62 | 63 => f 63 | 64 => f 64 | 65 => f 65 | 66 => f 66 | 67 => f 67 | 68 => f 68 | 69 => f 69 | 70 => f 70 | 71 => f 71 | 72 => f 72 | 73 => f 73 | 74 => f 74 | 75 => f 75 | 76 => f 76 | 77 => f 77 | 78 => f 78 | 79 => f 79 | 80 => f 80 | 81 => f 81 | 82 => f 82 | 83 => f 83 | 84 => f 84 | 85 => f 85 | 86 => f 86 | 87 => f 87 | 88 => f 88 | 89 => f 89 | 90 => f 90 | 91 => f 91 | 92 => f 92 | 93 => f 93 | 94 => f 94 | 95 => f 95 | 96 => f 96 | 97 => f 97 | 98 => f 98 | 99 => f 99 | 100 => f 100 | 101 => f 101 | 102 => f 102 | 103 => f 103 | 104 => f 104 | 105 => f 105 | 106 => f 106 | 107 => f 107 | 108 => f 108 | 109 => f 109 | 110 => f 110 | 111 => f 111 | 112 => f 112 | 113 => f 113 | 114 => f 114 | 115 => f 115 | 116 => f 116 | 117 => f 117 | 118 => f 118 | 119 => f 119 | 120 => f 120 | 121 => f 121 | 122 => f 122 | 123 => f 123 | 124 => f 124 | 125 => f 125 | 126 => f 126 | 127 => f 127 | _ => 0#16) = f x := by
  match x, h with
  | 0, _ => exact rfl
  | 1, _ => exact rfl
  | 2, _ => exact rfl
  | 3, _ => exact rfl
  | 4, _ => exact rfl
  | 5, _ => exact rfl
  | 6, _ => exact rfl
  | 7, _ => exact rfl
  | 8, _ => exact rfl
  | 9, _ => exact rfl
  | 10, _ => exact rfl
  | 11, _ => exact rfl
  | 12, _ => exact rfl
  | 13, _ => exact rfl
  | 14, _ => exact rfl
  | 15, _ => exact rfl
  | 16, _ => exact rfl
  | 17, _ => exact rfl
  | 18, _ => exact rfl
  | 19, _ => exact rfl
  | 20, _ => exact rfl
  | 21, _ => exact rfl
  | 22, _ => exact rfl
  | 23, _ => exact rfl
  | 24, _ => exact rfl
  | 25, _ => exact rfl
  | 26, _ => exact rfl
  | 27, _ => exact rfl
  | 28, _ => exact rfl
  | 29, _ => exact rfl
  | 30, _ => exact rfl
  | 31, _ => exact rfl
  | 32, _ => exact rfl
  | 33, _ => exact rfl
  | 34, _ => exact rfl
  | 35, _ => exact rfl
  | 36, _ => exact rfl
  | 37, _ => exact rfl
  | 38, _ => exact rfl
  | 39, _ => exact rfl
  | 40, _ => exact rfl
  | 41, _ => exact rfl
  | 42, _ => exact rfl
  | 43, _ => exact rfl
  | 44, _ => exact rfl
  | 45, _ => exact rfl
  | 46, _ => exact rfl
  | 47, _ => exact rfl
  | 48, _ => exact rfl
  | 49, _ => exact rfl
  | 50, _ => exact rfl
  | 51, _ => exact rfl
  | 52, _ => exact rfl
  | 53, _ => exact rfl
  | 54, _ => exact rfl
  | 55, _ => exact rfl
  | 56, _ => exact rfl
  | 57, _ => exact rfl
  | 58, _ => exact rfl
  | 59, _ => exact rfl
  | 60, _ => exact rfl
  | 61, _ => exact rfl
  | 62, _ => exact rfl
  | 63, _ => exact rfl
  | 64, _ => exact rfl
  | 65, _ => exact rfl
  | 66, _ => exact rfl
  | 67, _ => exact rfl
  | 68, _ => exact rfl
  | 69, _ => exact rfl
  | 70, _ => exact rfl
  | 71, _ => exact rfl
  | 72, _ => exact rfl
  | 73, _ => exact rfl
  | 74, _ => exact rfl
  | 75, _ => exact rfl
  | 76, _ => exact rfl
  | 77, _ => exact rfl
  | 78, _ => exact rfl
  | 79, _ => exact rfl
  | 80, _ => exact rfl
  | 81, _ => exact rfl
  | 82, _ => exact rfl
  | 83, _ => exact rfl
  | 84, _ => exact rfl
  | 85, _ => exact rfl
  | 86, _ => exact rfl
  | 87, _ => exact rfl
  | 88, _ => exact rfl
  | 89, _ => exact rfl
  | 90, _ => exact rfl
  | 91, _ => exact rfl
  | 92, _ => exact rfl
  | 93, _ => exact rfl
  | 94, _ => exact rfl
  | 95, _ => exact rfl
  | 96, _ => exact rfl
  | 97, _ => exact rfl
  | 98, _ => exact rfl
  | 99, _ => exact rfl
  | 100, _ => exact rfl
  | 101, _ => exact rfl
  | 102, _ => exact rfl
  | 103, _ => exact rfl
  | 104, _ => exact rfl
  | 105, _ => exact rfl
  | 106, _ => exact rfl
  | 107, _ => exact rfl
  | 108, _ => exact rfl
  | 109, _ => exact rfl
  | 110, _ => exact rfl
  | 111, _ => exact rfl
  | 112, _ => exact rfl
  | 113, _ => exact rfl
  | 114, _ => exact rfl
  | 115, _ => exact rfl
  | 116, _ => exact rfl
  | 117, _ => exact rfl
  | 118, _ => exact rfl
  | 119, _ => exact rfl
  | 120, _ => exact rfl
  | 121, _ => exact rfl
  | 122, _ => exact rfl
  | 123, _ => exact rfl
  | 124, _ => exact rfl
  | 125, _ => exact rfl
  | 126, _ => exact rfl
  | 127, _ => exact rfl
  | n + 128, h => exact absurd h (by omega)

theorem pick_of (f : ℕ → BitVec 16) (x : ℕ) (h : x < 128) (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : BitVec 16) (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) (h16 : a16 = f 16) (h17 : a17 = f 17) (h18 : a18 = f 18) (h19 : a19 = f 19) (h20 : a20 = f 20) (h21 : a21 = f 21) (h22 : a22 = f 22) (h23 : a23 = f 23) (h24 : a24 = f 24) (h25 : a25 = f 25) (h26 : a26 = f 26) (h27 : a27 = f 27) (h28 : a28 = f 28) (h29 : a29 = f 29) (h30 : a30 = f 30) (h31 : a31 = f 31) (h32 : a32 = f 32) (h33 : a33 = f 33) (h34 : a34 = f 34) (h35 : a35 = f 35) (h36 : a36 = f 36) (h37 : a37 = f 37) (h38 : a38 = f 38) (h39 : a39 = f 39) (h40 : a40 = f 40) (h41 : a41 = f 41) (h42 : a42 = f 42) (h43 : a43 = f 43) (h44 : a44 = f 44) (h45 : a45 = f 45) (h46 : a46 = f 46) (h47 : a47 = f 47) (h48 : a48 = f 48) (h49 : a49 = f 49) (h50 : a50 = f 50) (h51 : a51 = f 51) (h52 : a52 = f 52) (h53 : a53 = f 53) (h54 : a54 = f 54) (h55 : a55 = f 55) (h56 : a56 = f 56) (h57 : a57 = f 57) (h58 : a58 = f 58) (h59 : a59 = f 59) (h60 : a60 = f 60) (h61 : a61 = f 61) (h62 : a62 = f 62) (h63 : a63 = f 63) (h64 : a64 = f 64) (h65 : a65 = f 65) (h66 : a66 = f 66) (h67 : a67 = f 67) (h68 : a68 = f 68) (h69 : a69 = f 69) (h70 : a70 = f 70) (h71 : a71 = f 71) (h72 : a72 = f 72) (h73 : a73 = f 73) (h74 : a74 = f 74) (h75 : a75 = f 75) (h76 : a76 = f 76) (h77 : a77 = f 77) (h78 : a78 = f 78) (h79 : a79 = f 79) (h80 : a80 = f 80) (h81 : a81 = f 81) (h82 : a82 = f 82) (h83 : a83 = f 83) (h84 : a84 = f 84) (h85 : a85 = f 85) (h86 : a86 = f 86) (h87 : a87 = f 87) (h88 : a88 = f 88) (h89 : a89 = f 89) (h90 : a90 = f 90) (h91 : a91 = f 91) (h92 : a92 = f 92) (h93 : a93 = f 93) (h94 : a94 = f 94) (h95 : a95 = f 95) (h96 : a96 = f 96) (h97 : a97 = f 97) (h98 : a98 = f 98) (h99 : a99 = f 99) (h100 : a100 = f 100) (h101 : a101 = f 101) (h102 : a102 = f 102) (h103 : a103 = f 103) (h104 : a104 = f 104) (h105 : a105 = f 105) (h106 : a106 = f 106) (h107 : a107 = f 107) (h108 : a108 = f 108) (h109 : a109 = f 109) (h110 : a110 = f 110) (h111 : a111 = f 111) (h112 : a112 = f 112) (h113 : a113 = f 113) (h114 : a114 = f 114) (h115 : a115 = f 115) (h116 : a116 = f 116) (h117 : a117 = f 117) (h118 : a118 = f 118) (h119 : a119 = f 119) (h120 : a120 = f 120) (h121 : a121 = f 121) (h122 : a122 = f 122) (h123 : a123 = f 123) (h124 : a124 = f 124) (h125 : a125 = f 125) (h126 : a126 = f 126) (h127 : a127 = f 127) :
    (match (generalizing := false) x with | 0 => a0 | 1 => a1 | 2 => a2 | 3 => a3 | 4 => a4 | 5 => a5 | 6 => a6 | 7 => a7 | 8 => a8 | 9 => a9 | 10 => a10 | 11 => a11 | 12 => a12 | 13 => a13 | 14 => a14 | 15 => a15 | 16 => a16 | 17 => a17 | 18 => a18 | 19 => a19 | 20 => a20 | 21 => a21 | 22 => a22 | 23 => a23 | 24 => a24 | 25 => a25 | 26 => a26 | 27 => a27 | 28 => a28 | 29 => a29 | 30 => a30 | 31 => a31 | 32 => a32 | 33 => a33 | 34 => a34 | 35 => a35 | 36 => a36 | 37 => a37 | 38 => a38 | 39 => a39 | 40 => a40 | 41 => a41 | 42 => a42 | 43 => a43 | 44 => a44 | 45 => a45 | 46 => a46 | 47 => a47 | 48 => a48 | 49 => a49 | 50 => a50 | 51 => a51 | 52 => a52 | 53 => a53 | 54 => a54 | 55 => a55 | 56 => a56 | 57 => a57 | 58 => a58 | 59 => a59 | 60 => a60 | 61 => a61 | 62 => a62 | 63 => a63 | 64 => a64 | 65 => a65 | 66 => a66 | 67 => a67 | 68 => a68 | 69 => a69 | 70 => a70 | 71 => a71 | 72 => a72 | 73 => a73 | 74 => a74 | 75 => a75 | 76 => a76 | 77 => a77 | 78 => a78 | 79 => a79 | 80 => a80 | 81 => a81 | 82 => a82 | 83 => a83 | 84 => a84 | 85 => a85 | 86 => a86 | 87 => a87 | 88 => a88 | 89 => a89 | 90 => a90 | 91 => a91 | 92 => a92 | 93 => a93 | 94 => a94 | 95 => a95 | 96 => a96 | 97 => a97 | 98 => a98 | 99 => a99 | 100 => a100 | 101 => a101 | 102 => a102 | 103 => a103 | 104 => a104 | 105 => a105 | 106 => a106 | 107 => a107 | 108 => a108 | 109 => a109 | 110 => a110 | 111 => a111 | 112 => a112 | 113 => a113 | 114 => a114 | 115 => a115 | 116 => a116 | 117 => a117 | 118 => a118 | 119 => a119 | 120 => a120 | 121 => a121 | 122 => a122 | 123 => a123 | 124 => a124 | 125 => a125 | 126 => a126 | 127 => a127 | _ => 0#16) = f x := by
  match x, h with
  | 0, _ => exact h0
  | 1, _ => exact h1
  | 2, _ => exact h2
  | 3, _ => exact h3
  | 4, _ => exact h4
  | 5, _ => exact h5
  | 6, _ => exact h6
  | 7, _ => exact h7
  | 8, _ => exact h8
  | 9, _ => exact h9
  | 10, _ => exact h10
  | 11, _ => exact h11
  | 12, _ => exact h12
  | 13, _ => exact h13
  | 14, _ => exact h14
  | 15, _ => exact h15
  | 16, _ => exact h16
  | 17, _ => exact h17
  | 18, _ => exact h18
  | 19, _ => exact h19
  | 20, _ => exact h20
  | 21, _ => exact h21
  | 22, _ => exact h22
  | 23, _ => exact h23
  | 24, _ => exact h24
  | 25, _ => exact h25
  | 26, _ => exact h26
  | 27, _ => exact h27
  | 28, _ => exact h28
  | 29, _ => exact h29
  | 30, _ => exact h30
  | 31, _ => exact h31
  | 32, _ => exact h32
  | 33, _ => exact h33
  | 34, _ => exact h34
  | 35, _ => exact h35
  | 36, _ => exact h36
  | 37, _ => exact h37
  | 38, _ => exact h38
  | 39, _ => exact h39
  | 40, _ => exact h40
  | 41, _ => exact h41
  | 42, _ => exact h42
  | 43, _ => exact h43
  | 44, _ => exact h44
  | 45, _ => exact h45
  | 46, _ => exact h46
  | 47, _ => exact h47
  | 48, _ => exact h48
  | 49, _ => exact h49
  | 50, _ => exact h50
  | 51, _ => exact h51
  | 52, _ => exact h52
  | 53, _ => exact h53
  | 54, _ => exact h54
  | 55, _ => exact h55
  | 56, _ => exact h56
  | 57, _ => exact h57
  | 58, _ => exact h58
  | 59, _ => exact h59
  | 60, _ => exact h60
  | 61, _ => exact h61
  | 62, _ => exact h62
  | 63, _ => exact h63
  | 64, _ => exact h64
  | 65, _ => exact h65
  | 66, _ => exact h66
  | 67, _ => exact h67
  | 68, _ => exact h68
  | 69, _ => exact h69
  | 70, _ => exact h70
  | 71, _ => exact h71
  | 72, _ => exact h72
  | 73, _ => exact h73
  | 74, _ => exact h74
  | 75, _ => exact h75
  | 76, _ => exact h76
  | 77, _ => exact h77
  | 78, _ => exact h78
  | 79, _ => exact h79
  | 80, _ => exact h80
  | 81, _ => exact h81
  | 82, _ => exact h82
  | 83, _ => exact h83
  | 84, _ => exact h84
  | 85, _ => exact h85
  | 86, _ => exact h86
  | 87, _ => exact h87
  | 88, _ => exact h88
  | 89, _ => exact h89
  | 90, _ => exact h90
  | 91, _ => exact h91
  | 92, _ => exact h92
  | 93, _ => exact h93
  | 94, _ => exact h94
  | 95, _ => exact h95
  | 96, _ => exact h96
  | 97, _ => exact h97
  | 98, _ => exact h98
  | 99, _ => exact h99
  | 100, _ => exact h100
  | 101, _ => exact h101
  | 102, _ => exact h102
  | 103, _ => exact h103
  | 104, _ => exact h104
  | 105, _ => exact h105
  | 106, _ => exact h106
  | 107, _ => exact h107
  | 108, _ => exact h108
  | 109, _ => exact h109
  | 110, _ => exact h110
  | 111, _ => exact h111
  | 112, _ => exact h112
  | 113, _ => exact h113
  | 114, _ => exact h114
  | 115, _ => exact h115
  | 116, _ => exact h116
  | 117, _ => exact h117
  | 118, _ => exact h118
  | 119, _ => exact h119
  | 120, _ => exact h120
  | 121, _ => exact h121
  | 122, _ => exact h122
  | 123, _ => exact h123
  | 124, _ => exact h124
  | 125, _ => exact h125
  | 126, _ => exact h126
  | 127, _ => exact h127
  | n + 128, h => exact absurd h (by omega)

/-- The averaging matrix's entry, and a selection's, at lane `j` of the `q`-th half row. -/
def E0 (q j : ℕ) : BitVec 16 := cond (Nat.beq (Nat.div (Nat.div q 2) 64) (Nat.div (Nat.add (Nat.mul (Nat.mod q 2) 128) j) 64)) 0x3C80#16 0x0000#16
def E1 (q j : ℕ) : BitVec 16 := cond (Nat.beq (Nat.add (Nat.mul (Nat.mod q 2) 128) j) (Nat.add (Nat.mul (Nat.mod (Nat.div q 2) 64) 4) (Nat.div (Nat.div q 2) 64))) 0x3F80#16 0x0000#16
def E2 (q j : ℕ) : BitVec 16 := cond (Nat.beq (Nat.add (Nat.mul (Nat.mod q 2) 128) j) (Nat.add (Nat.mul (Nat.mod (Nat.div q 2) 16) 16) (Nat.div (Nat.div q 2) 16))) 0x3F80#16 0x0000#16

end Cert.Proof.QkvValue
-- ==== Proof.QkvValue.Lit0.lean ====
/-
  The averaging matrix, entry by entry.
-/
module

public import proofs.«01_k».proof.Proof.QkvValue.Pick

@[expose] public section

set_option maxRecDepth 16384

noncomputable section

namespace Cert.Proof.QkvValue

open Cert.QkvIdeal

theorem e0_0 (i : ℕ) : lit0t0_0 i = E0 0 (i % 128) := pick (E0 0) (i % 128) (Nat.mod_lt _ (by decide))
theorem e0_1 (i : ℕ) : lit0t0_1 i = E0 1 (i % 128) := pick (E0 1) (i % 128) (Nat.mod_lt _ (by decide))
theorem e0_2 (i : ℕ) : lit0t0_2 i = E0 2 (i % 128) := pick (E0 2) (i % 128) (Nat.mod_lt _ (by decide))
theorem e0_3 (i : ℕ) : lit0t0_3 i = E0 3 (i % 128) := pick (E0 3) (i % 128) (Nat.mod_lt _ (by decide))
theorem e0_4 (i : ℕ) : lit0t0_4 i = E0 4 (i % 128) := pick (E0 4) (i % 128) (Nat.mod_lt _ (by decide))
theorem e0_5 (i : ℕ) : lit0t0_5 i = E0 5 (i % 128) := pick (E0 5) (i % 128) (Nat.mod_lt _ (by decide))
theorem e0_6 (i : ℕ) : lit0t0_6 i = E0 6 (i % 128) := pick (E0 6) (i % 128) (Nat.mod_lt _ (by decide))
theorem e0_7 (i : ℕ) : lit0t0_7 i = E0 7 (i % 128) := pick (E0 7) (i % 128) (Nat.mod_lt _ (by decide))
theorem e0_8 (i : ℕ) : lit0t0_8 i = E0 8 (i % 128) := pick (E0 8) (i % 128) (Nat.mod_lt _ (by decide))
theorem e0_9 (i : ℕ) : lit0t0_9 i = E0 9 (i % 128) := pick (E0 9) (i % 128) (Nat.mod_lt _ (by decide))
theorem e0_10 (i : ℕ) : lit0t0_10 i = E0 10 (i % 128) := pick (E0 10) (i % 128) (Nat.mod_lt _ (by decide))
theorem e0_11 (i : ℕ) : lit0t0_11 i = E0 11 (i % 128) := pick (E0 11) (i % 128) (Nat.mod_lt _ (by decide))
theorem e0_12 (i : ℕ) : lit0t0_12 i = E0 12 (i % 128) := pick (E0 12) (i % 128) (Nat.mod_lt _ (by decide))
theorem e0_13 (i : ℕ) : lit0t0_13 i = E0 13 (i % 128) := pick (E0 13) (i % 128) (Nat.mod_lt _ (by decide))
theorem e0_14 (i : ℕ) : lit0t0_14 i = E0 14 (i % 128) := pick (E0 14) (i % 128) (Nat.mod_lt _ (by decide))
theorem e0_15 (i : ℕ) : lit0t0_15 i = E0 15 (i % 128) := pick (E0 15) (i % 128) (Nat.mod_lt _ (by decide))
theorem e0_16 (i : ℕ) : lit0t0_16 i = E0 16 (i % 128) := pick (E0 16) (i % 128) (Nat.mod_lt _ (by decide))
theorem e0_17 (i : ℕ) : lit0t0_17 i = E0 17 (i % 128) := pick (E0 17) (i % 128) (Nat.mod_lt _ (by decide))
theorem e0_18 (i : ℕ) : lit0t0_18 i = E0 18 (i % 128) := pick (E0 18) (i % 128) (Nat.mod_lt _ (by decide))
theorem e0_19 (i : ℕ) : lit0t0_19 i = E0 19 (i % 128) := pick (E0 19) (i % 128) (Nat.mod_lt _ (by decide))
theorem e0_20 (i : ℕ) : lit0t0_20 i = E0 20 (i % 128) := pick (E0 20) (i % 128) (Nat.mod_lt _ (by decide))
theorem e0_21 (i : ℕ) : lit0t0_21 i = E0 21 (i % 128) := pick (E0 21) (i % 128) (Nat.mod_lt _ (by decide))
theorem e0_22 (i : ℕ) : lit0t0_22 i = E0 22 (i % 128) := pick (E0 22) (i % 128) (Nat.mod_lt _ (by decide))
theorem e0_23 (i : ℕ) : lit0t0_23 i = E0 23 (i % 128) := pick (E0 23) (i % 128) (Nat.mod_lt _ (by decide))
theorem e0_24 (i : ℕ) : lit0t0_24 i = E0 24 (i % 128) := pick (E0 24) (i % 128) (Nat.mod_lt _ (by decide))
theorem e0_25 (i : ℕ) : lit0t0_25 i = E0 25 (i % 128) := pick (E0 25) (i % 128) (Nat.mod_lt _ (by decide))
theorem e0_26 (i : ℕ) : lit0t0_26 i = E0 26 (i % 128) := pick (E0 26) (i % 128) (Nat.mod_lt _ (by decide))
theorem e0_27 (i : ℕ) : lit0t0_27 i = E0 27 (i % 128) := pick (E0 27) (i % 128) (Nat.mod_lt _ (by decide))
theorem e0_28 (i : ℕ) : lit0t0_28 i = E0 28 (i % 128) := pick (E0 28) (i % 128) (Nat.mod_lt _ (by decide))
theorem e0_29 (i : ℕ) : lit0t0_29 i = E0 29 (i % 128) := pick (E0 29) (i % 128) (Nat.mod_lt _ (by decide))
theorem e0_30 (i : ℕ) : lit0t0_30 i = E0 30 (i % 128) := pick (E0 30) (i % 128) (Nat.mod_lt _ (by decide))
theorem e0_31 (i : ℕ) : lit0t0_31 i = E0 31 (i % 128) := pick (E0 31) (i % 128) (Nat.mod_lt _ (by decide))
theorem e0_32 (i : ℕ) : lit0t0_32 i = E0 32 (i % 128) := pick (E0 32) (i % 128) (Nat.mod_lt _ (by decide))
theorem e0_33 (i : ℕ) : lit0t0_33 i = E0 33 (i % 128) := pick (E0 33) (i % 128) (Nat.mod_lt _ (by decide))
theorem e0_34 (i : ℕ) : lit0t0_34 i = E0 34 (i % 128) := pick (E0 34) (i % 128) (Nat.mod_lt _ (by decide))
theorem e0_35 (i : ℕ) : lit0t0_35 i = E0 35 (i % 128) := pick (E0 35) (i % 128) (Nat.mod_lt _ (by decide))
theorem e0_36 (i : ℕ) : lit0t0_36 i = E0 36 (i % 128) := pick (E0 36) (i % 128) (Nat.mod_lt _ (by decide))
theorem e0_37 (i : ℕ) : lit0t0_37 i = E0 37 (i % 128) := pick (E0 37) (i % 128) (Nat.mod_lt _ (by decide))
theorem e0_38 (i : ℕ) : lit0t0_38 i = E0 38 (i % 128) := pick (E0 38) (i % 128) (Nat.mod_lt _ (by decide))
theorem e0_39 (i : ℕ) : lit0t0_39 i = E0 39 (i % 128) := pick (E0 39) (i % 128) (Nat.mod_lt _ (by decide))
theorem e0_40 (i : ℕ) : lit0t0_40 i = E0 40 (i % 128) := pick (E0 40) (i % 128) (Nat.mod_lt _ (by decide))
theorem e0_41 (i : ℕ) : lit0t0_41 i = E0 41 (i % 128) := pick (E0 41) (i % 128) (Nat.mod_lt _ (by decide))
theorem e0_42 (i : ℕ) : lit0t0_42 i = E0 42 (i % 128) := pick (E0 42) (i % 128) (Nat.mod_lt _ (by decide))
theorem e0_43 (i : ℕ) : lit0t0_43 i = E0 43 (i % 128) := pick (E0 43) (i % 128) (Nat.mod_lt _ (by decide))
theorem e0_44 (i : ℕ) : lit0t0_44 i = E0 44 (i % 128) := pick (E0 44) (i % 128) (Nat.mod_lt _ (by decide))
theorem e0_45 (i : ℕ) : lit0t0_45 i = E0 45 (i % 128) := pick (E0 45) (i % 128) (Nat.mod_lt _ (by decide))
theorem e0_46 (i : ℕ) : lit0t0_46 i = E0 46 (i % 128) := pick (E0 46) (i % 128) (Nat.mod_lt _ (by decide))
theorem e0_47 (i : ℕ) : lit0t0_47 i = E0 47 (i % 128) := pick (E0 47) (i % 128) (Nat.mod_lt _ (by decide))
theorem e0_48 (i : ℕ) : lit0t0_48 i = E0 48 (i % 128) := pick (E0 48) (i % 128) (Nat.mod_lt _ (by decide))
theorem e0_49 (i : ℕ) : lit0t0_49 i = E0 49 (i % 128) := pick (E0 49) (i % 128) (Nat.mod_lt _ (by decide))
theorem e0_50 (i : ℕ) : lit0t0_50 i = E0 50 (i % 128) := pick (E0 50) (i % 128) (Nat.mod_lt _ (by decide))
theorem e0_51 (i : ℕ) : lit0t0_51 i = E0 51 (i % 128) := pick (E0 51) (i % 128) (Nat.mod_lt _ (by decide))
theorem e0_52 (i : ℕ) : lit0t0_52 i = E0 52 (i % 128) := pick (E0 52) (i % 128) (Nat.mod_lt _ (by decide))
theorem e0_53 (i : ℕ) : lit0t0_53 i = E0 53 (i % 128) := pick (E0 53) (i % 128) (Nat.mod_lt _ (by decide))
theorem e0_54 (i : ℕ) : lit0t0_54 i = E0 54 (i % 128) := pick (E0 54) (i % 128) (Nat.mod_lt _ (by decide))
theorem e0_55 (i : ℕ) : lit0t0_55 i = E0 55 (i % 128) := pick (E0 55) (i % 128) (Nat.mod_lt _ (by decide))
theorem e0_56 (i : ℕ) : lit0t0_56 i = E0 56 (i % 128) := pick (E0 56) (i % 128) (Nat.mod_lt _ (by decide))
theorem e0_57 (i : ℕ) : lit0t0_57 i = E0 57 (i % 128) := pick (E0 57) (i % 128) (Nat.mod_lt _ (by decide))
theorem e0_58 (i : ℕ) : lit0t0_58 i = E0 58 (i % 128) := pick (E0 58) (i % 128) (Nat.mod_lt _ (by decide))
theorem e0_59 (i : ℕ) : lit0t0_59 i = E0 59 (i % 128) := pick (E0 59) (i % 128) (Nat.mod_lt _ (by decide))
theorem e0_60 (i : ℕ) : lit0t0_60 i = E0 60 (i % 128) := pick (E0 60) (i % 128) (Nat.mod_lt _ (by decide))
theorem e0_61 (i : ℕ) : lit0t0_61 i = E0 61 (i % 128) := pick (E0 61) (i % 128) (Nat.mod_lt _ (by decide))
theorem e0_62 (i : ℕ) : lit0t0_62 i = E0 62 (i % 128) := pick (E0 62) (i % 128) (Nat.mod_lt _ (by decide))
theorem e0_63 (i : ℕ) : lit0t0_63 i = E0 63 (i % 128) := pick (E0 63) (i % 128) (Nat.mod_lt _ (by decide))
theorem e0_64 (i : ℕ) : lit0t0_64 i = E0 64 (i % 128) := pick (E0 64) (i % 128) (Nat.mod_lt _ (by decide))
theorem e0_65 (i : ℕ) : lit0t0_65 i = E0 65 (i % 128) := pick (E0 65) (i % 128) (Nat.mod_lt _ (by decide))
theorem e0_66 (i : ℕ) : lit0t0_66 i = E0 66 (i % 128) := pick (E0 66) (i % 128) (Nat.mod_lt _ (by decide))
theorem e0_67 (i : ℕ) : lit0t0_67 i = E0 67 (i % 128) := pick (E0 67) (i % 128) (Nat.mod_lt _ (by decide))
theorem e0_68 (i : ℕ) : lit0t0_68 i = E0 68 (i % 128) := pick (E0 68) (i % 128) (Nat.mod_lt _ (by decide))
theorem e0_69 (i : ℕ) : lit0t0_69 i = E0 69 (i % 128) := pick (E0 69) (i % 128) (Nat.mod_lt _ (by decide))
theorem e0_70 (i : ℕ) : lit0t0_70 i = E0 70 (i % 128) := pick (E0 70) (i % 128) (Nat.mod_lt _ (by decide))
theorem e0_71 (i : ℕ) : lit0t0_71 i = E0 71 (i % 128) := pick (E0 71) (i % 128) (Nat.mod_lt _ (by decide))
theorem e0_72 (i : ℕ) : lit0t0_72 i = E0 72 (i % 128) := pick (E0 72) (i % 128) (Nat.mod_lt _ (by decide))
theorem e0_73 (i : ℕ) : lit0t0_73 i = E0 73 (i % 128) := pick (E0 73) (i % 128) (Nat.mod_lt _ (by decide))
theorem e0_74 (i : ℕ) : lit0t0_74 i = E0 74 (i % 128) := pick (E0 74) (i % 128) (Nat.mod_lt _ (by decide))
theorem e0_75 (i : ℕ) : lit0t0_75 i = E0 75 (i % 128) := pick (E0 75) (i % 128) (Nat.mod_lt _ (by decide))
theorem e0_76 (i : ℕ) : lit0t0_76 i = E0 76 (i % 128) := pick (E0 76) (i % 128) (Nat.mod_lt _ (by decide))
theorem e0_77 (i : ℕ) : lit0t0_77 i = E0 77 (i % 128) := pick (E0 77) (i % 128) (Nat.mod_lt _ (by decide))
theorem e0_78 (i : ℕ) : lit0t0_78 i = E0 78 (i % 128) := pick (E0 78) (i % 128) (Nat.mod_lt _ (by decide))
theorem e0_79 (i : ℕ) : lit0t0_79 i = E0 79 (i % 128) := pick (E0 79) (i % 128) (Nat.mod_lt _ (by decide))
theorem e0_80 (i : ℕ) : lit0t0_80 i = E0 80 (i % 128) := pick (E0 80) (i % 128) (Nat.mod_lt _ (by decide))
theorem e0_81 (i : ℕ) : lit0t0_81 i = E0 81 (i % 128) := pick (E0 81) (i % 128) (Nat.mod_lt _ (by decide))
theorem e0_82 (i : ℕ) : lit0t0_82 i = E0 82 (i % 128) := pick (E0 82) (i % 128) (Nat.mod_lt _ (by decide))
theorem e0_83 (i : ℕ) : lit0t0_83 i = E0 83 (i % 128) := pick (E0 83) (i % 128) (Nat.mod_lt _ (by decide))
theorem e0_84 (i : ℕ) : lit0t0_84 i = E0 84 (i % 128) := pick (E0 84) (i % 128) (Nat.mod_lt _ (by decide))
theorem e0_85 (i : ℕ) : lit0t0_85 i = E0 85 (i % 128) := pick (E0 85) (i % 128) (Nat.mod_lt _ (by decide))
theorem e0_86 (i : ℕ) : lit0t0_86 i = E0 86 (i % 128) := pick (E0 86) (i % 128) (Nat.mod_lt _ (by decide))
theorem e0_87 (i : ℕ) : lit0t0_87 i = E0 87 (i % 128) := pick (E0 87) (i % 128) (Nat.mod_lt _ (by decide))
theorem e0_88 (i : ℕ) : lit0t0_88 i = E0 88 (i % 128) := pick (E0 88) (i % 128) (Nat.mod_lt _ (by decide))
theorem e0_89 (i : ℕ) : lit0t0_89 i = E0 89 (i % 128) := pick (E0 89) (i % 128) (Nat.mod_lt _ (by decide))
theorem e0_90 (i : ℕ) : lit0t0_90 i = E0 90 (i % 128) := pick (E0 90) (i % 128) (Nat.mod_lt _ (by decide))
theorem e0_91 (i : ℕ) : lit0t0_91 i = E0 91 (i % 128) := pick (E0 91) (i % 128) (Nat.mod_lt _ (by decide))
theorem e0_92 (i : ℕ) : lit0t0_92 i = E0 92 (i % 128) := pick (E0 92) (i % 128) (Nat.mod_lt _ (by decide))
theorem e0_93 (i : ℕ) : lit0t0_93 i = E0 93 (i % 128) := pick (E0 93) (i % 128) (Nat.mod_lt _ (by decide))
theorem e0_94 (i : ℕ) : lit0t0_94 i = E0 94 (i % 128) := pick (E0 94) (i % 128) (Nat.mod_lt _ (by decide))
theorem e0_95 (i : ℕ) : lit0t0_95 i = E0 95 (i % 128) := pick (E0 95) (i % 128) (Nat.mod_lt _ (by decide))
theorem e0_96 (i : ℕ) : lit0t0_96 i = E0 96 (i % 128) := pick (E0 96) (i % 128) (Nat.mod_lt _ (by decide))
theorem e0_97 (i : ℕ) : lit0t0_97 i = E0 97 (i % 128) := pick (E0 97) (i % 128) (Nat.mod_lt _ (by decide))
theorem e0_98 (i : ℕ) : lit0t0_98 i = E0 98 (i % 128) := pick (E0 98) (i % 128) (Nat.mod_lt _ (by decide))
theorem e0_99 (i : ℕ) : lit0t0_99 i = E0 99 (i % 128) := pick (E0 99) (i % 128) (Nat.mod_lt _ (by decide))
theorem e0_100 (i : ℕ) : lit0t0_100 i = E0 100 (i % 128) := pick (E0 100) (i % 128) (Nat.mod_lt _ (by decide))
theorem e0_101 (i : ℕ) : lit0t0_101 i = E0 101 (i % 128) := pick (E0 101) (i % 128) (Nat.mod_lt _ (by decide))
theorem e0_102 (i : ℕ) : lit0t0_102 i = E0 102 (i % 128) := pick (E0 102) (i % 128) (Nat.mod_lt _ (by decide))
theorem e0_103 (i : ℕ) : lit0t0_103 i = E0 103 (i % 128) := pick (E0 103) (i % 128) (Nat.mod_lt _ (by decide))
theorem e0_104 (i : ℕ) : lit0t0_104 i = E0 104 (i % 128) := pick (E0 104) (i % 128) (Nat.mod_lt _ (by decide))
theorem e0_105 (i : ℕ) : lit0t0_105 i = E0 105 (i % 128) := pick (E0 105) (i % 128) (Nat.mod_lt _ (by decide))
theorem e0_106 (i : ℕ) : lit0t0_106 i = E0 106 (i % 128) := pick (E0 106) (i % 128) (Nat.mod_lt _ (by decide))
theorem e0_107 (i : ℕ) : lit0t0_107 i = E0 107 (i % 128) := pick (E0 107) (i % 128) (Nat.mod_lt _ (by decide))
theorem e0_108 (i : ℕ) : lit0t0_108 i = E0 108 (i % 128) := pick (E0 108) (i % 128) (Nat.mod_lt _ (by decide))
theorem e0_109 (i : ℕ) : lit0t0_109 i = E0 109 (i % 128) := pick (E0 109) (i % 128) (Nat.mod_lt _ (by decide))
theorem e0_110 (i : ℕ) : lit0t0_110 i = E0 110 (i % 128) := pick (E0 110) (i % 128) (Nat.mod_lt _ (by decide))
theorem e0_111 (i : ℕ) : lit0t0_111 i = E0 111 (i % 128) := pick (E0 111) (i % 128) (Nat.mod_lt _ (by decide))
theorem e0_112 (i : ℕ) : lit0t0_112 i = E0 112 (i % 128) := pick (E0 112) (i % 128) (Nat.mod_lt _ (by decide))
theorem e0_113 (i : ℕ) : lit0t0_113 i = E0 113 (i % 128) := pick (E0 113) (i % 128) (Nat.mod_lt _ (by decide))
theorem e0_114 (i : ℕ) : lit0t0_114 i = E0 114 (i % 128) := pick (E0 114) (i % 128) (Nat.mod_lt _ (by decide))
theorem e0_115 (i : ℕ) : lit0t0_115 i = E0 115 (i % 128) := pick (E0 115) (i % 128) (Nat.mod_lt _ (by decide))
theorem e0_116 (i : ℕ) : lit0t0_116 i = E0 116 (i % 128) := pick (E0 116) (i % 128) (Nat.mod_lt _ (by decide))
theorem e0_117 (i : ℕ) : lit0t0_117 i = E0 117 (i % 128) := pick (E0 117) (i % 128) (Nat.mod_lt _ (by decide))
theorem e0_118 (i : ℕ) : lit0t0_118 i = E0 118 (i % 128) := pick (E0 118) (i % 128) (Nat.mod_lt _ (by decide))
theorem e0_119 (i : ℕ) : lit0t0_119 i = E0 119 (i % 128) := pick (E0 119) (i % 128) (Nat.mod_lt _ (by decide))
theorem e0_120 (i : ℕ) : lit0t0_120 i = E0 120 (i % 128) := pick (E0 120) (i % 128) (Nat.mod_lt _ (by decide))
theorem e0_121 (i : ℕ) : lit0t0_121 i = E0 121 (i % 128) := pick (E0 121) (i % 128) (Nat.mod_lt _ (by decide))
theorem e0_122 (i : ℕ) : lit0t0_122 i = E0 122 (i % 128) := pick (E0 122) (i % 128) (Nat.mod_lt _ (by decide))
theorem e0_123 (i : ℕ) : lit0t0_123 i = E0 123 (i % 128) := pick (E0 123) (i % 128) (Nat.mod_lt _ (by decide))
theorem e0_124 (i : ℕ) : lit0t0_124 i = E0 124 (i % 128) := pick (E0 124) (i % 128) (Nat.mod_lt _ (by decide))
theorem e0_125 (i : ℕ) : lit0t0_125 i = E0 125 (i % 128) := pick (E0 125) (i % 128) (Nat.mod_lt _ (by decide))
theorem e0_126 (i : ℕ) : lit0t0_126 i = E0 126 (i % 128) := pick (E0 126) (i % 128) (Nat.mod_lt _ (by decide))
theorem e0_127 (i : ℕ) : lit0t0_127 i = E0 127 (i % 128) := pick (E0 127) (i % 128) (Nat.mod_lt _ (by decide))
theorem e0_128 (i : ℕ) : lit0t0_128 i = E0 128 (i % 128) := pick (E0 128) (i % 128) (Nat.mod_lt _ (by decide))
theorem e0_129 (i : ℕ) : lit0t0_129 i = E0 129 (i % 128) := pick (E0 129) (i % 128) (Nat.mod_lt _ (by decide))
theorem e0_130 (i : ℕ) : lit0t0_130 i = E0 130 (i % 128) := pick (E0 130) (i % 128) (Nat.mod_lt _ (by decide))
theorem e0_131 (i : ℕ) : lit0t0_131 i = E0 131 (i % 128) := pick (E0 131) (i % 128) (Nat.mod_lt _ (by decide))
theorem e0_132 (i : ℕ) : lit0t0_132 i = E0 132 (i % 128) := pick (E0 132) (i % 128) (Nat.mod_lt _ (by decide))
theorem e0_133 (i : ℕ) : lit0t0_133 i = E0 133 (i % 128) := pick (E0 133) (i % 128) (Nat.mod_lt _ (by decide))
theorem e0_134 (i : ℕ) : lit0t0_134 i = E0 134 (i % 128) := pick (E0 134) (i % 128) (Nat.mod_lt _ (by decide))
theorem e0_135 (i : ℕ) : lit0t0_135 i = E0 135 (i % 128) := pick (E0 135) (i % 128) (Nat.mod_lt _ (by decide))
theorem e0_136 (i : ℕ) : lit0t0_136 i = E0 136 (i % 128) := pick (E0 136) (i % 128) (Nat.mod_lt _ (by decide))
theorem e0_137 (i : ℕ) : lit0t0_137 i = E0 137 (i % 128) := pick (E0 137) (i % 128) (Nat.mod_lt _ (by decide))
theorem e0_138 (i : ℕ) : lit0t0_138 i = E0 138 (i % 128) := pick (E0 138) (i % 128) (Nat.mod_lt _ (by decide))
theorem e0_139 (i : ℕ) : lit0t0_139 i = E0 139 (i % 128) := pick (E0 139) (i % 128) (Nat.mod_lt _ (by decide))
theorem e0_140 (i : ℕ) : lit0t0_140 i = E0 140 (i % 128) := pick (E0 140) (i % 128) (Nat.mod_lt _ (by decide))
theorem e0_141 (i : ℕ) : lit0t0_141 i = E0 141 (i % 128) := pick (E0 141) (i % 128) (Nat.mod_lt _ (by decide))
theorem e0_142 (i : ℕ) : lit0t0_142 i = E0 142 (i % 128) := pick (E0 142) (i % 128) (Nat.mod_lt _ (by decide))
theorem e0_143 (i : ℕ) : lit0t0_143 i = E0 143 (i % 128) := pick (E0 143) (i % 128) (Nat.mod_lt _ (by decide))
theorem e0_144 (i : ℕ) : lit0t0_144 i = E0 144 (i % 128) := pick (E0 144) (i % 128) (Nat.mod_lt _ (by decide))
theorem e0_145 (i : ℕ) : lit0t0_145 i = E0 145 (i % 128) := pick (E0 145) (i % 128) (Nat.mod_lt _ (by decide))
theorem e0_146 (i : ℕ) : lit0t0_146 i = E0 146 (i % 128) := pick (E0 146) (i % 128) (Nat.mod_lt _ (by decide))
theorem e0_147 (i : ℕ) : lit0t0_147 i = E0 147 (i % 128) := pick (E0 147) (i % 128) (Nat.mod_lt _ (by decide))
theorem e0_148 (i : ℕ) : lit0t0_148 i = E0 148 (i % 128) := pick (E0 148) (i % 128) (Nat.mod_lt _ (by decide))
theorem e0_149 (i : ℕ) : lit0t0_149 i = E0 149 (i % 128) := pick (E0 149) (i % 128) (Nat.mod_lt _ (by decide))
theorem e0_150 (i : ℕ) : lit0t0_150 i = E0 150 (i % 128) := pick (E0 150) (i % 128) (Nat.mod_lt _ (by decide))
theorem e0_151 (i : ℕ) : lit0t0_151 i = E0 151 (i % 128) := pick (E0 151) (i % 128) (Nat.mod_lt _ (by decide))
theorem e0_152 (i : ℕ) : lit0t0_152 i = E0 152 (i % 128) := pick (E0 152) (i % 128) (Nat.mod_lt _ (by decide))
theorem e0_153 (i : ℕ) : lit0t0_153 i = E0 153 (i % 128) := pick (E0 153) (i % 128) (Nat.mod_lt _ (by decide))
theorem e0_154 (i : ℕ) : lit0t0_154 i = E0 154 (i % 128) := pick (E0 154) (i % 128) (Nat.mod_lt _ (by decide))
theorem e0_155 (i : ℕ) : lit0t0_155 i = E0 155 (i % 128) := pick (E0 155) (i % 128) (Nat.mod_lt _ (by decide))
theorem e0_156 (i : ℕ) : lit0t0_156 i = E0 156 (i % 128) := pick (E0 156) (i % 128) (Nat.mod_lt _ (by decide))
theorem e0_157 (i : ℕ) : lit0t0_157 i = E0 157 (i % 128) := pick (E0 157) (i % 128) (Nat.mod_lt _ (by decide))
theorem e0_158 (i : ℕ) : lit0t0_158 i = E0 158 (i % 128) := pick (E0 158) (i % 128) (Nat.mod_lt _ (by decide))
theorem e0_159 (i : ℕ) : lit0t0_159 i = E0 159 (i % 128) := pick (E0 159) (i % 128) (Nat.mod_lt _ (by decide))
theorem e0_160 (i : ℕ) : lit0t0_160 i = E0 160 (i % 128) := pick (E0 160) (i % 128) (Nat.mod_lt _ (by decide))
theorem e0_161 (i : ℕ) : lit0t0_161 i = E0 161 (i % 128) := pick (E0 161) (i % 128) (Nat.mod_lt _ (by decide))
theorem e0_162 (i : ℕ) : lit0t0_162 i = E0 162 (i % 128) := pick (E0 162) (i % 128) (Nat.mod_lt _ (by decide))
theorem e0_163 (i : ℕ) : lit0t0_163 i = E0 163 (i % 128) := pick (E0 163) (i % 128) (Nat.mod_lt _ (by decide))
theorem e0_164 (i : ℕ) : lit0t0_164 i = E0 164 (i % 128) := pick (E0 164) (i % 128) (Nat.mod_lt _ (by decide))
theorem e0_165 (i : ℕ) : lit0t0_165 i = E0 165 (i % 128) := pick (E0 165) (i % 128) (Nat.mod_lt _ (by decide))
theorem e0_166 (i : ℕ) : lit0t0_166 i = E0 166 (i % 128) := pick (E0 166) (i % 128) (Nat.mod_lt _ (by decide))
theorem e0_167 (i : ℕ) : lit0t0_167 i = E0 167 (i % 128) := pick (E0 167) (i % 128) (Nat.mod_lt _ (by decide))
theorem e0_168 (i : ℕ) : lit0t0_168 i = E0 168 (i % 128) := pick (E0 168) (i % 128) (Nat.mod_lt _ (by decide))
theorem e0_169 (i : ℕ) : lit0t0_169 i = E0 169 (i % 128) := pick (E0 169) (i % 128) (Nat.mod_lt _ (by decide))
theorem e0_170 (i : ℕ) : lit0t0_170 i = E0 170 (i % 128) := pick (E0 170) (i % 128) (Nat.mod_lt _ (by decide))
theorem e0_171 (i : ℕ) : lit0t0_171 i = E0 171 (i % 128) := pick (E0 171) (i % 128) (Nat.mod_lt _ (by decide))
theorem e0_172 (i : ℕ) : lit0t0_172 i = E0 172 (i % 128) := pick (E0 172) (i % 128) (Nat.mod_lt _ (by decide))
theorem e0_173 (i : ℕ) : lit0t0_173 i = E0 173 (i % 128) := pick (E0 173) (i % 128) (Nat.mod_lt _ (by decide))
theorem e0_174 (i : ℕ) : lit0t0_174 i = E0 174 (i % 128) := pick (E0 174) (i % 128) (Nat.mod_lt _ (by decide))
theorem e0_175 (i : ℕ) : lit0t0_175 i = E0 175 (i % 128) := pick (E0 175) (i % 128) (Nat.mod_lt _ (by decide))
theorem e0_176 (i : ℕ) : lit0t0_176 i = E0 176 (i % 128) := pick (E0 176) (i % 128) (Nat.mod_lt _ (by decide))
theorem e0_177 (i : ℕ) : lit0t0_177 i = E0 177 (i % 128) := pick (E0 177) (i % 128) (Nat.mod_lt _ (by decide))
theorem e0_178 (i : ℕ) : lit0t0_178 i = E0 178 (i % 128) := pick (E0 178) (i % 128) (Nat.mod_lt _ (by decide))
theorem e0_179 (i : ℕ) : lit0t0_179 i = E0 179 (i % 128) := pick (E0 179) (i % 128) (Nat.mod_lt _ (by decide))
theorem e0_180 (i : ℕ) : lit0t0_180 i = E0 180 (i % 128) := pick (E0 180) (i % 128) (Nat.mod_lt _ (by decide))
theorem e0_181 (i : ℕ) : lit0t0_181 i = E0 181 (i % 128) := pick (E0 181) (i % 128) (Nat.mod_lt _ (by decide))
theorem e0_182 (i : ℕ) : lit0t0_182 i = E0 182 (i % 128) := pick (E0 182) (i % 128) (Nat.mod_lt _ (by decide))
theorem e0_183 (i : ℕ) : lit0t0_183 i = E0 183 (i % 128) := pick (E0 183) (i % 128) (Nat.mod_lt _ (by decide))
theorem e0_184 (i : ℕ) : lit0t0_184 i = E0 184 (i % 128) := pick (E0 184) (i % 128) (Nat.mod_lt _ (by decide))
theorem e0_185 (i : ℕ) : lit0t0_185 i = E0 185 (i % 128) := pick (E0 185) (i % 128) (Nat.mod_lt _ (by decide))
theorem e0_186 (i : ℕ) : lit0t0_186 i = E0 186 (i % 128) := pick (E0 186) (i % 128) (Nat.mod_lt _ (by decide))
theorem e0_187 (i : ℕ) : lit0t0_187 i = E0 187 (i % 128) := pick (E0 187) (i % 128) (Nat.mod_lt _ (by decide))
theorem e0_188 (i : ℕ) : lit0t0_188 i = E0 188 (i % 128) := pick (E0 188) (i % 128) (Nat.mod_lt _ (by decide))
theorem e0_189 (i : ℕ) : lit0t0_189 i = E0 189 (i % 128) := pick (E0 189) (i % 128) (Nat.mod_lt _ (by decide))
theorem e0_190 (i : ℕ) : lit0t0_190 i = E0 190 (i % 128) := pick (E0 190) (i % 128) (Nat.mod_lt _ (by decide))
theorem e0_191 (i : ℕ) : lit0t0_191 i = E0 191 (i % 128) := pick (E0 191) (i % 128) (Nat.mod_lt _ (by decide))
theorem e0_192 (i : ℕ) : lit0t0_192 i = E0 192 (i % 128) := pick (E0 192) (i % 128) (Nat.mod_lt _ (by decide))
theorem e0_193 (i : ℕ) : lit0t0_193 i = E0 193 (i % 128) := pick (E0 193) (i % 128) (Nat.mod_lt _ (by decide))
theorem e0_194 (i : ℕ) : lit0t0_194 i = E0 194 (i % 128) := pick (E0 194) (i % 128) (Nat.mod_lt _ (by decide))
theorem e0_195 (i : ℕ) : lit0t0_195 i = E0 195 (i % 128) := pick (E0 195) (i % 128) (Nat.mod_lt _ (by decide))
theorem e0_196 (i : ℕ) : lit0t0_196 i = E0 196 (i % 128) := pick (E0 196) (i % 128) (Nat.mod_lt _ (by decide))
theorem e0_197 (i : ℕ) : lit0t0_197 i = E0 197 (i % 128) := pick (E0 197) (i % 128) (Nat.mod_lt _ (by decide))
theorem e0_198 (i : ℕ) : lit0t0_198 i = E0 198 (i % 128) := pick (E0 198) (i % 128) (Nat.mod_lt _ (by decide))
theorem e0_199 (i : ℕ) : lit0t0_199 i = E0 199 (i % 128) := pick (E0 199) (i % 128) (Nat.mod_lt _ (by decide))
theorem e0_200 (i : ℕ) : lit0t0_200 i = E0 200 (i % 128) := pick (E0 200) (i % 128) (Nat.mod_lt _ (by decide))
theorem e0_201 (i : ℕ) : lit0t0_201 i = E0 201 (i % 128) := pick (E0 201) (i % 128) (Nat.mod_lt _ (by decide))
theorem e0_202 (i : ℕ) : lit0t0_202 i = E0 202 (i % 128) := pick (E0 202) (i % 128) (Nat.mod_lt _ (by decide))
theorem e0_203 (i : ℕ) : lit0t0_203 i = E0 203 (i % 128) := pick (E0 203) (i % 128) (Nat.mod_lt _ (by decide))
theorem e0_204 (i : ℕ) : lit0t0_204 i = E0 204 (i % 128) := pick (E0 204) (i % 128) (Nat.mod_lt _ (by decide))
theorem e0_205 (i : ℕ) : lit0t0_205 i = E0 205 (i % 128) := pick (E0 205) (i % 128) (Nat.mod_lt _ (by decide))
theorem e0_206 (i : ℕ) : lit0t0_206 i = E0 206 (i % 128) := pick (E0 206) (i % 128) (Nat.mod_lt _ (by decide))
theorem e0_207 (i : ℕ) : lit0t0_207 i = E0 207 (i % 128) := pick (E0 207) (i % 128) (Nat.mod_lt _ (by decide))
theorem e0_208 (i : ℕ) : lit0t0_208 i = E0 208 (i % 128) := pick (E0 208) (i % 128) (Nat.mod_lt _ (by decide))
theorem e0_209 (i : ℕ) : lit0t0_209 i = E0 209 (i % 128) := pick (E0 209) (i % 128) (Nat.mod_lt _ (by decide))
theorem e0_210 (i : ℕ) : lit0t0_210 i = E0 210 (i % 128) := pick (E0 210) (i % 128) (Nat.mod_lt _ (by decide))
theorem e0_211 (i : ℕ) : lit0t0_211 i = E0 211 (i % 128) := pick (E0 211) (i % 128) (Nat.mod_lt _ (by decide))
theorem e0_212 (i : ℕ) : lit0t0_212 i = E0 212 (i % 128) := pick (E0 212) (i % 128) (Nat.mod_lt _ (by decide))
theorem e0_213 (i : ℕ) : lit0t0_213 i = E0 213 (i % 128) := pick (E0 213) (i % 128) (Nat.mod_lt _ (by decide))
theorem e0_214 (i : ℕ) : lit0t0_214 i = E0 214 (i % 128) := pick (E0 214) (i % 128) (Nat.mod_lt _ (by decide))
theorem e0_215 (i : ℕ) : lit0t0_215 i = E0 215 (i % 128) := pick (E0 215) (i % 128) (Nat.mod_lt _ (by decide))
theorem e0_216 (i : ℕ) : lit0t0_216 i = E0 216 (i % 128) := pick (E0 216) (i % 128) (Nat.mod_lt _ (by decide))
theorem e0_217 (i : ℕ) : lit0t0_217 i = E0 217 (i % 128) := pick (E0 217) (i % 128) (Nat.mod_lt _ (by decide))
theorem e0_218 (i : ℕ) : lit0t0_218 i = E0 218 (i % 128) := pick (E0 218) (i % 128) (Nat.mod_lt _ (by decide))
theorem e0_219 (i : ℕ) : lit0t0_219 i = E0 219 (i % 128) := pick (E0 219) (i % 128) (Nat.mod_lt _ (by decide))
theorem e0_220 (i : ℕ) : lit0t0_220 i = E0 220 (i % 128) := pick (E0 220) (i % 128) (Nat.mod_lt _ (by decide))
theorem e0_221 (i : ℕ) : lit0t0_221 i = E0 221 (i % 128) := pick (E0 221) (i % 128) (Nat.mod_lt _ (by decide))
theorem e0_222 (i : ℕ) : lit0t0_222 i = E0 222 (i % 128) := pick (E0 222) (i % 128) (Nat.mod_lt _ (by decide))
theorem e0_223 (i : ℕ) : lit0t0_223 i = E0 223 (i % 128) := pick (E0 223) (i % 128) (Nat.mod_lt _ (by decide))
theorem e0_224 (i : ℕ) : lit0t0_224 i = E0 224 (i % 128) := pick (E0 224) (i % 128) (Nat.mod_lt _ (by decide))
theorem e0_225 (i : ℕ) : lit0t0_225 i = E0 225 (i % 128) := pick (E0 225) (i % 128) (Nat.mod_lt _ (by decide))
theorem e0_226 (i : ℕ) : lit0t0_226 i = E0 226 (i % 128) := pick (E0 226) (i % 128) (Nat.mod_lt _ (by decide))
theorem e0_227 (i : ℕ) : lit0t0_227 i = E0 227 (i % 128) := pick (E0 227) (i % 128) (Nat.mod_lt _ (by decide))
theorem e0_228 (i : ℕ) : lit0t0_228 i = E0 228 (i % 128) := pick (E0 228) (i % 128) (Nat.mod_lt _ (by decide))
theorem e0_229 (i : ℕ) : lit0t0_229 i = E0 229 (i % 128) := pick (E0 229) (i % 128) (Nat.mod_lt _ (by decide))
theorem e0_230 (i : ℕ) : lit0t0_230 i = E0 230 (i % 128) := pick (E0 230) (i % 128) (Nat.mod_lt _ (by decide))
theorem e0_231 (i : ℕ) : lit0t0_231 i = E0 231 (i % 128) := pick (E0 231) (i % 128) (Nat.mod_lt _ (by decide))
theorem e0_232 (i : ℕ) : lit0t0_232 i = E0 232 (i % 128) := pick (E0 232) (i % 128) (Nat.mod_lt _ (by decide))
theorem e0_233 (i : ℕ) : lit0t0_233 i = E0 233 (i % 128) := pick (E0 233) (i % 128) (Nat.mod_lt _ (by decide))
theorem e0_234 (i : ℕ) : lit0t0_234 i = E0 234 (i % 128) := pick (E0 234) (i % 128) (Nat.mod_lt _ (by decide))
theorem e0_235 (i : ℕ) : lit0t0_235 i = E0 235 (i % 128) := pick (E0 235) (i % 128) (Nat.mod_lt _ (by decide))
theorem e0_236 (i : ℕ) : lit0t0_236 i = E0 236 (i % 128) := pick (E0 236) (i % 128) (Nat.mod_lt _ (by decide))
theorem e0_237 (i : ℕ) : lit0t0_237 i = E0 237 (i % 128) := pick (E0 237) (i % 128) (Nat.mod_lt _ (by decide))
theorem e0_238 (i : ℕ) : lit0t0_238 i = E0 238 (i % 128) := pick (E0 238) (i % 128) (Nat.mod_lt _ (by decide))
theorem e0_239 (i : ℕ) : lit0t0_239 i = E0 239 (i % 128) := pick (E0 239) (i % 128) (Nat.mod_lt _ (by decide))
theorem e0_240 (i : ℕ) : lit0t0_240 i = E0 240 (i % 128) := pick (E0 240) (i % 128) (Nat.mod_lt _ (by decide))
theorem e0_241 (i : ℕ) : lit0t0_241 i = E0 241 (i % 128) := pick (E0 241) (i % 128) (Nat.mod_lt _ (by decide))
theorem e0_242 (i : ℕ) : lit0t0_242 i = E0 242 (i % 128) := pick (E0 242) (i % 128) (Nat.mod_lt _ (by decide))
theorem e0_243 (i : ℕ) : lit0t0_243 i = E0 243 (i % 128) := pick (E0 243) (i % 128) (Nat.mod_lt _ (by decide))
theorem e0_244 (i : ℕ) : lit0t0_244 i = E0 244 (i % 128) := pick (E0 244) (i % 128) (Nat.mod_lt _ (by decide))
theorem e0_245 (i : ℕ) : lit0t0_245 i = E0 245 (i % 128) := pick (E0 245) (i % 128) (Nat.mod_lt _ (by decide))
theorem e0_246 (i : ℕ) : lit0t0_246 i = E0 246 (i % 128) := pick (E0 246) (i % 128) (Nat.mod_lt _ (by decide))
theorem e0_247 (i : ℕ) : lit0t0_247 i = E0 247 (i % 128) := pick (E0 247) (i % 128) (Nat.mod_lt _ (by decide))
theorem e0_248 (i : ℕ) : lit0t0_248 i = E0 248 (i % 128) := pick (E0 248) (i % 128) (Nat.mod_lt _ (by decide))
theorem e0_249 (i : ℕ) : lit0t0_249 i = E0 249 (i % 128) := pick (E0 249) (i % 128) (Nat.mod_lt _ (by decide))
theorem e0_250 (i : ℕ) : lit0t0_250 i = E0 250 (i % 128) := pick (E0 250) (i % 128) (Nat.mod_lt _ (by decide))
theorem e0_251 (i : ℕ) : lit0t0_251 i = E0 251 (i % 128) := pick (E0 251) (i % 128) (Nat.mod_lt _ (by decide))
theorem e0_252 (i : ℕ) : lit0t0_252 i = E0 252 (i % 128) := pick (E0 252) (i % 128) (Nat.mod_lt _ (by decide))
theorem e0_253 (i : ℕ) : lit0t0_253 i = E0 253 (i % 128) := pick (E0 253) (i % 128) (Nat.mod_lt _ (by decide))
theorem e0_254 (i : ℕ) : lit0t0_254 i = E0 254 (i % 128) := pick (E0 254) (i % 128) (Nat.mod_lt _ (by decide))
theorem e0_255 (i : ℕ) : lit0t0_255 i = E0 255 (i % 128) := pick (E0 255) (i % 128) (Nat.mod_lt _ (by decide))
theorem e0_256 (i : ℕ) : lit0t0_256 i = E0 256 (i % 128) := pick (E0 256) (i % 128) (Nat.mod_lt _ (by decide))
theorem e0_257 (i : ℕ) : lit0t0_257 i = E0 257 (i % 128) := pick (E0 257) (i % 128) (Nat.mod_lt _ (by decide))
theorem e0_258 (i : ℕ) : lit0t0_258 i = E0 258 (i % 128) := pick (E0 258) (i % 128) (Nat.mod_lt _ (by decide))
theorem e0_259 (i : ℕ) : lit0t0_259 i = E0 259 (i % 128) := pick (E0 259) (i % 128) (Nat.mod_lt _ (by decide))
theorem e0_260 (i : ℕ) : lit0t0_260 i = E0 260 (i % 128) := pick (E0 260) (i % 128) (Nat.mod_lt _ (by decide))
theorem e0_261 (i : ℕ) : lit0t0_261 i = E0 261 (i % 128) := pick (E0 261) (i % 128) (Nat.mod_lt _ (by decide))
theorem e0_262 (i : ℕ) : lit0t0_262 i = E0 262 (i % 128) := pick (E0 262) (i % 128) (Nat.mod_lt _ (by decide))
theorem e0_263 (i : ℕ) : lit0t0_263 i = E0 263 (i % 128) := pick (E0 263) (i % 128) (Nat.mod_lt _ (by decide))
theorem e0_264 (i : ℕ) : lit0t0_264 i = E0 264 (i % 128) := pick (E0 264) (i % 128) (Nat.mod_lt _ (by decide))
theorem e0_265 (i : ℕ) : lit0t0_265 i = E0 265 (i % 128) := pick (E0 265) (i % 128) (Nat.mod_lt _ (by decide))
theorem e0_266 (i : ℕ) : lit0t0_266 i = E0 266 (i % 128) := pick (E0 266) (i % 128) (Nat.mod_lt _ (by decide))
theorem e0_267 (i : ℕ) : lit0t0_267 i = E0 267 (i % 128) := pick (E0 267) (i % 128) (Nat.mod_lt _ (by decide))
theorem e0_268 (i : ℕ) : lit0t0_268 i = E0 268 (i % 128) := pick (E0 268) (i % 128) (Nat.mod_lt _ (by decide))
theorem e0_269 (i : ℕ) : lit0t0_269 i = E0 269 (i % 128) := pick (E0 269) (i % 128) (Nat.mod_lt _ (by decide))
theorem e0_270 (i : ℕ) : lit0t0_270 i = E0 270 (i % 128) := pick (E0 270) (i % 128) (Nat.mod_lt _ (by decide))
theorem e0_271 (i : ℕ) : lit0t0_271 i = E0 271 (i % 128) := pick (E0 271) (i % 128) (Nat.mod_lt _ (by decide))
theorem e0_272 (i : ℕ) : lit0t0_272 i = E0 272 (i % 128) := pick (E0 272) (i % 128) (Nat.mod_lt _ (by decide))
theorem e0_273 (i : ℕ) : lit0t0_273 i = E0 273 (i % 128) := pick (E0 273) (i % 128) (Nat.mod_lt _ (by decide))
theorem e0_274 (i : ℕ) : lit0t0_274 i = E0 274 (i % 128) := pick (E0 274) (i % 128) (Nat.mod_lt _ (by decide))
theorem e0_275 (i : ℕ) : lit0t0_275 i = E0 275 (i % 128) := pick (E0 275) (i % 128) (Nat.mod_lt _ (by decide))
theorem e0_276 (i : ℕ) : lit0t0_276 i = E0 276 (i % 128) := pick (E0 276) (i % 128) (Nat.mod_lt _ (by decide))
theorem e0_277 (i : ℕ) : lit0t0_277 i = E0 277 (i % 128) := pick (E0 277) (i % 128) (Nat.mod_lt _ (by decide))
theorem e0_278 (i : ℕ) : lit0t0_278 i = E0 278 (i % 128) := pick (E0 278) (i % 128) (Nat.mod_lt _ (by decide))
theorem e0_279 (i : ℕ) : lit0t0_279 i = E0 279 (i % 128) := pick (E0 279) (i % 128) (Nat.mod_lt _ (by decide))
theorem e0_280 (i : ℕ) : lit0t0_280 i = E0 280 (i % 128) := pick (E0 280) (i % 128) (Nat.mod_lt _ (by decide))
theorem e0_281 (i : ℕ) : lit0t0_281 i = E0 281 (i % 128) := pick (E0 281) (i % 128) (Nat.mod_lt _ (by decide))
theorem e0_282 (i : ℕ) : lit0t0_282 i = E0 282 (i % 128) := pick (E0 282) (i % 128) (Nat.mod_lt _ (by decide))
theorem e0_283 (i : ℕ) : lit0t0_283 i = E0 283 (i % 128) := pick (E0 283) (i % 128) (Nat.mod_lt _ (by decide))
theorem e0_284 (i : ℕ) : lit0t0_284 i = E0 284 (i % 128) := pick (E0 284) (i % 128) (Nat.mod_lt _ (by decide))
theorem e0_285 (i : ℕ) : lit0t0_285 i = E0 285 (i % 128) := pick (E0 285) (i % 128) (Nat.mod_lt _ (by decide))
theorem e0_286 (i : ℕ) : lit0t0_286 i = E0 286 (i % 128) := pick (E0 286) (i % 128) (Nat.mod_lt _ (by decide))
theorem e0_287 (i : ℕ) : lit0t0_287 i = E0 287 (i % 128) := pick (E0 287) (i % 128) (Nat.mod_lt _ (by decide))
theorem e0_288 (i : ℕ) : lit0t0_288 i = E0 288 (i % 128) := pick (E0 288) (i % 128) (Nat.mod_lt _ (by decide))
theorem e0_289 (i : ℕ) : lit0t0_289 i = E0 289 (i % 128) := pick (E0 289) (i % 128) (Nat.mod_lt _ (by decide))
theorem e0_290 (i : ℕ) : lit0t0_290 i = E0 290 (i % 128) := pick (E0 290) (i % 128) (Nat.mod_lt _ (by decide))
theorem e0_291 (i : ℕ) : lit0t0_291 i = E0 291 (i % 128) := pick (E0 291) (i % 128) (Nat.mod_lt _ (by decide))
theorem e0_292 (i : ℕ) : lit0t0_292 i = E0 292 (i % 128) := pick (E0 292) (i % 128) (Nat.mod_lt _ (by decide))
theorem e0_293 (i : ℕ) : lit0t0_293 i = E0 293 (i % 128) := pick (E0 293) (i % 128) (Nat.mod_lt _ (by decide))
theorem e0_294 (i : ℕ) : lit0t0_294 i = E0 294 (i % 128) := pick (E0 294) (i % 128) (Nat.mod_lt _ (by decide))
theorem e0_295 (i : ℕ) : lit0t0_295 i = E0 295 (i % 128) := pick (E0 295) (i % 128) (Nat.mod_lt _ (by decide))
theorem e0_296 (i : ℕ) : lit0t0_296 i = E0 296 (i % 128) := pick (E0 296) (i % 128) (Nat.mod_lt _ (by decide))
theorem e0_297 (i : ℕ) : lit0t0_297 i = E0 297 (i % 128) := pick (E0 297) (i % 128) (Nat.mod_lt _ (by decide))
theorem e0_298 (i : ℕ) : lit0t0_298 i = E0 298 (i % 128) := pick (E0 298) (i % 128) (Nat.mod_lt _ (by decide))
theorem e0_299 (i : ℕ) : lit0t0_299 i = E0 299 (i % 128) := pick (E0 299) (i % 128) (Nat.mod_lt _ (by decide))
theorem e0_300 (i : ℕ) : lit0t0_300 i = E0 300 (i % 128) := pick (E0 300) (i % 128) (Nat.mod_lt _ (by decide))
theorem e0_301 (i : ℕ) : lit0t0_301 i = E0 301 (i % 128) := pick (E0 301) (i % 128) (Nat.mod_lt _ (by decide))
theorem e0_302 (i : ℕ) : lit0t0_302 i = E0 302 (i % 128) := pick (E0 302) (i % 128) (Nat.mod_lt _ (by decide))
theorem e0_303 (i : ℕ) : lit0t0_303 i = E0 303 (i % 128) := pick (E0 303) (i % 128) (Nat.mod_lt _ (by decide))
theorem e0_304 (i : ℕ) : lit0t0_304 i = E0 304 (i % 128) := pick (E0 304) (i % 128) (Nat.mod_lt _ (by decide))
theorem e0_305 (i : ℕ) : lit0t0_305 i = E0 305 (i % 128) := pick (E0 305) (i % 128) (Nat.mod_lt _ (by decide))
theorem e0_306 (i : ℕ) : lit0t0_306 i = E0 306 (i % 128) := pick (E0 306) (i % 128) (Nat.mod_lt _ (by decide))
theorem e0_307 (i : ℕ) : lit0t0_307 i = E0 307 (i % 128) := pick (E0 307) (i % 128) (Nat.mod_lt _ (by decide))
theorem e0_308 (i : ℕ) : lit0t0_308 i = E0 308 (i % 128) := pick (E0 308) (i % 128) (Nat.mod_lt _ (by decide))
theorem e0_309 (i : ℕ) : lit0t0_309 i = E0 309 (i % 128) := pick (E0 309) (i % 128) (Nat.mod_lt _ (by decide))
theorem e0_310 (i : ℕ) : lit0t0_310 i = E0 310 (i % 128) := pick (E0 310) (i % 128) (Nat.mod_lt _ (by decide))
theorem e0_311 (i : ℕ) : lit0t0_311 i = E0 311 (i % 128) := pick (E0 311) (i % 128) (Nat.mod_lt _ (by decide))
theorem e0_312 (i : ℕ) : lit0t0_312 i = E0 312 (i % 128) := pick (E0 312) (i % 128) (Nat.mod_lt _ (by decide))
theorem e0_313 (i : ℕ) : lit0t0_313 i = E0 313 (i % 128) := pick (E0 313) (i % 128) (Nat.mod_lt _ (by decide))
theorem e0_314 (i : ℕ) : lit0t0_314 i = E0 314 (i % 128) := pick (E0 314) (i % 128) (Nat.mod_lt _ (by decide))
theorem e0_315 (i : ℕ) : lit0t0_315 i = E0 315 (i % 128) := pick (E0 315) (i % 128) (Nat.mod_lt _ (by decide))
theorem e0_316 (i : ℕ) : lit0t0_316 i = E0 316 (i % 128) := pick (E0 316) (i % 128) (Nat.mod_lt _ (by decide))
theorem e0_317 (i : ℕ) : lit0t0_317 i = E0 317 (i % 128) := pick (E0 317) (i % 128) (Nat.mod_lt _ (by decide))
theorem e0_318 (i : ℕ) : lit0t0_318 i = E0 318 (i % 128) := pick (E0 318) (i % 128) (Nat.mod_lt _ (by decide))
theorem e0_319 (i : ℕ) : lit0t0_319 i = E0 319 (i % 128) := pick (E0 319) (i % 128) (Nat.mod_lt _ (by decide))
theorem e0_320 (i : ℕ) : lit0t0_320 i = E0 320 (i % 128) := pick (E0 320) (i % 128) (Nat.mod_lt _ (by decide))
theorem e0_321 (i : ℕ) : lit0t0_321 i = E0 321 (i % 128) := pick (E0 321) (i % 128) (Nat.mod_lt _ (by decide))
theorem e0_322 (i : ℕ) : lit0t0_322 i = E0 322 (i % 128) := pick (E0 322) (i % 128) (Nat.mod_lt _ (by decide))
theorem e0_323 (i : ℕ) : lit0t0_323 i = E0 323 (i % 128) := pick (E0 323) (i % 128) (Nat.mod_lt _ (by decide))
theorem e0_324 (i : ℕ) : lit0t0_324 i = E0 324 (i % 128) := pick (E0 324) (i % 128) (Nat.mod_lt _ (by decide))
theorem e0_325 (i : ℕ) : lit0t0_325 i = E0 325 (i % 128) := pick (E0 325) (i % 128) (Nat.mod_lt _ (by decide))
theorem e0_326 (i : ℕ) : lit0t0_326 i = E0 326 (i % 128) := pick (E0 326) (i % 128) (Nat.mod_lt _ (by decide))
theorem e0_327 (i : ℕ) : lit0t0_327 i = E0 327 (i % 128) := pick (E0 327) (i % 128) (Nat.mod_lt _ (by decide))
theorem e0_328 (i : ℕ) : lit0t0_328 i = E0 328 (i % 128) := pick (E0 328) (i % 128) (Nat.mod_lt _ (by decide))
theorem e0_329 (i : ℕ) : lit0t0_329 i = E0 329 (i % 128) := pick (E0 329) (i % 128) (Nat.mod_lt _ (by decide))
theorem e0_330 (i : ℕ) : lit0t0_330 i = E0 330 (i % 128) := pick (E0 330) (i % 128) (Nat.mod_lt _ (by decide))
theorem e0_331 (i : ℕ) : lit0t0_331 i = E0 331 (i % 128) := pick (E0 331) (i % 128) (Nat.mod_lt _ (by decide))
theorem e0_332 (i : ℕ) : lit0t0_332 i = E0 332 (i % 128) := pick (E0 332) (i % 128) (Nat.mod_lt _ (by decide))
theorem e0_333 (i : ℕ) : lit0t0_333 i = E0 333 (i % 128) := pick (E0 333) (i % 128) (Nat.mod_lt _ (by decide))
theorem e0_334 (i : ℕ) : lit0t0_334 i = E0 334 (i % 128) := pick (E0 334) (i % 128) (Nat.mod_lt _ (by decide))
theorem e0_335 (i : ℕ) : lit0t0_335 i = E0 335 (i % 128) := pick (E0 335) (i % 128) (Nat.mod_lt _ (by decide))
theorem e0_336 (i : ℕ) : lit0t0_336 i = E0 336 (i % 128) := pick (E0 336) (i % 128) (Nat.mod_lt _ (by decide))
theorem e0_337 (i : ℕ) : lit0t0_337 i = E0 337 (i % 128) := pick (E0 337) (i % 128) (Nat.mod_lt _ (by decide))
theorem e0_338 (i : ℕ) : lit0t0_338 i = E0 338 (i % 128) := pick (E0 338) (i % 128) (Nat.mod_lt _ (by decide))
theorem e0_339 (i : ℕ) : lit0t0_339 i = E0 339 (i % 128) := pick (E0 339) (i % 128) (Nat.mod_lt _ (by decide))
theorem e0_340 (i : ℕ) : lit0t0_340 i = E0 340 (i % 128) := pick (E0 340) (i % 128) (Nat.mod_lt _ (by decide))
theorem e0_341 (i : ℕ) : lit0t0_341 i = E0 341 (i % 128) := pick (E0 341) (i % 128) (Nat.mod_lt _ (by decide))
theorem e0_342 (i : ℕ) : lit0t0_342 i = E0 342 (i % 128) := pick (E0 342) (i % 128) (Nat.mod_lt _ (by decide))
theorem e0_343 (i : ℕ) : lit0t0_343 i = E0 343 (i % 128) := pick (E0 343) (i % 128) (Nat.mod_lt _ (by decide))
theorem e0_344 (i : ℕ) : lit0t0_344 i = E0 344 (i % 128) := pick (E0 344) (i % 128) (Nat.mod_lt _ (by decide))
theorem e0_345 (i : ℕ) : lit0t0_345 i = E0 345 (i % 128) := pick (E0 345) (i % 128) (Nat.mod_lt _ (by decide))
theorem e0_346 (i : ℕ) : lit0t0_346 i = E0 346 (i % 128) := pick (E0 346) (i % 128) (Nat.mod_lt _ (by decide))
theorem e0_347 (i : ℕ) : lit0t0_347 i = E0 347 (i % 128) := pick (E0 347) (i % 128) (Nat.mod_lt _ (by decide))
theorem e0_348 (i : ℕ) : lit0t0_348 i = E0 348 (i % 128) := pick (E0 348) (i % 128) (Nat.mod_lt _ (by decide))
theorem e0_349 (i : ℕ) : lit0t0_349 i = E0 349 (i % 128) := pick (E0 349) (i % 128) (Nat.mod_lt _ (by decide))
theorem e0_350 (i : ℕ) : lit0t0_350 i = E0 350 (i % 128) := pick (E0 350) (i % 128) (Nat.mod_lt _ (by decide))
theorem e0_351 (i : ℕ) : lit0t0_351 i = E0 351 (i % 128) := pick (E0 351) (i % 128) (Nat.mod_lt _ (by decide))
theorem e0_352 (i : ℕ) : lit0t0_352 i = E0 352 (i % 128) := pick (E0 352) (i % 128) (Nat.mod_lt _ (by decide))
theorem e0_353 (i : ℕ) : lit0t0_353 i = E0 353 (i % 128) := pick (E0 353) (i % 128) (Nat.mod_lt _ (by decide))
theorem e0_354 (i : ℕ) : lit0t0_354 i = E0 354 (i % 128) := pick (E0 354) (i % 128) (Nat.mod_lt _ (by decide))
theorem e0_355 (i : ℕ) : lit0t0_355 i = E0 355 (i % 128) := pick (E0 355) (i % 128) (Nat.mod_lt _ (by decide))
theorem e0_356 (i : ℕ) : lit0t0_356 i = E0 356 (i % 128) := pick (E0 356) (i % 128) (Nat.mod_lt _ (by decide))
theorem e0_357 (i : ℕ) : lit0t0_357 i = E0 357 (i % 128) := pick (E0 357) (i % 128) (Nat.mod_lt _ (by decide))
theorem e0_358 (i : ℕ) : lit0t0_358 i = E0 358 (i % 128) := pick (E0 358) (i % 128) (Nat.mod_lt _ (by decide))
theorem e0_359 (i : ℕ) : lit0t0_359 i = E0 359 (i % 128) := pick (E0 359) (i % 128) (Nat.mod_lt _ (by decide))
theorem e0_360 (i : ℕ) : lit0t0_360 i = E0 360 (i % 128) := pick (E0 360) (i % 128) (Nat.mod_lt _ (by decide))
theorem e0_361 (i : ℕ) : lit0t0_361 i = E0 361 (i % 128) := pick (E0 361) (i % 128) (Nat.mod_lt _ (by decide))
theorem e0_362 (i : ℕ) : lit0t0_362 i = E0 362 (i % 128) := pick (E0 362) (i % 128) (Nat.mod_lt _ (by decide))
theorem e0_363 (i : ℕ) : lit0t0_363 i = E0 363 (i % 128) := pick (E0 363) (i % 128) (Nat.mod_lt _ (by decide))
theorem e0_364 (i : ℕ) : lit0t0_364 i = E0 364 (i % 128) := pick (E0 364) (i % 128) (Nat.mod_lt _ (by decide))
theorem e0_365 (i : ℕ) : lit0t0_365 i = E0 365 (i % 128) := pick (E0 365) (i % 128) (Nat.mod_lt _ (by decide))
theorem e0_366 (i : ℕ) : lit0t0_366 i = E0 366 (i % 128) := pick (E0 366) (i % 128) (Nat.mod_lt _ (by decide))
theorem e0_367 (i : ℕ) : lit0t0_367 i = E0 367 (i % 128) := pick (E0 367) (i % 128) (Nat.mod_lt _ (by decide))
theorem e0_368 (i : ℕ) : lit0t0_368 i = E0 368 (i % 128) := pick (E0 368) (i % 128) (Nat.mod_lt _ (by decide))
theorem e0_369 (i : ℕ) : lit0t0_369 i = E0 369 (i % 128) := pick (E0 369) (i % 128) (Nat.mod_lt _ (by decide))
theorem e0_370 (i : ℕ) : lit0t0_370 i = E0 370 (i % 128) := pick (E0 370) (i % 128) (Nat.mod_lt _ (by decide))
theorem e0_371 (i : ℕ) : lit0t0_371 i = E0 371 (i % 128) := pick (E0 371) (i % 128) (Nat.mod_lt _ (by decide))
theorem e0_372 (i : ℕ) : lit0t0_372 i = E0 372 (i % 128) := pick (E0 372) (i % 128) (Nat.mod_lt _ (by decide))
theorem e0_373 (i : ℕ) : lit0t0_373 i = E0 373 (i % 128) := pick (E0 373) (i % 128) (Nat.mod_lt _ (by decide))
theorem e0_374 (i : ℕ) : lit0t0_374 i = E0 374 (i % 128) := pick (E0 374) (i % 128) (Nat.mod_lt _ (by decide))
theorem e0_375 (i : ℕ) : lit0t0_375 i = E0 375 (i % 128) := pick (E0 375) (i % 128) (Nat.mod_lt _ (by decide))
theorem e0_376 (i : ℕ) : lit0t0_376 i = E0 376 (i % 128) := pick (E0 376) (i % 128) (Nat.mod_lt _ (by decide))
theorem e0_377 (i : ℕ) : lit0t0_377 i = E0 377 (i % 128) := pick (E0 377) (i % 128) (Nat.mod_lt _ (by decide))
theorem e0_378 (i : ℕ) : lit0t0_378 i = E0 378 (i % 128) := pick (E0 378) (i % 128) (Nat.mod_lt _ (by decide))
theorem e0_379 (i : ℕ) : lit0t0_379 i = E0 379 (i % 128) := pick (E0 379) (i % 128) (Nat.mod_lt _ (by decide))
theorem e0_380 (i : ℕ) : lit0t0_380 i = E0 380 (i % 128) := pick (E0 380) (i % 128) (Nat.mod_lt _ (by decide))
theorem e0_381 (i : ℕ) : lit0t0_381 i = E0 381 (i % 128) := pick (E0 381) (i % 128) (Nat.mod_lt _ (by decide))
theorem e0_382 (i : ℕ) : lit0t0_382 i = E0 382 (i % 128) := pick (E0 382) (i % 128) (Nat.mod_lt _ (by decide))
theorem e0_383 (i : ℕ) : lit0t0_383 i = E0 383 (i % 128) := pick (E0 383) (i % 128) (Nat.mod_lt _ (by decide))
theorem e0_384 (i : ℕ) : lit0t0_384 i = E0 384 (i % 128) := pick (E0 384) (i % 128) (Nat.mod_lt _ (by decide))
theorem e0_385 (i : ℕ) : lit0t0_385 i = E0 385 (i % 128) := pick (E0 385) (i % 128) (Nat.mod_lt _ (by decide))
theorem e0_386 (i : ℕ) : lit0t0_386 i = E0 386 (i % 128) := pick (E0 386) (i % 128) (Nat.mod_lt _ (by decide))
theorem e0_387 (i : ℕ) : lit0t0_387 i = E0 387 (i % 128) := pick (E0 387) (i % 128) (Nat.mod_lt _ (by decide))
theorem e0_388 (i : ℕ) : lit0t0_388 i = E0 388 (i % 128) := pick (E0 388) (i % 128) (Nat.mod_lt _ (by decide))
theorem e0_389 (i : ℕ) : lit0t0_389 i = E0 389 (i % 128) := pick (E0 389) (i % 128) (Nat.mod_lt _ (by decide))
theorem e0_390 (i : ℕ) : lit0t0_390 i = E0 390 (i % 128) := pick (E0 390) (i % 128) (Nat.mod_lt _ (by decide))
theorem e0_391 (i : ℕ) : lit0t0_391 i = E0 391 (i % 128) := pick (E0 391) (i % 128) (Nat.mod_lt _ (by decide))
theorem e0_392 (i : ℕ) : lit0t0_392 i = E0 392 (i % 128) := pick (E0 392) (i % 128) (Nat.mod_lt _ (by decide))
theorem e0_393 (i : ℕ) : lit0t0_393 i = E0 393 (i % 128) := pick (E0 393) (i % 128) (Nat.mod_lt _ (by decide))
theorem e0_394 (i : ℕ) : lit0t0_394 i = E0 394 (i % 128) := pick (E0 394) (i % 128) (Nat.mod_lt _ (by decide))
theorem e0_395 (i : ℕ) : lit0t0_395 i = E0 395 (i % 128) := pick (E0 395) (i % 128) (Nat.mod_lt _ (by decide))
theorem e0_396 (i : ℕ) : lit0t0_396 i = E0 396 (i % 128) := pick (E0 396) (i % 128) (Nat.mod_lt _ (by decide))
theorem e0_397 (i : ℕ) : lit0t0_397 i = E0 397 (i % 128) := pick (E0 397) (i % 128) (Nat.mod_lt _ (by decide))
theorem e0_398 (i : ℕ) : lit0t0_398 i = E0 398 (i % 128) := pick (E0 398) (i % 128) (Nat.mod_lt _ (by decide))
theorem e0_399 (i : ℕ) : lit0t0_399 i = E0 399 (i % 128) := pick (E0 399) (i % 128) (Nat.mod_lt _ (by decide))
theorem e0_400 (i : ℕ) : lit0t0_400 i = E0 400 (i % 128) := pick (E0 400) (i % 128) (Nat.mod_lt _ (by decide))
theorem e0_401 (i : ℕ) : lit0t0_401 i = E0 401 (i % 128) := pick (E0 401) (i % 128) (Nat.mod_lt _ (by decide))
theorem e0_402 (i : ℕ) : lit0t0_402 i = E0 402 (i % 128) := pick (E0 402) (i % 128) (Nat.mod_lt _ (by decide))
theorem e0_403 (i : ℕ) : lit0t0_403 i = E0 403 (i % 128) := pick (E0 403) (i % 128) (Nat.mod_lt _ (by decide))
theorem e0_404 (i : ℕ) : lit0t0_404 i = E0 404 (i % 128) := pick (E0 404) (i % 128) (Nat.mod_lt _ (by decide))
theorem e0_405 (i : ℕ) : lit0t0_405 i = E0 405 (i % 128) := pick (E0 405) (i % 128) (Nat.mod_lt _ (by decide))
theorem e0_406 (i : ℕ) : lit0t0_406 i = E0 406 (i % 128) := pick (E0 406) (i % 128) (Nat.mod_lt _ (by decide))
theorem e0_407 (i : ℕ) : lit0t0_407 i = E0 407 (i % 128) := pick (E0 407) (i % 128) (Nat.mod_lt _ (by decide))
theorem e0_408 (i : ℕ) : lit0t0_408 i = E0 408 (i % 128) := pick (E0 408) (i % 128) (Nat.mod_lt _ (by decide))
theorem e0_409 (i : ℕ) : lit0t0_409 i = E0 409 (i % 128) := pick (E0 409) (i % 128) (Nat.mod_lt _ (by decide))
theorem e0_410 (i : ℕ) : lit0t0_410 i = E0 410 (i % 128) := pick (E0 410) (i % 128) (Nat.mod_lt _ (by decide))
theorem e0_411 (i : ℕ) : lit0t0_411 i = E0 411 (i % 128) := pick (E0 411) (i % 128) (Nat.mod_lt _ (by decide))
theorem e0_412 (i : ℕ) : lit0t0_412 i = E0 412 (i % 128) := pick (E0 412) (i % 128) (Nat.mod_lt _ (by decide))
theorem e0_413 (i : ℕ) : lit0t0_413 i = E0 413 (i % 128) := pick (E0 413) (i % 128) (Nat.mod_lt _ (by decide))
theorem e0_414 (i : ℕ) : lit0t0_414 i = E0 414 (i % 128) := pick (E0 414) (i % 128) (Nat.mod_lt _ (by decide))
theorem e0_415 (i : ℕ) : lit0t0_415 i = E0 415 (i % 128) := pick (E0 415) (i % 128) (Nat.mod_lt _ (by decide))
theorem e0_416 (i : ℕ) : lit0t0_416 i = E0 416 (i % 128) := pick (E0 416) (i % 128) (Nat.mod_lt _ (by decide))
theorem e0_417 (i : ℕ) : lit0t0_417 i = E0 417 (i % 128) := pick (E0 417) (i % 128) (Nat.mod_lt _ (by decide))
theorem e0_418 (i : ℕ) : lit0t0_418 i = E0 418 (i % 128) := pick (E0 418) (i % 128) (Nat.mod_lt _ (by decide))
theorem e0_419 (i : ℕ) : lit0t0_419 i = E0 419 (i % 128) := pick (E0 419) (i % 128) (Nat.mod_lt _ (by decide))
theorem e0_420 (i : ℕ) : lit0t0_420 i = E0 420 (i % 128) := pick (E0 420) (i % 128) (Nat.mod_lt _ (by decide))
theorem e0_421 (i : ℕ) : lit0t0_421 i = E0 421 (i % 128) := pick (E0 421) (i % 128) (Nat.mod_lt _ (by decide))
theorem e0_422 (i : ℕ) : lit0t0_422 i = E0 422 (i % 128) := pick (E0 422) (i % 128) (Nat.mod_lt _ (by decide))
theorem e0_423 (i : ℕ) : lit0t0_423 i = E0 423 (i % 128) := pick (E0 423) (i % 128) (Nat.mod_lt _ (by decide))
theorem e0_424 (i : ℕ) : lit0t0_424 i = E0 424 (i % 128) := pick (E0 424) (i % 128) (Nat.mod_lt _ (by decide))
theorem e0_425 (i : ℕ) : lit0t0_425 i = E0 425 (i % 128) := pick (E0 425) (i % 128) (Nat.mod_lt _ (by decide))
theorem e0_426 (i : ℕ) : lit0t0_426 i = E0 426 (i % 128) := pick (E0 426) (i % 128) (Nat.mod_lt _ (by decide))
theorem e0_427 (i : ℕ) : lit0t0_427 i = E0 427 (i % 128) := pick (E0 427) (i % 128) (Nat.mod_lt _ (by decide))
theorem e0_428 (i : ℕ) : lit0t0_428 i = E0 428 (i % 128) := pick (E0 428) (i % 128) (Nat.mod_lt _ (by decide))
theorem e0_429 (i : ℕ) : lit0t0_429 i = E0 429 (i % 128) := pick (E0 429) (i % 128) (Nat.mod_lt _ (by decide))
theorem e0_430 (i : ℕ) : lit0t0_430 i = E0 430 (i % 128) := pick (E0 430) (i % 128) (Nat.mod_lt _ (by decide))
theorem e0_431 (i : ℕ) : lit0t0_431 i = E0 431 (i % 128) := pick (E0 431) (i % 128) (Nat.mod_lt _ (by decide))
theorem e0_432 (i : ℕ) : lit0t0_432 i = E0 432 (i % 128) := pick (E0 432) (i % 128) (Nat.mod_lt _ (by decide))
theorem e0_433 (i : ℕ) : lit0t0_433 i = E0 433 (i % 128) := pick (E0 433) (i % 128) (Nat.mod_lt _ (by decide))
theorem e0_434 (i : ℕ) : lit0t0_434 i = E0 434 (i % 128) := pick (E0 434) (i % 128) (Nat.mod_lt _ (by decide))
theorem e0_435 (i : ℕ) : lit0t0_435 i = E0 435 (i % 128) := pick (E0 435) (i % 128) (Nat.mod_lt _ (by decide))
theorem e0_436 (i : ℕ) : lit0t0_436 i = E0 436 (i % 128) := pick (E0 436) (i % 128) (Nat.mod_lt _ (by decide))
theorem e0_437 (i : ℕ) : lit0t0_437 i = E0 437 (i % 128) := pick (E0 437) (i % 128) (Nat.mod_lt _ (by decide))
theorem e0_438 (i : ℕ) : lit0t0_438 i = E0 438 (i % 128) := pick (E0 438) (i % 128) (Nat.mod_lt _ (by decide))
theorem e0_439 (i : ℕ) : lit0t0_439 i = E0 439 (i % 128) := pick (E0 439) (i % 128) (Nat.mod_lt _ (by decide))
theorem e0_440 (i : ℕ) : lit0t0_440 i = E0 440 (i % 128) := pick (E0 440) (i % 128) (Nat.mod_lt _ (by decide))
theorem e0_441 (i : ℕ) : lit0t0_441 i = E0 441 (i % 128) := pick (E0 441) (i % 128) (Nat.mod_lt _ (by decide))
theorem e0_442 (i : ℕ) : lit0t0_442 i = E0 442 (i % 128) := pick (E0 442) (i % 128) (Nat.mod_lt _ (by decide))
theorem e0_443 (i : ℕ) : lit0t0_443 i = E0 443 (i % 128) := pick (E0 443) (i % 128) (Nat.mod_lt _ (by decide))
theorem e0_444 (i : ℕ) : lit0t0_444 i = E0 444 (i % 128) := pick (E0 444) (i % 128) (Nat.mod_lt _ (by decide))
theorem e0_445 (i : ℕ) : lit0t0_445 i = E0 445 (i % 128) := pick (E0 445) (i % 128) (Nat.mod_lt _ (by decide))
theorem e0_446 (i : ℕ) : lit0t0_446 i = E0 446 (i % 128) := pick (E0 446) (i % 128) (Nat.mod_lt _ (by decide))
theorem e0_447 (i : ℕ) : lit0t0_447 i = E0 447 (i % 128) := pick (E0 447) (i % 128) (Nat.mod_lt _ (by decide))
theorem e0_448 (i : ℕ) : lit0t0_448 i = E0 448 (i % 128) := pick (E0 448) (i % 128) (Nat.mod_lt _ (by decide))
theorem e0_449 (i : ℕ) : lit0t0_449 i = E0 449 (i % 128) := pick (E0 449) (i % 128) (Nat.mod_lt _ (by decide))
theorem e0_450 (i : ℕ) : lit0t0_450 i = E0 450 (i % 128) := pick (E0 450) (i % 128) (Nat.mod_lt _ (by decide))
theorem e0_451 (i : ℕ) : lit0t0_451 i = E0 451 (i % 128) := pick (E0 451) (i % 128) (Nat.mod_lt _ (by decide))
theorem e0_452 (i : ℕ) : lit0t0_452 i = E0 452 (i % 128) := pick (E0 452) (i % 128) (Nat.mod_lt _ (by decide))
theorem e0_453 (i : ℕ) : lit0t0_453 i = E0 453 (i % 128) := pick (E0 453) (i % 128) (Nat.mod_lt _ (by decide))
theorem e0_454 (i : ℕ) : lit0t0_454 i = E0 454 (i % 128) := pick (E0 454) (i % 128) (Nat.mod_lt _ (by decide))
theorem e0_455 (i : ℕ) : lit0t0_455 i = E0 455 (i % 128) := pick (E0 455) (i % 128) (Nat.mod_lt _ (by decide))
theorem e0_456 (i : ℕ) : lit0t0_456 i = E0 456 (i % 128) := pick (E0 456) (i % 128) (Nat.mod_lt _ (by decide))
theorem e0_457 (i : ℕ) : lit0t0_457 i = E0 457 (i % 128) := pick (E0 457) (i % 128) (Nat.mod_lt _ (by decide))
theorem e0_458 (i : ℕ) : lit0t0_458 i = E0 458 (i % 128) := pick (E0 458) (i % 128) (Nat.mod_lt _ (by decide))
theorem e0_459 (i : ℕ) : lit0t0_459 i = E0 459 (i % 128) := pick (E0 459) (i % 128) (Nat.mod_lt _ (by decide))
theorem e0_460 (i : ℕ) : lit0t0_460 i = E0 460 (i % 128) := pick (E0 460) (i % 128) (Nat.mod_lt _ (by decide))
theorem e0_461 (i : ℕ) : lit0t0_461 i = E0 461 (i % 128) := pick (E0 461) (i % 128) (Nat.mod_lt _ (by decide))
theorem e0_462 (i : ℕ) : lit0t0_462 i = E0 462 (i % 128) := pick (E0 462) (i % 128) (Nat.mod_lt _ (by decide))
theorem e0_463 (i : ℕ) : lit0t0_463 i = E0 463 (i % 128) := pick (E0 463) (i % 128) (Nat.mod_lt _ (by decide))
theorem e0_464 (i : ℕ) : lit0t0_464 i = E0 464 (i % 128) := pick (E0 464) (i % 128) (Nat.mod_lt _ (by decide))
theorem e0_465 (i : ℕ) : lit0t0_465 i = E0 465 (i % 128) := pick (E0 465) (i % 128) (Nat.mod_lt _ (by decide))
theorem e0_466 (i : ℕ) : lit0t0_466 i = E0 466 (i % 128) := pick (E0 466) (i % 128) (Nat.mod_lt _ (by decide))
theorem e0_467 (i : ℕ) : lit0t0_467 i = E0 467 (i % 128) := pick (E0 467) (i % 128) (Nat.mod_lt _ (by decide))
theorem e0_468 (i : ℕ) : lit0t0_468 i = E0 468 (i % 128) := pick (E0 468) (i % 128) (Nat.mod_lt _ (by decide))
theorem e0_469 (i : ℕ) : lit0t0_469 i = E0 469 (i % 128) := pick (E0 469) (i % 128) (Nat.mod_lt _ (by decide))
theorem e0_470 (i : ℕ) : lit0t0_470 i = E0 470 (i % 128) := pick (E0 470) (i % 128) (Nat.mod_lt _ (by decide))
theorem e0_471 (i : ℕ) : lit0t0_471 i = E0 471 (i % 128) := pick (E0 471) (i % 128) (Nat.mod_lt _ (by decide))
theorem e0_472 (i : ℕ) : lit0t0_472 i = E0 472 (i % 128) := pick (E0 472) (i % 128) (Nat.mod_lt _ (by decide))
theorem e0_473 (i : ℕ) : lit0t0_473 i = E0 473 (i % 128) := pick (E0 473) (i % 128) (Nat.mod_lt _ (by decide))
theorem e0_474 (i : ℕ) : lit0t0_474 i = E0 474 (i % 128) := pick (E0 474) (i % 128) (Nat.mod_lt _ (by decide))
theorem e0_475 (i : ℕ) : lit0t0_475 i = E0 475 (i % 128) := pick (E0 475) (i % 128) (Nat.mod_lt _ (by decide))
theorem e0_476 (i : ℕ) : lit0t0_476 i = E0 476 (i % 128) := pick (E0 476) (i % 128) (Nat.mod_lt _ (by decide))
theorem e0_477 (i : ℕ) : lit0t0_477 i = E0 477 (i % 128) := pick (E0 477) (i % 128) (Nat.mod_lt _ (by decide))
theorem e0_478 (i : ℕ) : lit0t0_478 i = E0 478 (i % 128) := pick (E0 478) (i % 128) (Nat.mod_lt _ (by decide))
theorem e0_479 (i : ℕ) : lit0t0_479 i = E0 479 (i % 128) := pick (E0 479) (i % 128) (Nat.mod_lt _ (by decide))
theorem e0_480 (i : ℕ) : lit0t0_480 i = E0 480 (i % 128) := pick (E0 480) (i % 128) (Nat.mod_lt _ (by decide))
theorem e0_481 (i : ℕ) : lit0t0_481 i = E0 481 (i % 128) := pick (E0 481) (i % 128) (Nat.mod_lt _ (by decide))
theorem e0_482 (i : ℕ) : lit0t0_482 i = E0 482 (i % 128) := pick (E0 482) (i % 128) (Nat.mod_lt _ (by decide))
theorem e0_483 (i : ℕ) : lit0t0_483 i = E0 483 (i % 128) := pick (E0 483) (i % 128) (Nat.mod_lt _ (by decide))
theorem e0_484 (i : ℕ) : lit0t0_484 i = E0 484 (i % 128) := pick (E0 484) (i % 128) (Nat.mod_lt _ (by decide))
theorem e0_485 (i : ℕ) : lit0t0_485 i = E0 485 (i % 128) := pick (E0 485) (i % 128) (Nat.mod_lt _ (by decide))
theorem e0_486 (i : ℕ) : lit0t0_486 i = E0 486 (i % 128) := pick (E0 486) (i % 128) (Nat.mod_lt _ (by decide))
theorem e0_487 (i : ℕ) : lit0t0_487 i = E0 487 (i % 128) := pick (E0 487) (i % 128) (Nat.mod_lt _ (by decide))
theorem e0_488 (i : ℕ) : lit0t0_488 i = E0 488 (i % 128) := pick (E0 488) (i % 128) (Nat.mod_lt _ (by decide))
theorem e0_489 (i : ℕ) : lit0t0_489 i = E0 489 (i % 128) := pick (E0 489) (i % 128) (Nat.mod_lt _ (by decide))
theorem e0_490 (i : ℕ) : lit0t0_490 i = E0 490 (i % 128) := pick (E0 490) (i % 128) (Nat.mod_lt _ (by decide))
theorem e0_491 (i : ℕ) : lit0t0_491 i = E0 491 (i % 128) := pick (E0 491) (i % 128) (Nat.mod_lt _ (by decide))
theorem e0_492 (i : ℕ) : lit0t0_492 i = E0 492 (i % 128) := pick (E0 492) (i % 128) (Nat.mod_lt _ (by decide))
theorem e0_493 (i : ℕ) : lit0t0_493 i = E0 493 (i % 128) := pick (E0 493) (i % 128) (Nat.mod_lt _ (by decide))
theorem e0_494 (i : ℕ) : lit0t0_494 i = E0 494 (i % 128) := pick (E0 494) (i % 128) (Nat.mod_lt _ (by decide))
theorem e0_495 (i : ℕ) : lit0t0_495 i = E0 495 (i % 128) := pick (E0 495) (i % 128) (Nat.mod_lt _ (by decide))
theorem e0_496 (i : ℕ) : lit0t0_496 i = E0 496 (i % 128) := pick (E0 496) (i % 128) (Nat.mod_lt _ (by decide))
theorem e0_497 (i : ℕ) : lit0t0_497 i = E0 497 (i % 128) := pick (E0 497) (i % 128) (Nat.mod_lt _ (by decide))
theorem e0_498 (i : ℕ) : lit0t0_498 i = E0 498 (i % 128) := pick (E0 498) (i % 128) (Nat.mod_lt _ (by decide))
theorem e0_499 (i : ℕ) : lit0t0_499 i = E0 499 (i % 128) := pick (E0 499) (i % 128) (Nat.mod_lt _ (by decide))
theorem e0_500 (i : ℕ) : lit0t0_500 i = E0 500 (i % 128) := pick (E0 500) (i % 128) (Nat.mod_lt _ (by decide))
theorem e0_501 (i : ℕ) : lit0t0_501 i = E0 501 (i % 128) := pick (E0 501) (i % 128) (Nat.mod_lt _ (by decide))
theorem e0_502 (i : ℕ) : lit0t0_502 i = E0 502 (i % 128) := pick (E0 502) (i % 128) (Nat.mod_lt _ (by decide))
theorem e0_503 (i : ℕ) : lit0t0_503 i = E0 503 (i % 128) := pick (E0 503) (i % 128) (Nat.mod_lt _ (by decide))
theorem e0_504 (i : ℕ) : lit0t0_504 i = E0 504 (i % 128) := pick (E0 504) (i % 128) (Nat.mod_lt _ (by decide))
theorem e0_505 (i : ℕ) : lit0t0_505 i = E0 505 (i % 128) := pick (E0 505) (i % 128) (Nat.mod_lt _ (by decide))
theorem e0_506 (i : ℕ) : lit0t0_506 i = E0 506 (i % 128) := pick (E0 506) (i % 128) (Nat.mod_lt _ (by decide))
theorem e0_507 (i : ℕ) : lit0t0_507 i = E0 507 (i % 128) := pick (E0 507) (i % 128) (Nat.mod_lt _ (by decide))
theorem e0_508 (i : ℕ) : lit0t0_508 i = E0 508 (i % 128) := pick (E0 508) (i % 128) (Nat.mod_lt _ (by decide))
theorem e0_509 (i : ℕ) : lit0t0_509 i = E0 509 (i % 128) := pick (E0 509) (i % 128) (Nat.mod_lt _ (by decide))
theorem e0_510 (i : ℕ) : lit0t0_510 i = E0 510 (i % 128) := pick (E0 510) (i % 128) (Nat.mod_lt _ (by decide))
theorem e0_511 (i : ℕ) : lit0t0_511 i = E0 511 (i % 128) := pick (E0 511) (i % 128) (Nat.mod_lt _ (by decide))

theorem u0_0 (i : ℕ) : lit0t1_0 i = E0 (0 + i / 128 % 128) (i % 128) :=
  pick_of (fun q => E0 (0 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e0_0 i) (e0_1 i) (e0_2 i) (e0_3 i) (e0_4 i) (e0_5 i) (e0_6 i) (e0_7 i) (e0_8 i) (e0_9 i) (e0_10 i) (e0_11 i) (e0_12 i) (e0_13 i) (e0_14 i) (e0_15 i) (e0_16 i) (e0_17 i) (e0_18 i) (e0_19 i) (e0_20 i) (e0_21 i) (e0_22 i) (e0_23 i) (e0_24 i) (e0_25 i) (e0_26 i) (e0_27 i) (e0_28 i) (e0_29 i) (e0_30 i) (e0_31 i) (e0_32 i) (e0_33 i) (e0_34 i) (e0_35 i) (e0_36 i) (e0_37 i) (e0_38 i) (e0_39 i) (e0_40 i) (e0_41 i) (e0_42 i) (e0_43 i) (e0_44 i) (e0_45 i) (e0_46 i) (e0_47 i) (e0_48 i) (e0_49 i) (e0_50 i) (e0_51 i) (e0_52 i) (e0_53 i) (e0_54 i) (e0_55 i) (e0_56 i) (e0_57 i) (e0_58 i) (e0_59 i) (e0_60 i) (e0_61 i) (e0_62 i) (e0_63 i) (e0_64 i) (e0_65 i) (e0_66 i) (e0_67 i) (e0_68 i) (e0_69 i) (e0_70 i) (e0_71 i) (e0_72 i) (e0_73 i) (e0_74 i) (e0_75 i) (e0_76 i) (e0_77 i) (e0_78 i) (e0_79 i) (e0_80 i) (e0_81 i) (e0_82 i) (e0_83 i) (e0_84 i) (e0_85 i) (e0_86 i) (e0_87 i) (e0_88 i) (e0_89 i) (e0_90 i) (e0_91 i) (e0_92 i) (e0_93 i) (e0_94 i) (e0_95 i) (e0_96 i) (e0_97 i) (e0_98 i) (e0_99 i) (e0_100 i) (e0_101 i) (e0_102 i) (e0_103 i) (e0_104 i) (e0_105 i) (e0_106 i) (e0_107 i) (e0_108 i) (e0_109 i) (e0_110 i) (e0_111 i) (e0_112 i) (e0_113 i) (e0_114 i) (e0_115 i) (e0_116 i) (e0_117 i) (e0_118 i) (e0_119 i) (e0_120 i) (e0_121 i) (e0_122 i) (e0_123 i) (e0_124 i) (e0_125 i) (e0_126 i) (e0_127 i)
theorem u0_1 (i : ℕ) : lit0t1_1 i = E0 (128 + i / 128 % 128) (i % 128) :=
  pick_of (fun q => E0 (128 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e0_128 i) (e0_129 i) (e0_130 i) (e0_131 i) (e0_132 i) (e0_133 i) (e0_134 i) (e0_135 i) (e0_136 i) (e0_137 i) (e0_138 i) (e0_139 i) (e0_140 i) (e0_141 i) (e0_142 i) (e0_143 i) (e0_144 i) (e0_145 i) (e0_146 i) (e0_147 i) (e0_148 i) (e0_149 i) (e0_150 i) (e0_151 i) (e0_152 i) (e0_153 i) (e0_154 i) (e0_155 i) (e0_156 i) (e0_157 i) (e0_158 i) (e0_159 i) (e0_160 i) (e0_161 i) (e0_162 i) (e0_163 i) (e0_164 i) (e0_165 i) (e0_166 i) (e0_167 i) (e0_168 i) (e0_169 i) (e0_170 i) (e0_171 i) (e0_172 i) (e0_173 i) (e0_174 i) (e0_175 i) (e0_176 i) (e0_177 i) (e0_178 i) (e0_179 i) (e0_180 i) (e0_181 i) (e0_182 i) (e0_183 i) (e0_184 i) (e0_185 i) (e0_186 i) (e0_187 i) (e0_188 i) (e0_189 i) (e0_190 i) (e0_191 i) (e0_192 i) (e0_193 i) (e0_194 i) (e0_195 i) (e0_196 i) (e0_197 i) (e0_198 i) (e0_199 i) (e0_200 i) (e0_201 i) (e0_202 i) (e0_203 i) (e0_204 i) (e0_205 i) (e0_206 i) (e0_207 i) (e0_208 i) (e0_209 i) (e0_210 i) (e0_211 i) (e0_212 i) (e0_213 i) (e0_214 i) (e0_215 i) (e0_216 i) (e0_217 i) (e0_218 i) (e0_219 i) (e0_220 i) (e0_221 i) (e0_222 i) (e0_223 i) (e0_224 i) (e0_225 i) (e0_226 i) (e0_227 i) (e0_228 i) (e0_229 i) (e0_230 i) (e0_231 i) (e0_232 i) (e0_233 i) (e0_234 i) (e0_235 i) (e0_236 i) (e0_237 i) (e0_238 i) (e0_239 i) (e0_240 i) (e0_241 i) (e0_242 i) (e0_243 i) (e0_244 i) (e0_245 i) (e0_246 i) (e0_247 i) (e0_248 i) (e0_249 i) (e0_250 i) (e0_251 i) (e0_252 i) (e0_253 i) (e0_254 i) (e0_255 i)
theorem u0_2 (i : ℕ) : lit0t1_2 i = E0 (256 + i / 128 % 128) (i % 128) :=
  pick_of (fun q => E0 (256 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e0_256 i) (e0_257 i) (e0_258 i) (e0_259 i) (e0_260 i) (e0_261 i) (e0_262 i) (e0_263 i) (e0_264 i) (e0_265 i) (e0_266 i) (e0_267 i) (e0_268 i) (e0_269 i) (e0_270 i) (e0_271 i) (e0_272 i) (e0_273 i) (e0_274 i) (e0_275 i) (e0_276 i) (e0_277 i) (e0_278 i) (e0_279 i) (e0_280 i) (e0_281 i) (e0_282 i) (e0_283 i) (e0_284 i) (e0_285 i) (e0_286 i) (e0_287 i) (e0_288 i) (e0_289 i) (e0_290 i) (e0_291 i) (e0_292 i) (e0_293 i) (e0_294 i) (e0_295 i) (e0_296 i) (e0_297 i) (e0_298 i) (e0_299 i) (e0_300 i) (e0_301 i) (e0_302 i) (e0_303 i) (e0_304 i) (e0_305 i) (e0_306 i) (e0_307 i) (e0_308 i) (e0_309 i) (e0_310 i) (e0_311 i) (e0_312 i) (e0_313 i) (e0_314 i) (e0_315 i) (e0_316 i) (e0_317 i) (e0_318 i) (e0_319 i) (e0_320 i) (e0_321 i) (e0_322 i) (e0_323 i) (e0_324 i) (e0_325 i) (e0_326 i) (e0_327 i) (e0_328 i) (e0_329 i) (e0_330 i) (e0_331 i) (e0_332 i) (e0_333 i) (e0_334 i) (e0_335 i) (e0_336 i) (e0_337 i) (e0_338 i) (e0_339 i) (e0_340 i) (e0_341 i) (e0_342 i) (e0_343 i) (e0_344 i) (e0_345 i) (e0_346 i) (e0_347 i) (e0_348 i) (e0_349 i) (e0_350 i) (e0_351 i) (e0_352 i) (e0_353 i) (e0_354 i) (e0_355 i) (e0_356 i) (e0_357 i) (e0_358 i) (e0_359 i) (e0_360 i) (e0_361 i) (e0_362 i) (e0_363 i) (e0_364 i) (e0_365 i) (e0_366 i) (e0_367 i) (e0_368 i) (e0_369 i) (e0_370 i) (e0_371 i) (e0_372 i) (e0_373 i) (e0_374 i) (e0_375 i) (e0_376 i) (e0_377 i) (e0_378 i) (e0_379 i) (e0_380 i) (e0_381 i) (e0_382 i) (e0_383 i)
theorem u0_3 (i : ℕ) : lit0t1_3 i = E0 (384 + i / 128 % 128) (i % 128) :=
  pick_of (fun q => E0 (384 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e0_384 i) (e0_385 i) (e0_386 i) (e0_387 i) (e0_388 i) (e0_389 i) (e0_390 i) (e0_391 i) (e0_392 i) (e0_393 i) (e0_394 i) (e0_395 i) (e0_396 i) (e0_397 i) (e0_398 i) (e0_399 i) (e0_400 i) (e0_401 i) (e0_402 i) (e0_403 i) (e0_404 i) (e0_405 i) (e0_406 i) (e0_407 i) (e0_408 i) (e0_409 i) (e0_410 i) (e0_411 i) (e0_412 i) (e0_413 i) (e0_414 i) (e0_415 i) (e0_416 i) (e0_417 i) (e0_418 i) (e0_419 i) (e0_420 i) (e0_421 i) (e0_422 i) (e0_423 i) (e0_424 i) (e0_425 i) (e0_426 i) (e0_427 i) (e0_428 i) (e0_429 i) (e0_430 i) (e0_431 i) (e0_432 i) (e0_433 i) (e0_434 i) (e0_435 i) (e0_436 i) (e0_437 i) (e0_438 i) (e0_439 i) (e0_440 i) (e0_441 i) (e0_442 i) (e0_443 i) (e0_444 i) (e0_445 i) (e0_446 i) (e0_447 i) (e0_448 i) (e0_449 i) (e0_450 i) (e0_451 i) (e0_452 i) (e0_453 i) (e0_454 i) (e0_455 i) (e0_456 i) (e0_457 i) (e0_458 i) (e0_459 i) (e0_460 i) (e0_461 i) (e0_462 i) (e0_463 i) (e0_464 i) (e0_465 i) (e0_466 i) (e0_467 i) (e0_468 i) (e0_469 i) (e0_470 i) (e0_471 i) (e0_472 i) (e0_473 i) (e0_474 i) (e0_475 i) (e0_476 i) (e0_477 i) (e0_478 i) (e0_479 i) (e0_480 i) (e0_481 i) (e0_482 i) (e0_483 i) (e0_484 i) (e0_485 i) (e0_486 i) (e0_487 i) (e0_488 i) (e0_489 i) (e0_490 i) (e0_491 i) (e0_492 i) (e0_493 i) (e0_494 i) (e0_495 i) (e0_496 i) (e0_497 i) (e0_498 i) (e0_499 i) (e0_500 i) (e0_501 i) (e0_502 i) (e0_503 i) (e0_504 i) (e0_505 i) (e0_506 i) (e0_507 i) (e0_508 i) (e0_509 i) (e0_510 i) (e0_511 i)

theorem lit0_eq (i : ℕ) (h : i < 65536) : lit0t i = E0 (i / 128) (i % 128) := by
  unfold lit0t
  have h4 : i / 16384 = 0 ∨ i / 16384 = 1 ∨ i / 16384 = 2 ∨ i / 16384 = 3 := by omega
  rcases h4 with h4 | h4 | h4 | h4
  · rw [h4]; exact (u0_0 i).trans (congrArg (fun q => E0 q (i % 128)) (by omega))
  · rw [h4]; exact (u0_1 i).trans (congrArg (fun q => E0 q (i % 128)) (by omega))
  · rw [h4]; exact (u0_2 i).trans (congrArg (fun q => E0 q (i % 128)) (by omega))
  · rw [h4]; exact (u0_3 i).trans (congrArg (fun q => E0 q (i % 128)) (by omega))

end Cert.Proof.QkvValue
-- ==== Proof.QkvValue.Lit1.lean ====
/-
  The first selection of rows, entry by entry.
-/
module

public import proofs.«01_k».proof.Proof.QkvValue.Pick

@[expose] public section

set_option maxRecDepth 16384

noncomputable section

namespace Cert.Proof.QkvValue

open Cert.QkvIdeal

theorem e1_0 (i : ℕ) : lit1t0_0 i = E1 0 (i % 128) := pick (E1 0) (i % 128) (Nat.mod_lt _ (by decide))
theorem e1_1 (i : ℕ) : lit1t0_1 i = E1 1 (i % 128) := pick (E1 1) (i % 128) (Nat.mod_lt _ (by decide))
theorem e1_2 (i : ℕ) : lit1t0_2 i = E1 2 (i % 128) := pick (E1 2) (i % 128) (Nat.mod_lt _ (by decide))
theorem e1_3 (i : ℕ) : lit1t0_3 i = E1 3 (i % 128) := pick (E1 3) (i % 128) (Nat.mod_lt _ (by decide))
theorem e1_4 (i : ℕ) : lit1t0_4 i = E1 4 (i % 128) := pick (E1 4) (i % 128) (Nat.mod_lt _ (by decide))
theorem e1_5 (i : ℕ) : lit1t0_5 i = E1 5 (i % 128) := pick (E1 5) (i % 128) (Nat.mod_lt _ (by decide))
theorem e1_6 (i : ℕ) : lit1t0_6 i = E1 6 (i % 128) := pick (E1 6) (i % 128) (Nat.mod_lt _ (by decide))
theorem e1_7 (i : ℕ) : lit1t0_7 i = E1 7 (i % 128) := pick (E1 7) (i % 128) (Nat.mod_lt _ (by decide))
theorem e1_8 (i : ℕ) : lit1t0_8 i = E1 8 (i % 128) := pick (E1 8) (i % 128) (Nat.mod_lt _ (by decide))
theorem e1_9 (i : ℕ) : lit1t0_9 i = E1 9 (i % 128) := pick (E1 9) (i % 128) (Nat.mod_lt _ (by decide))
theorem e1_10 (i : ℕ) : lit1t0_10 i = E1 10 (i % 128) := pick (E1 10) (i % 128) (Nat.mod_lt _ (by decide))
theorem e1_11 (i : ℕ) : lit1t0_11 i = E1 11 (i % 128) := pick (E1 11) (i % 128) (Nat.mod_lt _ (by decide))
theorem e1_12 (i : ℕ) : lit1t0_12 i = E1 12 (i % 128) := pick (E1 12) (i % 128) (Nat.mod_lt _ (by decide))
theorem e1_13 (i : ℕ) : lit1t0_13 i = E1 13 (i % 128) := pick (E1 13) (i % 128) (Nat.mod_lt _ (by decide))
theorem e1_14 (i : ℕ) : lit1t0_14 i = E1 14 (i % 128) := pick (E1 14) (i % 128) (Nat.mod_lt _ (by decide))
theorem e1_15 (i : ℕ) : lit1t0_15 i = E1 15 (i % 128) := pick (E1 15) (i % 128) (Nat.mod_lt _ (by decide))
theorem e1_16 (i : ℕ) : lit1t0_16 i = E1 16 (i % 128) := pick (E1 16) (i % 128) (Nat.mod_lt _ (by decide))
theorem e1_17 (i : ℕ) : lit1t0_17 i = E1 17 (i % 128) := pick (E1 17) (i % 128) (Nat.mod_lt _ (by decide))
theorem e1_18 (i : ℕ) : lit1t0_18 i = E1 18 (i % 128) := pick (E1 18) (i % 128) (Nat.mod_lt _ (by decide))
theorem e1_19 (i : ℕ) : lit1t0_19 i = E1 19 (i % 128) := pick (E1 19) (i % 128) (Nat.mod_lt _ (by decide))
theorem e1_20 (i : ℕ) : lit1t0_20 i = E1 20 (i % 128) := pick (E1 20) (i % 128) (Nat.mod_lt _ (by decide))
theorem e1_21 (i : ℕ) : lit1t0_21 i = E1 21 (i % 128) := pick (E1 21) (i % 128) (Nat.mod_lt _ (by decide))
theorem e1_22 (i : ℕ) : lit1t0_22 i = E1 22 (i % 128) := pick (E1 22) (i % 128) (Nat.mod_lt _ (by decide))
theorem e1_23 (i : ℕ) : lit1t0_23 i = E1 23 (i % 128) := pick (E1 23) (i % 128) (Nat.mod_lt _ (by decide))
theorem e1_24 (i : ℕ) : lit1t0_24 i = E1 24 (i % 128) := pick (E1 24) (i % 128) (Nat.mod_lt _ (by decide))
theorem e1_25 (i : ℕ) : lit1t0_25 i = E1 25 (i % 128) := pick (E1 25) (i % 128) (Nat.mod_lt _ (by decide))
theorem e1_26 (i : ℕ) : lit1t0_26 i = E1 26 (i % 128) := pick (E1 26) (i % 128) (Nat.mod_lt _ (by decide))
theorem e1_27 (i : ℕ) : lit1t0_27 i = E1 27 (i % 128) := pick (E1 27) (i % 128) (Nat.mod_lt _ (by decide))
theorem e1_28 (i : ℕ) : lit1t0_28 i = E1 28 (i % 128) := pick (E1 28) (i % 128) (Nat.mod_lt _ (by decide))
theorem e1_29 (i : ℕ) : lit1t0_29 i = E1 29 (i % 128) := pick (E1 29) (i % 128) (Nat.mod_lt _ (by decide))
theorem e1_30 (i : ℕ) : lit1t0_30 i = E1 30 (i % 128) := pick (E1 30) (i % 128) (Nat.mod_lt _ (by decide))
theorem e1_31 (i : ℕ) : lit1t0_31 i = E1 31 (i % 128) := pick (E1 31) (i % 128) (Nat.mod_lt _ (by decide))
theorem e1_32 (i : ℕ) : lit1t0_32 i = E1 32 (i % 128) := pick (E1 32) (i % 128) (Nat.mod_lt _ (by decide))
theorem e1_33 (i : ℕ) : lit1t0_33 i = E1 33 (i % 128) := pick (E1 33) (i % 128) (Nat.mod_lt _ (by decide))
theorem e1_34 (i : ℕ) : lit1t0_34 i = E1 34 (i % 128) := pick (E1 34) (i % 128) (Nat.mod_lt _ (by decide))
theorem e1_35 (i : ℕ) : lit1t0_35 i = E1 35 (i % 128) := pick (E1 35) (i % 128) (Nat.mod_lt _ (by decide))
theorem e1_36 (i : ℕ) : lit1t0_36 i = E1 36 (i % 128) := pick (E1 36) (i % 128) (Nat.mod_lt _ (by decide))
theorem e1_37 (i : ℕ) : lit1t0_37 i = E1 37 (i % 128) := pick (E1 37) (i % 128) (Nat.mod_lt _ (by decide))
theorem e1_38 (i : ℕ) : lit1t0_38 i = E1 38 (i % 128) := pick (E1 38) (i % 128) (Nat.mod_lt _ (by decide))
theorem e1_39 (i : ℕ) : lit1t0_39 i = E1 39 (i % 128) := pick (E1 39) (i % 128) (Nat.mod_lt _ (by decide))
theorem e1_40 (i : ℕ) : lit1t0_40 i = E1 40 (i % 128) := pick (E1 40) (i % 128) (Nat.mod_lt _ (by decide))
theorem e1_41 (i : ℕ) : lit1t0_41 i = E1 41 (i % 128) := pick (E1 41) (i % 128) (Nat.mod_lt _ (by decide))
theorem e1_42 (i : ℕ) : lit1t0_42 i = E1 42 (i % 128) := pick (E1 42) (i % 128) (Nat.mod_lt _ (by decide))
theorem e1_43 (i : ℕ) : lit1t0_43 i = E1 43 (i % 128) := pick (E1 43) (i % 128) (Nat.mod_lt _ (by decide))
theorem e1_44 (i : ℕ) : lit1t0_44 i = E1 44 (i % 128) := pick (E1 44) (i % 128) (Nat.mod_lt _ (by decide))
theorem e1_45 (i : ℕ) : lit1t0_45 i = E1 45 (i % 128) := pick (E1 45) (i % 128) (Nat.mod_lt _ (by decide))
theorem e1_46 (i : ℕ) : lit1t0_46 i = E1 46 (i % 128) := pick (E1 46) (i % 128) (Nat.mod_lt _ (by decide))
theorem e1_47 (i : ℕ) : lit1t0_47 i = E1 47 (i % 128) := pick (E1 47) (i % 128) (Nat.mod_lt _ (by decide))
theorem e1_48 (i : ℕ) : lit1t0_48 i = E1 48 (i % 128) := pick (E1 48) (i % 128) (Nat.mod_lt _ (by decide))
theorem e1_49 (i : ℕ) : lit1t0_49 i = E1 49 (i % 128) := pick (E1 49) (i % 128) (Nat.mod_lt _ (by decide))
theorem e1_50 (i : ℕ) : lit1t0_50 i = E1 50 (i % 128) := pick (E1 50) (i % 128) (Nat.mod_lt _ (by decide))
theorem e1_51 (i : ℕ) : lit1t0_51 i = E1 51 (i % 128) := pick (E1 51) (i % 128) (Nat.mod_lt _ (by decide))
theorem e1_52 (i : ℕ) : lit1t0_52 i = E1 52 (i % 128) := pick (E1 52) (i % 128) (Nat.mod_lt _ (by decide))
theorem e1_53 (i : ℕ) : lit1t0_53 i = E1 53 (i % 128) := pick (E1 53) (i % 128) (Nat.mod_lt _ (by decide))
theorem e1_54 (i : ℕ) : lit1t0_54 i = E1 54 (i % 128) := pick (E1 54) (i % 128) (Nat.mod_lt _ (by decide))
theorem e1_55 (i : ℕ) : lit1t0_55 i = E1 55 (i % 128) := pick (E1 55) (i % 128) (Nat.mod_lt _ (by decide))
theorem e1_56 (i : ℕ) : lit1t0_56 i = E1 56 (i % 128) := pick (E1 56) (i % 128) (Nat.mod_lt _ (by decide))
theorem e1_57 (i : ℕ) : lit1t0_57 i = E1 57 (i % 128) := pick (E1 57) (i % 128) (Nat.mod_lt _ (by decide))
theorem e1_58 (i : ℕ) : lit1t0_58 i = E1 58 (i % 128) := pick (E1 58) (i % 128) (Nat.mod_lt _ (by decide))
theorem e1_59 (i : ℕ) : lit1t0_59 i = E1 59 (i % 128) := pick (E1 59) (i % 128) (Nat.mod_lt _ (by decide))
theorem e1_60 (i : ℕ) : lit1t0_60 i = E1 60 (i % 128) := pick (E1 60) (i % 128) (Nat.mod_lt _ (by decide))
theorem e1_61 (i : ℕ) : lit1t0_61 i = E1 61 (i % 128) := pick (E1 61) (i % 128) (Nat.mod_lt _ (by decide))
theorem e1_62 (i : ℕ) : lit1t0_62 i = E1 62 (i % 128) := pick (E1 62) (i % 128) (Nat.mod_lt _ (by decide))
theorem e1_63 (i : ℕ) : lit1t0_63 i = E1 63 (i % 128) := pick (E1 63) (i % 128) (Nat.mod_lt _ (by decide))
theorem e1_64 (i : ℕ) : lit1t0_64 i = E1 64 (i % 128) := pick (E1 64) (i % 128) (Nat.mod_lt _ (by decide))
theorem e1_65 (i : ℕ) : lit1t0_65 i = E1 65 (i % 128) := pick (E1 65) (i % 128) (Nat.mod_lt _ (by decide))
theorem e1_66 (i : ℕ) : lit1t0_66 i = E1 66 (i % 128) := pick (E1 66) (i % 128) (Nat.mod_lt _ (by decide))
theorem e1_67 (i : ℕ) : lit1t0_67 i = E1 67 (i % 128) := pick (E1 67) (i % 128) (Nat.mod_lt _ (by decide))
theorem e1_68 (i : ℕ) : lit1t0_68 i = E1 68 (i % 128) := pick (E1 68) (i % 128) (Nat.mod_lt _ (by decide))
theorem e1_69 (i : ℕ) : lit1t0_69 i = E1 69 (i % 128) := pick (E1 69) (i % 128) (Nat.mod_lt _ (by decide))
theorem e1_70 (i : ℕ) : lit1t0_70 i = E1 70 (i % 128) := pick (E1 70) (i % 128) (Nat.mod_lt _ (by decide))
theorem e1_71 (i : ℕ) : lit1t0_71 i = E1 71 (i % 128) := pick (E1 71) (i % 128) (Nat.mod_lt _ (by decide))
theorem e1_72 (i : ℕ) : lit1t0_72 i = E1 72 (i % 128) := pick (E1 72) (i % 128) (Nat.mod_lt _ (by decide))
theorem e1_73 (i : ℕ) : lit1t0_73 i = E1 73 (i % 128) := pick (E1 73) (i % 128) (Nat.mod_lt _ (by decide))
theorem e1_74 (i : ℕ) : lit1t0_74 i = E1 74 (i % 128) := pick (E1 74) (i % 128) (Nat.mod_lt _ (by decide))
theorem e1_75 (i : ℕ) : lit1t0_75 i = E1 75 (i % 128) := pick (E1 75) (i % 128) (Nat.mod_lt _ (by decide))
theorem e1_76 (i : ℕ) : lit1t0_76 i = E1 76 (i % 128) := pick (E1 76) (i % 128) (Nat.mod_lt _ (by decide))
theorem e1_77 (i : ℕ) : lit1t0_77 i = E1 77 (i % 128) := pick (E1 77) (i % 128) (Nat.mod_lt _ (by decide))
theorem e1_78 (i : ℕ) : lit1t0_78 i = E1 78 (i % 128) := pick (E1 78) (i % 128) (Nat.mod_lt _ (by decide))
theorem e1_79 (i : ℕ) : lit1t0_79 i = E1 79 (i % 128) := pick (E1 79) (i % 128) (Nat.mod_lt _ (by decide))
theorem e1_80 (i : ℕ) : lit1t0_80 i = E1 80 (i % 128) := pick (E1 80) (i % 128) (Nat.mod_lt _ (by decide))
theorem e1_81 (i : ℕ) : lit1t0_81 i = E1 81 (i % 128) := pick (E1 81) (i % 128) (Nat.mod_lt _ (by decide))
theorem e1_82 (i : ℕ) : lit1t0_82 i = E1 82 (i % 128) := pick (E1 82) (i % 128) (Nat.mod_lt _ (by decide))
theorem e1_83 (i : ℕ) : lit1t0_83 i = E1 83 (i % 128) := pick (E1 83) (i % 128) (Nat.mod_lt _ (by decide))
theorem e1_84 (i : ℕ) : lit1t0_84 i = E1 84 (i % 128) := pick (E1 84) (i % 128) (Nat.mod_lt _ (by decide))
theorem e1_85 (i : ℕ) : lit1t0_85 i = E1 85 (i % 128) := pick (E1 85) (i % 128) (Nat.mod_lt _ (by decide))
theorem e1_86 (i : ℕ) : lit1t0_86 i = E1 86 (i % 128) := pick (E1 86) (i % 128) (Nat.mod_lt _ (by decide))
theorem e1_87 (i : ℕ) : lit1t0_87 i = E1 87 (i % 128) := pick (E1 87) (i % 128) (Nat.mod_lt _ (by decide))
theorem e1_88 (i : ℕ) : lit1t0_88 i = E1 88 (i % 128) := pick (E1 88) (i % 128) (Nat.mod_lt _ (by decide))
theorem e1_89 (i : ℕ) : lit1t0_89 i = E1 89 (i % 128) := pick (E1 89) (i % 128) (Nat.mod_lt _ (by decide))
theorem e1_90 (i : ℕ) : lit1t0_90 i = E1 90 (i % 128) := pick (E1 90) (i % 128) (Nat.mod_lt _ (by decide))
theorem e1_91 (i : ℕ) : lit1t0_91 i = E1 91 (i % 128) := pick (E1 91) (i % 128) (Nat.mod_lt _ (by decide))
theorem e1_92 (i : ℕ) : lit1t0_92 i = E1 92 (i % 128) := pick (E1 92) (i % 128) (Nat.mod_lt _ (by decide))
theorem e1_93 (i : ℕ) : lit1t0_93 i = E1 93 (i % 128) := pick (E1 93) (i % 128) (Nat.mod_lt _ (by decide))
theorem e1_94 (i : ℕ) : lit1t0_94 i = E1 94 (i % 128) := pick (E1 94) (i % 128) (Nat.mod_lt _ (by decide))
theorem e1_95 (i : ℕ) : lit1t0_95 i = E1 95 (i % 128) := pick (E1 95) (i % 128) (Nat.mod_lt _ (by decide))
theorem e1_96 (i : ℕ) : lit1t0_96 i = E1 96 (i % 128) := pick (E1 96) (i % 128) (Nat.mod_lt _ (by decide))
theorem e1_97 (i : ℕ) : lit1t0_97 i = E1 97 (i % 128) := pick (E1 97) (i % 128) (Nat.mod_lt _ (by decide))
theorem e1_98 (i : ℕ) : lit1t0_98 i = E1 98 (i % 128) := pick (E1 98) (i % 128) (Nat.mod_lt _ (by decide))
theorem e1_99 (i : ℕ) : lit1t0_99 i = E1 99 (i % 128) := pick (E1 99) (i % 128) (Nat.mod_lt _ (by decide))
theorem e1_100 (i : ℕ) : lit1t0_100 i = E1 100 (i % 128) := pick (E1 100) (i % 128) (Nat.mod_lt _ (by decide))
theorem e1_101 (i : ℕ) : lit1t0_101 i = E1 101 (i % 128) := pick (E1 101) (i % 128) (Nat.mod_lt _ (by decide))
theorem e1_102 (i : ℕ) : lit1t0_102 i = E1 102 (i % 128) := pick (E1 102) (i % 128) (Nat.mod_lt _ (by decide))
theorem e1_103 (i : ℕ) : lit1t0_103 i = E1 103 (i % 128) := pick (E1 103) (i % 128) (Nat.mod_lt _ (by decide))
theorem e1_104 (i : ℕ) : lit1t0_104 i = E1 104 (i % 128) := pick (E1 104) (i % 128) (Nat.mod_lt _ (by decide))
theorem e1_105 (i : ℕ) : lit1t0_105 i = E1 105 (i % 128) := pick (E1 105) (i % 128) (Nat.mod_lt _ (by decide))
theorem e1_106 (i : ℕ) : lit1t0_106 i = E1 106 (i % 128) := pick (E1 106) (i % 128) (Nat.mod_lt _ (by decide))
theorem e1_107 (i : ℕ) : lit1t0_107 i = E1 107 (i % 128) := pick (E1 107) (i % 128) (Nat.mod_lt _ (by decide))
theorem e1_108 (i : ℕ) : lit1t0_108 i = E1 108 (i % 128) := pick (E1 108) (i % 128) (Nat.mod_lt _ (by decide))
theorem e1_109 (i : ℕ) : lit1t0_109 i = E1 109 (i % 128) := pick (E1 109) (i % 128) (Nat.mod_lt _ (by decide))
theorem e1_110 (i : ℕ) : lit1t0_110 i = E1 110 (i % 128) := pick (E1 110) (i % 128) (Nat.mod_lt _ (by decide))
theorem e1_111 (i : ℕ) : lit1t0_111 i = E1 111 (i % 128) := pick (E1 111) (i % 128) (Nat.mod_lt _ (by decide))
theorem e1_112 (i : ℕ) : lit1t0_112 i = E1 112 (i % 128) := pick (E1 112) (i % 128) (Nat.mod_lt _ (by decide))
theorem e1_113 (i : ℕ) : lit1t0_113 i = E1 113 (i % 128) := pick (E1 113) (i % 128) (Nat.mod_lt _ (by decide))
theorem e1_114 (i : ℕ) : lit1t0_114 i = E1 114 (i % 128) := pick (E1 114) (i % 128) (Nat.mod_lt _ (by decide))
theorem e1_115 (i : ℕ) : lit1t0_115 i = E1 115 (i % 128) := pick (E1 115) (i % 128) (Nat.mod_lt _ (by decide))
theorem e1_116 (i : ℕ) : lit1t0_116 i = E1 116 (i % 128) := pick (E1 116) (i % 128) (Nat.mod_lt _ (by decide))
theorem e1_117 (i : ℕ) : lit1t0_117 i = E1 117 (i % 128) := pick (E1 117) (i % 128) (Nat.mod_lt _ (by decide))
theorem e1_118 (i : ℕ) : lit1t0_118 i = E1 118 (i % 128) := pick (E1 118) (i % 128) (Nat.mod_lt _ (by decide))
theorem e1_119 (i : ℕ) : lit1t0_119 i = E1 119 (i % 128) := pick (E1 119) (i % 128) (Nat.mod_lt _ (by decide))
theorem e1_120 (i : ℕ) : lit1t0_120 i = E1 120 (i % 128) := pick (E1 120) (i % 128) (Nat.mod_lt _ (by decide))
theorem e1_121 (i : ℕ) : lit1t0_121 i = E1 121 (i % 128) := pick (E1 121) (i % 128) (Nat.mod_lt _ (by decide))
theorem e1_122 (i : ℕ) : lit1t0_122 i = E1 122 (i % 128) := pick (E1 122) (i % 128) (Nat.mod_lt _ (by decide))
theorem e1_123 (i : ℕ) : lit1t0_123 i = E1 123 (i % 128) := pick (E1 123) (i % 128) (Nat.mod_lt _ (by decide))
theorem e1_124 (i : ℕ) : lit1t0_124 i = E1 124 (i % 128) := pick (E1 124) (i % 128) (Nat.mod_lt _ (by decide))
theorem e1_125 (i : ℕ) : lit1t0_125 i = E1 125 (i % 128) := pick (E1 125) (i % 128) (Nat.mod_lt _ (by decide))
theorem e1_126 (i : ℕ) : lit1t0_126 i = E1 126 (i % 128) := pick (E1 126) (i % 128) (Nat.mod_lt _ (by decide))
theorem e1_127 (i : ℕ) : lit1t0_127 i = E1 127 (i % 128) := pick (E1 127) (i % 128) (Nat.mod_lt _ (by decide))
theorem e1_128 (i : ℕ) : lit1t0_128 i = E1 128 (i % 128) := pick (E1 128) (i % 128) (Nat.mod_lt _ (by decide))
theorem e1_129 (i : ℕ) : lit1t0_129 i = E1 129 (i % 128) := pick (E1 129) (i % 128) (Nat.mod_lt _ (by decide))
theorem e1_130 (i : ℕ) : lit1t0_130 i = E1 130 (i % 128) := pick (E1 130) (i % 128) (Nat.mod_lt _ (by decide))
theorem e1_131 (i : ℕ) : lit1t0_131 i = E1 131 (i % 128) := pick (E1 131) (i % 128) (Nat.mod_lt _ (by decide))
theorem e1_132 (i : ℕ) : lit1t0_132 i = E1 132 (i % 128) := pick (E1 132) (i % 128) (Nat.mod_lt _ (by decide))
theorem e1_133 (i : ℕ) : lit1t0_133 i = E1 133 (i % 128) := pick (E1 133) (i % 128) (Nat.mod_lt _ (by decide))
theorem e1_134 (i : ℕ) : lit1t0_134 i = E1 134 (i % 128) := pick (E1 134) (i % 128) (Nat.mod_lt _ (by decide))
theorem e1_135 (i : ℕ) : lit1t0_135 i = E1 135 (i % 128) := pick (E1 135) (i % 128) (Nat.mod_lt _ (by decide))
theorem e1_136 (i : ℕ) : lit1t0_136 i = E1 136 (i % 128) := pick (E1 136) (i % 128) (Nat.mod_lt _ (by decide))
theorem e1_137 (i : ℕ) : lit1t0_137 i = E1 137 (i % 128) := pick (E1 137) (i % 128) (Nat.mod_lt _ (by decide))
theorem e1_138 (i : ℕ) : lit1t0_138 i = E1 138 (i % 128) := pick (E1 138) (i % 128) (Nat.mod_lt _ (by decide))
theorem e1_139 (i : ℕ) : lit1t0_139 i = E1 139 (i % 128) := pick (E1 139) (i % 128) (Nat.mod_lt _ (by decide))
theorem e1_140 (i : ℕ) : lit1t0_140 i = E1 140 (i % 128) := pick (E1 140) (i % 128) (Nat.mod_lt _ (by decide))
theorem e1_141 (i : ℕ) : lit1t0_141 i = E1 141 (i % 128) := pick (E1 141) (i % 128) (Nat.mod_lt _ (by decide))
theorem e1_142 (i : ℕ) : lit1t0_142 i = E1 142 (i % 128) := pick (E1 142) (i % 128) (Nat.mod_lt _ (by decide))
theorem e1_143 (i : ℕ) : lit1t0_143 i = E1 143 (i % 128) := pick (E1 143) (i % 128) (Nat.mod_lt _ (by decide))
theorem e1_144 (i : ℕ) : lit1t0_144 i = E1 144 (i % 128) := pick (E1 144) (i % 128) (Nat.mod_lt _ (by decide))
theorem e1_145 (i : ℕ) : lit1t0_145 i = E1 145 (i % 128) := pick (E1 145) (i % 128) (Nat.mod_lt _ (by decide))
theorem e1_146 (i : ℕ) : lit1t0_146 i = E1 146 (i % 128) := pick (E1 146) (i % 128) (Nat.mod_lt _ (by decide))
theorem e1_147 (i : ℕ) : lit1t0_147 i = E1 147 (i % 128) := pick (E1 147) (i % 128) (Nat.mod_lt _ (by decide))
theorem e1_148 (i : ℕ) : lit1t0_148 i = E1 148 (i % 128) := pick (E1 148) (i % 128) (Nat.mod_lt _ (by decide))
theorem e1_149 (i : ℕ) : lit1t0_149 i = E1 149 (i % 128) := pick (E1 149) (i % 128) (Nat.mod_lt _ (by decide))
theorem e1_150 (i : ℕ) : lit1t0_150 i = E1 150 (i % 128) := pick (E1 150) (i % 128) (Nat.mod_lt _ (by decide))
theorem e1_151 (i : ℕ) : lit1t0_151 i = E1 151 (i % 128) := pick (E1 151) (i % 128) (Nat.mod_lt _ (by decide))
theorem e1_152 (i : ℕ) : lit1t0_152 i = E1 152 (i % 128) := pick (E1 152) (i % 128) (Nat.mod_lt _ (by decide))
theorem e1_153 (i : ℕ) : lit1t0_153 i = E1 153 (i % 128) := pick (E1 153) (i % 128) (Nat.mod_lt _ (by decide))
theorem e1_154 (i : ℕ) : lit1t0_154 i = E1 154 (i % 128) := pick (E1 154) (i % 128) (Nat.mod_lt _ (by decide))
theorem e1_155 (i : ℕ) : lit1t0_155 i = E1 155 (i % 128) := pick (E1 155) (i % 128) (Nat.mod_lt _ (by decide))
theorem e1_156 (i : ℕ) : lit1t0_156 i = E1 156 (i % 128) := pick (E1 156) (i % 128) (Nat.mod_lt _ (by decide))
theorem e1_157 (i : ℕ) : lit1t0_157 i = E1 157 (i % 128) := pick (E1 157) (i % 128) (Nat.mod_lt _ (by decide))
theorem e1_158 (i : ℕ) : lit1t0_158 i = E1 158 (i % 128) := pick (E1 158) (i % 128) (Nat.mod_lt _ (by decide))
theorem e1_159 (i : ℕ) : lit1t0_159 i = E1 159 (i % 128) := pick (E1 159) (i % 128) (Nat.mod_lt _ (by decide))
theorem e1_160 (i : ℕ) : lit1t0_160 i = E1 160 (i % 128) := pick (E1 160) (i % 128) (Nat.mod_lt _ (by decide))
theorem e1_161 (i : ℕ) : lit1t0_161 i = E1 161 (i % 128) := pick (E1 161) (i % 128) (Nat.mod_lt _ (by decide))
theorem e1_162 (i : ℕ) : lit1t0_162 i = E1 162 (i % 128) := pick (E1 162) (i % 128) (Nat.mod_lt _ (by decide))
theorem e1_163 (i : ℕ) : lit1t0_163 i = E1 163 (i % 128) := pick (E1 163) (i % 128) (Nat.mod_lt _ (by decide))
theorem e1_164 (i : ℕ) : lit1t0_164 i = E1 164 (i % 128) := pick (E1 164) (i % 128) (Nat.mod_lt _ (by decide))
theorem e1_165 (i : ℕ) : lit1t0_165 i = E1 165 (i % 128) := pick (E1 165) (i % 128) (Nat.mod_lt _ (by decide))
theorem e1_166 (i : ℕ) : lit1t0_166 i = E1 166 (i % 128) := pick (E1 166) (i % 128) (Nat.mod_lt _ (by decide))
theorem e1_167 (i : ℕ) : lit1t0_167 i = E1 167 (i % 128) := pick (E1 167) (i % 128) (Nat.mod_lt _ (by decide))
theorem e1_168 (i : ℕ) : lit1t0_168 i = E1 168 (i % 128) := pick (E1 168) (i % 128) (Nat.mod_lt _ (by decide))
theorem e1_169 (i : ℕ) : lit1t0_169 i = E1 169 (i % 128) := pick (E1 169) (i % 128) (Nat.mod_lt _ (by decide))
theorem e1_170 (i : ℕ) : lit1t0_170 i = E1 170 (i % 128) := pick (E1 170) (i % 128) (Nat.mod_lt _ (by decide))
theorem e1_171 (i : ℕ) : lit1t0_171 i = E1 171 (i % 128) := pick (E1 171) (i % 128) (Nat.mod_lt _ (by decide))
theorem e1_172 (i : ℕ) : lit1t0_172 i = E1 172 (i % 128) := pick (E1 172) (i % 128) (Nat.mod_lt _ (by decide))
theorem e1_173 (i : ℕ) : lit1t0_173 i = E1 173 (i % 128) := pick (E1 173) (i % 128) (Nat.mod_lt _ (by decide))
theorem e1_174 (i : ℕ) : lit1t0_174 i = E1 174 (i % 128) := pick (E1 174) (i % 128) (Nat.mod_lt _ (by decide))
theorem e1_175 (i : ℕ) : lit1t0_175 i = E1 175 (i % 128) := pick (E1 175) (i % 128) (Nat.mod_lt _ (by decide))
theorem e1_176 (i : ℕ) : lit1t0_176 i = E1 176 (i % 128) := pick (E1 176) (i % 128) (Nat.mod_lt _ (by decide))
theorem e1_177 (i : ℕ) : lit1t0_177 i = E1 177 (i % 128) := pick (E1 177) (i % 128) (Nat.mod_lt _ (by decide))
theorem e1_178 (i : ℕ) : lit1t0_178 i = E1 178 (i % 128) := pick (E1 178) (i % 128) (Nat.mod_lt _ (by decide))
theorem e1_179 (i : ℕ) : lit1t0_179 i = E1 179 (i % 128) := pick (E1 179) (i % 128) (Nat.mod_lt _ (by decide))
theorem e1_180 (i : ℕ) : lit1t0_180 i = E1 180 (i % 128) := pick (E1 180) (i % 128) (Nat.mod_lt _ (by decide))
theorem e1_181 (i : ℕ) : lit1t0_181 i = E1 181 (i % 128) := pick (E1 181) (i % 128) (Nat.mod_lt _ (by decide))
theorem e1_182 (i : ℕ) : lit1t0_182 i = E1 182 (i % 128) := pick (E1 182) (i % 128) (Nat.mod_lt _ (by decide))
theorem e1_183 (i : ℕ) : lit1t0_183 i = E1 183 (i % 128) := pick (E1 183) (i % 128) (Nat.mod_lt _ (by decide))
theorem e1_184 (i : ℕ) : lit1t0_184 i = E1 184 (i % 128) := pick (E1 184) (i % 128) (Nat.mod_lt _ (by decide))
theorem e1_185 (i : ℕ) : lit1t0_185 i = E1 185 (i % 128) := pick (E1 185) (i % 128) (Nat.mod_lt _ (by decide))
theorem e1_186 (i : ℕ) : lit1t0_186 i = E1 186 (i % 128) := pick (E1 186) (i % 128) (Nat.mod_lt _ (by decide))
theorem e1_187 (i : ℕ) : lit1t0_187 i = E1 187 (i % 128) := pick (E1 187) (i % 128) (Nat.mod_lt _ (by decide))
theorem e1_188 (i : ℕ) : lit1t0_188 i = E1 188 (i % 128) := pick (E1 188) (i % 128) (Nat.mod_lt _ (by decide))
theorem e1_189 (i : ℕ) : lit1t0_189 i = E1 189 (i % 128) := pick (E1 189) (i % 128) (Nat.mod_lt _ (by decide))
theorem e1_190 (i : ℕ) : lit1t0_190 i = E1 190 (i % 128) := pick (E1 190) (i % 128) (Nat.mod_lt _ (by decide))
theorem e1_191 (i : ℕ) : lit1t0_191 i = E1 191 (i % 128) := pick (E1 191) (i % 128) (Nat.mod_lt _ (by decide))
theorem e1_192 (i : ℕ) : lit1t0_192 i = E1 192 (i % 128) := pick (E1 192) (i % 128) (Nat.mod_lt _ (by decide))
theorem e1_193 (i : ℕ) : lit1t0_193 i = E1 193 (i % 128) := pick (E1 193) (i % 128) (Nat.mod_lt _ (by decide))
theorem e1_194 (i : ℕ) : lit1t0_194 i = E1 194 (i % 128) := pick (E1 194) (i % 128) (Nat.mod_lt _ (by decide))
theorem e1_195 (i : ℕ) : lit1t0_195 i = E1 195 (i % 128) := pick (E1 195) (i % 128) (Nat.mod_lt _ (by decide))
theorem e1_196 (i : ℕ) : lit1t0_196 i = E1 196 (i % 128) := pick (E1 196) (i % 128) (Nat.mod_lt _ (by decide))
theorem e1_197 (i : ℕ) : lit1t0_197 i = E1 197 (i % 128) := pick (E1 197) (i % 128) (Nat.mod_lt _ (by decide))
theorem e1_198 (i : ℕ) : lit1t0_198 i = E1 198 (i % 128) := pick (E1 198) (i % 128) (Nat.mod_lt _ (by decide))
theorem e1_199 (i : ℕ) : lit1t0_199 i = E1 199 (i % 128) := pick (E1 199) (i % 128) (Nat.mod_lt _ (by decide))
theorem e1_200 (i : ℕ) : lit1t0_200 i = E1 200 (i % 128) := pick (E1 200) (i % 128) (Nat.mod_lt _ (by decide))
theorem e1_201 (i : ℕ) : lit1t0_201 i = E1 201 (i % 128) := pick (E1 201) (i % 128) (Nat.mod_lt _ (by decide))
theorem e1_202 (i : ℕ) : lit1t0_202 i = E1 202 (i % 128) := pick (E1 202) (i % 128) (Nat.mod_lt _ (by decide))
theorem e1_203 (i : ℕ) : lit1t0_203 i = E1 203 (i % 128) := pick (E1 203) (i % 128) (Nat.mod_lt _ (by decide))
theorem e1_204 (i : ℕ) : lit1t0_204 i = E1 204 (i % 128) := pick (E1 204) (i % 128) (Nat.mod_lt _ (by decide))
theorem e1_205 (i : ℕ) : lit1t0_205 i = E1 205 (i % 128) := pick (E1 205) (i % 128) (Nat.mod_lt _ (by decide))
theorem e1_206 (i : ℕ) : lit1t0_206 i = E1 206 (i % 128) := pick (E1 206) (i % 128) (Nat.mod_lt _ (by decide))
theorem e1_207 (i : ℕ) : lit1t0_207 i = E1 207 (i % 128) := pick (E1 207) (i % 128) (Nat.mod_lt _ (by decide))
theorem e1_208 (i : ℕ) : lit1t0_208 i = E1 208 (i % 128) := pick (E1 208) (i % 128) (Nat.mod_lt _ (by decide))
theorem e1_209 (i : ℕ) : lit1t0_209 i = E1 209 (i % 128) := pick (E1 209) (i % 128) (Nat.mod_lt _ (by decide))
theorem e1_210 (i : ℕ) : lit1t0_210 i = E1 210 (i % 128) := pick (E1 210) (i % 128) (Nat.mod_lt _ (by decide))
theorem e1_211 (i : ℕ) : lit1t0_211 i = E1 211 (i % 128) := pick (E1 211) (i % 128) (Nat.mod_lt _ (by decide))
theorem e1_212 (i : ℕ) : lit1t0_212 i = E1 212 (i % 128) := pick (E1 212) (i % 128) (Nat.mod_lt _ (by decide))
theorem e1_213 (i : ℕ) : lit1t0_213 i = E1 213 (i % 128) := pick (E1 213) (i % 128) (Nat.mod_lt _ (by decide))
theorem e1_214 (i : ℕ) : lit1t0_214 i = E1 214 (i % 128) := pick (E1 214) (i % 128) (Nat.mod_lt _ (by decide))
theorem e1_215 (i : ℕ) : lit1t0_215 i = E1 215 (i % 128) := pick (E1 215) (i % 128) (Nat.mod_lt _ (by decide))
theorem e1_216 (i : ℕ) : lit1t0_216 i = E1 216 (i % 128) := pick (E1 216) (i % 128) (Nat.mod_lt _ (by decide))
theorem e1_217 (i : ℕ) : lit1t0_217 i = E1 217 (i % 128) := pick (E1 217) (i % 128) (Nat.mod_lt _ (by decide))
theorem e1_218 (i : ℕ) : lit1t0_218 i = E1 218 (i % 128) := pick (E1 218) (i % 128) (Nat.mod_lt _ (by decide))
theorem e1_219 (i : ℕ) : lit1t0_219 i = E1 219 (i % 128) := pick (E1 219) (i % 128) (Nat.mod_lt _ (by decide))
theorem e1_220 (i : ℕ) : lit1t0_220 i = E1 220 (i % 128) := pick (E1 220) (i % 128) (Nat.mod_lt _ (by decide))
theorem e1_221 (i : ℕ) : lit1t0_221 i = E1 221 (i % 128) := pick (E1 221) (i % 128) (Nat.mod_lt _ (by decide))
theorem e1_222 (i : ℕ) : lit1t0_222 i = E1 222 (i % 128) := pick (E1 222) (i % 128) (Nat.mod_lt _ (by decide))
theorem e1_223 (i : ℕ) : lit1t0_223 i = E1 223 (i % 128) := pick (E1 223) (i % 128) (Nat.mod_lt _ (by decide))
theorem e1_224 (i : ℕ) : lit1t0_224 i = E1 224 (i % 128) := pick (E1 224) (i % 128) (Nat.mod_lt _ (by decide))
theorem e1_225 (i : ℕ) : lit1t0_225 i = E1 225 (i % 128) := pick (E1 225) (i % 128) (Nat.mod_lt _ (by decide))
theorem e1_226 (i : ℕ) : lit1t0_226 i = E1 226 (i % 128) := pick (E1 226) (i % 128) (Nat.mod_lt _ (by decide))
theorem e1_227 (i : ℕ) : lit1t0_227 i = E1 227 (i % 128) := pick (E1 227) (i % 128) (Nat.mod_lt _ (by decide))
theorem e1_228 (i : ℕ) : lit1t0_228 i = E1 228 (i % 128) := pick (E1 228) (i % 128) (Nat.mod_lt _ (by decide))
theorem e1_229 (i : ℕ) : lit1t0_229 i = E1 229 (i % 128) := pick (E1 229) (i % 128) (Nat.mod_lt _ (by decide))
theorem e1_230 (i : ℕ) : lit1t0_230 i = E1 230 (i % 128) := pick (E1 230) (i % 128) (Nat.mod_lt _ (by decide))
theorem e1_231 (i : ℕ) : lit1t0_231 i = E1 231 (i % 128) := pick (E1 231) (i % 128) (Nat.mod_lt _ (by decide))
theorem e1_232 (i : ℕ) : lit1t0_232 i = E1 232 (i % 128) := pick (E1 232) (i % 128) (Nat.mod_lt _ (by decide))
theorem e1_233 (i : ℕ) : lit1t0_233 i = E1 233 (i % 128) := pick (E1 233) (i % 128) (Nat.mod_lt _ (by decide))
theorem e1_234 (i : ℕ) : lit1t0_234 i = E1 234 (i % 128) := pick (E1 234) (i % 128) (Nat.mod_lt _ (by decide))
theorem e1_235 (i : ℕ) : lit1t0_235 i = E1 235 (i % 128) := pick (E1 235) (i % 128) (Nat.mod_lt _ (by decide))
theorem e1_236 (i : ℕ) : lit1t0_236 i = E1 236 (i % 128) := pick (E1 236) (i % 128) (Nat.mod_lt _ (by decide))
theorem e1_237 (i : ℕ) : lit1t0_237 i = E1 237 (i % 128) := pick (E1 237) (i % 128) (Nat.mod_lt _ (by decide))
theorem e1_238 (i : ℕ) : lit1t0_238 i = E1 238 (i % 128) := pick (E1 238) (i % 128) (Nat.mod_lt _ (by decide))
theorem e1_239 (i : ℕ) : lit1t0_239 i = E1 239 (i % 128) := pick (E1 239) (i % 128) (Nat.mod_lt _ (by decide))
theorem e1_240 (i : ℕ) : lit1t0_240 i = E1 240 (i % 128) := pick (E1 240) (i % 128) (Nat.mod_lt _ (by decide))
theorem e1_241 (i : ℕ) : lit1t0_241 i = E1 241 (i % 128) := pick (E1 241) (i % 128) (Nat.mod_lt _ (by decide))
theorem e1_242 (i : ℕ) : lit1t0_242 i = E1 242 (i % 128) := pick (E1 242) (i % 128) (Nat.mod_lt _ (by decide))
theorem e1_243 (i : ℕ) : lit1t0_243 i = E1 243 (i % 128) := pick (E1 243) (i % 128) (Nat.mod_lt _ (by decide))
theorem e1_244 (i : ℕ) : lit1t0_244 i = E1 244 (i % 128) := pick (E1 244) (i % 128) (Nat.mod_lt _ (by decide))
theorem e1_245 (i : ℕ) : lit1t0_245 i = E1 245 (i % 128) := pick (E1 245) (i % 128) (Nat.mod_lt _ (by decide))
theorem e1_246 (i : ℕ) : lit1t0_246 i = E1 246 (i % 128) := pick (E1 246) (i % 128) (Nat.mod_lt _ (by decide))
theorem e1_247 (i : ℕ) : lit1t0_247 i = E1 247 (i % 128) := pick (E1 247) (i % 128) (Nat.mod_lt _ (by decide))
theorem e1_248 (i : ℕ) : lit1t0_248 i = E1 248 (i % 128) := pick (E1 248) (i % 128) (Nat.mod_lt _ (by decide))
theorem e1_249 (i : ℕ) : lit1t0_249 i = E1 249 (i % 128) := pick (E1 249) (i % 128) (Nat.mod_lt _ (by decide))
theorem e1_250 (i : ℕ) : lit1t0_250 i = E1 250 (i % 128) := pick (E1 250) (i % 128) (Nat.mod_lt _ (by decide))
theorem e1_251 (i : ℕ) : lit1t0_251 i = E1 251 (i % 128) := pick (E1 251) (i % 128) (Nat.mod_lt _ (by decide))
theorem e1_252 (i : ℕ) : lit1t0_252 i = E1 252 (i % 128) := pick (E1 252) (i % 128) (Nat.mod_lt _ (by decide))
theorem e1_253 (i : ℕ) : lit1t0_253 i = E1 253 (i % 128) := pick (E1 253) (i % 128) (Nat.mod_lt _ (by decide))
theorem e1_254 (i : ℕ) : lit1t0_254 i = E1 254 (i % 128) := pick (E1 254) (i % 128) (Nat.mod_lt _ (by decide))
theorem e1_255 (i : ℕ) : lit1t0_255 i = E1 255 (i % 128) := pick (E1 255) (i % 128) (Nat.mod_lt _ (by decide))
theorem e1_256 (i : ℕ) : lit1t0_256 i = E1 256 (i % 128) := pick (E1 256) (i % 128) (Nat.mod_lt _ (by decide))
theorem e1_257 (i : ℕ) : lit1t0_257 i = E1 257 (i % 128) := pick (E1 257) (i % 128) (Nat.mod_lt _ (by decide))
theorem e1_258 (i : ℕ) : lit1t0_258 i = E1 258 (i % 128) := pick (E1 258) (i % 128) (Nat.mod_lt _ (by decide))
theorem e1_259 (i : ℕ) : lit1t0_259 i = E1 259 (i % 128) := pick (E1 259) (i % 128) (Nat.mod_lt _ (by decide))
theorem e1_260 (i : ℕ) : lit1t0_260 i = E1 260 (i % 128) := pick (E1 260) (i % 128) (Nat.mod_lt _ (by decide))
theorem e1_261 (i : ℕ) : lit1t0_261 i = E1 261 (i % 128) := pick (E1 261) (i % 128) (Nat.mod_lt _ (by decide))
theorem e1_262 (i : ℕ) : lit1t0_262 i = E1 262 (i % 128) := pick (E1 262) (i % 128) (Nat.mod_lt _ (by decide))
theorem e1_263 (i : ℕ) : lit1t0_263 i = E1 263 (i % 128) := pick (E1 263) (i % 128) (Nat.mod_lt _ (by decide))
theorem e1_264 (i : ℕ) : lit1t0_264 i = E1 264 (i % 128) := pick (E1 264) (i % 128) (Nat.mod_lt _ (by decide))
theorem e1_265 (i : ℕ) : lit1t0_265 i = E1 265 (i % 128) := pick (E1 265) (i % 128) (Nat.mod_lt _ (by decide))
theorem e1_266 (i : ℕ) : lit1t0_266 i = E1 266 (i % 128) := pick (E1 266) (i % 128) (Nat.mod_lt _ (by decide))
theorem e1_267 (i : ℕ) : lit1t0_267 i = E1 267 (i % 128) := pick (E1 267) (i % 128) (Nat.mod_lt _ (by decide))
theorem e1_268 (i : ℕ) : lit1t0_268 i = E1 268 (i % 128) := pick (E1 268) (i % 128) (Nat.mod_lt _ (by decide))
theorem e1_269 (i : ℕ) : lit1t0_269 i = E1 269 (i % 128) := pick (E1 269) (i % 128) (Nat.mod_lt _ (by decide))
theorem e1_270 (i : ℕ) : lit1t0_270 i = E1 270 (i % 128) := pick (E1 270) (i % 128) (Nat.mod_lt _ (by decide))
theorem e1_271 (i : ℕ) : lit1t0_271 i = E1 271 (i % 128) := pick (E1 271) (i % 128) (Nat.mod_lt _ (by decide))
theorem e1_272 (i : ℕ) : lit1t0_272 i = E1 272 (i % 128) := pick (E1 272) (i % 128) (Nat.mod_lt _ (by decide))
theorem e1_273 (i : ℕ) : lit1t0_273 i = E1 273 (i % 128) := pick (E1 273) (i % 128) (Nat.mod_lt _ (by decide))
theorem e1_274 (i : ℕ) : lit1t0_274 i = E1 274 (i % 128) := pick (E1 274) (i % 128) (Nat.mod_lt _ (by decide))
theorem e1_275 (i : ℕ) : lit1t0_275 i = E1 275 (i % 128) := pick (E1 275) (i % 128) (Nat.mod_lt _ (by decide))
theorem e1_276 (i : ℕ) : lit1t0_276 i = E1 276 (i % 128) := pick (E1 276) (i % 128) (Nat.mod_lt _ (by decide))
theorem e1_277 (i : ℕ) : lit1t0_277 i = E1 277 (i % 128) := pick (E1 277) (i % 128) (Nat.mod_lt _ (by decide))
theorem e1_278 (i : ℕ) : lit1t0_278 i = E1 278 (i % 128) := pick (E1 278) (i % 128) (Nat.mod_lt _ (by decide))
theorem e1_279 (i : ℕ) : lit1t0_279 i = E1 279 (i % 128) := pick (E1 279) (i % 128) (Nat.mod_lt _ (by decide))
theorem e1_280 (i : ℕ) : lit1t0_280 i = E1 280 (i % 128) := pick (E1 280) (i % 128) (Nat.mod_lt _ (by decide))
theorem e1_281 (i : ℕ) : lit1t0_281 i = E1 281 (i % 128) := pick (E1 281) (i % 128) (Nat.mod_lt _ (by decide))
theorem e1_282 (i : ℕ) : lit1t0_282 i = E1 282 (i % 128) := pick (E1 282) (i % 128) (Nat.mod_lt _ (by decide))
theorem e1_283 (i : ℕ) : lit1t0_283 i = E1 283 (i % 128) := pick (E1 283) (i % 128) (Nat.mod_lt _ (by decide))
theorem e1_284 (i : ℕ) : lit1t0_284 i = E1 284 (i % 128) := pick (E1 284) (i % 128) (Nat.mod_lt _ (by decide))
theorem e1_285 (i : ℕ) : lit1t0_285 i = E1 285 (i % 128) := pick (E1 285) (i % 128) (Nat.mod_lt _ (by decide))
theorem e1_286 (i : ℕ) : lit1t0_286 i = E1 286 (i % 128) := pick (E1 286) (i % 128) (Nat.mod_lt _ (by decide))
theorem e1_287 (i : ℕ) : lit1t0_287 i = E1 287 (i % 128) := pick (E1 287) (i % 128) (Nat.mod_lt _ (by decide))
theorem e1_288 (i : ℕ) : lit1t0_288 i = E1 288 (i % 128) := pick (E1 288) (i % 128) (Nat.mod_lt _ (by decide))
theorem e1_289 (i : ℕ) : lit1t0_289 i = E1 289 (i % 128) := pick (E1 289) (i % 128) (Nat.mod_lt _ (by decide))
theorem e1_290 (i : ℕ) : lit1t0_290 i = E1 290 (i % 128) := pick (E1 290) (i % 128) (Nat.mod_lt _ (by decide))
theorem e1_291 (i : ℕ) : lit1t0_291 i = E1 291 (i % 128) := pick (E1 291) (i % 128) (Nat.mod_lt _ (by decide))
theorem e1_292 (i : ℕ) : lit1t0_292 i = E1 292 (i % 128) := pick (E1 292) (i % 128) (Nat.mod_lt _ (by decide))
theorem e1_293 (i : ℕ) : lit1t0_293 i = E1 293 (i % 128) := pick (E1 293) (i % 128) (Nat.mod_lt _ (by decide))
theorem e1_294 (i : ℕ) : lit1t0_294 i = E1 294 (i % 128) := pick (E1 294) (i % 128) (Nat.mod_lt _ (by decide))
theorem e1_295 (i : ℕ) : lit1t0_295 i = E1 295 (i % 128) := pick (E1 295) (i % 128) (Nat.mod_lt _ (by decide))
theorem e1_296 (i : ℕ) : lit1t0_296 i = E1 296 (i % 128) := pick (E1 296) (i % 128) (Nat.mod_lt _ (by decide))
theorem e1_297 (i : ℕ) : lit1t0_297 i = E1 297 (i % 128) := pick (E1 297) (i % 128) (Nat.mod_lt _ (by decide))
theorem e1_298 (i : ℕ) : lit1t0_298 i = E1 298 (i % 128) := pick (E1 298) (i % 128) (Nat.mod_lt _ (by decide))
theorem e1_299 (i : ℕ) : lit1t0_299 i = E1 299 (i % 128) := pick (E1 299) (i % 128) (Nat.mod_lt _ (by decide))
theorem e1_300 (i : ℕ) : lit1t0_300 i = E1 300 (i % 128) := pick (E1 300) (i % 128) (Nat.mod_lt _ (by decide))
theorem e1_301 (i : ℕ) : lit1t0_301 i = E1 301 (i % 128) := pick (E1 301) (i % 128) (Nat.mod_lt _ (by decide))
theorem e1_302 (i : ℕ) : lit1t0_302 i = E1 302 (i % 128) := pick (E1 302) (i % 128) (Nat.mod_lt _ (by decide))
theorem e1_303 (i : ℕ) : lit1t0_303 i = E1 303 (i % 128) := pick (E1 303) (i % 128) (Nat.mod_lt _ (by decide))
theorem e1_304 (i : ℕ) : lit1t0_304 i = E1 304 (i % 128) := pick (E1 304) (i % 128) (Nat.mod_lt _ (by decide))
theorem e1_305 (i : ℕ) : lit1t0_305 i = E1 305 (i % 128) := pick (E1 305) (i % 128) (Nat.mod_lt _ (by decide))
theorem e1_306 (i : ℕ) : lit1t0_306 i = E1 306 (i % 128) := pick (E1 306) (i % 128) (Nat.mod_lt _ (by decide))
theorem e1_307 (i : ℕ) : lit1t0_307 i = E1 307 (i % 128) := pick (E1 307) (i % 128) (Nat.mod_lt _ (by decide))
theorem e1_308 (i : ℕ) : lit1t0_308 i = E1 308 (i % 128) := pick (E1 308) (i % 128) (Nat.mod_lt _ (by decide))
theorem e1_309 (i : ℕ) : lit1t0_309 i = E1 309 (i % 128) := pick (E1 309) (i % 128) (Nat.mod_lt _ (by decide))
theorem e1_310 (i : ℕ) : lit1t0_310 i = E1 310 (i % 128) := pick (E1 310) (i % 128) (Nat.mod_lt _ (by decide))
theorem e1_311 (i : ℕ) : lit1t0_311 i = E1 311 (i % 128) := pick (E1 311) (i % 128) (Nat.mod_lt _ (by decide))
theorem e1_312 (i : ℕ) : lit1t0_312 i = E1 312 (i % 128) := pick (E1 312) (i % 128) (Nat.mod_lt _ (by decide))
theorem e1_313 (i : ℕ) : lit1t0_313 i = E1 313 (i % 128) := pick (E1 313) (i % 128) (Nat.mod_lt _ (by decide))
theorem e1_314 (i : ℕ) : lit1t0_314 i = E1 314 (i % 128) := pick (E1 314) (i % 128) (Nat.mod_lt _ (by decide))
theorem e1_315 (i : ℕ) : lit1t0_315 i = E1 315 (i % 128) := pick (E1 315) (i % 128) (Nat.mod_lt _ (by decide))
theorem e1_316 (i : ℕ) : lit1t0_316 i = E1 316 (i % 128) := pick (E1 316) (i % 128) (Nat.mod_lt _ (by decide))
theorem e1_317 (i : ℕ) : lit1t0_317 i = E1 317 (i % 128) := pick (E1 317) (i % 128) (Nat.mod_lt _ (by decide))
theorem e1_318 (i : ℕ) : lit1t0_318 i = E1 318 (i % 128) := pick (E1 318) (i % 128) (Nat.mod_lt _ (by decide))
theorem e1_319 (i : ℕ) : lit1t0_319 i = E1 319 (i % 128) := pick (E1 319) (i % 128) (Nat.mod_lt _ (by decide))
theorem e1_320 (i : ℕ) : lit1t0_320 i = E1 320 (i % 128) := pick (E1 320) (i % 128) (Nat.mod_lt _ (by decide))
theorem e1_321 (i : ℕ) : lit1t0_321 i = E1 321 (i % 128) := pick (E1 321) (i % 128) (Nat.mod_lt _ (by decide))
theorem e1_322 (i : ℕ) : lit1t0_322 i = E1 322 (i % 128) := pick (E1 322) (i % 128) (Nat.mod_lt _ (by decide))
theorem e1_323 (i : ℕ) : lit1t0_323 i = E1 323 (i % 128) := pick (E1 323) (i % 128) (Nat.mod_lt _ (by decide))
theorem e1_324 (i : ℕ) : lit1t0_324 i = E1 324 (i % 128) := pick (E1 324) (i % 128) (Nat.mod_lt _ (by decide))
theorem e1_325 (i : ℕ) : lit1t0_325 i = E1 325 (i % 128) := pick (E1 325) (i % 128) (Nat.mod_lt _ (by decide))
theorem e1_326 (i : ℕ) : lit1t0_326 i = E1 326 (i % 128) := pick (E1 326) (i % 128) (Nat.mod_lt _ (by decide))
theorem e1_327 (i : ℕ) : lit1t0_327 i = E1 327 (i % 128) := pick (E1 327) (i % 128) (Nat.mod_lt _ (by decide))
theorem e1_328 (i : ℕ) : lit1t0_328 i = E1 328 (i % 128) := pick (E1 328) (i % 128) (Nat.mod_lt _ (by decide))
theorem e1_329 (i : ℕ) : lit1t0_329 i = E1 329 (i % 128) := pick (E1 329) (i % 128) (Nat.mod_lt _ (by decide))
theorem e1_330 (i : ℕ) : lit1t0_330 i = E1 330 (i % 128) := pick (E1 330) (i % 128) (Nat.mod_lt _ (by decide))
theorem e1_331 (i : ℕ) : lit1t0_331 i = E1 331 (i % 128) := pick (E1 331) (i % 128) (Nat.mod_lt _ (by decide))
theorem e1_332 (i : ℕ) : lit1t0_332 i = E1 332 (i % 128) := pick (E1 332) (i % 128) (Nat.mod_lt _ (by decide))
theorem e1_333 (i : ℕ) : lit1t0_333 i = E1 333 (i % 128) := pick (E1 333) (i % 128) (Nat.mod_lt _ (by decide))
theorem e1_334 (i : ℕ) : lit1t0_334 i = E1 334 (i % 128) := pick (E1 334) (i % 128) (Nat.mod_lt _ (by decide))
theorem e1_335 (i : ℕ) : lit1t0_335 i = E1 335 (i % 128) := pick (E1 335) (i % 128) (Nat.mod_lt _ (by decide))
theorem e1_336 (i : ℕ) : lit1t0_336 i = E1 336 (i % 128) := pick (E1 336) (i % 128) (Nat.mod_lt _ (by decide))
theorem e1_337 (i : ℕ) : lit1t0_337 i = E1 337 (i % 128) := pick (E1 337) (i % 128) (Nat.mod_lt _ (by decide))
theorem e1_338 (i : ℕ) : lit1t0_338 i = E1 338 (i % 128) := pick (E1 338) (i % 128) (Nat.mod_lt _ (by decide))
theorem e1_339 (i : ℕ) : lit1t0_339 i = E1 339 (i % 128) := pick (E1 339) (i % 128) (Nat.mod_lt _ (by decide))
theorem e1_340 (i : ℕ) : lit1t0_340 i = E1 340 (i % 128) := pick (E1 340) (i % 128) (Nat.mod_lt _ (by decide))
theorem e1_341 (i : ℕ) : lit1t0_341 i = E1 341 (i % 128) := pick (E1 341) (i % 128) (Nat.mod_lt _ (by decide))
theorem e1_342 (i : ℕ) : lit1t0_342 i = E1 342 (i % 128) := pick (E1 342) (i % 128) (Nat.mod_lt _ (by decide))
theorem e1_343 (i : ℕ) : lit1t0_343 i = E1 343 (i % 128) := pick (E1 343) (i % 128) (Nat.mod_lt _ (by decide))
theorem e1_344 (i : ℕ) : lit1t0_344 i = E1 344 (i % 128) := pick (E1 344) (i % 128) (Nat.mod_lt _ (by decide))
theorem e1_345 (i : ℕ) : lit1t0_345 i = E1 345 (i % 128) := pick (E1 345) (i % 128) (Nat.mod_lt _ (by decide))
theorem e1_346 (i : ℕ) : lit1t0_346 i = E1 346 (i % 128) := pick (E1 346) (i % 128) (Nat.mod_lt _ (by decide))
theorem e1_347 (i : ℕ) : lit1t0_347 i = E1 347 (i % 128) := pick (E1 347) (i % 128) (Nat.mod_lt _ (by decide))
theorem e1_348 (i : ℕ) : lit1t0_348 i = E1 348 (i % 128) := pick (E1 348) (i % 128) (Nat.mod_lt _ (by decide))
theorem e1_349 (i : ℕ) : lit1t0_349 i = E1 349 (i % 128) := pick (E1 349) (i % 128) (Nat.mod_lt _ (by decide))
theorem e1_350 (i : ℕ) : lit1t0_350 i = E1 350 (i % 128) := pick (E1 350) (i % 128) (Nat.mod_lt _ (by decide))
theorem e1_351 (i : ℕ) : lit1t0_351 i = E1 351 (i % 128) := pick (E1 351) (i % 128) (Nat.mod_lt _ (by decide))
theorem e1_352 (i : ℕ) : lit1t0_352 i = E1 352 (i % 128) := pick (E1 352) (i % 128) (Nat.mod_lt _ (by decide))
theorem e1_353 (i : ℕ) : lit1t0_353 i = E1 353 (i % 128) := pick (E1 353) (i % 128) (Nat.mod_lt _ (by decide))
theorem e1_354 (i : ℕ) : lit1t0_354 i = E1 354 (i % 128) := pick (E1 354) (i % 128) (Nat.mod_lt _ (by decide))
theorem e1_355 (i : ℕ) : lit1t0_355 i = E1 355 (i % 128) := pick (E1 355) (i % 128) (Nat.mod_lt _ (by decide))
theorem e1_356 (i : ℕ) : lit1t0_356 i = E1 356 (i % 128) := pick (E1 356) (i % 128) (Nat.mod_lt _ (by decide))
theorem e1_357 (i : ℕ) : lit1t0_357 i = E1 357 (i % 128) := pick (E1 357) (i % 128) (Nat.mod_lt _ (by decide))
theorem e1_358 (i : ℕ) : lit1t0_358 i = E1 358 (i % 128) := pick (E1 358) (i % 128) (Nat.mod_lt _ (by decide))
theorem e1_359 (i : ℕ) : lit1t0_359 i = E1 359 (i % 128) := pick (E1 359) (i % 128) (Nat.mod_lt _ (by decide))
theorem e1_360 (i : ℕ) : lit1t0_360 i = E1 360 (i % 128) := pick (E1 360) (i % 128) (Nat.mod_lt _ (by decide))
theorem e1_361 (i : ℕ) : lit1t0_361 i = E1 361 (i % 128) := pick (E1 361) (i % 128) (Nat.mod_lt _ (by decide))
theorem e1_362 (i : ℕ) : lit1t0_362 i = E1 362 (i % 128) := pick (E1 362) (i % 128) (Nat.mod_lt _ (by decide))
theorem e1_363 (i : ℕ) : lit1t0_363 i = E1 363 (i % 128) := pick (E1 363) (i % 128) (Nat.mod_lt _ (by decide))
theorem e1_364 (i : ℕ) : lit1t0_364 i = E1 364 (i % 128) := pick (E1 364) (i % 128) (Nat.mod_lt _ (by decide))
theorem e1_365 (i : ℕ) : lit1t0_365 i = E1 365 (i % 128) := pick (E1 365) (i % 128) (Nat.mod_lt _ (by decide))
theorem e1_366 (i : ℕ) : lit1t0_366 i = E1 366 (i % 128) := pick (E1 366) (i % 128) (Nat.mod_lt _ (by decide))
theorem e1_367 (i : ℕ) : lit1t0_367 i = E1 367 (i % 128) := pick (E1 367) (i % 128) (Nat.mod_lt _ (by decide))
theorem e1_368 (i : ℕ) : lit1t0_368 i = E1 368 (i % 128) := pick (E1 368) (i % 128) (Nat.mod_lt _ (by decide))
theorem e1_369 (i : ℕ) : lit1t0_369 i = E1 369 (i % 128) := pick (E1 369) (i % 128) (Nat.mod_lt _ (by decide))
theorem e1_370 (i : ℕ) : lit1t0_370 i = E1 370 (i % 128) := pick (E1 370) (i % 128) (Nat.mod_lt _ (by decide))
theorem e1_371 (i : ℕ) : lit1t0_371 i = E1 371 (i % 128) := pick (E1 371) (i % 128) (Nat.mod_lt _ (by decide))
theorem e1_372 (i : ℕ) : lit1t0_372 i = E1 372 (i % 128) := pick (E1 372) (i % 128) (Nat.mod_lt _ (by decide))
theorem e1_373 (i : ℕ) : lit1t0_373 i = E1 373 (i % 128) := pick (E1 373) (i % 128) (Nat.mod_lt _ (by decide))
theorem e1_374 (i : ℕ) : lit1t0_374 i = E1 374 (i % 128) := pick (E1 374) (i % 128) (Nat.mod_lt _ (by decide))
theorem e1_375 (i : ℕ) : lit1t0_375 i = E1 375 (i % 128) := pick (E1 375) (i % 128) (Nat.mod_lt _ (by decide))
theorem e1_376 (i : ℕ) : lit1t0_376 i = E1 376 (i % 128) := pick (E1 376) (i % 128) (Nat.mod_lt _ (by decide))
theorem e1_377 (i : ℕ) : lit1t0_377 i = E1 377 (i % 128) := pick (E1 377) (i % 128) (Nat.mod_lt _ (by decide))
theorem e1_378 (i : ℕ) : lit1t0_378 i = E1 378 (i % 128) := pick (E1 378) (i % 128) (Nat.mod_lt _ (by decide))
theorem e1_379 (i : ℕ) : lit1t0_379 i = E1 379 (i % 128) := pick (E1 379) (i % 128) (Nat.mod_lt _ (by decide))
theorem e1_380 (i : ℕ) : lit1t0_380 i = E1 380 (i % 128) := pick (E1 380) (i % 128) (Nat.mod_lt _ (by decide))
theorem e1_381 (i : ℕ) : lit1t0_381 i = E1 381 (i % 128) := pick (E1 381) (i % 128) (Nat.mod_lt _ (by decide))
theorem e1_382 (i : ℕ) : lit1t0_382 i = E1 382 (i % 128) := pick (E1 382) (i % 128) (Nat.mod_lt _ (by decide))
theorem e1_383 (i : ℕ) : lit1t0_383 i = E1 383 (i % 128) := pick (E1 383) (i % 128) (Nat.mod_lt _ (by decide))
theorem e1_384 (i : ℕ) : lit1t0_384 i = E1 384 (i % 128) := pick (E1 384) (i % 128) (Nat.mod_lt _ (by decide))
theorem e1_385 (i : ℕ) : lit1t0_385 i = E1 385 (i % 128) := pick (E1 385) (i % 128) (Nat.mod_lt _ (by decide))
theorem e1_386 (i : ℕ) : lit1t0_386 i = E1 386 (i % 128) := pick (E1 386) (i % 128) (Nat.mod_lt _ (by decide))
theorem e1_387 (i : ℕ) : lit1t0_387 i = E1 387 (i % 128) := pick (E1 387) (i % 128) (Nat.mod_lt _ (by decide))
theorem e1_388 (i : ℕ) : lit1t0_388 i = E1 388 (i % 128) := pick (E1 388) (i % 128) (Nat.mod_lt _ (by decide))
theorem e1_389 (i : ℕ) : lit1t0_389 i = E1 389 (i % 128) := pick (E1 389) (i % 128) (Nat.mod_lt _ (by decide))
theorem e1_390 (i : ℕ) : lit1t0_390 i = E1 390 (i % 128) := pick (E1 390) (i % 128) (Nat.mod_lt _ (by decide))
theorem e1_391 (i : ℕ) : lit1t0_391 i = E1 391 (i % 128) := pick (E1 391) (i % 128) (Nat.mod_lt _ (by decide))
theorem e1_392 (i : ℕ) : lit1t0_392 i = E1 392 (i % 128) := pick (E1 392) (i % 128) (Nat.mod_lt _ (by decide))
theorem e1_393 (i : ℕ) : lit1t0_393 i = E1 393 (i % 128) := pick (E1 393) (i % 128) (Nat.mod_lt _ (by decide))
theorem e1_394 (i : ℕ) : lit1t0_394 i = E1 394 (i % 128) := pick (E1 394) (i % 128) (Nat.mod_lt _ (by decide))
theorem e1_395 (i : ℕ) : lit1t0_395 i = E1 395 (i % 128) := pick (E1 395) (i % 128) (Nat.mod_lt _ (by decide))
theorem e1_396 (i : ℕ) : lit1t0_396 i = E1 396 (i % 128) := pick (E1 396) (i % 128) (Nat.mod_lt _ (by decide))
theorem e1_397 (i : ℕ) : lit1t0_397 i = E1 397 (i % 128) := pick (E1 397) (i % 128) (Nat.mod_lt _ (by decide))
theorem e1_398 (i : ℕ) : lit1t0_398 i = E1 398 (i % 128) := pick (E1 398) (i % 128) (Nat.mod_lt _ (by decide))
theorem e1_399 (i : ℕ) : lit1t0_399 i = E1 399 (i % 128) := pick (E1 399) (i % 128) (Nat.mod_lt _ (by decide))
theorem e1_400 (i : ℕ) : lit1t0_400 i = E1 400 (i % 128) := pick (E1 400) (i % 128) (Nat.mod_lt _ (by decide))
theorem e1_401 (i : ℕ) : lit1t0_401 i = E1 401 (i % 128) := pick (E1 401) (i % 128) (Nat.mod_lt _ (by decide))
theorem e1_402 (i : ℕ) : lit1t0_402 i = E1 402 (i % 128) := pick (E1 402) (i % 128) (Nat.mod_lt _ (by decide))
theorem e1_403 (i : ℕ) : lit1t0_403 i = E1 403 (i % 128) := pick (E1 403) (i % 128) (Nat.mod_lt _ (by decide))
theorem e1_404 (i : ℕ) : lit1t0_404 i = E1 404 (i % 128) := pick (E1 404) (i % 128) (Nat.mod_lt _ (by decide))
theorem e1_405 (i : ℕ) : lit1t0_405 i = E1 405 (i % 128) := pick (E1 405) (i % 128) (Nat.mod_lt _ (by decide))
theorem e1_406 (i : ℕ) : lit1t0_406 i = E1 406 (i % 128) := pick (E1 406) (i % 128) (Nat.mod_lt _ (by decide))
theorem e1_407 (i : ℕ) : lit1t0_407 i = E1 407 (i % 128) := pick (E1 407) (i % 128) (Nat.mod_lt _ (by decide))
theorem e1_408 (i : ℕ) : lit1t0_408 i = E1 408 (i % 128) := pick (E1 408) (i % 128) (Nat.mod_lt _ (by decide))
theorem e1_409 (i : ℕ) : lit1t0_409 i = E1 409 (i % 128) := pick (E1 409) (i % 128) (Nat.mod_lt _ (by decide))
theorem e1_410 (i : ℕ) : lit1t0_410 i = E1 410 (i % 128) := pick (E1 410) (i % 128) (Nat.mod_lt _ (by decide))
theorem e1_411 (i : ℕ) : lit1t0_411 i = E1 411 (i % 128) := pick (E1 411) (i % 128) (Nat.mod_lt _ (by decide))
theorem e1_412 (i : ℕ) : lit1t0_412 i = E1 412 (i % 128) := pick (E1 412) (i % 128) (Nat.mod_lt _ (by decide))
theorem e1_413 (i : ℕ) : lit1t0_413 i = E1 413 (i % 128) := pick (E1 413) (i % 128) (Nat.mod_lt _ (by decide))
theorem e1_414 (i : ℕ) : lit1t0_414 i = E1 414 (i % 128) := pick (E1 414) (i % 128) (Nat.mod_lt _ (by decide))
theorem e1_415 (i : ℕ) : lit1t0_415 i = E1 415 (i % 128) := pick (E1 415) (i % 128) (Nat.mod_lt _ (by decide))
theorem e1_416 (i : ℕ) : lit1t0_416 i = E1 416 (i % 128) := pick (E1 416) (i % 128) (Nat.mod_lt _ (by decide))
theorem e1_417 (i : ℕ) : lit1t0_417 i = E1 417 (i % 128) := pick (E1 417) (i % 128) (Nat.mod_lt _ (by decide))
theorem e1_418 (i : ℕ) : lit1t0_418 i = E1 418 (i % 128) := pick (E1 418) (i % 128) (Nat.mod_lt _ (by decide))
theorem e1_419 (i : ℕ) : lit1t0_419 i = E1 419 (i % 128) := pick (E1 419) (i % 128) (Nat.mod_lt _ (by decide))
theorem e1_420 (i : ℕ) : lit1t0_420 i = E1 420 (i % 128) := pick (E1 420) (i % 128) (Nat.mod_lt _ (by decide))
theorem e1_421 (i : ℕ) : lit1t0_421 i = E1 421 (i % 128) := pick (E1 421) (i % 128) (Nat.mod_lt _ (by decide))
theorem e1_422 (i : ℕ) : lit1t0_422 i = E1 422 (i % 128) := pick (E1 422) (i % 128) (Nat.mod_lt _ (by decide))
theorem e1_423 (i : ℕ) : lit1t0_423 i = E1 423 (i % 128) := pick (E1 423) (i % 128) (Nat.mod_lt _ (by decide))
theorem e1_424 (i : ℕ) : lit1t0_424 i = E1 424 (i % 128) := pick (E1 424) (i % 128) (Nat.mod_lt _ (by decide))
theorem e1_425 (i : ℕ) : lit1t0_425 i = E1 425 (i % 128) := pick (E1 425) (i % 128) (Nat.mod_lt _ (by decide))
theorem e1_426 (i : ℕ) : lit1t0_426 i = E1 426 (i % 128) := pick (E1 426) (i % 128) (Nat.mod_lt _ (by decide))
theorem e1_427 (i : ℕ) : lit1t0_427 i = E1 427 (i % 128) := pick (E1 427) (i % 128) (Nat.mod_lt _ (by decide))
theorem e1_428 (i : ℕ) : lit1t0_428 i = E1 428 (i % 128) := pick (E1 428) (i % 128) (Nat.mod_lt _ (by decide))
theorem e1_429 (i : ℕ) : lit1t0_429 i = E1 429 (i % 128) := pick (E1 429) (i % 128) (Nat.mod_lt _ (by decide))
theorem e1_430 (i : ℕ) : lit1t0_430 i = E1 430 (i % 128) := pick (E1 430) (i % 128) (Nat.mod_lt _ (by decide))
theorem e1_431 (i : ℕ) : lit1t0_431 i = E1 431 (i % 128) := pick (E1 431) (i % 128) (Nat.mod_lt _ (by decide))
theorem e1_432 (i : ℕ) : lit1t0_432 i = E1 432 (i % 128) := pick (E1 432) (i % 128) (Nat.mod_lt _ (by decide))
theorem e1_433 (i : ℕ) : lit1t0_433 i = E1 433 (i % 128) := pick (E1 433) (i % 128) (Nat.mod_lt _ (by decide))
theorem e1_434 (i : ℕ) : lit1t0_434 i = E1 434 (i % 128) := pick (E1 434) (i % 128) (Nat.mod_lt _ (by decide))
theorem e1_435 (i : ℕ) : lit1t0_435 i = E1 435 (i % 128) := pick (E1 435) (i % 128) (Nat.mod_lt _ (by decide))
theorem e1_436 (i : ℕ) : lit1t0_436 i = E1 436 (i % 128) := pick (E1 436) (i % 128) (Nat.mod_lt _ (by decide))
theorem e1_437 (i : ℕ) : lit1t0_437 i = E1 437 (i % 128) := pick (E1 437) (i % 128) (Nat.mod_lt _ (by decide))
theorem e1_438 (i : ℕ) : lit1t0_438 i = E1 438 (i % 128) := pick (E1 438) (i % 128) (Nat.mod_lt _ (by decide))
theorem e1_439 (i : ℕ) : lit1t0_439 i = E1 439 (i % 128) := pick (E1 439) (i % 128) (Nat.mod_lt _ (by decide))
theorem e1_440 (i : ℕ) : lit1t0_440 i = E1 440 (i % 128) := pick (E1 440) (i % 128) (Nat.mod_lt _ (by decide))
theorem e1_441 (i : ℕ) : lit1t0_441 i = E1 441 (i % 128) := pick (E1 441) (i % 128) (Nat.mod_lt _ (by decide))
theorem e1_442 (i : ℕ) : lit1t0_442 i = E1 442 (i % 128) := pick (E1 442) (i % 128) (Nat.mod_lt _ (by decide))
theorem e1_443 (i : ℕ) : lit1t0_443 i = E1 443 (i % 128) := pick (E1 443) (i % 128) (Nat.mod_lt _ (by decide))
theorem e1_444 (i : ℕ) : lit1t0_444 i = E1 444 (i % 128) := pick (E1 444) (i % 128) (Nat.mod_lt _ (by decide))
theorem e1_445 (i : ℕ) : lit1t0_445 i = E1 445 (i % 128) := pick (E1 445) (i % 128) (Nat.mod_lt _ (by decide))
theorem e1_446 (i : ℕ) : lit1t0_446 i = E1 446 (i % 128) := pick (E1 446) (i % 128) (Nat.mod_lt _ (by decide))
theorem e1_447 (i : ℕ) : lit1t0_447 i = E1 447 (i % 128) := pick (E1 447) (i % 128) (Nat.mod_lt _ (by decide))
theorem e1_448 (i : ℕ) : lit1t0_448 i = E1 448 (i % 128) := pick (E1 448) (i % 128) (Nat.mod_lt _ (by decide))
theorem e1_449 (i : ℕ) : lit1t0_449 i = E1 449 (i % 128) := pick (E1 449) (i % 128) (Nat.mod_lt _ (by decide))
theorem e1_450 (i : ℕ) : lit1t0_450 i = E1 450 (i % 128) := pick (E1 450) (i % 128) (Nat.mod_lt _ (by decide))
theorem e1_451 (i : ℕ) : lit1t0_451 i = E1 451 (i % 128) := pick (E1 451) (i % 128) (Nat.mod_lt _ (by decide))
theorem e1_452 (i : ℕ) : lit1t0_452 i = E1 452 (i % 128) := pick (E1 452) (i % 128) (Nat.mod_lt _ (by decide))
theorem e1_453 (i : ℕ) : lit1t0_453 i = E1 453 (i % 128) := pick (E1 453) (i % 128) (Nat.mod_lt _ (by decide))
theorem e1_454 (i : ℕ) : lit1t0_454 i = E1 454 (i % 128) := pick (E1 454) (i % 128) (Nat.mod_lt _ (by decide))
theorem e1_455 (i : ℕ) : lit1t0_455 i = E1 455 (i % 128) := pick (E1 455) (i % 128) (Nat.mod_lt _ (by decide))
theorem e1_456 (i : ℕ) : lit1t0_456 i = E1 456 (i % 128) := pick (E1 456) (i % 128) (Nat.mod_lt _ (by decide))
theorem e1_457 (i : ℕ) : lit1t0_457 i = E1 457 (i % 128) := pick (E1 457) (i % 128) (Nat.mod_lt _ (by decide))
theorem e1_458 (i : ℕ) : lit1t0_458 i = E1 458 (i % 128) := pick (E1 458) (i % 128) (Nat.mod_lt _ (by decide))
theorem e1_459 (i : ℕ) : lit1t0_459 i = E1 459 (i % 128) := pick (E1 459) (i % 128) (Nat.mod_lt _ (by decide))
theorem e1_460 (i : ℕ) : lit1t0_460 i = E1 460 (i % 128) := pick (E1 460) (i % 128) (Nat.mod_lt _ (by decide))
theorem e1_461 (i : ℕ) : lit1t0_461 i = E1 461 (i % 128) := pick (E1 461) (i % 128) (Nat.mod_lt _ (by decide))
theorem e1_462 (i : ℕ) : lit1t0_462 i = E1 462 (i % 128) := pick (E1 462) (i % 128) (Nat.mod_lt _ (by decide))
theorem e1_463 (i : ℕ) : lit1t0_463 i = E1 463 (i % 128) := pick (E1 463) (i % 128) (Nat.mod_lt _ (by decide))
theorem e1_464 (i : ℕ) : lit1t0_464 i = E1 464 (i % 128) := pick (E1 464) (i % 128) (Nat.mod_lt _ (by decide))
theorem e1_465 (i : ℕ) : lit1t0_465 i = E1 465 (i % 128) := pick (E1 465) (i % 128) (Nat.mod_lt _ (by decide))
theorem e1_466 (i : ℕ) : lit1t0_466 i = E1 466 (i % 128) := pick (E1 466) (i % 128) (Nat.mod_lt _ (by decide))
theorem e1_467 (i : ℕ) : lit1t0_467 i = E1 467 (i % 128) := pick (E1 467) (i % 128) (Nat.mod_lt _ (by decide))
theorem e1_468 (i : ℕ) : lit1t0_468 i = E1 468 (i % 128) := pick (E1 468) (i % 128) (Nat.mod_lt _ (by decide))
theorem e1_469 (i : ℕ) : lit1t0_469 i = E1 469 (i % 128) := pick (E1 469) (i % 128) (Nat.mod_lt _ (by decide))
theorem e1_470 (i : ℕ) : lit1t0_470 i = E1 470 (i % 128) := pick (E1 470) (i % 128) (Nat.mod_lt _ (by decide))
theorem e1_471 (i : ℕ) : lit1t0_471 i = E1 471 (i % 128) := pick (E1 471) (i % 128) (Nat.mod_lt _ (by decide))
theorem e1_472 (i : ℕ) : lit1t0_472 i = E1 472 (i % 128) := pick (E1 472) (i % 128) (Nat.mod_lt _ (by decide))
theorem e1_473 (i : ℕ) : lit1t0_473 i = E1 473 (i % 128) := pick (E1 473) (i % 128) (Nat.mod_lt _ (by decide))
theorem e1_474 (i : ℕ) : lit1t0_474 i = E1 474 (i % 128) := pick (E1 474) (i % 128) (Nat.mod_lt _ (by decide))
theorem e1_475 (i : ℕ) : lit1t0_475 i = E1 475 (i % 128) := pick (E1 475) (i % 128) (Nat.mod_lt _ (by decide))
theorem e1_476 (i : ℕ) : lit1t0_476 i = E1 476 (i % 128) := pick (E1 476) (i % 128) (Nat.mod_lt _ (by decide))
theorem e1_477 (i : ℕ) : lit1t0_477 i = E1 477 (i % 128) := pick (E1 477) (i % 128) (Nat.mod_lt _ (by decide))
theorem e1_478 (i : ℕ) : lit1t0_478 i = E1 478 (i % 128) := pick (E1 478) (i % 128) (Nat.mod_lt _ (by decide))
theorem e1_479 (i : ℕ) : lit1t0_479 i = E1 479 (i % 128) := pick (E1 479) (i % 128) (Nat.mod_lt _ (by decide))
theorem e1_480 (i : ℕ) : lit1t0_480 i = E1 480 (i % 128) := pick (E1 480) (i % 128) (Nat.mod_lt _ (by decide))
theorem e1_481 (i : ℕ) : lit1t0_481 i = E1 481 (i % 128) := pick (E1 481) (i % 128) (Nat.mod_lt _ (by decide))
theorem e1_482 (i : ℕ) : lit1t0_482 i = E1 482 (i % 128) := pick (E1 482) (i % 128) (Nat.mod_lt _ (by decide))
theorem e1_483 (i : ℕ) : lit1t0_483 i = E1 483 (i % 128) := pick (E1 483) (i % 128) (Nat.mod_lt _ (by decide))
theorem e1_484 (i : ℕ) : lit1t0_484 i = E1 484 (i % 128) := pick (E1 484) (i % 128) (Nat.mod_lt _ (by decide))
theorem e1_485 (i : ℕ) : lit1t0_485 i = E1 485 (i % 128) := pick (E1 485) (i % 128) (Nat.mod_lt _ (by decide))
theorem e1_486 (i : ℕ) : lit1t0_486 i = E1 486 (i % 128) := pick (E1 486) (i % 128) (Nat.mod_lt _ (by decide))
theorem e1_487 (i : ℕ) : lit1t0_487 i = E1 487 (i % 128) := pick (E1 487) (i % 128) (Nat.mod_lt _ (by decide))
theorem e1_488 (i : ℕ) : lit1t0_488 i = E1 488 (i % 128) := pick (E1 488) (i % 128) (Nat.mod_lt _ (by decide))
theorem e1_489 (i : ℕ) : lit1t0_489 i = E1 489 (i % 128) := pick (E1 489) (i % 128) (Nat.mod_lt _ (by decide))
theorem e1_490 (i : ℕ) : lit1t0_490 i = E1 490 (i % 128) := pick (E1 490) (i % 128) (Nat.mod_lt _ (by decide))
theorem e1_491 (i : ℕ) : lit1t0_491 i = E1 491 (i % 128) := pick (E1 491) (i % 128) (Nat.mod_lt _ (by decide))
theorem e1_492 (i : ℕ) : lit1t0_492 i = E1 492 (i % 128) := pick (E1 492) (i % 128) (Nat.mod_lt _ (by decide))
theorem e1_493 (i : ℕ) : lit1t0_493 i = E1 493 (i % 128) := pick (E1 493) (i % 128) (Nat.mod_lt _ (by decide))
theorem e1_494 (i : ℕ) : lit1t0_494 i = E1 494 (i % 128) := pick (E1 494) (i % 128) (Nat.mod_lt _ (by decide))
theorem e1_495 (i : ℕ) : lit1t0_495 i = E1 495 (i % 128) := pick (E1 495) (i % 128) (Nat.mod_lt _ (by decide))
theorem e1_496 (i : ℕ) : lit1t0_496 i = E1 496 (i % 128) := pick (E1 496) (i % 128) (Nat.mod_lt _ (by decide))
theorem e1_497 (i : ℕ) : lit1t0_497 i = E1 497 (i % 128) := pick (E1 497) (i % 128) (Nat.mod_lt _ (by decide))
theorem e1_498 (i : ℕ) : lit1t0_498 i = E1 498 (i % 128) := pick (E1 498) (i % 128) (Nat.mod_lt _ (by decide))
theorem e1_499 (i : ℕ) : lit1t0_499 i = E1 499 (i % 128) := pick (E1 499) (i % 128) (Nat.mod_lt _ (by decide))
theorem e1_500 (i : ℕ) : lit1t0_500 i = E1 500 (i % 128) := pick (E1 500) (i % 128) (Nat.mod_lt _ (by decide))
theorem e1_501 (i : ℕ) : lit1t0_501 i = E1 501 (i % 128) := pick (E1 501) (i % 128) (Nat.mod_lt _ (by decide))
theorem e1_502 (i : ℕ) : lit1t0_502 i = E1 502 (i % 128) := pick (E1 502) (i % 128) (Nat.mod_lt _ (by decide))
theorem e1_503 (i : ℕ) : lit1t0_503 i = E1 503 (i % 128) := pick (E1 503) (i % 128) (Nat.mod_lt _ (by decide))
theorem e1_504 (i : ℕ) : lit1t0_504 i = E1 504 (i % 128) := pick (E1 504) (i % 128) (Nat.mod_lt _ (by decide))
theorem e1_505 (i : ℕ) : lit1t0_505 i = E1 505 (i % 128) := pick (E1 505) (i % 128) (Nat.mod_lt _ (by decide))
theorem e1_506 (i : ℕ) : lit1t0_506 i = E1 506 (i % 128) := pick (E1 506) (i % 128) (Nat.mod_lt _ (by decide))
theorem e1_507 (i : ℕ) : lit1t0_507 i = E1 507 (i % 128) := pick (E1 507) (i % 128) (Nat.mod_lt _ (by decide))
theorem e1_508 (i : ℕ) : lit1t0_508 i = E1 508 (i % 128) := pick (E1 508) (i % 128) (Nat.mod_lt _ (by decide))
theorem e1_509 (i : ℕ) : lit1t0_509 i = E1 509 (i % 128) := pick (E1 509) (i % 128) (Nat.mod_lt _ (by decide))
theorem e1_510 (i : ℕ) : lit1t0_510 i = E1 510 (i % 128) := pick (E1 510) (i % 128) (Nat.mod_lt _ (by decide))
theorem e1_511 (i : ℕ) : lit1t0_511 i = E1 511 (i % 128) := pick (E1 511) (i % 128) (Nat.mod_lt _ (by decide))

theorem u1_0 (i : ℕ) : lit1t1_0 i = E1 (0 + i / 128 % 128) (i % 128) :=
  pick_of (fun q => E1 (0 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e1_0 i) (e1_1 i) (e1_2 i) (e1_3 i) (e1_4 i) (e1_5 i) (e1_6 i) (e1_7 i) (e1_8 i) (e1_9 i) (e1_10 i) (e1_11 i) (e1_12 i) (e1_13 i) (e1_14 i) (e1_15 i) (e1_16 i) (e1_17 i) (e1_18 i) (e1_19 i) (e1_20 i) (e1_21 i) (e1_22 i) (e1_23 i) (e1_24 i) (e1_25 i) (e1_26 i) (e1_27 i) (e1_28 i) (e1_29 i) (e1_30 i) (e1_31 i) (e1_32 i) (e1_33 i) (e1_34 i) (e1_35 i) (e1_36 i) (e1_37 i) (e1_38 i) (e1_39 i) (e1_40 i) (e1_41 i) (e1_42 i) (e1_43 i) (e1_44 i) (e1_45 i) (e1_46 i) (e1_47 i) (e1_48 i) (e1_49 i) (e1_50 i) (e1_51 i) (e1_52 i) (e1_53 i) (e1_54 i) (e1_55 i) (e1_56 i) (e1_57 i) (e1_58 i) (e1_59 i) (e1_60 i) (e1_61 i) (e1_62 i) (e1_63 i) (e1_64 i) (e1_65 i) (e1_66 i) (e1_67 i) (e1_68 i) (e1_69 i) (e1_70 i) (e1_71 i) (e1_72 i) (e1_73 i) (e1_74 i) (e1_75 i) (e1_76 i) (e1_77 i) (e1_78 i) (e1_79 i) (e1_80 i) (e1_81 i) (e1_82 i) (e1_83 i) (e1_84 i) (e1_85 i) (e1_86 i) (e1_87 i) (e1_88 i) (e1_89 i) (e1_90 i) (e1_91 i) (e1_92 i) (e1_93 i) (e1_94 i) (e1_95 i) (e1_96 i) (e1_97 i) (e1_98 i) (e1_99 i) (e1_100 i) (e1_101 i) (e1_102 i) (e1_103 i) (e1_104 i) (e1_105 i) (e1_106 i) (e1_107 i) (e1_108 i) (e1_109 i) (e1_110 i) (e1_111 i) (e1_112 i) (e1_113 i) (e1_114 i) (e1_115 i) (e1_116 i) (e1_117 i) (e1_118 i) (e1_119 i) (e1_120 i) (e1_121 i) (e1_122 i) (e1_123 i) (e1_124 i) (e1_125 i) (e1_126 i) (e1_127 i)
theorem u1_1 (i : ℕ) : lit1t1_1 i = E1 (128 + i / 128 % 128) (i % 128) :=
  pick_of (fun q => E1 (128 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e1_128 i) (e1_129 i) (e1_130 i) (e1_131 i) (e1_132 i) (e1_133 i) (e1_134 i) (e1_135 i) (e1_136 i) (e1_137 i) (e1_138 i) (e1_139 i) (e1_140 i) (e1_141 i) (e1_142 i) (e1_143 i) (e1_144 i) (e1_145 i) (e1_146 i) (e1_147 i) (e1_148 i) (e1_149 i) (e1_150 i) (e1_151 i) (e1_152 i) (e1_153 i) (e1_154 i) (e1_155 i) (e1_156 i) (e1_157 i) (e1_158 i) (e1_159 i) (e1_160 i) (e1_161 i) (e1_162 i) (e1_163 i) (e1_164 i) (e1_165 i) (e1_166 i) (e1_167 i) (e1_168 i) (e1_169 i) (e1_170 i) (e1_171 i) (e1_172 i) (e1_173 i) (e1_174 i) (e1_175 i) (e1_176 i) (e1_177 i) (e1_178 i) (e1_179 i) (e1_180 i) (e1_181 i) (e1_182 i) (e1_183 i) (e1_184 i) (e1_185 i) (e1_186 i) (e1_187 i) (e1_188 i) (e1_189 i) (e1_190 i) (e1_191 i) (e1_192 i) (e1_193 i) (e1_194 i) (e1_195 i) (e1_196 i) (e1_197 i) (e1_198 i) (e1_199 i) (e1_200 i) (e1_201 i) (e1_202 i) (e1_203 i) (e1_204 i) (e1_205 i) (e1_206 i) (e1_207 i) (e1_208 i) (e1_209 i) (e1_210 i) (e1_211 i) (e1_212 i) (e1_213 i) (e1_214 i) (e1_215 i) (e1_216 i) (e1_217 i) (e1_218 i) (e1_219 i) (e1_220 i) (e1_221 i) (e1_222 i) (e1_223 i) (e1_224 i) (e1_225 i) (e1_226 i) (e1_227 i) (e1_228 i) (e1_229 i) (e1_230 i) (e1_231 i) (e1_232 i) (e1_233 i) (e1_234 i) (e1_235 i) (e1_236 i) (e1_237 i) (e1_238 i) (e1_239 i) (e1_240 i) (e1_241 i) (e1_242 i) (e1_243 i) (e1_244 i) (e1_245 i) (e1_246 i) (e1_247 i) (e1_248 i) (e1_249 i) (e1_250 i) (e1_251 i) (e1_252 i) (e1_253 i) (e1_254 i) (e1_255 i)
theorem u1_2 (i : ℕ) : lit1t1_2 i = E1 (256 + i / 128 % 128) (i % 128) :=
  pick_of (fun q => E1 (256 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e1_256 i) (e1_257 i) (e1_258 i) (e1_259 i) (e1_260 i) (e1_261 i) (e1_262 i) (e1_263 i) (e1_264 i) (e1_265 i) (e1_266 i) (e1_267 i) (e1_268 i) (e1_269 i) (e1_270 i) (e1_271 i) (e1_272 i) (e1_273 i) (e1_274 i) (e1_275 i) (e1_276 i) (e1_277 i) (e1_278 i) (e1_279 i) (e1_280 i) (e1_281 i) (e1_282 i) (e1_283 i) (e1_284 i) (e1_285 i) (e1_286 i) (e1_287 i) (e1_288 i) (e1_289 i) (e1_290 i) (e1_291 i) (e1_292 i) (e1_293 i) (e1_294 i) (e1_295 i) (e1_296 i) (e1_297 i) (e1_298 i) (e1_299 i) (e1_300 i) (e1_301 i) (e1_302 i) (e1_303 i) (e1_304 i) (e1_305 i) (e1_306 i) (e1_307 i) (e1_308 i) (e1_309 i) (e1_310 i) (e1_311 i) (e1_312 i) (e1_313 i) (e1_314 i) (e1_315 i) (e1_316 i) (e1_317 i) (e1_318 i) (e1_319 i) (e1_320 i) (e1_321 i) (e1_322 i) (e1_323 i) (e1_324 i) (e1_325 i) (e1_326 i) (e1_327 i) (e1_328 i) (e1_329 i) (e1_330 i) (e1_331 i) (e1_332 i) (e1_333 i) (e1_334 i) (e1_335 i) (e1_336 i) (e1_337 i) (e1_338 i) (e1_339 i) (e1_340 i) (e1_341 i) (e1_342 i) (e1_343 i) (e1_344 i) (e1_345 i) (e1_346 i) (e1_347 i) (e1_348 i) (e1_349 i) (e1_350 i) (e1_351 i) (e1_352 i) (e1_353 i) (e1_354 i) (e1_355 i) (e1_356 i) (e1_357 i) (e1_358 i) (e1_359 i) (e1_360 i) (e1_361 i) (e1_362 i) (e1_363 i) (e1_364 i) (e1_365 i) (e1_366 i) (e1_367 i) (e1_368 i) (e1_369 i) (e1_370 i) (e1_371 i) (e1_372 i) (e1_373 i) (e1_374 i) (e1_375 i) (e1_376 i) (e1_377 i) (e1_378 i) (e1_379 i) (e1_380 i) (e1_381 i) (e1_382 i) (e1_383 i)
theorem u1_3 (i : ℕ) : lit1t1_3 i = E1 (384 + i / 128 % 128) (i % 128) :=
  pick_of (fun q => E1 (384 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e1_384 i) (e1_385 i) (e1_386 i) (e1_387 i) (e1_388 i) (e1_389 i) (e1_390 i) (e1_391 i) (e1_392 i) (e1_393 i) (e1_394 i) (e1_395 i) (e1_396 i) (e1_397 i) (e1_398 i) (e1_399 i) (e1_400 i) (e1_401 i) (e1_402 i) (e1_403 i) (e1_404 i) (e1_405 i) (e1_406 i) (e1_407 i) (e1_408 i) (e1_409 i) (e1_410 i) (e1_411 i) (e1_412 i) (e1_413 i) (e1_414 i) (e1_415 i) (e1_416 i) (e1_417 i) (e1_418 i) (e1_419 i) (e1_420 i) (e1_421 i) (e1_422 i) (e1_423 i) (e1_424 i) (e1_425 i) (e1_426 i) (e1_427 i) (e1_428 i) (e1_429 i) (e1_430 i) (e1_431 i) (e1_432 i) (e1_433 i) (e1_434 i) (e1_435 i) (e1_436 i) (e1_437 i) (e1_438 i) (e1_439 i) (e1_440 i) (e1_441 i) (e1_442 i) (e1_443 i) (e1_444 i) (e1_445 i) (e1_446 i) (e1_447 i) (e1_448 i) (e1_449 i) (e1_450 i) (e1_451 i) (e1_452 i) (e1_453 i) (e1_454 i) (e1_455 i) (e1_456 i) (e1_457 i) (e1_458 i) (e1_459 i) (e1_460 i) (e1_461 i) (e1_462 i) (e1_463 i) (e1_464 i) (e1_465 i) (e1_466 i) (e1_467 i) (e1_468 i) (e1_469 i) (e1_470 i) (e1_471 i) (e1_472 i) (e1_473 i) (e1_474 i) (e1_475 i) (e1_476 i) (e1_477 i) (e1_478 i) (e1_479 i) (e1_480 i) (e1_481 i) (e1_482 i) (e1_483 i) (e1_484 i) (e1_485 i) (e1_486 i) (e1_487 i) (e1_488 i) (e1_489 i) (e1_490 i) (e1_491 i) (e1_492 i) (e1_493 i) (e1_494 i) (e1_495 i) (e1_496 i) (e1_497 i) (e1_498 i) (e1_499 i) (e1_500 i) (e1_501 i) (e1_502 i) (e1_503 i) (e1_504 i) (e1_505 i) (e1_506 i) (e1_507 i) (e1_508 i) (e1_509 i) (e1_510 i) (e1_511 i)

theorem lit1_eq (i : ℕ) (h : i < 65536) : lit1t i = E1 (i / 128) (i % 128) := by
  unfold lit1t
  have h4 : i / 16384 = 0 ∨ i / 16384 = 1 ∨ i / 16384 = 2 ∨ i / 16384 = 3 := by omega
  rcases h4 with h4 | h4 | h4 | h4
  · rw [h4]; exact (u1_0 i).trans (congrArg (fun q => E1 q (i % 128)) (by omega))
  · rw [h4]; exact (u1_1 i).trans (congrArg (fun q => E1 q (i % 128)) (by omega))
  · rw [h4]; exact (u1_2 i).trans (congrArg (fun q => E1 q (i % 128)) (by omega))
  · rw [h4]; exact (u1_3 i).trans (congrArg (fun q => E1 q (i % 128)) (by omega))

end Cert.Proof.QkvValue
-- ==== Proof.QkvValue.Lit2.lean ====
/-
  The second selection of rows, entry by entry.
-/
module

public import proofs.«01_k».proof.Proof.QkvValue.Pick

@[expose] public section

set_option maxRecDepth 16384

noncomputable section

namespace Cert.Proof.QkvValue

open Cert.QkvIdeal

theorem e2_0 (i : ℕ) : lit2t0_0 i = E2 0 (i % 128) := pick (E2 0) (i % 128) (Nat.mod_lt _ (by decide))
theorem e2_1 (i : ℕ) : lit2t0_1 i = E2 1 (i % 128) := pick (E2 1) (i % 128) (Nat.mod_lt _ (by decide))
theorem e2_2 (i : ℕ) : lit2t0_2 i = E2 2 (i % 128) := pick (E2 2) (i % 128) (Nat.mod_lt _ (by decide))
theorem e2_3 (i : ℕ) : lit2t0_3 i = E2 3 (i % 128) := pick (E2 3) (i % 128) (Nat.mod_lt _ (by decide))
theorem e2_4 (i : ℕ) : lit2t0_4 i = E2 4 (i % 128) := pick (E2 4) (i % 128) (Nat.mod_lt _ (by decide))
theorem e2_5 (i : ℕ) : lit2t0_5 i = E2 5 (i % 128) := pick (E2 5) (i % 128) (Nat.mod_lt _ (by decide))
theorem e2_6 (i : ℕ) : lit2t0_6 i = E2 6 (i % 128) := pick (E2 6) (i % 128) (Nat.mod_lt _ (by decide))
theorem e2_7 (i : ℕ) : lit2t0_7 i = E2 7 (i % 128) := pick (E2 7) (i % 128) (Nat.mod_lt _ (by decide))
theorem e2_8 (i : ℕ) : lit2t0_8 i = E2 8 (i % 128) := pick (E2 8) (i % 128) (Nat.mod_lt _ (by decide))
theorem e2_9 (i : ℕ) : lit2t0_9 i = E2 9 (i % 128) := pick (E2 9) (i % 128) (Nat.mod_lt _ (by decide))
theorem e2_10 (i : ℕ) : lit2t0_10 i = E2 10 (i % 128) := pick (E2 10) (i % 128) (Nat.mod_lt _ (by decide))
theorem e2_11 (i : ℕ) : lit2t0_11 i = E2 11 (i % 128) := pick (E2 11) (i % 128) (Nat.mod_lt _ (by decide))
theorem e2_12 (i : ℕ) : lit2t0_12 i = E2 12 (i % 128) := pick (E2 12) (i % 128) (Nat.mod_lt _ (by decide))
theorem e2_13 (i : ℕ) : lit2t0_13 i = E2 13 (i % 128) := pick (E2 13) (i % 128) (Nat.mod_lt _ (by decide))
theorem e2_14 (i : ℕ) : lit2t0_14 i = E2 14 (i % 128) := pick (E2 14) (i % 128) (Nat.mod_lt _ (by decide))
theorem e2_15 (i : ℕ) : lit2t0_15 i = E2 15 (i % 128) := pick (E2 15) (i % 128) (Nat.mod_lt _ (by decide))
theorem e2_16 (i : ℕ) : lit2t0_16 i = E2 16 (i % 128) := pick (E2 16) (i % 128) (Nat.mod_lt _ (by decide))
theorem e2_17 (i : ℕ) : lit2t0_17 i = E2 17 (i % 128) := pick (E2 17) (i % 128) (Nat.mod_lt _ (by decide))
theorem e2_18 (i : ℕ) : lit2t0_18 i = E2 18 (i % 128) := pick (E2 18) (i % 128) (Nat.mod_lt _ (by decide))
theorem e2_19 (i : ℕ) : lit2t0_19 i = E2 19 (i % 128) := pick (E2 19) (i % 128) (Nat.mod_lt _ (by decide))
theorem e2_20 (i : ℕ) : lit2t0_20 i = E2 20 (i % 128) := pick (E2 20) (i % 128) (Nat.mod_lt _ (by decide))
theorem e2_21 (i : ℕ) : lit2t0_21 i = E2 21 (i % 128) := pick (E2 21) (i % 128) (Nat.mod_lt _ (by decide))
theorem e2_22 (i : ℕ) : lit2t0_22 i = E2 22 (i % 128) := pick (E2 22) (i % 128) (Nat.mod_lt _ (by decide))
theorem e2_23 (i : ℕ) : lit2t0_23 i = E2 23 (i % 128) := pick (E2 23) (i % 128) (Nat.mod_lt _ (by decide))
theorem e2_24 (i : ℕ) : lit2t0_24 i = E2 24 (i % 128) := pick (E2 24) (i % 128) (Nat.mod_lt _ (by decide))
theorem e2_25 (i : ℕ) : lit2t0_25 i = E2 25 (i % 128) := pick (E2 25) (i % 128) (Nat.mod_lt _ (by decide))
theorem e2_26 (i : ℕ) : lit2t0_26 i = E2 26 (i % 128) := pick (E2 26) (i % 128) (Nat.mod_lt _ (by decide))
theorem e2_27 (i : ℕ) : lit2t0_27 i = E2 27 (i % 128) := pick (E2 27) (i % 128) (Nat.mod_lt _ (by decide))
theorem e2_28 (i : ℕ) : lit2t0_28 i = E2 28 (i % 128) := pick (E2 28) (i % 128) (Nat.mod_lt _ (by decide))
theorem e2_29 (i : ℕ) : lit2t0_29 i = E2 29 (i % 128) := pick (E2 29) (i % 128) (Nat.mod_lt _ (by decide))
theorem e2_30 (i : ℕ) : lit2t0_30 i = E2 30 (i % 128) := pick (E2 30) (i % 128) (Nat.mod_lt _ (by decide))
theorem e2_31 (i : ℕ) : lit2t0_31 i = E2 31 (i % 128) := pick (E2 31) (i % 128) (Nat.mod_lt _ (by decide))
theorem e2_32 (i : ℕ) : lit2t0_32 i = E2 32 (i % 128) := pick (E2 32) (i % 128) (Nat.mod_lt _ (by decide))
theorem e2_33 (i : ℕ) : lit2t0_33 i = E2 33 (i % 128) := pick (E2 33) (i % 128) (Nat.mod_lt _ (by decide))
theorem e2_34 (i : ℕ) : lit2t0_34 i = E2 34 (i % 128) := pick (E2 34) (i % 128) (Nat.mod_lt _ (by decide))
theorem e2_35 (i : ℕ) : lit2t0_35 i = E2 35 (i % 128) := pick (E2 35) (i % 128) (Nat.mod_lt _ (by decide))
theorem e2_36 (i : ℕ) : lit2t0_36 i = E2 36 (i % 128) := pick (E2 36) (i % 128) (Nat.mod_lt _ (by decide))
theorem e2_37 (i : ℕ) : lit2t0_37 i = E2 37 (i % 128) := pick (E2 37) (i % 128) (Nat.mod_lt _ (by decide))
theorem e2_38 (i : ℕ) : lit2t0_38 i = E2 38 (i % 128) := pick (E2 38) (i % 128) (Nat.mod_lt _ (by decide))
theorem e2_39 (i : ℕ) : lit2t0_39 i = E2 39 (i % 128) := pick (E2 39) (i % 128) (Nat.mod_lt _ (by decide))
theorem e2_40 (i : ℕ) : lit2t0_40 i = E2 40 (i % 128) := pick (E2 40) (i % 128) (Nat.mod_lt _ (by decide))
theorem e2_41 (i : ℕ) : lit2t0_41 i = E2 41 (i % 128) := pick (E2 41) (i % 128) (Nat.mod_lt _ (by decide))
theorem e2_42 (i : ℕ) : lit2t0_42 i = E2 42 (i % 128) := pick (E2 42) (i % 128) (Nat.mod_lt _ (by decide))
theorem e2_43 (i : ℕ) : lit2t0_43 i = E2 43 (i % 128) := pick (E2 43) (i % 128) (Nat.mod_lt _ (by decide))
theorem e2_44 (i : ℕ) : lit2t0_44 i = E2 44 (i % 128) := pick (E2 44) (i % 128) (Nat.mod_lt _ (by decide))
theorem e2_45 (i : ℕ) : lit2t0_45 i = E2 45 (i % 128) := pick (E2 45) (i % 128) (Nat.mod_lt _ (by decide))
theorem e2_46 (i : ℕ) : lit2t0_46 i = E2 46 (i % 128) := pick (E2 46) (i % 128) (Nat.mod_lt _ (by decide))
theorem e2_47 (i : ℕ) : lit2t0_47 i = E2 47 (i % 128) := pick (E2 47) (i % 128) (Nat.mod_lt _ (by decide))
theorem e2_48 (i : ℕ) : lit2t0_48 i = E2 48 (i % 128) := pick (E2 48) (i % 128) (Nat.mod_lt _ (by decide))
theorem e2_49 (i : ℕ) : lit2t0_49 i = E2 49 (i % 128) := pick (E2 49) (i % 128) (Nat.mod_lt _ (by decide))
theorem e2_50 (i : ℕ) : lit2t0_50 i = E2 50 (i % 128) := pick (E2 50) (i % 128) (Nat.mod_lt _ (by decide))
theorem e2_51 (i : ℕ) : lit2t0_51 i = E2 51 (i % 128) := pick (E2 51) (i % 128) (Nat.mod_lt _ (by decide))
theorem e2_52 (i : ℕ) : lit2t0_52 i = E2 52 (i % 128) := pick (E2 52) (i % 128) (Nat.mod_lt _ (by decide))
theorem e2_53 (i : ℕ) : lit2t0_53 i = E2 53 (i % 128) := pick (E2 53) (i % 128) (Nat.mod_lt _ (by decide))
theorem e2_54 (i : ℕ) : lit2t0_54 i = E2 54 (i % 128) := pick (E2 54) (i % 128) (Nat.mod_lt _ (by decide))
theorem e2_55 (i : ℕ) : lit2t0_55 i = E2 55 (i % 128) := pick (E2 55) (i % 128) (Nat.mod_lt _ (by decide))
theorem e2_56 (i : ℕ) : lit2t0_56 i = E2 56 (i % 128) := pick (E2 56) (i % 128) (Nat.mod_lt _ (by decide))
theorem e2_57 (i : ℕ) : lit2t0_57 i = E2 57 (i % 128) := pick (E2 57) (i % 128) (Nat.mod_lt _ (by decide))
theorem e2_58 (i : ℕ) : lit2t0_58 i = E2 58 (i % 128) := pick (E2 58) (i % 128) (Nat.mod_lt _ (by decide))
theorem e2_59 (i : ℕ) : lit2t0_59 i = E2 59 (i % 128) := pick (E2 59) (i % 128) (Nat.mod_lt _ (by decide))
theorem e2_60 (i : ℕ) : lit2t0_60 i = E2 60 (i % 128) := pick (E2 60) (i % 128) (Nat.mod_lt _ (by decide))
theorem e2_61 (i : ℕ) : lit2t0_61 i = E2 61 (i % 128) := pick (E2 61) (i % 128) (Nat.mod_lt _ (by decide))
theorem e2_62 (i : ℕ) : lit2t0_62 i = E2 62 (i % 128) := pick (E2 62) (i % 128) (Nat.mod_lt _ (by decide))
theorem e2_63 (i : ℕ) : lit2t0_63 i = E2 63 (i % 128) := pick (E2 63) (i % 128) (Nat.mod_lt _ (by decide))
theorem e2_64 (i : ℕ) : lit2t0_64 i = E2 64 (i % 128) := pick (E2 64) (i % 128) (Nat.mod_lt _ (by decide))
theorem e2_65 (i : ℕ) : lit2t0_65 i = E2 65 (i % 128) := pick (E2 65) (i % 128) (Nat.mod_lt _ (by decide))
theorem e2_66 (i : ℕ) : lit2t0_66 i = E2 66 (i % 128) := pick (E2 66) (i % 128) (Nat.mod_lt _ (by decide))
theorem e2_67 (i : ℕ) : lit2t0_67 i = E2 67 (i % 128) := pick (E2 67) (i % 128) (Nat.mod_lt _ (by decide))
theorem e2_68 (i : ℕ) : lit2t0_68 i = E2 68 (i % 128) := pick (E2 68) (i % 128) (Nat.mod_lt _ (by decide))
theorem e2_69 (i : ℕ) : lit2t0_69 i = E2 69 (i % 128) := pick (E2 69) (i % 128) (Nat.mod_lt _ (by decide))
theorem e2_70 (i : ℕ) : lit2t0_70 i = E2 70 (i % 128) := pick (E2 70) (i % 128) (Nat.mod_lt _ (by decide))
theorem e2_71 (i : ℕ) : lit2t0_71 i = E2 71 (i % 128) := pick (E2 71) (i % 128) (Nat.mod_lt _ (by decide))
theorem e2_72 (i : ℕ) : lit2t0_72 i = E2 72 (i % 128) := pick (E2 72) (i % 128) (Nat.mod_lt _ (by decide))
theorem e2_73 (i : ℕ) : lit2t0_73 i = E2 73 (i % 128) := pick (E2 73) (i % 128) (Nat.mod_lt _ (by decide))
theorem e2_74 (i : ℕ) : lit2t0_74 i = E2 74 (i % 128) := pick (E2 74) (i % 128) (Nat.mod_lt _ (by decide))
theorem e2_75 (i : ℕ) : lit2t0_75 i = E2 75 (i % 128) := pick (E2 75) (i % 128) (Nat.mod_lt _ (by decide))
theorem e2_76 (i : ℕ) : lit2t0_76 i = E2 76 (i % 128) := pick (E2 76) (i % 128) (Nat.mod_lt _ (by decide))
theorem e2_77 (i : ℕ) : lit2t0_77 i = E2 77 (i % 128) := pick (E2 77) (i % 128) (Nat.mod_lt _ (by decide))
theorem e2_78 (i : ℕ) : lit2t0_78 i = E2 78 (i % 128) := pick (E2 78) (i % 128) (Nat.mod_lt _ (by decide))
theorem e2_79 (i : ℕ) : lit2t0_79 i = E2 79 (i % 128) := pick (E2 79) (i % 128) (Nat.mod_lt _ (by decide))
theorem e2_80 (i : ℕ) : lit2t0_80 i = E2 80 (i % 128) := pick (E2 80) (i % 128) (Nat.mod_lt _ (by decide))
theorem e2_81 (i : ℕ) : lit2t0_81 i = E2 81 (i % 128) := pick (E2 81) (i % 128) (Nat.mod_lt _ (by decide))
theorem e2_82 (i : ℕ) : lit2t0_82 i = E2 82 (i % 128) := pick (E2 82) (i % 128) (Nat.mod_lt _ (by decide))
theorem e2_83 (i : ℕ) : lit2t0_83 i = E2 83 (i % 128) := pick (E2 83) (i % 128) (Nat.mod_lt _ (by decide))
theorem e2_84 (i : ℕ) : lit2t0_84 i = E2 84 (i % 128) := pick (E2 84) (i % 128) (Nat.mod_lt _ (by decide))
theorem e2_85 (i : ℕ) : lit2t0_85 i = E2 85 (i % 128) := pick (E2 85) (i % 128) (Nat.mod_lt _ (by decide))
theorem e2_86 (i : ℕ) : lit2t0_86 i = E2 86 (i % 128) := pick (E2 86) (i % 128) (Nat.mod_lt _ (by decide))
theorem e2_87 (i : ℕ) : lit2t0_87 i = E2 87 (i % 128) := pick (E2 87) (i % 128) (Nat.mod_lt _ (by decide))
theorem e2_88 (i : ℕ) : lit2t0_88 i = E2 88 (i % 128) := pick (E2 88) (i % 128) (Nat.mod_lt _ (by decide))
theorem e2_89 (i : ℕ) : lit2t0_89 i = E2 89 (i % 128) := pick (E2 89) (i % 128) (Nat.mod_lt _ (by decide))
theorem e2_90 (i : ℕ) : lit2t0_90 i = E2 90 (i % 128) := pick (E2 90) (i % 128) (Nat.mod_lt _ (by decide))
theorem e2_91 (i : ℕ) : lit2t0_91 i = E2 91 (i % 128) := pick (E2 91) (i % 128) (Nat.mod_lt _ (by decide))
theorem e2_92 (i : ℕ) : lit2t0_92 i = E2 92 (i % 128) := pick (E2 92) (i % 128) (Nat.mod_lt _ (by decide))
theorem e2_93 (i : ℕ) : lit2t0_93 i = E2 93 (i % 128) := pick (E2 93) (i % 128) (Nat.mod_lt _ (by decide))
theorem e2_94 (i : ℕ) : lit2t0_94 i = E2 94 (i % 128) := pick (E2 94) (i % 128) (Nat.mod_lt _ (by decide))
theorem e2_95 (i : ℕ) : lit2t0_95 i = E2 95 (i % 128) := pick (E2 95) (i % 128) (Nat.mod_lt _ (by decide))
theorem e2_96 (i : ℕ) : lit2t0_96 i = E2 96 (i % 128) := pick (E2 96) (i % 128) (Nat.mod_lt _ (by decide))
theorem e2_97 (i : ℕ) : lit2t0_97 i = E2 97 (i % 128) := pick (E2 97) (i % 128) (Nat.mod_lt _ (by decide))
theorem e2_98 (i : ℕ) : lit2t0_98 i = E2 98 (i % 128) := pick (E2 98) (i % 128) (Nat.mod_lt _ (by decide))
theorem e2_99 (i : ℕ) : lit2t0_99 i = E2 99 (i % 128) := pick (E2 99) (i % 128) (Nat.mod_lt _ (by decide))
theorem e2_100 (i : ℕ) : lit2t0_100 i = E2 100 (i % 128) := pick (E2 100) (i % 128) (Nat.mod_lt _ (by decide))
theorem e2_101 (i : ℕ) : lit2t0_101 i = E2 101 (i % 128) := pick (E2 101) (i % 128) (Nat.mod_lt _ (by decide))
theorem e2_102 (i : ℕ) : lit2t0_102 i = E2 102 (i % 128) := pick (E2 102) (i % 128) (Nat.mod_lt _ (by decide))
theorem e2_103 (i : ℕ) : lit2t0_103 i = E2 103 (i % 128) := pick (E2 103) (i % 128) (Nat.mod_lt _ (by decide))
theorem e2_104 (i : ℕ) : lit2t0_104 i = E2 104 (i % 128) := pick (E2 104) (i % 128) (Nat.mod_lt _ (by decide))
theorem e2_105 (i : ℕ) : lit2t0_105 i = E2 105 (i % 128) := pick (E2 105) (i % 128) (Nat.mod_lt _ (by decide))
theorem e2_106 (i : ℕ) : lit2t0_106 i = E2 106 (i % 128) := pick (E2 106) (i % 128) (Nat.mod_lt _ (by decide))
theorem e2_107 (i : ℕ) : lit2t0_107 i = E2 107 (i % 128) := pick (E2 107) (i % 128) (Nat.mod_lt _ (by decide))
theorem e2_108 (i : ℕ) : lit2t0_108 i = E2 108 (i % 128) := pick (E2 108) (i % 128) (Nat.mod_lt _ (by decide))
theorem e2_109 (i : ℕ) : lit2t0_109 i = E2 109 (i % 128) := pick (E2 109) (i % 128) (Nat.mod_lt _ (by decide))
theorem e2_110 (i : ℕ) : lit2t0_110 i = E2 110 (i % 128) := pick (E2 110) (i % 128) (Nat.mod_lt _ (by decide))
theorem e2_111 (i : ℕ) : lit2t0_111 i = E2 111 (i % 128) := pick (E2 111) (i % 128) (Nat.mod_lt _ (by decide))
theorem e2_112 (i : ℕ) : lit2t0_112 i = E2 112 (i % 128) := pick (E2 112) (i % 128) (Nat.mod_lt _ (by decide))
theorem e2_113 (i : ℕ) : lit2t0_113 i = E2 113 (i % 128) := pick (E2 113) (i % 128) (Nat.mod_lt _ (by decide))
theorem e2_114 (i : ℕ) : lit2t0_114 i = E2 114 (i % 128) := pick (E2 114) (i % 128) (Nat.mod_lt _ (by decide))
theorem e2_115 (i : ℕ) : lit2t0_115 i = E2 115 (i % 128) := pick (E2 115) (i % 128) (Nat.mod_lt _ (by decide))
theorem e2_116 (i : ℕ) : lit2t0_116 i = E2 116 (i % 128) := pick (E2 116) (i % 128) (Nat.mod_lt _ (by decide))
theorem e2_117 (i : ℕ) : lit2t0_117 i = E2 117 (i % 128) := pick (E2 117) (i % 128) (Nat.mod_lt _ (by decide))
theorem e2_118 (i : ℕ) : lit2t0_118 i = E2 118 (i % 128) := pick (E2 118) (i % 128) (Nat.mod_lt _ (by decide))
theorem e2_119 (i : ℕ) : lit2t0_119 i = E2 119 (i % 128) := pick (E2 119) (i % 128) (Nat.mod_lt _ (by decide))
theorem e2_120 (i : ℕ) : lit2t0_120 i = E2 120 (i % 128) := pick (E2 120) (i % 128) (Nat.mod_lt _ (by decide))
theorem e2_121 (i : ℕ) : lit2t0_121 i = E2 121 (i % 128) := pick (E2 121) (i % 128) (Nat.mod_lt _ (by decide))
theorem e2_122 (i : ℕ) : lit2t0_122 i = E2 122 (i % 128) := pick (E2 122) (i % 128) (Nat.mod_lt _ (by decide))
theorem e2_123 (i : ℕ) : lit2t0_123 i = E2 123 (i % 128) := pick (E2 123) (i % 128) (Nat.mod_lt _ (by decide))
theorem e2_124 (i : ℕ) : lit2t0_124 i = E2 124 (i % 128) := pick (E2 124) (i % 128) (Nat.mod_lt _ (by decide))
theorem e2_125 (i : ℕ) : lit2t0_125 i = E2 125 (i % 128) := pick (E2 125) (i % 128) (Nat.mod_lt _ (by decide))
theorem e2_126 (i : ℕ) : lit2t0_126 i = E2 126 (i % 128) := pick (E2 126) (i % 128) (Nat.mod_lt _ (by decide))
theorem e2_127 (i : ℕ) : lit2t0_127 i = E2 127 (i % 128) := pick (E2 127) (i % 128) (Nat.mod_lt _ (by decide))
theorem e2_128 (i : ℕ) : lit2t0_128 i = E2 128 (i % 128) := pick (E2 128) (i % 128) (Nat.mod_lt _ (by decide))
theorem e2_129 (i : ℕ) : lit2t0_129 i = E2 129 (i % 128) := pick (E2 129) (i % 128) (Nat.mod_lt _ (by decide))
theorem e2_130 (i : ℕ) : lit2t0_130 i = E2 130 (i % 128) := pick (E2 130) (i % 128) (Nat.mod_lt _ (by decide))
theorem e2_131 (i : ℕ) : lit2t0_131 i = E2 131 (i % 128) := pick (E2 131) (i % 128) (Nat.mod_lt _ (by decide))
theorem e2_132 (i : ℕ) : lit2t0_132 i = E2 132 (i % 128) := pick (E2 132) (i % 128) (Nat.mod_lt _ (by decide))
theorem e2_133 (i : ℕ) : lit2t0_133 i = E2 133 (i % 128) := pick (E2 133) (i % 128) (Nat.mod_lt _ (by decide))
theorem e2_134 (i : ℕ) : lit2t0_134 i = E2 134 (i % 128) := pick (E2 134) (i % 128) (Nat.mod_lt _ (by decide))
theorem e2_135 (i : ℕ) : lit2t0_135 i = E2 135 (i % 128) := pick (E2 135) (i % 128) (Nat.mod_lt _ (by decide))
theorem e2_136 (i : ℕ) : lit2t0_136 i = E2 136 (i % 128) := pick (E2 136) (i % 128) (Nat.mod_lt _ (by decide))
theorem e2_137 (i : ℕ) : lit2t0_137 i = E2 137 (i % 128) := pick (E2 137) (i % 128) (Nat.mod_lt _ (by decide))
theorem e2_138 (i : ℕ) : lit2t0_138 i = E2 138 (i % 128) := pick (E2 138) (i % 128) (Nat.mod_lt _ (by decide))
theorem e2_139 (i : ℕ) : lit2t0_139 i = E2 139 (i % 128) := pick (E2 139) (i % 128) (Nat.mod_lt _ (by decide))
theorem e2_140 (i : ℕ) : lit2t0_140 i = E2 140 (i % 128) := pick (E2 140) (i % 128) (Nat.mod_lt _ (by decide))
theorem e2_141 (i : ℕ) : lit2t0_141 i = E2 141 (i % 128) := pick (E2 141) (i % 128) (Nat.mod_lt _ (by decide))
theorem e2_142 (i : ℕ) : lit2t0_142 i = E2 142 (i % 128) := pick (E2 142) (i % 128) (Nat.mod_lt _ (by decide))
theorem e2_143 (i : ℕ) : lit2t0_143 i = E2 143 (i % 128) := pick (E2 143) (i % 128) (Nat.mod_lt _ (by decide))
theorem e2_144 (i : ℕ) : lit2t0_144 i = E2 144 (i % 128) := pick (E2 144) (i % 128) (Nat.mod_lt _ (by decide))
theorem e2_145 (i : ℕ) : lit2t0_145 i = E2 145 (i % 128) := pick (E2 145) (i % 128) (Nat.mod_lt _ (by decide))
theorem e2_146 (i : ℕ) : lit2t0_146 i = E2 146 (i % 128) := pick (E2 146) (i % 128) (Nat.mod_lt _ (by decide))
theorem e2_147 (i : ℕ) : lit2t0_147 i = E2 147 (i % 128) := pick (E2 147) (i % 128) (Nat.mod_lt _ (by decide))
theorem e2_148 (i : ℕ) : lit2t0_148 i = E2 148 (i % 128) := pick (E2 148) (i % 128) (Nat.mod_lt _ (by decide))
theorem e2_149 (i : ℕ) : lit2t0_149 i = E2 149 (i % 128) := pick (E2 149) (i % 128) (Nat.mod_lt _ (by decide))
theorem e2_150 (i : ℕ) : lit2t0_150 i = E2 150 (i % 128) := pick (E2 150) (i % 128) (Nat.mod_lt _ (by decide))
theorem e2_151 (i : ℕ) : lit2t0_151 i = E2 151 (i % 128) := pick (E2 151) (i % 128) (Nat.mod_lt _ (by decide))
theorem e2_152 (i : ℕ) : lit2t0_152 i = E2 152 (i % 128) := pick (E2 152) (i % 128) (Nat.mod_lt _ (by decide))
theorem e2_153 (i : ℕ) : lit2t0_153 i = E2 153 (i % 128) := pick (E2 153) (i % 128) (Nat.mod_lt _ (by decide))
theorem e2_154 (i : ℕ) : lit2t0_154 i = E2 154 (i % 128) := pick (E2 154) (i % 128) (Nat.mod_lt _ (by decide))
theorem e2_155 (i : ℕ) : lit2t0_155 i = E2 155 (i % 128) := pick (E2 155) (i % 128) (Nat.mod_lt _ (by decide))
theorem e2_156 (i : ℕ) : lit2t0_156 i = E2 156 (i % 128) := pick (E2 156) (i % 128) (Nat.mod_lt _ (by decide))
theorem e2_157 (i : ℕ) : lit2t0_157 i = E2 157 (i % 128) := pick (E2 157) (i % 128) (Nat.mod_lt _ (by decide))
theorem e2_158 (i : ℕ) : lit2t0_158 i = E2 158 (i % 128) := pick (E2 158) (i % 128) (Nat.mod_lt _ (by decide))
theorem e2_159 (i : ℕ) : lit2t0_159 i = E2 159 (i % 128) := pick (E2 159) (i % 128) (Nat.mod_lt _ (by decide))
theorem e2_160 (i : ℕ) : lit2t0_160 i = E2 160 (i % 128) := pick (E2 160) (i % 128) (Nat.mod_lt _ (by decide))
theorem e2_161 (i : ℕ) : lit2t0_161 i = E2 161 (i % 128) := pick (E2 161) (i % 128) (Nat.mod_lt _ (by decide))
theorem e2_162 (i : ℕ) : lit2t0_162 i = E2 162 (i % 128) := pick (E2 162) (i % 128) (Nat.mod_lt _ (by decide))
theorem e2_163 (i : ℕ) : lit2t0_163 i = E2 163 (i % 128) := pick (E2 163) (i % 128) (Nat.mod_lt _ (by decide))
theorem e2_164 (i : ℕ) : lit2t0_164 i = E2 164 (i % 128) := pick (E2 164) (i % 128) (Nat.mod_lt _ (by decide))
theorem e2_165 (i : ℕ) : lit2t0_165 i = E2 165 (i % 128) := pick (E2 165) (i % 128) (Nat.mod_lt _ (by decide))
theorem e2_166 (i : ℕ) : lit2t0_166 i = E2 166 (i % 128) := pick (E2 166) (i % 128) (Nat.mod_lt _ (by decide))
theorem e2_167 (i : ℕ) : lit2t0_167 i = E2 167 (i % 128) := pick (E2 167) (i % 128) (Nat.mod_lt _ (by decide))
theorem e2_168 (i : ℕ) : lit2t0_168 i = E2 168 (i % 128) := pick (E2 168) (i % 128) (Nat.mod_lt _ (by decide))
theorem e2_169 (i : ℕ) : lit2t0_169 i = E2 169 (i % 128) := pick (E2 169) (i % 128) (Nat.mod_lt _ (by decide))
theorem e2_170 (i : ℕ) : lit2t0_170 i = E2 170 (i % 128) := pick (E2 170) (i % 128) (Nat.mod_lt _ (by decide))
theorem e2_171 (i : ℕ) : lit2t0_171 i = E2 171 (i % 128) := pick (E2 171) (i % 128) (Nat.mod_lt _ (by decide))
theorem e2_172 (i : ℕ) : lit2t0_172 i = E2 172 (i % 128) := pick (E2 172) (i % 128) (Nat.mod_lt _ (by decide))
theorem e2_173 (i : ℕ) : lit2t0_173 i = E2 173 (i % 128) := pick (E2 173) (i % 128) (Nat.mod_lt _ (by decide))
theorem e2_174 (i : ℕ) : lit2t0_174 i = E2 174 (i % 128) := pick (E2 174) (i % 128) (Nat.mod_lt _ (by decide))
theorem e2_175 (i : ℕ) : lit2t0_175 i = E2 175 (i % 128) := pick (E2 175) (i % 128) (Nat.mod_lt _ (by decide))
theorem e2_176 (i : ℕ) : lit2t0_176 i = E2 176 (i % 128) := pick (E2 176) (i % 128) (Nat.mod_lt _ (by decide))
theorem e2_177 (i : ℕ) : lit2t0_177 i = E2 177 (i % 128) := pick (E2 177) (i % 128) (Nat.mod_lt _ (by decide))
theorem e2_178 (i : ℕ) : lit2t0_178 i = E2 178 (i % 128) := pick (E2 178) (i % 128) (Nat.mod_lt _ (by decide))
theorem e2_179 (i : ℕ) : lit2t0_179 i = E2 179 (i % 128) := pick (E2 179) (i % 128) (Nat.mod_lt _ (by decide))
theorem e2_180 (i : ℕ) : lit2t0_180 i = E2 180 (i % 128) := pick (E2 180) (i % 128) (Nat.mod_lt _ (by decide))
theorem e2_181 (i : ℕ) : lit2t0_181 i = E2 181 (i % 128) := pick (E2 181) (i % 128) (Nat.mod_lt _ (by decide))
theorem e2_182 (i : ℕ) : lit2t0_182 i = E2 182 (i % 128) := pick (E2 182) (i % 128) (Nat.mod_lt _ (by decide))
theorem e2_183 (i : ℕ) : lit2t0_183 i = E2 183 (i % 128) := pick (E2 183) (i % 128) (Nat.mod_lt _ (by decide))
theorem e2_184 (i : ℕ) : lit2t0_184 i = E2 184 (i % 128) := pick (E2 184) (i % 128) (Nat.mod_lt _ (by decide))
theorem e2_185 (i : ℕ) : lit2t0_185 i = E2 185 (i % 128) := pick (E2 185) (i % 128) (Nat.mod_lt _ (by decide))
theorem e2_186 (i : ℕ) : lit2t0_186 i = E2 186 (i % 128) := pick (E2 186) (i % 128) (Nat.mod_lt _ (by decide))
theorem e2_187 (i : ℕ) : lit2t0_187 i = E2 187 (i % 128) := pick (E2 187) (i % 128) (Nat.mod_lt _ (by decide))
theorem e2_188 (i : ℕ) : lit2t0_188 i = E2 188 (i % 128) := pick (E2 188) (i % 128) (Nat.mod_lt _ (by decide))
theorem e2_189 (i : ℕ) : lit2t0_189 i = E2 189 (i % 128) := pick (E2 189) (i % 128) (Nat.mod_lt _ (by decide))
theorem e2_190 (i : ℕ) : lit2t0_190 i = E2 190 (i % 128) := pick (E2 190) (i % 128) (Nat.mod_lt _ (by decide))
theorem e2_191 (i : ℕ) : lit2t0_191 i = E2 191 (i % 128) := pick (E2 191) (i % 128) (Nat.mod_lt _ (by decide))
theorem e2_192 (i : ℕ) : lit2t0_192 i = E2 192 (i % 128) := pick (E2 192) (i % 128) (Nat.mod_lt _ (by decide))
theorem e2_193 (i : ℕ) : lit2t0_193 i = E2 193 (i % 128) := pick (E2 193) (i % 128) (Nat.mod_lt _ (by decide))
theorem e2_194 (i : ℕ) : lit2t0_194 i = E2 194 (i % 128) := pick (E2 194) (i % 128) (Nat.mod_lt _ (by decide))
theorem e2_195 (i : ℕ) : lit2t0_195 i = E2 195 (i % 128) := pick (E2 195) (i % 128) (Nat.mod_lt _ (by decide))
theorem e2_196 (i : ℕ) : lit2t0_196 i = E2 196 (i % 128) := pick (E2 196) (i % 128) (Nat.mod_lt _ (by decide))
theorem e2_197 (i : ℕ) : lit2t0_197 i = E2 197 (i % 128) := pick (E2 197) (i % 128) (Nat.mod_lt _ (by decide))
theorem e2_198 (i : ℕ) : lit2t0_198 i = E2 198 (i % 128) := pick (E2 198) (i % 128) (Nat.mod_lt _ (by decide))
theorem e2_199 (i : ℕ) : lit2t0_199 i = E2 199 (i % 128) := pick (E2 199) (i % 128) (Nat.mod_lt _ (by decide))
theorem e2_200 (i : ℕ) : lit2t0_200 i = E2 200 (i % 128) := pick (E2 200) (i % 128) (Nat.mod_lt _ (by decide))
theorem e2_201 (i : ℕ) : lit2t0_201 i = E2 201 (i % 128) := pick (E2 201) (i % 128) (Nat.mod_lt _ (by decide))
theorem e2_202 (i : ℕ) : lit2t0_202 i = E2 202 (i % 128) := pick (E2 202) (i % 128) (Nat.mod_lt _ (by decide))
theorem e2_203 (i : ℕ) : lit2t0_203 i = E2 203 (i % 128) := pick (E2 203) (i % 128) (Nat.mod_lt _ (by decide))
theorem e2_204 (i : ℕ) : lit2t0_204 i = E2 204 (i % 128) := pick (E2 204) (i % 128) (Nat.mod_lt _ (by decide))
theorem e2_205 (i : ℕ) : lit2t0_205 i = E2 205 (i % 128) := pick (E2 205) (i % 128) (Nat.mod_lt _ (by decide))
theorem e2_206 (i : ℕ) : lit2t0_206 i = E2 206 (i % 128) := pick (E2 206) (i % 128) (Nat.mod_lt _ (by decide))
theorem e2_207 (i : ℕ) : lit2t0_207 i = E2 207 (i % 128) := pick (E2 207) (i % 128) (Nat.mod_lt _ (by decide))
theorem e2_208 (i : ℕ) : lit2t0_208 i = E2 208 (i % 128) := pick (E2 208) (i % 128) (Nat.mod_lt _ (by decide))
theorem e2_209 (i : ℕ) : lit2t0_209 i = E2 209 (i % 128) := pick (E2 209) (i % 128) (Nat.mod_lt _ (by decide))
theorem e2_210 (i : ℕ) : lit2t0_210 i = E2 210 (i % 128) := pick (E2 210) (i % 128) (Nat.mod_lt _ (by decide))
theorem e2_211 (i : ℕ) : lit2t0_211 i = E2 211 (i % 128) := pick (E2 211) (i % 128) (Nat.mod_lt _ (by decide))
theorem e2_212 (i : ℕ) : lit2t0_212 i = E2 212 (i % 128) := pick (E2 212) (i % 128) (Nat.mod_lt _ (by decide))
theorem e2_213 (i : ℕ) : lit2t0_213 i = E2 213 (i % 128) := pick (E2 213) (i % 128) (Nat.mod_lt _ (by decide))
theorem e2_214 (i : ℕ) : lit2t0_214 i = E2 214 (i % 128) := pick (E2 214) (i % 128) (Nat.mod_lt _ (by decide))
theorem e2_215 (i : ℕ) : lit2t0_215 i = E2 215 (i % 128) := pick (E2 215) (i % 128) (Nat.mod_lt _ (by decide))
theorem e2_216 (i : ℕ) : lit2t0_216 i = E2 216 (i % 128) := pick (E2 216) (i % 128) (Nat.mod_lt _ (by decide))
theorem e2_217 (i : ℕ) : lit2t0_217 i = E2 217 (i % 128) := pick (E2 217) (i % 128) (Nat.mod_lt _ (by decide))
theorem e2_218 (i : ℕ) : lit2t0_218 i = E2 218 (i % 128) := pick (E2 218) (i % 128) (Nat.mod_lt _ (by decide))
theorem e2_219 (i : ℕ) : lit2t0_219 i = E2 219 (i % 128) := pick (E2 219) (i % 128) (Nat.mod_lt _ (by decide))
theorem e2_220 (i : ℕ) : lit2t0_220 i = E2 220 (i % 128) := pick (E2 220) (i % 128) (Nat.mod_lt _ (by decide))
theorem e2_221 (i : ℕ) : lit2t0_221 i = E2 221 (i % 128) := pick (E2 221) (i % 128) (Nat.mod_lt _ (by decide))
theorem e2_222 (i : ℕ) : lit2t0_222 i = E2 222 (i % 128) := pick (E2 222) (i % 128) (Nat.mod_lt _ (by decide))
theorem e2_223 (i : ℕ) : lit2t0_223 i = E2 223 (i % 128) := pick (E2 223) (i % 128) (Nat.mod_lt _ (by decide))
theorem e2_224 (i : ℕ) : lit2t0_224 i = E2 224 (i % 128) := pick (E2 224) (i % 128) (Nat.mod_lt _ (by decide))
theorem e2_225 (i : ℕ) : lit2t0_225 i = E2 225 (i % 128) := pick (E2 225) (i % 128) (Nat.mod_lt _ (by decide))
theorem e2_226 (i : ℕ) : lit2t0_226 i = E2 226 (i % 128) := pick (E2 226) (i % 128) (Nat.mod_lt _ (by decide))
theorem e2_227 (i : ℕ) : lit2t0_227 i = E2 227 (i % 128) := pick (E2 227) (i % 128) (Nat.mod_lt _ (by decide))
theorem e2_228 (i : ℕ) : lit2t0_228 i = E2 228 (i % 128) := pick (E2 228) (i % 128) (Nat.mod_lt _ (by decide))
theorem e2_229 (i : ℕ) : lit2t0_229 i = E2 229 (i % 128) := pick (E2 229) (i % 128) (Nat.mod_lt _ (by decide))
theorem e2_230 (i : ℕ) : lit2t0_230 i = E2 230 (i % 128) := pick (E2 230) (i % 128) (Nat.mod_lt _ (by decide))
theorem e2_231 (i : ℕ) : lit2t0_231 i = E2 231 (i % 128) := pick (E2 231) (i % 128) (Nat.mod_lt _ (by decide))
theorem e2_232 (i : ℕ) : lit2t0_232 i = E2 232 (i % 128) := pick (E2 232) (i % 128) (Nat.mod_lt _ (by decide))
theorem e2_233 (i : ℕ) : lit2t0_233 i = E2 233 (i % 128) := pick (E2 233) (i % 128) (Nat.mod_lt _ (by decide))
theorem e2_234 (i : ℕ) : lit2t0_234 i = E2 234 (i % 128) := pick (E2 234) (i % 128) (Nat.mod_lt _ (by decide))
theorem e2_235 (i : ℕ) : lit2t0_235 i = E2 235 (i % 128) := pick (E2 235) (i % 128) (Nat.mod_lt _ (by decide))
theorem e2_236 (i : ℕ) : lit2t0_236 i = E2 236 (i % 128) := pick (E2 236) (i % 128) (Nat.mod_lt _ (by decide))
theorem e2_237 (i : ℕ) : lit2t0_237 i = E2 237 (i % 128) := pick (E2 237) (i % 128) (Nat.mod_lt _ (by decide))
theorem e2_238 (i : ℕ) : lit2t0_238 i = E2 238 (i % 128) := pick (E2 238) (i % 128) (Nat.mod_lt _ (by decide))
theorem e2_239 (i : ℕ) : lit2t0_239 i = E2 239 (i % 128) := pick (E2 239) (i % 128) (Nat.mod_lt _ (by decide))
theorem e2_240 (i : ℕ) : lit2t0_240 i = E2 240 (i % 128) := pick (E2 240) (i % 128) (Nat.mod_lt _ (by decide))
theorem e2_241 (i : ℕ) : lit2t0_241 i = E2 241 (i % 128) := pick (E2 241) (i % 128) (Nat.mod_lt _ (by decide))
theorem e2_242 (i : ℕ) : lit2t0_242 i = E2 242 (i % 128) := pick (E2 242) (i % 128) (Nat.mod_lt _ (by decide))
theorem e2_243 (i : ℕ) : lit2t0_243 i = E2 243 (i % 128) := pick (E2 243) (i % 128) (Nat.mod_lt _ (by decide))
theorem e2_244 (i : ℕ) : lit2t0_244 i = E2 244 (i % 128) := pick (E2 244) (i % 128) (Nat.mod_lt _ (by decide))
theorem e2_245 (i : ℕ) : lit2t0_245 i = E2 245 (i % 128) := pick (E2 245) (i % 128) (Nat.mod_lt _ (by decide))
theorem e2_246 (i : ℕ) : lit2t0_246 i = E2 246 (i % 128) := pick (E2 246) (i % 128) (Nat.mod_lt _ (by decide))
theorem e2_247 (i : ℕ) : lit2t0_247 i = E2 247 (i % 128) := pick (E2 247) (i % 128) (Nat.mod_lt _ (by decide))
theorem e2_248 (i : ℕ) : lit2t0_248 i = E2 248 (i % 128) := pick (E2 248) (i % 128) (Nat.mod_lt _ (by decide))
theorem e2_249 (i : ℕ) : lit2t0_249 i = E2 249 (i % 128) := pick (E2 249) (i % 128) (Nat.mod_lt _ (by decide))
theorem e2_250 (i : ℕ) : lit2t0_250 i = E2 250 (i % 128) := pick (E2 250) (i % 128) (Nat.mod_lt _ (by decide))
theorem e2_251 (i : ℕ) : lit2t0_251 i = E2 251 (i % 128) := pick (E2 251) (i % 128) (Nat.mod_lt _ (by decide))
theorem e2_252 (i : ℕ) : lit2t0_252 i = E2 252 (i % 128) := pick (E2 252) (i % 128) (Nat.mod_lt _ (by decide))
theorem e2_253 (i : ℕ) : lit2t0_253 i = E2 253 (i % 128) := pick (E2 253) (i % 128) (Nat.mod_lt _ (by decide))
theorem e2_254 (i : ℕ) : lit2t0_254 i = E2 254 (i % 128) := pick (E2 254) (i % 128) (Nat.mod_lt _ (by decide))
theorem e2_255 (i : ℕ) : lit2t0_255 i = E2 255 (i % 128) := pick (E2 255) (i % 128) (Nat.mod_lt _ (by decide))
theorem e2_256 (i : ℕ) : lit2t0_256 i = E2 256 (i % 128) := pick (E2 256) (i % 128) (Nat.mod_lt _ (by decide))
theorem e2_257 (i : ℕ) : lit2t0_257 i = E2 257 (i % 128) := pick (E2 257) (i % 128) (Nat.mod_lt _ (by decide))
theorem e2_258 (i : ℕ) : lit2t0_258 i = E2 258 (i % 128) := pick (E2 258) (i % 128) (Nat.mod_lt _ (by decide))
theorem e2_259 (i : ℕ) : lit2t0_259 i = E2 259 (i % 128) := pick (E2 259) (i % 128) (Nat.mod_lt _ (by decide))
theorem e2_260 (i : ℕ) : lit2t0_260 i = E2 260 (i % 128) := pick (E2 260) (i % 128) (Nat.mod_lt _ (by decide))
theorem e2_261 (i : ℕ) : lit2t0_261 i = E2 261 (i % 128) := pick (E2 261) (i % 128) (Nat.mod_lt _ (by decide))
theorem e2_262 (i : ℕ) : lit2t0_262 i = E2 262 (i % 128) := pick (E2 262) (i % 128) (Nat.mod_lt _ (by decide))
theorem e2_263 (i : ℕ) : lit2t0_263 i = E2 263 (i % 128) := pick (E2 263) (i % 128) (Nat.mod_lt _ (by decide))
theorem e2_264 (i : ℕ) : lit2t0_264 i = E2 264 (i % 128) := pick (E2 264) (i % 128) (Nat.mod_lt _ (by decide))
theorem e2_265 (i : ℕ) : lit2t0_265 i = E2 265 (i % 128) := pick (E2 265) (i % 128) (Nat.mod_lt _ (by decide))
theorem e2_266 (i : ℕ) : lit2t0_266 i = E2 266 (i % 128) := pick (E2 266) (i % 128) (Nat.mod_lt _ (by decide))
theorem e2_267 (i : ℕ) : lit2t0_267 i = E2 267 (i % 128) := pick (E2 267) (i % 128) (Nat.mod_lt _ (by decide))
theorem e2_268 (i : ℕ) : lit2t0_268 i = E2 268 (i % 128) := pick (E2 268) (i % 128) (Nat.mod_lt _ (by decide))
theorem e2_269 (i : ℕ) : lit2t0_269 i = E2 269 (i % 128) := pick (E2 269) (i % 128) (Nat.mod_lt _ (by decide))
theorem e2_270 (i : ℕ) : lit2t0_270 i = E2 270 (i % 128) := pick (E2 270) (i % 128) (Nat.mod_lt _ (by decide))
theorem e2_271 (i : ℕ) : lit2t0_271 i = E2 271 (i % 128) := pick (E2 271) (i % 128) (Nat.mod_lt _ (by decide))
theorem e2_272 (i : ℕ) : lit2t0_272 i = E2 272 (i % 128) := pick (E2 272) (i % 128) (Nat.mod_lt _ (by decide))
theorem e2_273 (i : ℕ) : lit2t0_273 i = E2 273 (i % 128) := pick (E2 273) (i % 128) (Nat.mod_lt _ (by decide))
theorem e2_274 (i : ℕ) : lit2t0_274 i = E2 274 (i % 128) := pick (E2 274) (i % 128) (Nat.mod_lt _ (by decide))
theorem e2_275 (i : ℕ) : lit2t0_275 i = E2 275 (i % 128) := pick (E2 275) (i % 128) (Nat.mod_lt _ (by decide))
theorem e2_276 (i : ℕ) : lit2t0_276 i = E2 276 (i % 128) := pick (E2 276) (i % 128) (Nat.mod_lt _ (by decide))
theorem e2_277 (i : ℕ) : lit2t0_277 i = E2 277 (i % 128) := pick (E2 277) (i % 128) (Nat.mod_lt _ (by decide))
theorem e2_278 (i : ℕ) : lit2t0_278 i = E2 278 (i % 128) := pick (E2 278) (i % 128) (Nat.mod_lt _ (by decide))
theorem e2_279 (i : ℕ) : lit2t0_279 i = E2 279 (i % 128) := pick (E2 279) (i % 128) (Nat.mod_lt _ (by decide))
theorem e2_280 (i : ℕ) : lit2t0_280 i = E2 280 (i % 128) := pick (E2 280) (i % 128) (Nat.mod_lt _ (by decide))
theorem e2_281 (i : ℕ) : lit2t0_281 i = E2 281 (i % 128) := pick (E2 281) (i % 128) (Nat.mod_lt _ (by decide))
theorem e2_282 (i : ℕ) : lit2t0_282 i = E2 282 (i % 128) := pick (E2 282) (i % 128) (Nat.mod_lt _ (by decide))
theorem e2_283 (i : ℕ) : lit2t0_283 i = E2 283 (i % 128) := pick (E2 283) (i % 128) (Nat.mod_lt _ (by decide))
theorem e2_284 (i : ℕ) : lit2t0_284 i = E2 284 (i % 128) := pick (E2 284) (i % 128) (Nat.mod_lt _ (by decide))
theorem e2_285 (i : ℕ) : lit2t0_285 i = E2 285 (i % 128) := pick (E2 285) (i % 128) (Nat.mod_lt _ (by decide))
theorem e2_286 (i : ℕ) : lit2t0_286 i = E2 286 (i % 128) := pick (E2 286) (i % 128) (Nat.mod_lt _ (by decide))
theorem e2_287 (i : ℕ) : lit2t0_287 i = E2 287 (i % 128) := pick (E2 287) (i % 128) (Nat.mod_lt _ (by decide))
theorem e2_288 (i : ℕ) : lit2t0_288 i = E2 288 (i % 128) := pick (E2 288) (i % 128) (Nat.mod_lt _ (by decide))
theorem e2_289 (i : ℕ) : lit2t0_289 i = E2 289 (i % 128) := pick (E2 289) (i % 128) (Nat.mod_lt _ (by decide))
theorem e2_290 (i : ℕ) : lit2t0_290 i = E2 290 (i % 128) := pick (E2 290) (i % 128) (Nat.mod_lt _ (by decide))
theorem e2_291 (i : ℕ) : lit2t0_291 i = E2 291 (i % 128) := pick (E2 291) (i % 128) (Nat.mod_lt _ (by decide))
theorem e2_292 (i : ℕ) : lit2t0_292 i = E2 292 (i % 128) := pick (E2 292) (i % 128) (Nat.mod_lt _ (by decide))
theorem e2_293 (i : ℕ) : lit2t0_293 i = E2 293 (i % 128) := pick (E2 293) (i % 128) (Nat.mod_lt _ (by decide))
theorem e2_294 (i : ℕ) : lit2t0_294 i = E2 294 (i % 128) := pick (E2 294) (i % 128) (Nat.mod_lt _ (by decide))
theorem e2_295 (i : ℕ) : lit2t0_295 i = E2 295 (i % 128) := pick (E2 295) (i % 128) (Nat.mod_lt _ (by decide))
theorem e2_296 (i : ℕ) : lit2t0_296 i = E2 296 (i % 128) := pick (E2 296) (i % 128) (Nat.mod_lt _ (by decide))
theorem e2_297 (i : ℕ) : lit2t0_297 i = E2 297 (i % 128) := pick (E2 297) (i % 128) (Nat.mod_lt _ (by decide))
theorem e2_298 (i : ℕ) : lit2t0_298 i = E2 298 (i % 128) := pick (E2 298) (i % 128) (Nat.mod_lt _ (by decide))
theorem e2_299 (i : ℕ) : lit2t0_299 i = E2 299 (i % 128) := pick (E2 299) (i % 128) (Nat.mod_lt _ (by decide))
theorem e2_300 (i : ℕ) : lit2t0_300 i = E2 300 (i % 128) := pick (E2 300) (i % 128) (Nat.mod_lt _ (by decide))
theorem e2_301 (i : ℕ) : lit2t0_301 i = E2 301 (i % 128) := pick (E2 301) (i % 128) (Nat.mod_lt _ (by decide))
theorem e2_302 (i : ℕ) : lit2t0_302 i = E2 302 (i % 128) := pick (E2 302) (i % 128) (Nat.mod_lt _ (by decide))
theorem e2_303 (i : ℕ) : lit2t0_303 i = E2 303 (i % 128) := pick (E2 303) (i % 128) (Nat.mod_lt _ (by decide))
theorem e2_304 (i : ℕ) : lit2t0_304 i = E2 304 (i % 128) := pick (E2 304) (i % 128) (Nat.mod_lt _ (by decide))
theorem e2_305 (i : ℕ) : lit2t0_305 i = E2 305 (i % 128) := pick (E2 305) (i % 128) (Nat.mod_lt _ (by decide))
theorem e2_306 (i : ℕ) : lit2t0_306 i = E2 306 (i % 128) := pick (E2 306) (i % 128) (Nat.mod_lt _ (by decide))
theorem e2_307 (i : ℕ) : lit2t0_307 i = E2 307 (i % 128) := pick (E2 307) (i % 128) (Nat.mod_lt _ (by decide))
theorem e2_308 (i : ℕ) : lit2t0_308 i = E2 308 (i % 128) := pick (E2 308) (i % 128) (Nat.mod_lt _ (by decide))
theorem e2_309 (i : ℕ) : lit2t0_309 i = E2 309 (i % 128) := pick (E2 309) (i % 128) (Nat.mod_lt _ (by decide))
theorem e2_310 (i : ℕ) : lit2t0_310 i = E2 310 (i % 128) := pick (E2 310) (i % 128) (Nat.mod_lt _ (by decide))
theorem e2_311 (i : ℕ) : lit2t0_311 i = E2 311 (i % 128) := pick (E2 311) (i % 128) (Nat.mod_lt _ (by decide))
theorem e2_312 (i : ℕ) : lit2t0_312 i = E2 312 (i % 128) := pick (E2 312) (i % 128) (Nat.mod_lt _ (by decide))
theorem e2_313 (i : ℕ) : lit2t0_313 i = E2 313 (i % 128) := pick (E2 313) (i % 128) (Nat.mod_lt _ (by decide))
theorem e2_314 (i : ℕ) : lit2t0_314 i = E2 314 (i % 128) := pick (E2 314) (i % 128) (Nat.mod_lt _ (by decide))
theorem e2_315 (i : ℕ) : lit2t0_315 i = E2 315 (i % 128) := pick (E2 315) (i % 128) (Nat.mod_lt _ (by decide))
theorem e2_316 (i : ℕ) : lit2t0_316 i = E2 316 (i % 128) := pick (E2 316) (i % 128) (Nat.mod_lt _ (by decide))
theorem e2_317 (i : ℕ) : lit2t0_317 i = E2 317 (i % 128) := pick (E2 317) (i % 128) (Nat.mod_lt _ (by decide))
theorem e2_318 (i : ℕ) : lit2t0_318 i = E2 318 (i % 128) := pick (E2 318) (i % 128) (Nat.mod_lt _ (by decide))
theorem e2_319 (i : ℕ) : lit2t0_319 i = E2 319 (i % 128) := pick (E2 319) (i % 128) (Nat.mod_lt _ (by decide))
theorem e2_320 (i : ℕ) : lit2t0_320 i = E2 320 (i % 128) := pick (E2 320) (i % 128) (Nat.mod_lt _ (by decide))
theorem e2_321 (i : ℕ) : lit2t0_321 i = E2 321 (i % 128) := pick (E2 321) (i % 128) (Nat.mod_lt _ (by decide))
theorem e2_322 (i : ℕ) : lit2t0_322 i = E2 322 (i % 128) := pick (E2 322) (i % 128) (Nat.mod_lt _ (by decide))
theorem e2_323 (i : ℕ) : lit2t0_323 i = E2 323 (i % 128) := pick (E2 323) (i % 128) (Nat.mod_lt _ (by decide))
theorem e2_324 (i : ℕ) : lit2t0_324 i = E2 324 (i % 128) := pick (E2 324) (i % 128) (Nat.mod_lt _ (by decide))
theorem e2_325 (i : ℕ) : lit2t0_325 i = E2 325 (i % 128) := pick (E2 325) (i % 128) (Nat.mod_lt _ (by decide))
theorem e2_326 (i : ℕ) : lit2t0_326 i = E2 326 (i % 128) := pick (E2 326) (i % 128) (Nat.mod_lt _ (by decide))
theorem e2_327 (i : ℕ) : lit2t0_327 i = E2 327 (i % 128) := pick (E2 327) (i % 128) (Nat.mod_lt _ (by decide))
theorem e2_328 (i : ℕ) : lit2t0_328 i = E2 328 (i % 128) := pick (E2 328) (i % 128) (Nat.mod_lt _ (by decide))
theorem e2_329 (i : ℕ) : lit2t0_329 i = E2 329 (i % 128) := pick (E2 329) (i % 128) (Nat.mod_lt _ (by decide))
theorem e2_330 (i : ℕ) : lit2t0_330 i = E2 330 (i % 128) := pick (E2 330) (i % 128) (Nat.mod_lt _ (by decide))
theorem e2_331 (i : ℕ) : lit2t0_331 i = E2 331 (i % 128) := pick (E2 331) (i % 128) (Nat.mod_lt _ (by decide))
theorem e2_332 (i : ℕ) : lit2t0_332 i = E2 332 (i % 128) := pick (E2 332) (i % 128) (Nat.mod_lt _ (by decide))
theorem e2_333 (i : ℕ) : lit2t0_333 i = E2 333 (i % 128) := pick (E2 333) (i % 128) (Nat.mod_lt _ (by decide))
theorem e2_334 (i : ℕ) : lit2t0_334 i = E2 334 (i % 128) := pick (E2 334) (i % 128) (Nat.mod_lt _ (by decide))
theorem e2_335 (i : ℕ) : lit2t0_335 i = E2 335 (i % 128) := pick (E2 335) (i % 128) (Nat.mod_lt _ (by decide))
theorem e2_336 (i : ℕ) : lit2t0_336 i = E2 336 (i % 128) := pick (E2 336) (i % 128) (Nat.mod_lt _ (by decide))
theorem e2_337 (i : ℕ) : lit2t0_337 i = E2 337 (i % 128) := pick (E2 337) (i % 128) (Nat.mod_lt _ (by decide))
theorem e2_338 (i : ℕ) : lit2t0_338 i = E2 338 (i % 128) := pick (E2 338) (i % 128) (Nat.mod_lt _ (by decide))
theorem e2_339 (i : ℕ) : lit2t0_339 i = E2 339 (i % 128) := pick (E2 339) (i % 128) (Nat.mod_lt _ (by decide))
theorem e2_340 (i : ℕ) : lit2t0_340 i = E2 340 (i % 128) := pick (E2 340) (i % 128) (Nat.mod_lt _ (by decide))
theorem e2_341 (i : ℕ) : lit2t0_341 i = E2 341 (i % 128) := pick (E2 341) (i % 128) (Nat.mod_lt _ (by decide))
theorem e2_342 (i : ℕ) : lit2t0_342 i = E2 342 (i % 128) := pick (E2 342) (i % 128) (Nat.mod_lt _ (by decide))
theorem e2_343 (i : ℕ) : lit2t0_343 i = E2 343 (i % 128) := pick (E2 343) (i % 128) (Nat.mod_lt _ (by decide))
theorem e2_344 (i : ℕ) : lit2t0_344 i = E2 344 (i % 128) := pick (E2 344) (i % 128) (Nat.mod_lt _ (by decide))
theorem e2_345 (i : ℕ) : lit2t0_345 i = E2 345 (i % 128) := pick (E2 345) (i % 128) (Nat.mod_lt _ (by decide))
theorem e2_346 (i : ℕ) : lit2t0_346 i = E2 346 (i % 128) := pick (E2 346) (i % 128) (Nat.mod_lt _ (by decide))
theorem e2_347 (i : ℕ) : lit2t0_347 i = E2 347 (i % 128) := pick (E2 347) (i % 128) (Nat.mod_lt _ (by decide))
theorem e2_348 (i : ℕ) : lit2t0_348 i = E2 348 (i % 128) := pick (E2 348) (i % 128) (Nat.mod_lt _ (by decide))
theorem e2_349 (i : ℕ) : lit2t0_349 i = E2 349 (i % 128) := pick (E2 349) (i % 128) (Nat.mod_lt _ (by decide))
theorem e2_350 (i : ℕ) : lit2t0_350 i = E2 350 (i % 128) := pick (E2 350) (i % 128) (Nat.mod_lt _ (by decide))
theorem e2_351 (i : ℕ) : lit2t0_351 i = E2 351 (i % 128) := pick (E2 351) (i % 128) (Nat.mod_lt _ (by decide))
theorem e2_352 (i : ℕ) : lit2t0_352 i = E2 352 (i % 128) := pick (E2 352) (i % 128) (Nat.mod_lt _ (by decide))
theorem e2_353 (i : ℕ) : lit2t0_353 i = E2 353 (i % 128) := pick (E2 353) (i % 128) (Nat.mod_lt _ (by decide))
theorem e2_354 (i : ℕ) : lit2t0_354 i = E2 354 (i % 128) := pick (E2 354) (i % 128) (Nat.mod_lt _ (by decide))
theorem e2_355 (i : ℕ) : lit2t0_355 i = E2 355 (i % 128) := pick (E2 355) (i % 128) (Nat.mod_lt _ (by decide))
theorem e2_356 (i : ℕ) : lit2t0_356 i = E2 356 (i % 128) := pick (E2 356) (i % 128) (Nat.mod_lt _ (by decide))
theorem e2_357 (i : ℕ) : lit2t0_357 i = E2 357 (i % 128) := pick (E2 357) (i % 128) (Nat.mod_lt _ (by decide))
theorem e2_358 (i : ℕ) : lit2t0_358 i = E2 358 (i % 128) := pick (E2 358) (i % 128) (Nat.mod_lt _ (by decide))
theorem e2_359 (i : ℕ) : lit2t0_359 i = E2 359 (i % 128) := pick (E2 359) (i % 128) (Nat.mod_lt _ (by decide))
theorem e2_360 (i : ℕ) : lit2t0_360 i = E2 360 (i % 128) := pick (E2 360) (i % 128) (Nat.mod_lt _ (by decide))
theorem e2_361 (i : ℕ) : lit2t0_361 i = E2 361 (i % 128) := pick (E2 361) (i % 128) (Nat.mod_lt _ (by decide))
theorem e2_362 (i : ℕ) : lit2t0_362 i = E2 362 (i % 128) := pick (E2 362) (i % 128) (Nat.mod_lt _ (by decide))
theorem e2_363 (i : ℕ) : lit2t0_363 i = E2 363 (i % 128) := pick (E2 363) (i % 128) (Nat.mod_lt _ (by decide))
theorem e2_364 (i : ℕ) : lit2t0_364 i = E2 364 (i % 128) := pick (E2 364) (i % 128) (Nat.mod_lt _ (by decide))
theorem e2_365 (i : ℕ) : lit2t0_365 i = E2 365 (i % 128) := pick (E2 365) (i % 128) (Nat.mod_lt _ (by decide))
theorem e2_366 (i : ℕ) : lit2t0_366 i = E2 366 (i % 128) := pick (E2 366) (i % 128) (Nat.mod_lt _ (by decide))
theorem e2_367 (i : ℕ) : lit2t0_367 i = E2 367 (i % 128) := pick (E2 367) (i % 128) (Nat.mod_lt _ (by decide))
theorem e2_368 (i : ℕ) : lit2t0_368 i = E2 368 (i % 128) := pick (E2 368) (i % 128) (Nat.mod_lt _ (by decide))
theorem e2_369 (i : ℕ) : lit2t0_369 i = E2 369 (i % 128) := pick (E2 369) (i % 128) (Nat.mod_lt _ (by decide))
theorem e2_370 (i : ℕ) : lit2t0_370 i = E2 370 (i % 128) := pick (E2 370) (i % 128) (Nat.mod_lt _ (by decide))
theorem e2_371 (i : ℕ) : lit2t0_371 i = E2 371 (i % 128) := pick (E2 371) (i % 128) (Nat.mod_lt _ (by decide))
theorem e2_372 (i : ℕ) : lit2t0_372 i = E2 372 (i % 128) := pick (E2 372) (i % 128) (Nat.mod_lt _ (by decide))
theorem e2_373 (i : ℕ) : lit2t0_373 i = E2 373 (i % 128) := pick (E2 373) (i % 128) (Nat.mod_lt _ (by decide))
theorem e2_374 (i : ℕ) : lit2t0_374 i = E2 374 (i % 128) := pick (E2 374) (i % 128) (Nat.mod_lt _ (by decide))
theorem e2_375 (i : ℕ) : lit2t0_375 i = E2 375 (i % 128) := pick (E2 375) (i % 128) (Nat.mod_lt _ (by decide))
theorem e2_376 (i : ℕ) : lit2t0_376 i = E2 376 (i % 128) := pick (E2 376) (i % 128) (Nat.mod_lt _ (by decide))
theorem e2_377 (i : ℕ) : lit2t0_377 i = E2 377 (i % 128) := pick (E2 377) (i % 128) (Nat.mod_lt _ (by decide))
theorem e2_378 (i : ℕ) : lit2t0_378 i = E2 378 (i % 128) := pick (E2 378) (i % 128) (Nat.mod_lt _ (by decide))
theorem e2_379 (i : ℕ) : lit2t0_379 i = E2 379 (i % 128) := pick (E2 379) (i % 128) (Nat.mod_lt _ (by decide))
theorem e2_380 (i : ℕ) : lit2t0_380 i = E2 380 (i % 128) := pick (E2 380) (i % 128) (Nat.mod_lt _ (by decide))
theorem e2_381 (i : ℕ) : lit2t0_381 i = E2 381 (i % 128) := pick (E2 381) (i % 128) (Nat.mod_lt _ (by decide))
theorem e2_382 (i : ℕ) : lit2t0_382 i = E2 382 (i % 128) := pick (E2 382) (i % 128) (Nat.mod_lt _ (by decide))
theorem e2_383 (i : ℕ) : lit2t0_383 i = E2 383 (i % 128) := pick (E2 383) (i % 128) (Nat.mod_lt _ (by decide))
theorem e2_384 (i : ℕ) : lit2t0_384 i = E2 384 (i % 128) := pick (E2 384) (i % 128) (Nat.mod_lt _ (by decide))
theorem e2_385 (i : ℕ) : lit2t0_385 i = E2 385 (i % 128) := pick (E2 385) (i % 128) (Nat.mod_lt _ (by decide))
theorem e2_386 (i : ℕ) : lit2t0_386 i = E2 386 (i % 128) := pick (E2 386) (i % 128) (Nat.mod_lt _ (by decide))
theorem e2_387 (i : ℕ) : lit2t0_387 i = E2 387 (i % 128) := pick (E2 387) (i % 128) (Nat.mod_lt _ (by decide))
theorem e2_388 (i : ℕ) : lit2t0_388 i = E2 388 (i % 128) := pick (E2 388) (i % 128) (Nat.mod_lt _ (by decide))
theorem e2_389 (i : ℕ) : lit2t0_389 i = E2 389 (i % 128) := pick (E2 389) (i % 128) (Nat.mod_lt _ (by decide))
theorem e2_390 (i : ℕ) : lit2t0_390 i = E2 390 (i % 128) := pick (E2 390) (i % 128) (Nat.mod_lt _ (by decide))
theorem e2_391 (i : ℕ) : lit2t0_391 i = E2 391 (i % 128) := pick (E2 391) (i % 128) (Nat.mod_lt _ (by decide))
theorem e2_392 (i : ℕ) : lit2t0_392 i = E2 392 (i % 128) := pick (E2 392) (i % 128) (Nat.mod_lt _ (by decide))
theorem e2_393 (i : ℕ) : lit2t0_393 i = E2 393 (i % 128) := pick (E2 393) (i % 128) (Nat.mod_lt _ (by decide))
theorem e2_394 (i : ℕ) : lit2t0_394 i = E2 394 (i % 128) := pick (E2 394) (i % 128) (Nat.mod_lt _ (by decide))
theorem e2_395 (i : ℕ) : lit2t0_395 i = E2 395 (i % 128) := pick (E2 395) (i % 128) (Nat.mod_lt _ (by decide))
theorem e2_396 (i : ℕ) : lit2t0_396 i = E2 396 (i % 128) := pick (E2 396) (i % 128) (Nat.mod_lt _ (by decide))
theorem e2_397 (i : ℕ) : lit2t0_397 i = E2 397 (i % 128) := pick (E2 397) (i % 128) (Nat.mod_lt _ (by decide))
theorem e2_398 (i : ℕ) : lit2t0_398 i = E2 398 (i % 128) := pick (E2 398) (i % 128) (Nat.mod_lt _ (by decide))
theorem e2_399 (i : ℕ) : lit2t0_399 i = E2 399 (i % 128) := pick (E2 399) (i % 128) (Nat.mod_lt _ (by decide))
theorem e2_400 (i : ℕ) : lit2t0_400 i = E2 400 (i % 128) := pick (E2 400) (i % 128) (Nat.mod_lt _ (by decide))
theorem e2_401 (i : ℕ) : lit2t0_401 i = E2 401 (i % 128) := pick (E2 401) (i % 128) (Nat.mod_lt _ (by decide))
theorem e2_402 (i : ℕ) : lit2t0_402 i = E2 402 (i % 128) := pick (E2 402) (i % 128) (Nat.mod_lt _ (by decide))
theorem e2_403 (i : ℕ) : lit2t0_403 i = E2 403 (i % 128) := pick (E2 403) (i % 128) (Nat.mod_lt _ (by decide))
theorem e2_404 (i : ℕ) : lit2t0_404 i = E2 404 (i % 128) := pick (E2 404) (i % 128) (Nat.mod_lt _ (by decide))
theorem e2_405 (i : ℕ) : lit2t0_405 i = E2 405 (i % 128) := pick (E2 405) (i % 128) (Nat.mod_lt _ (by decide))
theorem e2_406 (i : ℕ) : lit2t0_406 i = E2 406 (i % 128) := pick (E2 406) (i % 128) (Nat.mod_lt _ (by decide))
theorem e2_407 (i : ℕ) : lit2t0_407 i = E2 407 (i % 128) := pick (E2 407) (i % 128) (Nat.mod_lt _ (by decide))
theorem e2_408 (i : ℕ) : lit2t0_408 i = E2 408 (i % 128) := pick (E2 408) (i % 128) (Nat.mod_lt _ (by decide))
theorem e2_409 (i : ℕ) : lit2t0_409 i = E2 409 (i % 128) := pick (E2 409) (i % 128) (Nat.mod_lt _ (by decide))
theorem e2_410 (i : ℕ) : lit2t0_410 i = E2 410 (i % 128) := pick (E2 410) (i % 128) (Nat.mod_lt _ (by decide))
theorem e2_411 (i : ℕ) : lit2t0_411 i = E2 411 (i % 128) := pick (E2 411) (i % 128) (Nat.mod_lt _ (by decide))
theorem e2_412 (i : ℕ) : lit2t0_412 i = E2 412 (i % 128) := pick (E2 412) (i % 128) (Nat.mod_lt _ (by decide))
theorem e2_413 (i : ℕ) : lit2t0_413 i = E2 413 (i % 128) := pick (E2 413) (i % 128) (Nat.mod_lt _ (by decide))
theorem e2_414 (i : ℕ) : lit2t0_414 i = E2 414 (i % 128) := pick (E2 414) (i % 128) (Nat.mod_lt _ (by decide))
theorem e2_415 (i : ℕ) : lit2t0_415 i = E2 415 (i % 128) := pick (E2 415) (i % 128) (Nat.mod_lt _ (by decide))
theorem e2_416 (i : ℕ) : lit2t0_416 i = E2 416 (i % 128) := pick (E2 416) (i % 128) (Nat.mod_lt _ (by decide))
theorem e2_417 (i : ℕ) : lit2t0_417 i = E2 417 (i % 128) := pick (E2 417) (i % 128) (Nat.mod_lt _ (by decide))
theorem e2_418 (i : ℕ) : lit2t0_418 i = E2 418 (i % 128) := pick (E2 418) (i % 128) (Nat.mod_lt _ (by decide))
theorem e2_419 (i : ℕ) : lit2t0_419 i = E2 419 (i % 128) := pick (E2 419) (i % 128) (Nat.mod_lt _ (by decide))
theorem e2_420 (i : ℕ) : lit2t0_420 i = E2 420 (i % 128) := pick (E2 420) (i % 128) (Nat.mod_lt _ (by decide))
theorem e2_421 (i : ℕ) : lit2t0_421 i = E2 421 (i % 128) := pick (E2 421) (i % 128) (Nat.mod_lt _ (by decide))
theorem e2_422 (i : ℕ) : lit2t0_422 i = E2 422 (i % 128) := pick (E2 422) (i % 128) (Nat.mod_lt _ (by decide))
theorem e2_423 (i : ℕ) : lit2t0_423 i = E2 423 (i % 128) := pick (E2 423) (i % 128) (Nat.mod_lt _ (by decide))
theorem e2_424 (i : ℕ) : lit2t0_424 i = E2 424 (i % 128) := pick (E2 424) (i % 128) (Nat.mod_lt _ (by decide))
theorem e2_425 (i : ℕ) : lit2t0_425 i = E2 425 (i % 128) := pick (E2 425) (i % 128) (Nat.mod_lt _ (by decide))
theorem e2_426 (i : ℕ) : lit2t0_426 i = E2 426 (i % 128) := pick (E2 426) (i % 128) (Nat.mod_lt _ (by decide))
theorem e2_427 (i : ℕ) : lit2t0_427 i = E2 427 (i % 128) := pick (E2 427) (i % 128) (Nat.mod_lt _ (by decide))
theorem e2_428 (i : ℕ) : lit2t0_428 i = E2 428 (i % 128) := pick (E2 428) (i % 128) (Nat.mod_lt _ (by decide))
theorem e2_429 (i : ℕ) : lit2t0_429 i = E2 429 (i % 128) := pick (E2 429) (i % 128) (Nat.mod_lt _ (by decide))
theorem e2_430 (i : ℕ) : lit2t0_430 i = E2 430 (i % 128) := pick (E2 430) (i % 128) (Nat.mod_lt _ (by decide))
theorem e2_431 (i : ℕ) : lit2t0_431 i = E2 431 (i % 128) := pick (E2 431) (i % 128) (Nat.mod_lt _ (by decide))
theorem e2_432 (i : ℕ) : lit2t0_432 i = E2 432 (i % 128) := pick (E2 432) (i % 128) (Nat.mod_lt _ (by decide))
theorem e2_433 (i : ℕ) : lit2t0_433 i = E2 433 (i % 128) := pick (E2 433) (i % 128) (Nat.mod_lt _ (by decide))
theorem e2_434 (i : ℕ) : lit2t0_434 i = E2 434 (i % 128) := pick (E2 434) (i % 128) (Nat.mod_lt _ (by decide))
theorem e2_435 (i : ℕ) : lit2t0_435 i = E2 435 (i % 128) := pick (E2 435) (i % 128) (Nat.mod_lt _ (by decide))
theorem e2_436 (i : ℕ) : lit2t0_436 i = E2 436 (i % 128) := pick (E2 436) (i % 128) (Nat.mod_lt _ (by decide))
theorem e2_437 (i : ℕ) : lit2t0_437 i = E2 437 (i % 128) := pick (E2 437) (i % 128) (Nat.mod_lt _ (by decide))
theorem e2_438 (i : ℕ) : lit2t0_438 i = E2 438 (i % 128) := pick (E2 438) (i % 128) (Nat.mod_lt _ (by decide))
theorem e2_439 (i : ℕ) : lit2t0_439 i = E2 439 (i % 128) := pick (E2 439) (i % 128) (Nat.mod_lt _ (by decide))
theorem e2_440 (i : ℕ) : lit2t0_440 i = E2 440 (i % 128) := pick (E2 440) (i % 128) (Nat.mod_lt _ (by decide))
theorem e2_441 (i : ℕ) : lit2t0_441 i = E2 441 (i % 128) := pick (E2 441) (i % 128) (Nat.mod_lt _ (by decide))
theorem e2_442 (i : ℕ) : lit2t0_442 i = E2 442 (i % 128) := pick (E2 442) (i % 128) (Nat.mod_lt _ (by decide))
theorem e2_443 (i : ℕ) : lit2t0_443 i = E2 443 (i % 128) := pick (E2 443) (i % 128) (Nat.mod_lt _ (by decide))
theorem e2_444 (i : ℕ) : lit2t0_444 i = E2 444 (i % 128) := pick (E2 444) (i % 128) (Nat.mod_lt _ (by decide))
theorem e2_445 (i : ℕ) : lit2t0_445 i = E2 445 (i % 128) := pick (E2 445) (i % 128) (Nat.mod_lt _ (by decide))
theorem e2_446 (i : ℕ) : lit2t0_446 i = E2 446 (i % 128) := pick (E2 446) (i % 128) (Nat.mod_lt _ (by decide))
theorem e2_447 (i : ℕ) : lit2t0_447 i = E2 447 (i % 128) := pick (E2 447) (i % 128) (Nat.mod_lt _ (by decide))
theorem e2_448 (i : ℕ) : lit2t0_448 i = E2 448 (i % 128) := pick (E2 448) (i % 128) (Nat.mod_lt _ (by decide))
theorem e2_449 (i : ℕ) : lit2t0_449 i = E2 449 (i % 128) := pick (E2 449) (i % 128) (Nat.mod_lt _ (by decide))
theorem e2_450 (i : ℕ) : lit2t0_450 i = E2 450 (i % 128) := pick (E2 450) (i % 128) (Nat.mod_lt _ (by decide))
theorem e2_451 (i : ℕ) : lit2t0_451 i = E2 451 (i % 128) := pick (E2 451) (i % 128) (Nat.mod_lt _ (by decide))
theorem e2_452 (i : ℕ) : lit2t0_452 i = E2 452 (i % 128) := pick (E2 452) (i % 128) (Nat.mod_lt _ (by decide))
theorem e2_453 (i : ℕ) : lit2t0_453 i = E2 453 (i % 128) := pick (E2 453) (i % 128) (Nat.mod_lt _ (by decide))
theorem e2_454 (i : ℕ) : lit2t0_454 i = E2 454 (i % 128) := pick (E2 454) (i % 128) (Nat.mod_lt _ (by decide))
theorem e2_455 (i : ℕ) : lit2t0_455 i = E2 455 (i % 128) := pick (E2 455) (i % 128) (Nat.mod_lt _ (by decide))
theorem e2_456 (i : ℕ) : lit2t0_456 i = E2 456 (i % 128) := pick (E2 456) (i % 128) (Nat.mod_lt _ (by decide))
theorem e2_457 (i : ℕ) : lit2t0_457 i = E2 457 (i % 128) := pick (E2 457) (i % 128) (Nat.mod_lt _ (by decide))
theorem e2_458 (i : ℕ) : lit2t0_458 i = E2 458 (i % 128) := pick (E2 458) (i % 128) (Nat.mod_lt _ (by decide))
theorem e2_459 (i : ℕ) : lit2t0_459 i = E2 459 (i % 128) := pick (E2 459) (i % 128) (Nat.mod_lt _ (by decide))
theorem e2_460 (i : ℕ) : lit2t0_460 i = E2 460 (i % 128) := pick (E2 460) (i % 128) (Nat.mod_lt _ (by decide))
theorem e2_461 (i : ℕ) : lit2t0_461 i = E2 461 (i % 128) := pick (E2 461) (i % 128) (Nat.mod_lt _ (by decide))
theorem e2_462 (i : ℕ) : lit2t0_462 i = E2 462 (i % 128) := pick (E2 462) (i % 128) (Nat.mod_lt _ (by decide))
theorem e2_463 (i : ℕ) : lit2t0_463 i = E2 463 (i % 128) := pick (E2 463) (i % 128) (Nat.mod_lt _ (by decide))
theorem e2_464 (i : ℕ) : lit2t0_464 i = E2 464 (i % 128) := pick (E2 464) (i % 128) (Nat.mod_lt _ (by decide))
theorem e2_465 (i : ℕ) : lit2t0_465 i = E2 465 (i % 128) := pick (E2 465) (i % 128) (Nat.mod_lt _ (by decide))
theorem e2_466 (i : ℕ) : lit2t0_466 i = E2 466 (i % 128) := pick (E2 466) (i % 128) (Nat.mod_lt _ (by decide))
theorem e2_467 (i : ℕ) : lit2t0_467 i = E2 467 (i % 128) := pick (E2 467) (i % 128) (Nat.mod_lt _ (by decide))
theorem e2_468 (i : ℕ) : lit2t0_468 i = E2 468 (i % 128) := pick (E2 468) (i % 128) (Nat.mod_lt _ (by decide))
theorem e2_469 (i : ℕ) : lit2t0_469 i = E2 469 (i % 128) := pick (E2 469) (i % 128) (Nat.mod_lt _ (by decide))
theorem e2_470 (i : ℕ) : lit2t0_470 i = E2 470 (i % 128) := pick (E2 470) (i % 128) (Nat.mod_lt _ (by decide))
theorem e2_471 (i : ℕ) : lit2t0_471 i = E2 471 (i % 128) := pick (E2 471) (i % 128) (Nat.mod_lt _ (by decide))
theorem e2_472 (i : ℕ) : lit2t0_472 i = E2 472 (i % 128) := pick (E2 472) (i % 128) (Nat.mod_lt _ (by decide))
theorem e2_473 (i : ℕ) : lit2t0_473 i = E2 473 (i % 128) := pick (E2 473) (i % 128) (Nat.mod_lt _ (by decide))
theorem e2_474 (i : ℕ) : lit2t0_474 i = E2 474 (i % 128) := pick (E2 474) (i % 128) (Nat.mod_lt _ (by decide))
theorem e2_475 (i : ℕ) : lit2t0_475 i = E2 475 (i % 128) := pick (E2 475) (i % 128) (Nat.mod_lt _ (by decide))
theorem e2_476 (i : ℕ) : lit2t0_476 i = E2 476 (i % 128) := pick (E2 476) (i % 128) (Nat.mod_lt _ (by decide))
theorem e2_477 (i : ℕ) : lit2t0_477 i = E2 477 (i % 128) := pick (E2 477) (i % 128) (Nat.mod_lt _ (by decide))
theorem e2_478 (i : ℕ) : lit2t0_478 i = E2 478 (i % 128) := pick (E2 478) (i % 128) (Nat.mod_lt _ (by decide))
theorem e2_479 (i : ℕ) : lit2t0_479 i = E2 479 (i % 128) := pick (E2 479) (i % 128) (Nat.mod_lt _ (by decide))
theorem e2_480 (i : ℕ) : lit2t0_480 i = E2 480 (i % 128) := pick (E2 480) (i % 128) (Nat.mod_lt _ (by decide))
theorem e2_481 (i : ℕ) : lit2t0_481 i = E2 481 (i % 128) := pick (E2 481) (i % 128) (Nat.mod_lt _ (by decide))
theorem e2_482 (i : ℕ) : lit2t0_482 i = E2 482 (i % 128) := pick (E2 482) (i % 128) (Nat.mod_lt _ (by decide))
theorem e2_483 (i : ℕ) : lit2t0_483 i = E2 483 (i % 128) := pick (E2 483) (i % 128) (Nat.mod_lt _ (by decide))
theorem e2_484 (i : ℕ) : lit2t0_484 i = E2 484 (i % 128) := pick (E2 484) (i % 128) (Nat.mod_lt _ (by decide))
theorem e2_485 (i : ℕ) : lit2t0_485 i = E2 485 (i % 128) := pick (E2 485) (i % 128) (Nat.mod_lt _ (by decide))
theorem e2_486 (i : ℕ) : lit2t0_486 i = E2 486 (i % 128) := pick (E2 486) (i % 128) (Nat.mod_lt _ (by decide))
theorem e2_487 (i : ℕ) : lit2t0_487 i = E2 487 (i % 128) := pick (E2 487) (i % 128) (Nat.mod_lt _ (by decide))
theorem e2_488 (i : ℕ) : lit2t0_488 i = E2 488 (i % 128) := pick (E2 488) (i % 128) (Nat.mod_lt _ (by decide))
theorem e2_489 (i : ℕ) : lit2t0_489 i = E2 489 (i % 128) := pick (E2 489) (i % 128) (Nat.mod_lt _ (by decide))
theorem e2_490 (i : ℕ) : lit2t0_490 i = E2 490 (i % 128) := pick (E2 490) (i % 128) (Nat.mod_lt _ (by decide))
theorem e2_491 (i : ℕ) : lit2t0_491 i = E2 491 (i % 128) := pick (E2 491) (i % 128) (Nat.mod_lt _ (by decide))
theorem e2_492 (i : ℕ) : lit2t0_492 i = E2 492 (i % 128) := pick (E2 492) (i % 128) (Nat.mod_lt _ (by decide))
theorem e2_493 (i : ℕ) : lit2t0_493 i = E2 493 (i % 128) := pick (E2 493) (i % 128) (Nat.mod_lt _ (by decide))
theorem e2_494 (i : ℕ) : lit2t0_494 i = E2 494 (i % 128) := pick (E2 494) (i % 128) (Nat.mod_lt _ (by decide))
theorem e2_495 (i : ℕ) : lit2t0_495 i = E2 495 (i % 128) := pick (E2 495) (i % 128) (Nat.mod_lt _ (by decide))
theorem e2_496 (i : ℕ) : lit2t0_496 i = E2 496 (i % 128) := pick (E2 496) (i % 128) (Nat.mod_lt _ (by decide))
theorem e2_497 (i : ℕ) : lit2t0_497 i = E2 497 (i % 128) := pick (E2 497) (i % 128) (Nat.mod_lt _ (by decide))
theorem e2_498 (i : ℕ) : lit2t0_498 i = E2 498 (i % 128) := pick (E2 498) (i % 128) (Nat.mod_lt _ (by decide))
theorem e2_499 (i : ℕ) : lit2t0_499 i = E2 499 (i % 128) := pick (E2 499) (i % 128) (Nat.mod_lt _ (by decide))
theorem e2_500 (i : ℕ) : lit2t0_500 i = E2 500 (i % 128) := pick (E2 500) (i % 128) (Nat.mod_lt _ (by decide))
theorem e2_501 (i : ℕ) : lit2t0_501 i = E2 501 (i % 128) := pick (E2 501) (i % 128) (Nat.mod_lt _ (by decide))
theorem e2_502 (i : ℕ) : lit2t0_502 i = E2 502 (i % 128) := pick (E2 502) (i % 128) (Nat.mod_lt _ (by decide))
theorem e2_503 (i : ℕ) : lit2t0_503 i = E2 503 (i % 128) := pick (E2 503) (i % 128) (Nat.mod_lt _ (by decide))
theorem e2_504 (i : ℕ) : lit2t0_504 i = E2 504 (i % 128) := pick (E2 504) (i % 128) (Nat.mod_lt _ (by decide))
theorem e2_505 (i : ℕ) : lit2t0_505 i = E2 505 (i % 128) := pick (E2 505) (i % 128) (Nat.mod_lt _ (by decide))
theorem e2_506 (i : ℕ) : lit2t0_506 i = E2 506 (i % 128) := pick (E2 506) (i % 128) (Nat.mod_lt _ (by decide))
theorem e2_507 (i : ℕ) : lit2t0_507 i = E2 507 (i % 128) := pick (E2 507) (i % 128) (Nat.mod_lt _ (by decide))
theorem e2_508 (i : ℕ) : lit2t0_508 i = E2 508 (i % 128) := pick (E2 508) (i % 128) (Nat.mod_lt _ (by decide))
theorem e2_509 (i : ℕ) : lit2t0_509 i = E2 509 (i % 128) := pick (E2 509) (i % 128) (Nat.mod_lt _ (by decide))
theorem e2_510 (i : ℕ) : lit2t0_510 i = E2 510 (i % 128) := pick (E2 510) (i % 128) (Nat.mod_lt _ (by decide))
theorem e2_511 (i : ℕ) : lit2t0_511 i = E2 511 (i % 128) := pick (E2 511) (i % 128) (Nat.mod_lt _ (by decide))

theorem u2_0 (i : ℕ) : lit2t1_0 i = E2 (0 + i / 128 % 128) (i % 128) :=
  pick_of (fun q => E2 (0 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e2_0 i) (e2_1 i) (e2_2 i) (e2_3 i) (e2_4 i) (e2_5 i) (e2_6 i) (e2_7 i) (e2_8 i) (e2_9 i) (e2_10 i) (e2_11 i) (e2_12 i) (e2_13 i) (e2_14 i) (e2_15 i) (e2_16 i) (e2_17 i) (e2_18 i) (e2_19 i) (e2_20 i) (e2_21 i) (e2_22 i) (e2_23 i) (e2_24 i) (e2_25 i) (e2_26 i) (e2_27 i) (e2_28 i) (e2_29 i) (e2_30 i) (e2_31 i) (e2_32 i) (e2_33 i) (e2_34 i) (e2_35 i) (e2_36 i) (e2_37 i) (e2_38 i) (e2_39 i) (e2_40 i) (e2_41 i) (e2_42 i) (e2_43 i) (e2_44 i) (e2_45 i) (e2_46 i) (e2_47 i) (e2_48 i) (e2_49 i) (e2_50 i) (e2_51 i) (e2_52 i) (e2_53 i) (e2_54 i) (e2_55 i) (e2_56 i) (e2_57 i) (e2_58 i) (e2_59 i) (e2_60 i) (e2_61 i) (e2_62 i) (e2_63 i) (e2_64 i) (e2_65 i) (e2_66 i) (e2_67 i) (e2_68 i) (e2_69 i) (e2_70 i) (e2_71 i) (e2_72 i) (e2_73 i) (e2_74 i) (e2_75 i) (e2_76 i) (e2_77 i) (e2_78 i) (e2_79 i) (e2_80 i) (e2_81 i) (e2_82 i) (e2_83 i) (e2_84 i) (e2_85 i) (e2_86 i) (e2_87 i) (e2_88 i) (e2_89 i) (e2_90 i) (e2_91 i) (e2_92 i) (e2_93 i) (e2_94 i) (e2_95 i) (e2_96 i) (e2_97 i) (e2_98 i) (e2_99 i) (e2_100 i) (e2_101 i) (e2_102 i) (e2_103 i) (e2_104 i) (e2_105 i) (e2_106 i) (e2_107 i) (e2_108 i) (e2_109 i) (e2_110 i) (e2_111 i) (e2_112 i) (e2_113 i) (e2_114 i) (e2_115 i) (e2_116 i) (e2_117 i) (e2_118 i) (e2_119 i) (e2_120 i) (e2_121 i) (e2_122 i) (e2_123 i) (e2_124 i) (e2_125 i) (e2_126 i) (e2_127 i)
theorem u2_1 (i : ℕ) : lit2t1_1 i = E2 (128 + i / 128 % 128) (i % 128) :=
  pick_of (fun q => E2 (128 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e2_128 i) (e2_129 i) (e2_130 i) (e2_131 i) (e2_132 i) (e2_133 i) (e2_134 i) (e2_135 i) (e2_136 i) (e2_137 i) (e2_138 i) (e2_139 i) (e2_140 i) (e2_141 i) (e2_142 i) (e2_143 i) (e2_144 i) (e2_145 i) (e2_146 i) (e2_147 i) (e2_148 i) (e2_149 i) (e2_150 i) (e2_151 i) (e2_152 i) (e2_153 i) (e2_154 i) (e2_155 i) (e2_156 i) (e2_157 i) (e2_158 i) (e2_159 i) (e2_160 i) (e2_161 i) (e2_162 i) (e2_163 i) (e2_164 i) (e2_165 i) (e2_166 i) (e2_167 i) (e2_168 i) (e2_169 i) (e2_170 i) (e2_171 i) (e2_172 i) (e2_173 i) (e2_174 i) (e2_175 i) (e2_176 i) (e2_177 i) (e2_178 i) (e2_179 i) (e2_180 i) (e2_181 i) (e2_182 i) (e2_183 i) (e2_184 i) (e2_185 i) (e2_186 i) (e2_187 i) (e2_188 i) (e2_189 i) (e2_190 i) (e2_191 i) (e2_192 i) (e2_193 i) (e2_194 i) (e2_195 i) (e2_196 i) (e2_197 i) (e2_198 i) (e2_199 i) (e2_200 i) (e2_201 i) (e2_202 i) (e2_203 i) (e2_204 i) (e2_205 i) (e2_206 i) (e2_207 i) (e2_208 i) (e2_209 i) (e2_210 i) (e2_211 i) (e2_212 i) (e2_213 i) (e2_214 i) (e2_215 i) (e2_216 i) (e2_217 i) (e2_218 i) (e2_219 i) (e2_220 i) (e2_221 i) (e2_222 i) (e2_223 i) (e2_224 i) (e2_225 i) (e2_226 i) (e2_227 i) (e2_228 i) (e2_229 i) (e2_230 i) (e2_231 i) (e2_232 i) (e2_233 i) (e2_234 i) (e2_235 i) (e2_236 i) (e2_237 i) (e2_238 i) (e2_239 i) (e2_240 i) (e2_241 i) (e2_242 i) (e2_243 i) (e2_244 i) (e2_245 i) (e2_246 i) (e2_247 i) (e2_248 i) (e2_249 i) (e2_250 i) (e2_251 i) (e2_252 i) (e2_253 i) (e2_254 i) (e2_255 i)
theorem u2_2 (i : ℕ) : lit2t1_2 i = E2 (256 + i / 128 % 128) (i % 128) :=
  pick_of (fun q => E2 (256 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e2_256 i) (e2_257 i) (e2_258 i) (e2_259 i) (e2_260 i) (e2_261 i) (e2_262 i) (e2_263 i) (e2_264 i) (e2_265 i) (e2_266 i) (e2_267 i) (e2_268 i) (e2_269 i) (e2_270 i) (e2_271 i) (e2_272 i) (e2_273 i) (e2_274 i) (e2_275 i) (e2_276 i) (e2_277 i) (e2_278 i) (e2_279 i) (e2_280 i) (e2_281 i) (e2_282 i) (e2_283 i) (e2_284 i) (e2_285 i) (e2_286 i) (e2_287 i) (e2_288 i) (e2_289 i) (e2_290 i) (e2_291 i) (e2_292 i) (e2_293 i) (e2_294 i) (e2_295 i) (e2_296 i) (e2_297 i) (e2_298 i) (e2_299 i) (e2_300 i) (e2_301 i) (e2_302 i) (e2_303 i) (e2_304 i) (e2_305 i) (e2_306 i) (e2_307 i) (e2_308 i) (e2_309 i) (e2_310 i) (e2_311 i) (e2_312 i) (e2_313 i) (e2_314 i) (e2_315 i) (e2_316 i) (e2_317 i) (e2_318 i) (e2_319 i) (e2_320 i) (e2_321 i) (e2_322 i) (e2_323 i) (e2_324 i) (e2_325 i) (e2_326 i) (e2_327 i) (e2_328 i) (e2_329 i) (e2_330 i) (e2_331 i) (e2_332 i) (e2_333 i) (e2_334 i) (e2_335 i) (e2_336 i) (e2_337 i) (e2_338 i) (e2_339 i) (e2_340 i) (e2_341 i) (e2_342 i) (e2_343 i) (e2_344 i) (e2_345 i) (e2_346 i) (e2_347 i) (e2_348 i) (e2_349 i) (e2_350 i) (e2_351 i) (e2_352 i) (e2_353 i) (e2_354 i) (e2_355 i) (e2_356 i) (e2_357 i) (e2_358 i) (e2_359 i) (e2_360 i) (e2_361 i) (e2_362 i) (e2_363 i) (e2_364 i) (e2_365 i) (e2_366 i) (e2_367 i) (e2_368 i) (e2_369 i) (e2_370 i) (e2_371 i) (e2_372 i) (e2_373 i) (e2_374 i) (e2_375 i) (e2_376 i) (e2_377 i) (e2_378 i) (e2_379 i) (e2_380 i) (e2_381 i) (e2_382 i) (e2_383 i)
theorem u2_3 (i : ℕ) : lit2t1_3 i = E2 (384 + i / 128 % 128) (i % 128) :=
  pick_of (fun q => E2 (384 + q) (i % 128)) (i / 128 % 128) (Nat.mod_lt _ (by decide)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (e2_384 i) (e2_385 i) (e2_386 i) (e2_387 i) (e2_388 i) (e2_389 i) (e2_390 i) (e2_391 i) (e2_392 i) (e2_393 i) (e2_394 i) (e2_395 i) (e2_396 i) (e2_397 i) (e2_398 i) (e2_399 i) (e2_400 i) (e2_401 i) (e2_402 i) (e2_403 i) (e2_404 i) (e2_405 i) (e2_406 i) (e2_407 i) (e2_408 i) (e2_409 i) (e2_410 i) (e2_411 i) (e2_412 i) (e2_413 i) (e2_414 i) (e2_415 i) (e2_416 i) (e2_417 i) (e2_418 i) (e2_419 i) (e2_420 i) (e2_421 i) (e2_422 i) (e2_423 i) (e2_424 i) (e2_425 i) (e2_426 i) (e2_427 i) (e2_428 i) (e2_429 i) (e2_430 i) (e2_431 i) (e2_432 i) (e2_433 i) (e2_434 i) (e2_435 i) (e2_436 i) (e2_437 i) (e2_438 i) (e2_439 i) (e2_440 i) (e2_441 i) (e2_442 i) (e2_443 i) (e2_444 i) (e2_445 i) (e2_446 i) (e2_447 i) (e2_448 i) (e2_449 i) (e2_450 i) (e2_451 i) (e2_452 i) (e2_453 i) (e2_454 i) (e2_455 i) (e2_456 i) (e2_457 i) (e2_458 i) (e2_459 i) (e2_460 i) (e2_461 i) (e2_462 i) (e2_463 i) (e2_464 i) (e2_465 i) (e2_466 i) (e2_467 i) (e2_468 i) (e2_469 i) (e2_470 i) (e2_471 i) (e2_472 i) (e2_473 i) (e2_474 i) (e2_475 i) (e2_476 i) (e2_477 i) (e2_478 i) (e2_479 i) (e2_480 i) (e2_481 i) (e2_482 i) (e2_483 i) (e2_484 i) (e2_485 i) (e2_486 i) (e2_487 i) (e2_488 i) (e2_489 i) (e2_490 i) (e2_491 i) (e2_492 i) (e2_493 i) (e2_494 i) (e2_495 i) (e2_496 i) (e2_497 i) (e2_498 i) (e2_499 i) (e2_500 i) (e2_501 i) (e2_502 i) (e2_503 i) (e2_504 i) (e2_505 i) (e2_506 i) (e2_507 i) (e2_508 i) (e2_509 i) (e2_510 i) (e2_511 i)

theorem lit2_eq (i : ℕ) (h : i < 65536) : lit2t i = E2 (i / 128) (i % 128) := by
  unfold lit2t
  have h4 : i / 16384 = 0 ∨ i / 16384 = 1 ∨ i / 16384 = 2 ∨ i / 16384 = 3 := by omega
  rcases h4 with h4 | h4 | h4 | h4
  · rw [h4]; exact (u2_0 i).trans (congrArg (fun q => E2 q (i % 128)) (by omega))
  · rw [h4]; exact (u2_1 i).trans (congrArg (fun q => E2 q (i % 128)) (by omega))
  · rw [h4]; exact (u2_2 i).trans (congrArg (fun q => E2 q (i % 128)) (by omega))
  · rw [h4]; exact (u2_3 i).trans (congrArg (fun q => E2 q (i % 128)) (by omega))

end Cert.Proof.QkvValue
-- ==== Proof.QkvValue.LitAt.lean ====
/-
  The kernel's literal matrices, as values.
-/
module

public import proofs.«01_k».proof.Proof.QkvValue.Lit0
public import proofs.«01_k».proof.Proof.QkvValue.Lit1
public import proofs.«01_k».proof.Proof.QkvValue.Lit2

@[expose] public section

set_option maxRecDepth 16384

noncomputable section

namespace Cert.Proof.QkvValue

open Idealize.ShloMosaic Idealize.ShloMosaic.TcCoe Idealize.SL.Sem
open Cert.QkvIdeal Cert.QkvIdeal.Gen

theorem cond_beq (a b : ℕ) (A B : BitVec 16) : cond (Nat.beq a b) A B = if a = b then A else B := by
  cases h : Nat.beq a b
  · rw [if_neg (Nat.ne_of_beq_eq_false h)]; rfl
  · rw [if_pos (Nat.eq_of_beq_eq_true h)]; rfl
theorem half (r t : Fin 256) : (r.val * 256 + t.val) / 128 / 2 = r.val ∧ (r.val * 256 + t.val) / 128 % 2 * 128 + (r.val * 256 + t.val) % 128 = t.val := by omega

theorem lit0_t (r t : Fin 256) : lit0t (r.val * 256 + t.val) = if r.val / 64 = t.val / 64 then 0x3C80#16 else 0x0000#16 := by
  rw [lit0_eq _ (by omega)]
  refine (cond_beq ((r.val * 256 + t.val) / 128 / 2 / 64) (((r.val * 256 + t.val) / 128 % 2 * 128 + (r.val * 256 + t.val) % 128) / 64) _ _).trans ?_
  rw [(half r t).1, (half r t).2]
theorem lit1_t (r t : Fin 256) : lit1t (r.val * 256 + t.val) = if t.val = r.val % 64 * 4 + r.val / 64 then 0x3F80#16 else 0x0000#16 := by
  rw [lit1_eq _ (by omega)]
  refine (cond_beq ((r.val * 256 + t.val) / 128 % 2 * 128 + (r.val * 256 + t.val) % 128) ((r.val * 256 + t.val) / 128 / 2 % 64 * 4 + (r.val * 256 + t.val) / 128 / 2 / 64) _ _).trans ?_
  rw [(half r t).1, (half r t).2]
theorem lit2_t (r t : Fin 256) : lit2t (r.val * 256 + t.val) = if t.val = r.val % 16 * 16 + r.val / 16 then 0x3F80#16 else 0x0000#16 := by
  rw [lit2_eq _ (by omega)]
  refine (cond_beq ((r.val * 256 + t.val) / 128 % 2 * 128 + (r.val * 256 + t.val) % 128) ((r.val * 256 + t.val) / 128 / 2 % 16 * 16 + (r.val * 256 + t.val) / 128 / 2 / 16) _ _).trans ?_
  rw [(half r t).1, (half r t).2]

theorem row_major (i j : Fin 256) : (S256x256.rowMajor (ix2 i j)).val = i.val * 256 + j.val := Shape.rowMajor_val_two _

theorem one_64 : (Ideal.ofBits .bf16 0x3C80#16 : EReal) = ((1 / 64 : ℝ) : EReal) := by
  simp [Ideal.ofBits, Ideal.ieee, -EReal.coe_mul]; norm_num

theorem lit0_at (i j : Fin 256) : (FloatOps.ofBits (F := Ideal) .bf16 (lit0 (S256x256.rowMajor (ix2 i j))) : EReal) = avg i j := by
  have e : lit0 (S256x256.rowMajor (ix2 i j)) = if i.val / 64 = j.val / 64 then 0x3C80#16 else 0x0000#16 :=
    (congrArg lit0t (row_major i j)).trans (lit0_t i j)
  rw [e]
  unfold avg
  split
  · exact one_64
  · exact Ideal.ofBits_zero_bf16
theorem lit1_at (i j : Fin 256) : (FloatOps.ofBits (F := Ideal) .bf16 (lit1 (S256x256.rowMajor (ix2 i j))) : EReal) = if j = σ4 i then 1 else 0 := by
  have e : lit1 (S256x256.rowMajor (ix2 i j)) = if j.val = i.val % 64 * 4 + i.val / 64 then 0x3F80#16 else 0x0000#16 :=
    (congrArg lit1t (row_major i j)).trans (lit1_t i j)
  have eσ : j = σ4 i ↔ j.val = i.val % 64 * 4 + i.val / 64 := Fin.ext_iff
  rw [e]
  simp only [eσ]
  split
  · exact Ideal.ofBits_one_bf16
  · exact Ideal.ofBits_zero_bf16
theorem lit2_at (i j : Fin 256) : (FloatOps.ofBits (F := Ideal) .bf16 (lit2 (S256x256.rowMajor (ix2 i j))) : EReal) = if j = σ16 i then 1 else 0 := by
  have e : lit2 (S256x256.rowMajor (ix2 i j)) = if j.val = i.val % 16 * 16 + i.val / 16 then 0x3F80#16 else 0x0000#16 :=
    (congrArg lit2t (row_major i j)).trans (lit2_t i j)
  have eσ : j = σ16 i ↔ j.val = i.val % 16 * 16 + i.val / 16 := Fin.ext_iff
  rw [e]
  simp only [eσ]
  split
  · exact Ideal.ofBits_one_bf16
  · exact Ideal.ofBits_zero_bf16

end Cert.Proof.QkvValue
-- ==== Proof.QkvValue.Host.lean ====
/-
  The arrays the host passes the kernel: the frequencies along the lanes, the gains along the heads, the positions in
  each dilation's row order.
-/
module

public import proofs.«01_k».proof.Proof.QkvValue.Block

@[expose] public section

set_option maxRecDepth 16384

noncomputable section

namespace Cert.Proof.QkvValue

open Idealize.ShloMosaic Idealize.ShloMosaic.TcCoe Idealize.SL.Sem
open Cert.QkvIdeal Cert.QkvIdeal.Gen

def hFr : FVec Ideal S8 .f32 :=
  Host.powf (broadcastInDim S8 ![] bcast_S_S8 (constant (F := Ideal) S_ .f32 0x48F42400#32))
    (Host.divf (Host.negf (addf (broadcastInDim S8 ![] bcast_S_S8 (constant (F := Ideal) S_ .f32 0x00000000#32))
      (mulf (broadcastInDim S8 ![] bcast_S_S8 (constant (F := Ideal) S_ .f32 0x40000000#32)) (sitofp (F := Ideal) .f32 (iotaInDim S8 32 0)))))
      (broadcastInDim S8 ![] bcast_S_S8 (constant (F := Ideal) S_ .f32 0x41800000#32)))

def hHead (f : FVec Ideal S8 .f32) : FVec Ideal S64 .f32 :=
  concatenate S64 0 [⟨S8, f⟩, ⟨S8, f⟩, ⟨S48, broadcastInDim S48 ![] bcast_S_S48 (constant (F := Ideal) S_ .f32 0x00000000#32)⟩] concatenates_S8_S8_S48_S64_d0

def hLane (f : FVec Ideal S64 .f32) : FVec Ideal S1x128 .f32 :=
  shapeCast S1x128 (shapeCast S128 (broadcastInDim S2x64 ![0, 1] bcast_S1x64_S2x64_0_1 (shapeCast S1x64 f shapeCasts_S64_S1x64)) shapeCasts_S2x64_S128) shapeCasts_S128_S1x128

def hRow (g : FVec Ideal S1x64 .f32) : FVec Ideal S1x1x1024 .f32 :=
  broadcastInDim S1x1x1024 ![1, 2] bcast_S1x1024_S1x1x1024_1_2 (shapeCast S1x1024 (shapeCast S1024
    (broadcastInDim S16x64 ![0, 1] bcast_S1x64_S16x64_0_1 (shapeCast S1x64 (shapeCast S64 g shapeCasts_S1x64_S64) shapeCasts_S64_S1x64)) shapeCasts_S16x64_S1024) shapeCasts_S1024_S1x1024)

def hGain (g : FVec Ideal S3x64 .f32) : FVec Ideal S3x1x1024 .f32 :=
  concatenate S3x1x1024 0 [⟨S1x1x1024, hRow (extractStridedSlice S1x64 ![0, 0] g slices_S3x64_S1x64_0_0)⟩,
    ⟨S1x1x1024, hRow (extractStridedSlice S1x64 ![1, 0] g slices_S3x64_S1x64_1_0)⟩,
    ⟨S1x1x1024, hRow (extractStridedSlice S1x64 ![2, 0] g slices_S3x64_S1x64_2_0)⟩] concatenates_S1x1x1024_S1x1x1024_S1x1x1024_S3x1x1024_d0

def hP0 (p : IVec S16x4096 32) : IVec S16x4096x1 32 :=
  shapeCast S16x4096x1 (transpose S16x16x1x256 [0, 1, 3, 2] (shapeCast S16x16x256x1 p shapeCasts_S16x4096_S16x16x256x1) transposes_S16x16x256x1_S16x16x1x256_0_1_3_2) shapeCasts_S16x16x1x256_S16x4096x1
def hP1 (p : IVec S16x4096 32) : IVec S16x4096x1 32 :=
  shapeCast S16x4096x1 (transpose S16x16x4x64 [0, 1, 3, 2] (shapeCast S16x16x64x4 p shapeCasts_S16x4096_S16x16x64x4) transposes_S16x16x64x4_S16x16x4x64_0_1_3_2) shapeCasts_S16x16x4x64_S16x4096x1
def hP2 (p : IVec S16x4096 32) : IVec S16x4096x1 32 :=
  shapeCast S16x4096x1 (transpose S16x16x16x16 [0, 1, 3, 2] (shapeCast S16x16x16x16 p shapeCasts_S16x4096_S16x16x16x16) transposes_S16x16x16x16_S16x16x16x16_0_1_3_2) shapeCasts_S16x16x16x16_S16x4096x1

theorem hFr_at (i : Fin 8) : (hFr (ix1 i) : EReal) = fr i := by
  have e : (Ideal.ofBits .f32 0x00000000#32 : EReal) = 0 := Ideal.ofBits_zero_f32
  pointwise [hFr, fr, e]

theorem hHead_at (f : FVec Ideal S8 .f32) (l : Fin 64) :
    (hHead f (ix1 l) : EReal) = if h : l.val < 8 then f (ix1 ⟨l.val, h⟩) else if h' : l.val - 8 < 8 then f (ix1 ⟨l.val - 8, by omega⟩) else 0 := by
  have e : (Ideal.ofBits .f32 0x00000000#32 : EReal) = 0 := Ideal.ofBits_zero_f32
  pointwise [hHead, e]

theorem hLane_at (f : FVec Ideal S64 .f32) (l : Fin 128) : (hLane f (ix2 0 l) : EReal) = f (ix1 ⟨l.val % 64, by omega⟩) := by
  pointwise [hLane]

theorem hRow_at (g : FVec Ideal S1x64 .f32) (n : Fin 1024) : (hRow g (ix3 0 0 n) : EReal) = g (ix2 0 ⟨n.val % 64, by omega⟩) := by
  pointwise [hRow]

theorem hGain_at0 (g : FVec Ideal S3x64 .f32) (n : Fin 1024) : (hGain g (ix3 0 0 n) : EReal) = g (ix2 0 ⟨n.val % 64, by omega⟩) := by
  pointwise [hGain, hRow]
theorem hGain_at1 (g : FVec Ideal S3x64 .f32) (n : Fin 1024) : (hGain g (ix3 1 0 n) : EReal) = g (ix2 1 ⟨n.val % 64, by omega⟩) := by
  pointwise [hGain, hRow]
theorem hGain_at2 (g : FVec Ideal S3x64 .f32) (n : Fin 1024) : (hGain g (ix3 2 0 n) : EReal) = g (ix2 2 ⟨n.val % 64, by omega⟩) := by
  pointwise [hGain, hRow]

theorem hP0_at (p : IVec S16x4096 32) (b : Fin 16) (R : Fin 4096) : hP0 p (ix3 b R 0) = p (ix2 b R) := by
  pointwise [hP0]
theorem hP1_at (p : IVec S16x4096 32) (b : Fin 16) (R : Fin 4096) : hP1 p (ix3 b R 0) = p (ix2 b ⟨R.val / 256 * 256 + R.val % 64 * 4 + R.val / 64 % 4, by omega⟩) := by
  pointwise [hP1]
theorem hP2_at (p : IVec S16x4096 32) (b : Fin 16) (R : Fin 4096) : hP2 p (ix3 b R 0) = p (ix2 b ⟨R.val / 256 * 256 + R.val % 16 * 16 + R.val / 16 % 16, by omega⟩) := by
  pointwise [hP2]

theorem hLane_frL (l : Fin 128) : (hLane (hHead hFr) (ix2 0 l) : EReal) = frL l := by
  rw [hLane_at, hHead_at]
  unfold frL
  by_cases h1 : l.val % 64 < 8
  · simp only [h1, dif_pos]; exact hFr_at _
  · have e : l.val % 64 - 8 < 8 ↔ l.val % 64 < 16 := by omega
    by_cases h2 : l.val % 64 < 16
    · have h3 := e.2 h2
      simp only [h1, h2, h3, dif_pos, dif_neg, not_false_eq_true]; exact hFr_at _
    · have h3 : ¬ (l.val % 64 - 8 < 8) := fun h => h2 (e.1 h)
      simp only [h1, h2, h3, dif_neg, not_false_eq_true]

variable (m : (ℓ : Loc nD τ sig) → Buf (Elt Ideal) ℓ)

theorem V_g (c : Dev nD) : V m c main_v70 = (shapeCast S1x1024 (m ((c : Thread nD τ).loc main_arg1) : FVec Ideal S1024 .f32) shapeCasts_S1024_S1x1024 : FVec Ideal S1x1024 .f32) := by
  unfold V; simp only [hostOps0]; after_results_simp <;> rfl
theorem V_w (c : Dev nD) : V m c main_v60 = (m ((c : Thread nD τ).loc main_arg2) : Vec Ideal S1024x9216 .bf16) := by
  unfold V; simp only [hostOps0]; after_results_simp <;> rfl
theorem V_p4 (c : Dev nD) : V m c main_cst_0 = (fun i => FloatOps.ofBits (F := Ideal) .bf16 (lit1 (S256x256.rowMajor i)) : Vec Ideal S256x256 .bf16) := by
  unfold V; simp only [hostOps0]; after_results_simp <;> rfl
theorem V_p16 (c : Dev nD) : V m c main_cst_1 = (fun i => FloatOps.ofBits (F := Ideal) .bf16 (lit2 (S256x256.rowMajor i)) : Vec Ideal S256x256 .bf16) := by
  unfold V; simp only [hostOps0]; after_results_simp <;> rfl
theorem V_bd (c : Dev nD) : V m c main_cst = (fun i => FloatOps.ofBits (F := Ideal) .bf16 (lit0 (S256x256.rowMajor i)) : Vec Ideal S256x256 .bf16) := by
  unfold V; simp only [hostOps0]; after_results_simp <;> rfl
theorem V_pos0 (c : Dev nD) : V m c main_v63 = hP0 (m ((c : Thread nD τ).loc main_arg3)) := by
  unfold V; simp only [hostOps0]; after_results_simp <;> rfl
theorem V_pos1 (c : Dev nD) : V m c main_v66 = hP1 (m ((c : Thread nD τ).loc main_arg3)) := by
  unfold V; simp only [hostOps0]; after_results_simp <;> rfl
theorem V_pos2 (c : Dev nD) : V m c main_v69 = hP2 (m ((c : Thread nD τ).loc main_arg3)) := by
  unfold V; simp only [hostOps0]; after_results_simp <;> rfl
theorem V_fr (c : Dev nD) : V m c main_v15 = hLane (hHead hFr) := by
  unfold V; simp only [hostOps0]; after_results_simp <;> rfl
theorem V_gq (c : Dev nD) : V m c main_v37 = hGain (m ((c : Thread nD τ).loc main_arg4)) := by
  unfold V; simp only [hostOps0]; after_results_simp <;> rfl
theorem V_gk (c : Dev nD) : V m c main_v59 = hGain (m ((c : Thread nD τ).loc main_arg5)) := by
  unfold V; simp only [hostOps0]; after_results_simp <;> rfl

end Cert.Proof.QkvValue
-- ==== Proof.QkvValue.Final.lean ====
/-
  The projections' three result arrays after the run, each the reference's.
-/
module

public import proofs.«01_k».proof.Proof.QkvValue.Ref
public import proofs.«01_k».proof.Proof.QkvValue.LitAt
public import proofs.«01_k».proof.Proof.QkvValue.Host

@[expose] public section

set_option maxRecDepth 16384

noncomputable section

namespace Cert.Proof.QkvValue

open Idealize.ShloMosaic Idealize.ShloMosaic.TcCoe Idealize.SL.Sem
open Cert.QkvIdeal Cert.QkvIdeal.Gen
open Idealize.ShloMosaic.Pipeline (Dat)

variable (m : (ℓ : Loc nD τ sig) → Buf (Elt Ideal) ℓ)

theorem idx : ∀ t : Fin cfg0.N, win0_0.index t = ![(grid0.coords t 0).val, (grid0.coords t 1).val, 0] ∧ win0_1.index t = ![0, 0] ∧ win0_2.index t = ![0, 0]
    ∧ win0_3.index t = ![0, 0] ∧ win0_4.index t = ![0, 0]
    ∧ win0_5.index t = ![(grid0.coords t 0).val, (grid0.coords t 1).val, 0] ∧ win0_6.index t = ![(grid0.coords t 0).val, (grid0.coords t 1).val, 0]
    ∧ win0_7.index t = ![(grid0.coords t 0).val, (grid0.coords t 1).val, 0]
    ∧ win0_8.index t = ![0, 0] ∧ win0_9.index t = ![0, 0, 0] ∧ win0_10.index t = ![0, 0, 0] ∧ win0_11.index t = ![0, 0] :=
  (by decide +kernel : ∀ t : Fin grid0.N, _)
theorem idx_out : ∀ t : Fin cfg0.N, win0_12.index t = ![(grid0.coords t 0).val, 0, (grid0.coords t 1).val, 0]
    ∧ win0_13.index t = ![(grid0.coords t 0).val, 0, (grid0.coords t 1).val, 0] ∧ win0_14.index t = ![(grid0.coords t 0).val, 0, (grid0.coords t 1).val, 0] :=
  (by decide +kernel : ∀ t : Fin grid0.N, _)

/-- A point's sequence of the batch, and the token at row `T` of its tile. -/
def bat (t : Fin cfg0.N) : Fin 16 := ⟨(grid0.coords t 0).val, (grid0.coords t 0).isLt⟩
def tok (t : Fin cfg0.N) (T : Fin 512) : Fin 4096 := ⟨(grid0.coords t 1).val * 512 + T.val, by
  have h : (grid0.coords t 1).val < 8 := (grid0.coords t 1).isLt
  omega⟩

theorem blk0 (c : Dev nD) (t : Fin cfg0.N) (T : Fin 512) (k : Fin 1024) :
    (iblk m c 0 t : Vec Ideal S1x512x1024 .f32) (ix3 0 T k) = (m ((c : Thread nD τ).loc main_arg0) : FVec Ideal S16x4096x1024 .f32) (ix3 (bat t) (tok t T) k) := by
  rw [← V_main_arg0 m c]
  unfold bat tok
  blk_ext [iblk, idx t]
theorem blk1 (c : Dev nD) (t : Fin cfg0.N) (k : Fin 1024) :
    (iblk m c 1 t : Vec Ideal S1x1024 .f32) (ix2 0 k) = V m c main_v70 (ix2 0 k) := by
  blk_ext [iblk, idx t]
theorem blk2 (c : Dev nD) (t : Fin cfg0.N) (k : Fin 1024) (n : Fin 9216) :
    (iblk m c 2 t : Vec Ideal S1024x9216 .bf16) (ix2 k n) = V m c main_v60 (ix2 k n) := by
  blk_ext [iblk, idx t]
theorem blk3 (c : Dev nD) (t : Fin cfg0.N) (i j : Fin 256) :
    (iblk m c 3 t : Vec Ideal S256x256 .bf16) (ix2 i j) = V m c main_cst_0 (ix2 i j) := by
  blk_ext [iblk, idx t]
theorem blk4 (c : Dev nD) (t : Fin cfg0.N) (i j : Fin 256) :
    (iblk m c 4 t : Vec Ideal S256x256 .bf16) (ix2 i j) = V m c main_cst_1 (ix2 i j) := by
  blk_ext [iblk, idx t]
theorem blk5 (c : Dev nD) (t : Fin cfg0.N) (T : Fin 512) :
    (iblk m c 5 t : Vec Ideal S1x512x1 .i32) (ix3 0 T 0) = V m c main_v63 (ix3 (bat t) (tok t T) 0) := by
  unfold bat tok
  blk_ext [iblk, idx t]
theorem blk6 (c : Dev nD) (t : Fin cfg0.N) (T : Fin 512) :
    (iblk m c 6 t : Vec Ideal S1x512x1 .i32) (ix3 0 T 0) = V m c main_v66 (ix3 (bat t) (tok t T) 0) := by
  unfold bat tok
  blk_ext [iblk, idx t]
theorem blk7 (c : Dev nD) (t : Fin cfg0.N) (T : Fin 512) :
    (iblk m c 7 t : Vec Ideal S1x512x1 .i32) (ix3 0 T 0) = V m c main_v69 (ix3 (bat t) (tok t T) 0) := by
  unfold bat tok
  blk_ext [iblk, idx t]
theorem blk8 (c : Dev nD) (t : Fin cfg0.N) (l : Fin 128) :
    (iblk m c 8 t : Vec Ideal S1x128 .f32) (ix2 0 l) = V m c main_v15 (ix2 0 l) := by
  blk_ext [iblk, idx t]
theorem blk9 (c : Dev nD) (t : Fin cfg0.N) (i : Fin 3) (n : Fin 1024) :
    (iblk m c 9 t : Vec Ideal S3x1x1024 .f32) (ix3 i 0 n) = V m c main_v37 (ix3 i 0 n) := by
  blk_ext [iblk, idx t]
theorem blk10 (c : Dev nD) (t : Fin cfg0.N) (i : Fin 3) (n : Fin 1024) :
    (iblk m c 10 t : Vec Ideal S3x1x1024 .f32) (ix3 i 0 n) = V m c main_v59 (ix3 i 0 n) := by
  blk_ext [iblk, idx t]
theorem blk11 (c : Dev nD) (t : Fin cfg0.N) (i j : Fin 256) :
    (iblk m c 11 t : Vec Ideal S256x256 .bf16) (ix2 i j) = V m c main_cst (ix2 i j) := by
  blk_ext [iblk, idx t]

theorem gain_at (g : FVec Ideal S1024 .f32) (k : Fin 1024) : (shapeCast S1x1024 g shapeCasts_S1024_S1x1024 : FVec Ideal S1x1024 .f32) (ix2 0 k) = g (ix1 k) := by
  pointwise []

theorem rowOut_congr {x g x' g' : Fin 1024 → EReal} {w w' : Fin 1024 → Fin 3072 → EReal} {gq gk : Fin 64 → EReal} {a a' : Fin 8 → EReal}
    (hx : ∀ k, x k = x' k) (hg : ∀ k, g k = g' k) (hw : ∀ k n, w k n = w' k n) (ha : a = a') (d : Fin 3072) :
    rowOut (fun n => ∑ k, nrm x g k * w k n) gq gk a d = rowOut (fun n => ∑ k, nrm x' g' k * w' k n) gq gk a' d := by
  obtain rfl : x = x' := funext hx
  obtain rfl : g = g' := funext hg
  obtain rfl : w = w' := funext fun k => funext (hw k)
  subst ha
  rfl

theorem tile4 (i T : ℕ) : (i * 512 + T) / 256 * 256 + (i * 512 + T) % 64 * 4 + (i * 512 + T) / 64 % 4 = i * 512 + (T / 256 * 256 + T % 64 * 4 + T / 64 % 4) := by
  have e1 : (i * 512 + T) / 256 = i * 2 + T / 256 := by omega
  have e2 : (i * 512 + T) % 64 = T % 64 := by omega
  have e3 : (i * 512 + T) / 64 % 4 = T / 64 % 4 := by
    have : (i * 512 + T) / 64 = i * 8 + T / 64 := by omega
    rw [this]; omega
  rw [e1, e2, e3]; omega
theorem tile16 (i T : ℕ) : (i * 512 + T) / 256 * 256 + (i * 512 + T) % 16 * 16 + (i * 512 + T) / 16 % 16 = i * 512 + (T / 256 * 256 + T % 16 * 16 + T / 16 % 16) := by
  have e1 : (i * 512 + T) / 256 = i * 2 + T / 256 := by omega
  have e2 : (i * 512 + T) % 16 = T % 16 := by omega
  have e3 : (i * 512 + T) / 16 % 16 = T / 16 % 16 := by
    have : (i * 512 + T) / 16 = i * 32 + T / 16 := by omega
    rw [this]; omega
  rw [e1, e2, e3]; omega

theorem f_at (c : Dev nD) (t : Fin cfg0.N) (l : Fin 128) : ((iblk m c 8 t : Vec Ideal S1x128 .f32) (ix2 0 l) : EReal) = frL l :=
  (blk8 m c t l).trans ((congrFun (V_fr m c) _).trans (hLane_frL l))
theorem bd_at (c : Dev nD) (t : Fin cfg0.N) (i j : Fin 256) : ((iblk m c 11 t : Vec Ideal S256x256 .bf16) (ix2 i j) : EReal) = avg i j :=
  (blk11 m c t i j).trans ((congrFun (V_bd m c) _).trans (lit0_at i j))
theorem p4_at (c : Dev nD) (t : Fin cfg0.N) (i j : Fin 256) : ((iblk m c 3 t : Vec Ideal S256x256 .bf16) (ix2 i j) : EReal) = if j = σ4 i then (1 : EReal) else 0 :=
  (blk3 m c t i j).trans ((congrFun (V_p4 m c) _).trans (lit1_at i j))
theorem p16_at (c : Dev nD) (t : Fin cfg0.N) (i j : Fin 256) : ((iblk m c 4 t : Vec Ideal S256x256 .bf16) (ix2 i j) : EReal) = if j = σ16 i then (1 : EReal) else 0 :=
  (blk4 m c t i j).trans ((congrFun (V_p16 m c) _).trans (lit2_at i j))
theorem pos0_at (c : Dev nD) (t : Fin cfg0.N) (T : Fin 512) :
    (iblk m c 5 t : Vec Ideal S1x512x1 .i32) (ix3 0 T 0) = (m ((c : Thread nD τ).loc main_arg3) : IVec S16x4096 32) (ix2 (bat t) (tok t T)) :=
  (blk5 m c t T).trans ((congrFun (V_pos0 m c) _).trans (hP0_at _ _ _))
theorem pos1_at (c : Dev nD) (t : Fin cfg0.N) (T T' : Fin 512) (h : T'.val = T.val / 256 * 256 + T.val % 64 * 4 + T.val / 64 % 4) :
    (iblk m c 6 t : Vec Ideal S1x512x1 .i32) (ix3 0 T 0) = (m ((c : Thread nD τ).loc main_arg3) : IVec S16x4096 32) (ix2 (bat t) (tok t T')) :=
  (blk6 m c t T).trans ((congrFun (V_pos1 m c) _).trans ((hP1_at _ _ _).trans (congrArg (fun r : Fin 4096 => (m ((c : Thread nD τ).loc main_arg3) : IVec S16x4096 32) (ix2 (bat t) r)) (Fin.ext ((tile4 _ _).trans (congrArg _ h.symm))))))
theorem pos2_at (c : Dev nD) (t : Fin cfg0.N) (T T' : Fin 512) (h : T'.val = T.val / 256 * 256 + T.val % 16 * 16 + T.val / 16 % 16) :
    (iblk m c 7 t : Vec Ideal S1x512x1 .i32) (ix3 0 T 0) = (m ((c : Thread nD τ).loc main_arg3) : IVec S16x4096 32) (ix2 (bat t) (tok t T')) :=
  (blk7 m c t T).trans ((congrFun (V_pos2 m c) _).trans ((hP2_at _ _ _).trans (congrArg (fun r : Fin 4096 => (m ((c : Thread nD τ).loc main_arg3) : IVec S16x4096 32) (ix2 (bat t) r)) (Fin.ext ((tile16 _ _).trans (congrArg _ h.symm))))))

/-- The residue's row of row `r` of point `t`'s block. -/
def row0 (t : Fin cfg0.N) (r : Fin 512) : Fin 4096 := ⟨(grid0.coords t 1).val * 512 + r.val, by
  have h : (grid0.coords t 1).val < 8 := (grid0.coords t 1).isLt
  omega⟩

theorem final0 (c : Dev nD) :
    (dats m 0 c).arrAt 12 cfg0.N = ref0 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  have e : ((win0_12.blk t).view.emb y : S16x1x4096x3072.Idx) = ix4 (bat t) (y 1) (row0 t (y 2)) (y 3) := by
    idx_bounds y
    unfold bat row0
    blk_ext [idx_out t]
  have h1 : (y 1).val < 1 := (y 1).isLt
  have h2 : (y 2).val < 512 := (y 2).isLt
  have eT : tok t ⟨(y 2).val * 1 + (y 1).val, by omega⟩ = ⟨(row0 t (y 2)).val * 1 + (y 1).val, by have := (row0 t (y 2)).isLt; omega⟩ :=
    Fin.ext (by simp only [tok, row0]; omega)
  refine (block0 _ _ _ _ _ _ _ _ _ _ _ _ (fun d => m ((c : Thread nD τ).loc main_arg4) (ix2 0 d)) (fun d => m ((c : Thread nD τ).loc main_arg5) (ix2 0 d)) (f_at m c t) (bd_at m c t)
    (fun n => (blk9 m c t 0 n).trans ((congrFun (V_gq m c) _).trans (hGain_at0 _ n))) (fun n => (blk10 m c t 0 n).trans ((congrFun (V_gk m c) _).trans (hGain_at0 _ n)))
    (fun T => m ((c : Thread nD τ).loc main_arg3) (ix2 (bat t) (tok t T)))
    (fun r => pos0_at m c t _) (fun r => pos0_at m c t _)
    y ⟨(y 2).val * 1 + (y 1).val, by omega⟩ rfl).trans (Eq.trans ?_ (congrArg _ e.symm))
  refine Eq.trans ?_ (ref0_at _ _ _ _ _ _ (bat t) (y 1) (row0 t (y 2)) (y 3)).symm
  rw [← eT]
  refine rowOut_congr (fun k => ?_) (fun k => ?_) (fun k n => ?_) rfl _
  · exact blk0 m c t _ k
  · exact (blk1 m c t k).trans ((congrFun (V_g m c) _).trans (gain_at _ k))
  · exact (blk2 m c t k _).trans (congrFun (V_w m c) _)

/-- The residue's row of row `r` of point `t`'s block. -/
def row1 (t : Fin cfg0.N) (r : Fin 128) : Fin 1024 := ⟨(grid0.coords t 1).val * 128 + r.val, by
  have h : (grid0.coords t 1).val < 8 := (grid0.coords t 1).isLt
  omega⟩

theorem final1 (c : Dev nD) :
    (dats m 0 c).arrAt 13 cfg0.N = ref1 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t _ y => ?_
  blk_simp
  rw [after0_13]
  have e : ((win0_13.blk t).view.emb y : S16x4x1024x3072.Idx) = ix4 (bat t) (y 1) (row1 t (y 2)) (y 3) := by
    idx_bounds y
    unfold bat row1
    blk_ext [idx_out t]
  have h1 : (y 1).val < 4 := (y 1).isLt
  have h2 : (y 2).val < 128 := (y 2).isLt
  have eT : tok t ⟨(y 2).val * 4 + (y 1).val, by omega⟩ = ⟨(row1 t (y 2)).val * 4 + (y 1).val, by have := (row1 t (y 2)).isLt; omega⟩ :=
    Fin.ext (by simp only [tok, row1]; omega)
  refine (block1 _ _ _ _ _ _ _ _ _ _ _ _ (fun d => m ((c : Thread nD τ).loc main_arg4) (ix2 1 d)) (fun d => m ((c : Thread nD τ).loc main_arg5) (ix2 1 d)) (f_at m c t) (bd_at m c t)
    (fun n => (blk9 m c t 1 n).trans ((congrFun (V_gq m c) _).trans (hGain_at1 _ n))) (fun n => (blk10 m c t 1 n).trans ((congrFun (V_gk m c) _).trans (hGain_at1 _ n)))
    (p4_at m c t)
    (fun T => m ((c : Thread nD τ).loc main_arg3) (ix2 (bat t) (tok t T)))
    (fun r => pos1_at m c t _ _ (by simp only [σ4]; omega)) (fun r => pos1_at m c t _ _ (by simp only [σ4]; omega))
    y ⟨(y 2).val * 4 + (y 1).val, by omega⟩ rfl).trans (Eq.trans ?_ (congrArg _ e.symm))
  refine Eq.trans ?_ (ref1_at _ _ _ _ _ _ (bat t) (y 1) (row1 t (y 2)) (y 3)).symm
  rw [← eT]
  refine rowOut_congr (fun k => ?_) (fun k => ?_) (fun k n => ?_) rfl _
  · exact blk0 m c t _ k
  · exact (blk1 m c t k).trans ((congrFun (V_g m c) _).trans (gain_at _ k))
  · exact (blk2 m c t k _).trans (congrFun (V_w m c) _)

/-- The residue's row of row `r` of point `t`'s block. -/
def row2 (t : Fin cfg0.N) (r : Fin 32) : Fin 256 := ⟨(grid0.coords t 1).val * 32 + r.val, by
  have h : (grid0.coords t 1).val < 8 := (grid0.coords t 1).isLt
  omega⟩

theorem final2 (c : Dev nD) :
    (dats m 0 c).arrAt 14 cfg0.N = ref2 (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t _ y => ?_
  blk_simp
  rw [after0_14]
  have e : ((win0_14.blk t).view.emb y : S16x16x256x3072.Idx) = ix4 (bat t) (y 1) (row2 t (y 2)) (y 3) := by
    idx_bounds y
    unfold bat row2
    blk_ext [idx_out t]
  have h1 : (y 1).val < 16 := (y 1).isLt
  have h2 : (y 2).val < 32 := (y 2).isLt
  have eT : tok t ⟨(y 2).val * 16 + (y 1).val, by omega⟩ = ⟨(row2 t (y 2)).val * 16 + (y 1).val, by have := (row2 t (y 2)).isLt; omega⟩ :=
    Fin.ext (by simp only [tok, row2]; omega)
  refine (block2 _ _ _ _ _ _ _ _ _ _ _ _ (fun d => m ((c : Thread nD τ).loc main_arg4) (ix2 2 d)) (fun d => m ((c : Thread nD τ).loc main_arg5) (ix2 2 d)) (f_at m c t) (bd_at m c t)
    (fun n => (blk9 m c t 2 n).trans ((congrFun (V_gq m c) _).trans (hGain_at2 _ n))) (fun n => (blk10 m c t 2 n).trans ((congrFun (V_gk m c) _).trans (hGain_at2 _ n)))
    (p16_at m c t)
    (fun T => m ((c : Thread nD τ).loc main_arg3) (ix2 (bat t) (tok t T)))
    (fun r => pos2_at m c t _ _ (by simp only [σ16]; omega)) (fun r => pos2_at m c t _ _ (by simp only [σ16]; omega))
    y ⟨(y 2).val * 16 + (y 1).val, by omega⟩ rfl).trans (Eq.trans ?_ (congrArg _ e.symm))
  refine Eq.trans ?_ (ref2_at _ _ _ _ _ _ (bat t) (y 1) (row2 t (y 2)) (y 3)).symm
  rw [← eT]
  refine rowOut_congr (fun k => ?_) (fun k => ?_) (fun k n => ?_) rfl _
  · exact blk0 m c t _ k
  · exact (blk1 m c t k).trans ((congrFun (V_g m c) _).trans (gain_at _ k))
  · exact (blk2 m c t k _).trans (congrFun (V_w m c) _)

end Cert.Proof.QkvValue
-- ==== Proof.QkvValue.Alg.lean ====
/-
  The projections' algebraic claim: the kernel's three result arrays are the reference's.
-/
module

public import proofs.«01_k».proof.Defs
public import proofs.«01_k».proof.Proof.QkvValue.Final

@[expose] public section

set_option maxRecDepth 16384

noncomputable section

namespace Cert.Proof.QkvValue

open Idealize.ShloMosaic Idealize.ShloMosaic.TcCoe Idealize.SL.Sem
open Cert.QkvIdeal Cert.QkvIdeal.Gen

theorem alg : Cert.algebraic_QkvIdeal_QkvReferenceIdeal := by
  intro m g m' g' _ hm
  refine ⟨fun c => ref0 (m ((c.tc : Thread _ _).loc Cert.QkvIdeal.main_arg0)) (m ((c.tc : Thread _ _).loc Cert.QkvIdeal.main_arg1)) (m ((c.tc : Thread _ _).loc Cert.QkvIdeal.main_arg2)) (m ((c.tc : Thread _ _).loc Cert.QkvIdeal.main_arg3)) (m ((c.tc : Thread _ _).loc Cert.QkvIdeal.main_arg4)) (m ((c.tc : Thread _ _).loc Cert.QkvIdeal.main_arg5)),
    fun c => ref1 (m ((c.tc : Thread _ _).loc Cert.QkvIdeal.main_arg0)) (m ((c.tc : Thread _ _).loc Cert.QkvIdeal.main_arg1)) (m ((c.tc : Thread _ _).loc Cert.QkvIdeal.main_arg2)) (m ((c.tc : Thread _ _).loc Cert.QkvIdeal.main_arg3)) (m ((c.tc : Thread _ _).loc Cert.QkvIdeal.main_arg4)) (m ((c.tc : Thread _ _).loc Cert.QkvIdeal.main_arg5)),
    fun c => ref2 (m ((c.tc : Thread _ _).loc Cert.QkvIdeal.main_arg0)) (m ((c.tc : Thread _ _).loc Cert.QkvIdeal.main_arg1)) (m ((c.tc : Thread _ _).loc Cert.QkvIdeal.main_arg2)) (m ((c.tc : Thread _ _).loc Cert.QkvIdeal.main_arg3)) (m ((c.tc : Thread _ _).loc Cert.QkvIdeal.main_arg4)) (m ((c.tc : Thread _ _).loc Cert.QkvIdeal.main_arg5)), ?_, ?_⟩
  · exact (θ_run (Cert.QkvIdeal.defs (F := Ideal)) _ _).mono (fun r h c => ⟨(h c).1.trans (final0 m c), (h c).2.1.trans (final1 m c), (h c).2.2.1.trans (final2 m c), (h c).2.2.2⟩)
      (Cert.QkvIdeal.Value.run_blocks m g)
  · refine (θ_run (Cert.QkvReferenceIdeal.defs (F := Ideal)) _ _).mono (fun r h c => ⟨(h c).1.trans ?_, (h c).2.1.trans ?_, (h c).2.2.1.trans ?_, (h c).2.2.2⟩)
      (Cert.QkvReferenceIdeal.Value.run (F := Ideal) m' g')
    · show ref0 (m' ((c.tc : Thread _ _).loc Cert.QkvReferenceIdeal.main_arg0)) (m' ((c.tc : Thread _ _).loc Cert.QkvReferenceIdeal.main_arg1)) (m' ((c.tc : Thread _ _).loc Cert.QkvReferenceIdeal.main_arg2)) (m' ((c.tc : Thread _ _).loc Cert.QkvReferenceIdeal.main_arg3)) (m' ((c.tc : Thread _ _).loc Cert.QkvReferenceIdeal.main_arg4)) (m' ((c.tc : Thread _ _).loc Cert.QkvReferenceIdeal.main_arg5)) = ref0 _ _ _ _ _ _
      obtain ⟨e0, e1, e2, e3, e4, e5⟩ := hm c
      rw [e0, e1, e2, e3, e4, e5]
    · show ref1 (m' ((c.tc : Thread _ _).loc Cert.QkvReferenceIdeal.main_arg0)) (m' ((c.tc : Thread _ _).loc Cert.QkvReferenceIdeal.main_arg1)) (m' ((c.tc : Thread _ _).loc Cert.QkvReferenceIdeal.main_arg2)) (m' ((c.tc : Thread _ _).loc Cert.QkvReferenceIdeal.main_arg3)) (m' ((c.tc : Thread _ _).loc Cert.QkvReferenceIdeal.main_arg4)) (m' ((c.tc : Thread _ _).loc Cert.QkvReferenceIdeal.main_arg5)) = ref1 _ _ _ _ _ _
      obtain ⟨e0, e1, e2, e3, e4, e5⟩ := hm c
      rw [e0, e1, e2, e3, e4, e5]
    · show ref2 (m' ((c.tc : Thread _ _).loc Cert.QkvReferenceIdeal.main_arg0)) (m' ((c.tc : Thread _ _).loc Cert.QkvReferenceIdeal.main_arg1)) (m' ((c.tc : Thread _ _).loc Cert.QkvReferenceIdeal.main_arg2)) (m' ((c.tc : Thread _ _).loc Cert.QkvReferenceIdeal.main_arg3)) (m' ((c.tc : Thread _ _).loc Cert.QkvReferenceIdeal.main_arg4)) (m' ((c.tc : Thread _ _).loc Cert.QkvReferenceIdeal.main_arg5)) = ref2 _ _ _ _ _ _
      obtain ⟨e0, e1, e2, e3, e4, e5⟩ := hm c
      rw [e0, e1, e2, e3, e4, e5]

end Cert.Proof.QkvValue
-- ==== Proof.lean ====
module

public import proofs.«01_k».proof.Defs
public import Idealize.ShloMosaic.Lib.Quiescent
public import proofs.«01_k».proof.Proof.Fox.FrameKernel
public import proofs.«01_k».proof.Proof.Fox.Alg
public import proofs.«01_k».proof.Proof.FfnValue.Alg
public import proofs.«01_k».proof.Proof.QkvValue.Alg
public import proofs.«01_k».proof.Proof.Gen.KernelIdeal
public import proofs.«01_k».proof.Proof.Gen.Pre_finite_scores
public import proofs.«01_k».proof.Proof.Gen.Ffn.Frame
public import proofs.«01_k».proof.Proof.Gen.FfnIdeal.Value
public import proofs.«01_k».proof.Proof.Gen.ReferenceIdeal.Run
public import proofs.«01_k».proof.Proof.Gen.FfnReferenceIdeal.Run
public import proofs.«01_k».proof.Proof.Gen.Qkv.Frame
public import proofs.«01_k».proof.Proof.Gen.QkvIdeal.Value
public import proofs.«01_k».proof.Proof.Gen.QkvReferenceIdeal.Run

@[expose] public section

open Idealize.ShloMosaic Idealize.SL.Sem

namespace Cert.Proof

theorem fox_reference : Cert.quiescent_ReferenceIdeal := fun m ρ _ =>
  (θ_run (Cert.ReferenceIdeal.defs (F := Ideal)) _ _).mono (fun _ h => ⟨fun c => (h c).2, sem_eq_zero_of_no_sems rfl _⟩) (Cert.ReferenceIdeal.Value.run (F := Ideal) m ρ)

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Qkv.Gen.facts, Cert.QkvIdeal.Gen.facts, Cert.QkvReferenceIdeal.Gen.facts, Cert.Pre_finite_scores.Gen.facts,
    Fox.frame_kernel,
    fun m ρ _ => Fox.fox_frame m ρ,
    fun m ρ _ => Fox.fox_frame m ρ,
    fun m ρ _ => fox_reference m ρ trivial,
    fun m ρ _ => fox_reference m ρ trivial,
    fun m ρ _ => Cert.Ffn.Gen.frame m ρ,
    fun m ρ _ => Cert.FfnIdeal.Gen.frame m ρ,
    fun m ρ _ => (θ_run (Cert.FfnReferenceIdeal.defs (F := Ideal)) _ _).mono (fun _ h => ⟨fun c => (h c).2, sem_eq_zero_of_no_sems rfl _⟩) (Cert.FfnReferenceIdeal.Value.run (F := Ideal) m ρ),
    fun m ρ _ => Cert.Qkv.Gen.frame m ρ,
    fun m ρ _ => Cert.QkvIdeal.Gen.frame m ρ,
    fun m ρ _ => (θ_run (Cert.QkvReferenceIdeal.defs (F := Ideal)) _ _).mono (fun _ h => ⟨fun c => (h c).2.2.2, sem_eq_zero_of_no_sems rfl _⟩) (Cert.QkvReferenceIdeal.Value.run (F := Ideal) m ρ),
    IdealRules.named_const.statement Cert.KernelIdeal.κ "mask" .f32 0xF149F2CA#32 ⊥ rfl,
    Fox.alg,
    trivial,
    FfnValue.alg,
    IdealRules.named_const.statement Cert.QkvIdeal.κ "scale" .f32 0x3E38AA3B#32 ((8⁻¹ * (Real.log 2)⁻¹ : ℝ) : EReal) rfl,
    QkvValue.alg⟩

end Cert.Proof
